-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "head_scale" .f32 0x3D3504F3#32 (((Real.sqrt 512)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S9216x4096 : Shape := ⟨2, ![9216, 4096]⟩
abbrev S1x4096x30784 : Shape := ⟨3, ![1, 4096, 30784]⟩
abbrev S1x30784x4096 : Shape := ⟨3, ![1, 30784, 4096]⟩
abbrev S30784x4096 : Shape := ⟨2, ![30784, 4096]⟩
abbrev S9216x30720 : Shape := ⟨2, ![9216, 30720]⟩
abbrev S1024x4096 : Shape := ⟨2, ![1024, 4096]⟩
abbrev S2x1024x4096 : Shape := ⟨3, ![2, 1024, 4096]⟩
abbrev S2 : Shape := ⟨1, ![2]⟩
abbrev S2x512x4096 : Shape := ⟨3, ![2, 512, 4096]⟩
abbrev S2x512x1024 : Shape := ⟨3, ![2, 512, 1024]⟩
abbrev S1 : Shape := ⟨1, ![1]⟩
abbrev S_ : Shape := ⟨0, ![]⟩
abbrev S1x1024x4096 : Shape := ⟨3, ![1, 1024, 4096]⟩
abbrev S16384x4096 : Shape := ⟨2, ![16384, 4096]⟩
abbrev S1x512x4096 : Shape := ⟨3, ![1, 512, 4096]⟩
abbrev S512x4096 : Shape := ⟨2, ![512, 4096]⟩
abbrev S512x1024 : Shape := ⟨2, ![512, 1024]⟩
abbrev S1x512x1024 : Shape := ⟨3, ![1, 512, 1024]⟩
abbrev S9216x16384 : Shape := ⟨2, ![9216, 16384]⟩
abbrev S14336x4096 : Shape := ⟨2, ![14336, 4096]⟩
abbrev S9216x14336 : Shape := ⟨2, ![9216, 14336]⟩

abbrev nBuf : Space → Nat
  | .hbm => 5
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S1x4096x30784, .f32⟩
  | .hbm, ⟨2, _⟩ => ⟨S1x30784x4096, .f32⟩
  | .hbm, ⟨3, _⟩ => ⟨S30784x4096, .f32⟩
  | .hbm, ⟨4, _⟩ => ⟨S9216x30720, .f32⟩
  | .local _ .vmem, ⟨0, _⟩ => ⟨S1024x4096, .bf16⟩
  | .local _ .vmem, ⟨1, _⟩ => ⟨S2x1024x4096, .f32⟩
  | .local _ .vmem, ⟨2, _⟩ => ⟨S2x512x4096, .bf16⟩
  | .local _ .vmem, ⟨3, _⟩ => ⟨S2x512x1024, .f32⟩
  | .local _ .vmem, ⟨4, _⟩ => ⟨S2x1024x4096, .f32⟩
  | .local _ .vmem, ⟨5, _⟩ => ⟨S2x512x4096, .bf16⟩
  | .local _ .vmem, ⟨6, _⟩ => ⟨S2x512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_scoped6 : Ref sig .tc := ⟨.vmem, 4, rfl⟩
abbrev cc0_scoped8 : Ref sig .tc := ⟨.vmem, 5, rfl⟩
abbrev cc0_scoped10 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_29_r0 : BitVec 32 := 0#32
  let c2_i32_r0 : BitVec 32 := 2#32
  let v31_r0 : BitVec 32 := Scalar.remui c0_i32_29_r0 c2_i32_r0
  ![v31_r0.toNat]
def k0_off2 : Fin 3 → Nat :=
  let c0_i32_29_r0 : BitVec 32 := 0#32
  let c2_i32_r0 : BitVec 32 := 2#32
  let v31_r0 : BitVec 32 := Scalar.remui c0_i32_29_r0 c2_i32_r0
  let c0_i32_30_r0 : BitVec 32 := 0#32
  let c0_i32_31_r0 : BitVec 32 := 0#32
  ![v31_r0.toNat, 0, 0]
def k0_off3 : Fin 2 → Nat :=
  let c1024_i32_r0 : BitVec 32 := 1024#32
  let c0_i32_25_r0 : BitVec 32 := 0#32
  let c0_i32_26_r0 : BitVec 32 := 0#32
  let v29_r0 : BitVec 32 := Scalar.addi c0_i32_25_r0 c0_i32_26_r0
  let v32_r0 : BitVec 32 := Scalar.muli c1024_i32_r0 v29_r0
  let c0_i32_34_r0 : BitVec 32 := 0#32
  ![v32_r0.toNat, 0]
def k0_off4 : Fin 3 → Nat :=
  let c0_i32_37_r0 : BitVec 32 := 0#32
  let c2_i32_38_r0 : BitVec 32 := 2#32
  let v40_r0 : BitVec 32 := Scalar.remui c0_i32_37_r0 c2_i32_38_r0
  let c0_i32_39_r0 : BitVec 32 := 0#32
  let c0_i32_40_r0 : BitVec 32 := 0#32
  ![v40_r0.toNat, 0, 0]
@[reducible] def k0_t1_loop : Scf.Loop 32 :=
  let c0_i32_53_r0 : BitVec 32 := 0#32
  let c288_i32_r0 : BitVec 32 := 288#32
  let v47_r0 : BitVec 32 := Scalar.addi c0_i32_53_r0 c288_i32_r0
  let c1_i32_54_r0 : BitVec 32 := 1#32
  ⟨c0_i32_53_r0, v47_r0, c1_i32_54_r0⟩
def k0_off5 (arg19_r0 : BitVec 32) : Fin 1 → Nat :=
  let c2_i32_199_r0 : BitVec 32 := 2#32
  let v269_r0 : BitVec 32 := Scalar.remui arg19_r0 c2_i32_199_r0
  ![v269_r0.toNat]
def k0_cond1 (arg15_r0 : BitVec 32) (arg17_r0 : BitVec 32) : BitVec 1 :=
  let c0_i32_187_r0 : BitVec 32 := 0#32
  let v253_r0 : BitVec 32 := Scalar.addi arg15_r0 c0_i32_187_r0
  let c0_i32_189_r0 : BitVec 32 := 0#32
  let v255_r0 : BitVec 32 := Scalar.addi arg17_r0 c0_i32_189_r0
  let v257_r0 : BitVec 1 := Scalar.cmpi .ne v253_r0 v255_r0
  let v258_r0 : BitVec 32 := Scalar.extui v257_r0
  let c0_i32_191_r0 : BitVec 32 := 0#32
  let v259_r0 : BitVec 1 := Scalar.cmpi .ne v258_r0 c0_i32_191_r0
  v259_r0

def k0_off6 (arg19_r0 : BitVec 32) : Fin 3 → Nat :=
  let c2_i32_199_r0 : BitVec 32 := 2#32
  let v269_r0 : BitVec 32 := Scalar.remui arg19_r0 c2_i32_199_r0
  let c0_i32_201_r0 : BitVec 32 := 0#32
  let c0_i32_202_r0 : BitVec 32 := 0#32
  ![v269_r0.toNat, 0, 0]

def k0_chk1 (arg15_r0 : BitVec 32) (arg17_r0 : BitVec 32) (arg19_r0 : BitVec 32) : Prop :=
  (∀ (k0_h1 : k0_cond1 arg15_r0 arg17_r0 = 1#1), ∀ a, (k0_off5 arg19_r0) a + S1.size a ≤ S2.size a) ∧
  (∀ (k0_h1 : k0_cond1 arg15_r0 arg17_r0 = 1#1), ∀ a, (k0_off6 arg19_r0) a + S1x1024x4096.size a ≤ S2x1024x4096.size a)
theorem k0_off5_inb : ∀ (arg15_r0 : BitVec 32) (arg17_r0 : BitVec 32) (arg19_r0 : BitVec 32) (k0_hw1 : k0_chk1 arg15_r0 arg17_r0 arg19_r0), ∀ (k0_h1 : k0_cond1 arg15_r0 arg17_r0 = 1#1), ∀ a, (k0_off5 arg19_r0) a + S1.size a ≤ S2.size a := fun arg15_r0 arg17_r0 arg19_r0 k0_hw1 k0_h1 => k0_hw1.1 k0_h1
theorem k0_off6_inb : ∀ (arg15_r0 : BitVec 32) (arg17_r0 : BitVec 32) (arg19_r0 : BitVec 32) (k0_hw1 : k0_chk1 arg15_r0 arg17_r0 arg19_r0), ∀ (k0_h1 : k0_cond1 arg15_r0 arg17_r0 = 1#1), ∀ a, (k0_off6 arg19_r0) a + S1x1024x4096.size a ≤ S2x1024x4096.size a := fun arg15_r0 arg17_r0 arg19_r0 k0_hw1 k0_h1 => k0_hw1.2 k0_h1

def k0_off7 (arg17_r0 : BitVec 32) : Fin 2 → Nat :=
  let c1024_i32_200_r0 : BitVec 32 := 1024#32
  let c0_i32_189_r0 : BitVec 32 := 0#32
  let v255_r0 : BitVec 32 := Scalar.addi arg17_r0 c0_i32_189_r0
  let v270_r0 : BitVec 32 := Scalar.muli c1024_i32_200_r0 v255_r0
  let c0_i32_205_r0 : BitVec 32 := 0#32
  ![v270_r0.toNat, 0]

def k0_chk2 (arg15_r0 : BitVec 32) (arg17_r0 : BitVec 32) : Prop :=
  (∀ (k0_h1 : k0_cond1 arg15_r0 arg17_r0 = 1#1), ∀ a, (k0_off7 arg17_r0) a + S1024x4096.size a ≤ S16384x4096.size a)
theorem k0_off7_inb : ∀ (arg15_r0 : BitVec 32) (arg17_r0 : BitVec 32) (k0_hw2 : k0_chk2 arg15_r0 arg17_r0), ∀ (k0_h1 : k0_cond1 arg15_r0 arg17_r0 = 1#1), ∀ a, (k0_off7 arg17_r0) a + S1024x4096.size a ≤ S16384x4096.size a := fun arg15_r0 arg17_r0 k0_hw2 k0_h1 => k0_hw2 k0_h1

def k0_off8 (arg9_r0 : BitVec 32) : Fin 1 → Nat :=
  let c2_i32_187_r0 : BitVec 32 := 2#32
  let v253_r0 : BitVec 32 := Scalar.remui arg9_r0 c2_i32_187_r0
  ![v253_r0.toNat]
def k0_cond2 (k0_t1 : Fin k0_t1_loop.trips) (arg14_r0 : BitVec 32) : BitVec 1 :=
  let c0_i32_100_r0 : BitVec 32 := 0#32
  let v101_r0 : BitVec 32 := Scalar.addi arg14_r0 c0_i32_100_r0
  let true_111_r0 : BitVec 1 := 1#1
  let c1_i32_110_r0 : BitVec 32 := 1#32
  let v112_r0 : BitVec 32 := Scalar.addi arg14_r0 c1_i32_110_r0
  let v113_r0 : BitVec 32 := Scalar.select true_111_r0 v112_r0 arg14_r0
  let c18_i32_112_r0 : BitVec 32 := 18#32
  let v114_r0 : BitVec 1 := Scalar.cmpi .eq v113_r0 c18_i32_112_r0
  let c0_i32_113_r0 : BitVec 32 := 0#32
  let v115_r0 : BitVec 32 := Scalar.select v114_r0 c0_i32_113_r0 v113_r0
  let c0_i32_118_r0 : BitVec 32 := 0#32
  let v121_r0 : BitVec 32 := Scalar.addi v115_r0 c0_i32_118_r0
  let v145_r0 : BitVec 1 := Scalar.cmpi .ne v101_r0 v121_r0
  let c0_i32_53_r0 : BitVec 32 := 0#32
  let c1_i32_54_r0 : BitVec 32 := 1#32
  let arg4_r0 : BitVec 32 := Scf.iv c0_i32_53_r0 c1_i32_54_r0 k0_t1
  let c287_i32_137_r0 : BitVec 32 := 287#32
  let v146_r0 : BitVec 1 := Scalar.cmpi .sge arg4_r0 c287_i32_137_r0
  let true_138_r0 : BitVec 1 := 1#1
  let v147_r0 : BitVec 1 := Scalar.xori v146_r0 true_138_r0
  let v148_r0 : BitVec 1 := Scalar.andi v145_r0 v147_r0
  let true_139_r0 : BitVec 1 := 1#1
  let v149_r0 : BitVec 1 := Scalar.andi v148_r0 true_139_r0
  let v150_r0 : BitVec 32 := Scalar.extui v149_r0
  let c0_i32_140_r0 : BitVec 32 := 0#32
  let v151_r0 : BitVec 1 := Scalar.cmpi .ne v150_r0 c0_i32_140_r0
  v151_r0

def k0_off9 (arg9_r0 : BitVec 32) : Fin 3 → Nat :=
  let c2_i32_187_r0 : BitVec 32 := 2#32
  let v253_r0 : BitVec 32 := Scalar.remui arg9_r0 c2_i32_187_r0
  let c0_i32_189_r0 : BitVec 32 := 0#32
  let c0_i32_190_r0 : BitVec 32 := 0#32
  ![v253_r0.toNat, 0, 0]
def k0_off10 (arg14_r0 : BitVec 32) : Fin 2 → Nat :=
  let c512_i32_188_r0 : BitVec 32 := 512#32
  let true_111_r0 : BitVec 1 := 1#1
  let c1_i32_110_r0 : BitVec 32 := 1#32
  let v112_r0 : BitVec 32 := Scalar.addi arg14_r0 c1_i32_110_r0
  let v113_r0 : BitVec 32 := Scalar.select true_111_r0 v112_r0 arg14_r0
  let c18_i32_112_r0 : BitVec 32 := 18#32
  let v114_r0 : BitVec 1 := Scalar.cmpi .eq v113_r0 c18_i32_112_r0
  let c0_i32_113_r0 : BitVec 32 := 0#32
  let v115_r0 : BitVec 32 := Scalar.select v114_r0 c0_i32_113_r0 v113_r0
  let c0_i32_118_r0 : BitVec 32 := 0#32
  let v121_r0 : BitVec 32 := Scalar.addi v115_r0 c0_i32_118_r0
  let v254_r0 : BitVec 32 := Scalar.muli c512_i32_188_r0 v121_r0
  let c0_i32_191_r0 : BitVec 32 := 0#32
  ![v254_r0.toNat, 0]
def k0_off11 (arg6_r0 : BitVec 32) : Fin 1 → Nat :=
  let c2_i32_188_r0 : BitVec 32 := 2#32
  let v254_r0 : BitVec 32 := Scalar.remui arg6_r0 c2_i32_188_r0
  ![v254_r0.toNat]
def k0_cond3 (k0_t1 : Fin k0_t1_loop.trips) (arg13_r0 : BitVec 32) (arg14_r0 : BitVec 32) : BitVec 1 :=
  let c0_i32_99_r0 : BitVec 32 := 0#32
  let v100_r0 : BitVec 32 := Scalar.addi arg13_r0 c0_i32_99_r0
  let true_102_r0 : BitVec 1 := 1#1
  let c1_i32_101_r0 : BitVec 32 := 1#32
  let v102_r0 : BitVec 32 := Scalar.subi arg14_r0 c1_i32_101_r0
  let v103_r0 : BitVec 32 := Scalar.select true_102_r0 v102_r0 arg14_r0
  let c_m1_i32_103_r0 : BitVec 32 := 4294967295#32
  let v104_r0 : BitVec 1 := Scalar.cmpi .eq v103_r0 c_m1_i32_103_r0
  let c1_i32_105_r0 : BitVec 32 := 1#32
  let v106_r0 : BitVec 32 := Scalar.subi arg13_r0 c1_i32_105_r0
  let v107_r0 : BitVec 32 := Scalar.select v104_r0 v106_r0 arg13_r0
  let c_m1_i32_106_r0 : BitVec 32 := 4294967295#32
  let v108_r0 : BitVec 1 := Scalar.cmpi .eq v107_r0 c_m1_i32_106_r0
  let c15_i32_107_r0 : BitVec 32 := 15#32
  let v109_r0 : BitVec 32 := Scalar.select v108_r0 c15_i32_107_r0 v107_r0
  let c0_i32_108_r0 : BitVec 32 := 0#32
  let v110_r0 : BitVec 32 := Scalar.addi v109_r0 c0_i32_108_r0
  let v161_r0 : BitVec 1 := Scalar.cmpi .ne v100_r0 v110_r0
  let c0_i32_53_r0 : BitVec 32 := 0#32
  let c1_i32_54_r0 : BitVec 32 := 1#32
  let arg4_r0 : BitVec 32 := Scf.iv c0_i32_53_r0 c1_i32_54_r0 k0_t1
  let c0_i32_98_r0 : BitVec 32 := 0#32
  let v98_r0 : BitVec 1 := Scalar.cmpi .eq arg4_r0 c0_i32_98_r0
  let v162_r0 : BitVec 1 := Scalar.ori v161_r0 v98_r0
  let c0_i32_145_r0 : BitVec 32 := 0#32
  let v163_r0 : BitVec 1 := Scalar.cmpi .sge arg4_r0 c0_i32_145_r0
  let v164_r0 : BitVec 1 := Scalar.andi v162_r0 v163_r0
  let v165_r0 : BitVec 32 := Scalar.extui v164_r0
  let c0_i32_146_r0 : BitVec 32 := 0#32
  let v166_r0 : BitVec 1 := Scalar.cmpi .ne v165_r0 c0_i32_146_r0
  v166_r0

def k0_off12 (arg6_r0 : BitVec 32) : Fin 3 → Nat :=
  let c2_i32_188_r0 : BitVec 32 := 2#32
  let v254_r0 : BitVec 32 := Scalar.remui arg6_r0 c2_i32_188_r0
  let c0_i32_189_r0 : BitVec 32 := 0#32
  let c0_i32_190_r0 : BitVec 32 := 0#32
  ![v254_r0.toNat, 0, 0]
def k0_off13 (arg13_r0 : BitVec 32) : Fin 2 → Nat :=
  let c1024_i32_187_r0 : BitVec 32 := 1024#32
  let c0_i32_99_r0 : BitVec 32 := 0#32
  let v100_r0 : BitVec 32 := Scalar.addi arg13_r0 c0_i32_99_r0
  let v253_r0 : BitVec 32 := Scalar.muli c1024_i32_187_r0 v100_r0
  let c0_i32_193_r0 : BitVec 32 := 0#32
  ![v253_r0.toNat, 0]
def k0_off14 (arg10_r0 : BitVec 32) : Fin 1 → Nat :=
  let c2_i32_188_r0 : BitVec 32 := 2#32
  let v254_r0 : BitVec 32 := Scalar.remui arg10_r0 c2_i32_188_r0
  ![v254_r0.toNat]
def k0_cond4 (k0_t1 : Fin k0_t1_loop.trips) (arg14_r0 : BitVec 32) : BitVec 1 :=
  let c0_i32_100_r0 : BitVec 32 := 0#32
  let v101_r0 : BitVec 32 := Scalar.addi arg14_r0 c0_i32_100_r0
  let true_102_r0 : BitVec 1 := 1#1
  let c1_i32_101_r0 : BitVec 32 := 1#32
  let v102_r0 : BitVec 32 := Scalar.subi arg14_r0 c1_i32_101_r0
  let v103_r0 : BitVec 32 := Scalar.select true_102_r0 v102_r0 arg14_r0
  let c_m1_i32_103_r0 : BitVec 32 := 4294967295#32
  let v104_r0 : BitVec 1 := Scalar.cmpi .eq v103_r0 c_m1_i32_103_r0
  let c17_i32_104_r0 : BitVec 32 := 17#32
  let v105_r0 : BitVec 32 := Scalar.select v104_r0 c17_i32_104_r0 v103_r0
  let c0_i32_109_r0 : BitVec 32 := 0#32
  let v111_r0 : BitVec 32 := Scalar.addi v105_r0 c0_i32_109_r0
  let v167_r0 : BitVec 1 := Scalar.cmpi .ne v101_r0 v111_r0
  let c0_i32_53_r0 : BitVec 32 := 0#32
  let c1_i32_54_r0 : BitVec 32 := 1#32
  let arg4_r0 : BitVec 32 := Scf.iv c0_i32_53_r0 c1_i32_54_r0 k0_t1
  let c0_i32_98_r0 : BitVec 32 := 0#32
  let v98_r0 : BitVec 1 := Scalar.cmpi .eq arg4_r0 c0_i32_98_r0
  let v168_r0 : BitVec 1 := Scalar.ori v167_r0 v98_r0
  let c0_i32_147_r0 : BitVec 32 := 0#32
  let v169_r0 : BitVec 1 := Scalar.cmpi .sge arg4_r0 c0_i32_147_r0
  let v170_r0 : BitVec 1 := Scalar.andi v168_r0 v169_r0
  let v171_r0 : BitVec 32 := Scalar.extui v170_r0
  let c0_i32_148_r0 : BitVec 32 := 0#32
  let v172_r0 : BitVec 1 := Scalar.cmpi .ne v171_r0 c0_i32_148_r0
  v172_r0

def k0_off15 (arg10_r0 : BitVec 32) : Fin 3 → Nat :=
  let c2_i32_188_r0 : BitVec 32 := 2#32
  let v254_r0 : BitVec 32 := Scalar.remui arg10_r0 c2_i32_188_r0
  let c0_i32_189_r0 : BitVec 32 := 0#32
  let c0_i32_190_r0 : BitVec 32 := 0#32
  ![v254_r0.toNat, 0, 0]
def k0_off16 (arg14_r0 : BitVec 32) : Fin 2 → Nat :=
  let c512_i32_187_r0 : BitVec 32 := 512#32
  let c0_i32_100_r0 : BitVec 32 := 0#32
  let v101_r0 : BitVec 32 := Scalar.addi arg14_r0 c0_i32_100_r0
  let v253_r0 : BitVec 32 := Scalar.muli c512_i32_187_r0 v101_r0
  let c0_i32_191_r0 : BitVec 32 := 0#32
  ![v253_r0.toNat, 0]
def k0_off17 (arg6_r0 : BitVec 32) : Fin 3 → Nat :=
  let c2_i32_151_r0 : BitVec 32 := 2#32
  let v181_r0 : BitVec 32 := Scalar.remui arg6_r0 c2_i32_151_r0
  let v253_r0 : Index := Scalar.indexCast v181_r0
  let c0_187_r0 : Index := 0#32
  let c0_188_r0 : Index := 0#32
  ![v253_r0.toNat, 0, 0]
def k0_cond6 (arg14_r0 : BitVec 32) : BitVec 1 :=
  let c0_i32_100_r0 : BitVec 32 := 0#32
  let v101_r0 : BitVec 32 := Scalar.addi arg14_r0 c0_i32_100_r0
  let c0_i32_154_r0 : BitVec 32 := 0#32
  let v184_r0 : BitVec 1 := Scalar.cmpi .eq v101_r0 c0_i32_154_r0
  let v185_r0 : BitVec 32 := Scalar.extui v184_r0
  let c0_i32_155_r0 : BitVec 32 := 0#32
  let v186_r0 : BitVec 1 := Scalar.cmpi .ne v185_r0 c0_i32_155_r0
  v186_r0

def k0_off18 (arg10_r0 : BitVec 32) : Fin 3 → Nat :=
  let c2_i32_152_r0 : BitVec 32 := 2#32
  let v182_r0 : BitVec 32 := Scalar.remui arg10_r0 c2_i32_152_r0
  let v187_r0 : Index := Scalar.indexCast v182_r0
  let c0_r0 : Index := 0#32
  let c0_156_r0 : Index := 0#32
  ![v187_r0.toNat, 0, 0]

def k0_chk4 (arg10_r0 : BitVec 32) : Prop :=
  (∀ a, (k0_off18 arg10_r0) a + S1x512x4096.size a ≤ S2x512x4096.size a)
theorem k0_off18_inb : ∀ (arg10_r0 : BitVec 32) (k0_hw4 : k0_chk4 arg10_r0), ∀ a, (k0_off18 arg10_r0) a + S1x512x4096.size a ≤ S2x512x4096.size a := fun arg10_r0 k0_hw4 => k0_hw4

def k0_off19 (arg11_r0 : BitVec 32) : Fin 3 → Nat :=
  let c2_i32_153_r0 : BitVec 32 := 2#32
  let v183_r0 : BitVec 32 := Scalar.remui arg11_r0 c2_i32_153_r0
  let v192_r0 : Index := Scalar.indexCast v183_r0
  let c0_159_r0 : Index := 0#32
  let c0_160_r0 : Index := 0#32
  ![v192_r0.toNat, 0, 0]

def k0_chk5 (arg11_r0 : BitVec 32) : Prop :=
  (∀ a, (k0_off19 arg11_r0) a + S1x512x1024.size a ≤ S2x512x1024.size a)
theorem k0_off19_inb : ∀ (arg11_r0 : BitVec 32) (k0_hw5 : k0_chk5 arg11_r0), ∀ a, (k0_off19 arg11_r0) a + S1x512x1024.size a ≤ S2x512x1024.size a := fun arg11_r0 k0_hw5 => k0_hw5

def k0_off20 (arg11_r0 : BitVec 32) : Fin 1 → Nat :=
  let c2_i32_187_r0 : BitVec 32 := 2#32
  let v253_r0 : BitVec 32 := Scalar.remui arg11_r0 c2_i32_187_r0
  ![v253_r0.toNat]
def k0_cond9 (k0_t1 : Fin k0_t1_loop.trips) (arg13_r0 : BitVec 32) (arg14_r0 : BitVec 32) : BitVec 1 :=
  let c0_i32_100_r0 : BitVec 32 := 0#32
  let v101_r0 : BitVec 32 := Scalar.addi arg14_r0 c0_i32_100_r0
  let true_111_r0 : BitVec 1 := 1#1
  let c1_i32_110_r0 : BitVec 32 := 1#32
  let v112_r0 : BitVec 32 := Scalar.addi arg14_r0 c1_i32_110_r0
  let v113_r0 : BitVec 32 := Scalar.select true_111_r0 v112_r0 arg14_r0
  let c18_i32_112_r0 : BitVec 32 := 18#32
  let v114_r0 : BitVec 1 := Scalar.cmpi .eq v113_r0 c18_i32_112_r0
  let c0_i32_113_r0 : BitVec 32 := 0#32
  let v115_r0 : BitVec 32 := Scalar.select v114_r0 c0_i32_113_r0 v113_r0
  let c0_i32_118_r0 : BitVec 32 := 0#32
  let v121_r0 : BitVec 32 := Scalar.addi v115_r0 c0_i32_118_r0
  let v206_r0 : BitVec 1 := Scalar.cmpi .ne v101_r0 v121_r0
  let c0_i32_99_r0 : BitVec 32 := 0#32
  let v100_r0 : BitVec 32 := Scalar.addi arg13_r0 c0_i32_99_r0
  let c1_i32_114_r0 : BitVec 32 := 1#32
  let v116_r0 : BitVec 32 := Scalar.addi arg13_r0 c1_i32_114_r0
  let v117_r0 : BitVec 32 := Scalar.select v114_r0 v116_r0 arg13_r0
  let c16_i32_115_r0 : BitVec 32 := 16#32
  let v118_r0 : BitVec 1 := Scalar.cmpi .eq v117_r0 c16_i32_115_r0
  let c0_i32_116_r0 : BitVec 32 := 0#32
  let v119_r0 : BitVec 32 := Scalar.select v118_r0 c0_i32_116_r0 v117_r0
  let c0_i32_117_r0 : BitVec 32 := 0#32
  let v120_r0 : BitVec 32 := Scalar.addi v119_r0 c0_i32_117_r0
  let v207_r0 : BitVec 1 := Scalar.cmpi .ne v100_r0 v120_r0
  let v208_r0 : BitVec 1 := Scalar.ori v206_r0 v207_r0
  let c0_i32_53_r0 : BitVec 32 := 0#32
  let c1_i32_54_r0 : BitVec 32 := 1#32
  let arg4_r0 : BitVec 32 := Scf.iv c0_i32_53_r0 c1_i32_54_r0 k0_t1
  let c287_i32_r0 : BitVec 32 := 287#32
  let v99_r0 : BitVec 1 := Scalar.cmpi .eq arg4_r0 c287_i32_r0
  let v209_r0 : BitVec 1 := Scalar.ori v208_r0 v99_r0
  let v210_r0 : BitVec 32 := Scalar.extui v209_r0
  let c0_i32_165_r0 : BitVec 32 := 0#32
  let v211_r0 : BitVec 1 := Scalar.cmpi .ne v210_r0 c0_i32_165_r0
  v211_r0

def k0_off21 (arg13_r0 : BitVec 32) (arg14_r0 : BitVec 32) : Fin 2 → Nat :=
  let c512_i32_188_r0 : BitVec 32 := 512#32
  let c0_i32_100_r0 : BitVec 32 := 0#32
  let v101_r0 : BitVec 32 := Scalar.addi arg14_r0 c0_i32_100_r0
  let v254_r0 : BitVec 32 := Scalar.muli c512_i32_188_r0 v101_r0
  let c1024_i32_189_r0 : BitVec 32 := 1024#32
  let c0_i32_99_r0 : BitVec 32 := 0#32
  let v100_r0 : BitVec 32 := Scalar.addi arg13_r0 c0_i32_99_r0
  let v255_r0 : BitVec 32 := Scalar.muli c1024_i32_189_r0 v100_r0
  ![v254_r0.toNat, v255_r0.toNat]
def k0_off22 (arg11_r0 : BitVec 32) : Fin 3 → Nat :=
  let c2_i32_187_r0 : BitVec 32 := 2#32
  let v253_r0 : BitVec 32 := Scalar.remui arg11_r0 c2_i32_187_r0
  let c0_i32_192_r0 : BitVec 32 := 0#32
  let c0_i32_193_r0 : BitVec 32 := 0#32
  ![v253_r0.toNat, 0, 0]
def k0_off23 (arg12_r0 : BitVec 32) : Fin 1 → Nat :=
  let c2_i32_187_r0 : BitVec 32 := 2#32
  let v253_r0 : BitVec 32 := Scalar.remui arg12_r0 c2_i32_187_r0
  ![v253_r0.toNat]
def k0_cond12 (k0_t1 : Fin k0_t1_loop.trips) (arg13_r0 : BitVec 32) (arg14_r0 : BitVec 32) : BitVec 1 :=
  let c0_i32_100_r0 : BitVec 32 := 0#32
  let v101_r0 : BitVec 32 := Scalar.addi arg14_r0 c0_i32_100_r0
  let true_102_r0 : BitVec 1 := 1#1
  let c1_i32_101_r0 : BitVec 32 := 1#32
  let v102_r0 : BitVec 32 := Scalar.subi arg14_r0 c1_i32_101_r0
  let v103_r0 : BitVec 32 := Scalar.select true_102_r0 v102_r0 arg14_r0
  let c_m1_i32_103_r0 : BitVec 32 := 4294967295#32
  let v104_r0 : BitVec 1 := Scalar.cmpi .eq v103_r0 c_m1_i32_103_r0
  let c17_i32_104_r0 : BitVec 32 := 17#32
  let v105_r0 : BitVec 32 := Scalar.select v104_r0 c17_i32_104_r0 v103_r0
  let c0_i32_109_r0 : BitVec 32 := 0#32
  let v111_r0 : BitVec 32 := Scalar.addi v105_r0 c0_i32_109_r0
  let v227_r0 : BitVec 1 := Scalar.cmpi .ne v101_r0 v111_r0
  let c0_i32_99_r0 : BitVec 32 := 0#32
  let v100_r0 : BitVec 32 := Scalar.addi arg13_r0 c0_i32_99_r0
  let c1_i32_105_r0 : BitVec 32 := 1#32
  let v106_r0 : BitVec 32 := Scalar.subi arg13_r0 c1_i32_105_r0
  let v107_r0 : BitVec 32 := Scalar.select v104_r0 v106_r0 arg13_r0
  let c_m1_i32_106_r0 : BitVec 32 := 4294967295#32
  let v108_r0 : BitVec 1 := Scalar.cmpi .eq v107_r0 c_m1_i32_106_r0
  let c15_i32_107_r0 : BitVec 32 := 15#32
  let v109_r0 : BitVec 32 := Scalar.select v108_r0 c15_i32_107_r0 v107_r0
  let c0_i32_108_r0 : BitVec 32 := 0#32
  let v110_r0 : BitVec 32 := Scalar.addi v109_r0 c0_i32_108_r0
  let v228_r0 : BitVec 1 := Scalar.cmpi .ne v100_r0 v110_r0
  let v229_r0 : BitVec 1 := Scalar.ori v227_r0 v228_r0
  let c0_i32_53_r0 : BitVec 32 := 0#32
  let c1_i32_54_r0 : BitVec 32 := 1#32
  let arg4_r0 : BitVec 32 := Scf.iv c0_i32_53_r0 c1_i32_54_r0 k0_t1
  let c0_i32_98_r0 : BitVec 32 := 0#32
  let v98_r0 : BitVec 1 := Scalar.cmpi .eq arg4_r0 c0_i32_98_r0
  let true_174_r0 : BitVec 1 := 1#1
  let v230_r0 : BitVec 1 := Scalar.xori v98_r0 true_174_r0
  let v231_r0 : BitVec 1 := Scalar.andi v229_r0 v230_r0
  let v232_r0 : BitVec 32 := Scalar.extui v231_r0
  let c0_i32_175_r0 : BitVec 32 := 0#32
  let v233_r0 : BitVec 1 := Scalar.cmpi .ne v232_r0 c0_i32_175_r0
  v233_r0

def k0_off24 (arg13_r0 : BitVec 32) (arg14_r0 : BitVec 32) : Fin 2 → Nat :=
  let c512_i32_188_r0 : BitVec 32 := 512#32
  let true_102_r0 : BitVec 1 := 1#1
  let c1_i32_101_r0 : BitVec 32 := 1#32
  let v102_r0 : BitVec 32 := Scalar.subi arg14_r0 c1_i32_101_r0
  let v103_r0 : BitVec 32 := Scalar.select true_102_r0 v102_r0 arg14_r0
  let c_m1_i32_103_r0 : BitVec 32 := 4294967295#32
  let v104_r0 : BitVec 1 := Scalar.cmpi .eq v103_r0 c_m1_i32_103_r0
  let c17_i32_104_r0 : BitVec 32 := 17#32
  let v105_r0 : BitVec 32 := Scalar.select v104_r0 c17_i32_104_r0 v103_r0
  let c0_i32_109_r0 : BitVec 32 := 0#32
  let v111_r0 : BitVec 32 := Scalar.addi v105_r0 c0_i32_109_r0
  let v254_r0 : BitVec 32 := Scalar.muli c512_i32_188_r0 v111_r0
  let c1024_i32_189_r0 : BitVec 32 := 1024#32
  let c1_i32_105_r0 : BitVec 32 := 1#32
  let v106_r0 : BitVec 32 := Scalar.subi arg13_r0 c1_i32_105_r0
  let v107_r0 : BitVec 32 := Scalar.select v104_r0 v106_r0 arg13_r0
  let c_m1_i32_106_r0 : BitVec 32 := 4294967295#32
  let v108_r0 : BitVec 1 := Scalar.cmpi .eq v107_r0 c_m1_i32_106_r0
  let c15_i32_107_r0 : BitVec 32 := 15#32
  let v109_r0 : BitVec 32 := Scalar.select v108_r0 c15_i32_107_r0 v107_r0
  let c0_i32_108_r0 : BitVec 32 := 0#32
  let v110_r0 : BitVec 32 := Scalar.addi v109_r0 c0_i32_108_r0
  let v255_r0 : BitVec 32 := Scalar.muli c1024_i32_189_r0 v110_r0
  ![v254_r0.toNat, v255_r0.toNat]
def k0_off25 (arg12_r0 : BitVec 32) : Fin 3 → Nat :=
  let c2_i32_187_r0 : BitVec 32 := 2#32
  let v253_r0 : BitVec 32 := Scalar.remui arg12_r0 c2_i32_187_r0
  let c0_i32_192_r0 : BitVec 32 := 0#32
  let c0_i32_193_r0 : BitVec 32 := 0#32
  ![v253_r0.toNat, 0, 0]

def k0_chk3 (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) : Prop :=
  (∀ (k0_h2 : k0_cond2 k0_t1 arg14_r0 = 1#1), ∀ a, (k0_off8 arg9_r0) a + S1.size a ≤ S2.size a) ∧
  (∀ (k0_h2 : k0_cond2 k0_t1 arg14_r0 = 1#1), ∀ a, (k0_off9 arg9_r0) a + S1x512x4096.size a ≤ S2x512x4096.size a) ∧
  (∀ (k0_h2 : k0_cond2 k0_t1 arg14_r0 = 1#1), ∀ a, (k0_off10 arg14_r0) a + S512x4096.size a ≤ S9216x4096.size a) ∧
  (∀ (k0_h2 : k0_cond2 k0_t1 arg14_r0 = 1#1), ∀ (hinb : ∀ a, (k0_off10 arg14_r0) a + S512x4096.size a ≤ S9216x4096.size a), (Rect.unit (s := S9216x4096) (k0_off10 arg14_r0) S512x4096.size hinb).WholeWords (EltTy.packing .bf16)) ∧
  (∀ (k0_h2 : k0_cond2 k0_t1 arg14_r0 = 1#1), ∀ (hinb : ∀ a, (k0_off9 arg9_r0) a + S1x512x4096.size a ≤ S2x512x4096.size a), (Rect.unit (s := S2x512x4096) (k0_off9 arg9_r0) S1x512x4096.size hinb).WholeWords (EltTy.packing .bf16)) ∧
  (∀ (k0_h3 : k0_cond3 k0_t1 arg13_r0 arg14_r0 = 1#1), ∀ a, (k0_off11 arg6_r0) a + S1.size a ≤ S2.size a) ∧
  (∀ (k0_h3 : k0_cond3 k0_t1 arg13_r0 arg14_r0 = 1#1), ∀ a, (k0_off12 arg6_r0) a + S1x1024x4096.size a ≤ S2x1024x4096.size a) ∧
  (∀ (k0_h3 : k0_cond3 k0_t1 arg13_r0 arg14_r0 = 1#1), ∀ a, (k0_off13 arg13_r0) a + S1024x4096.size a ≤ S16384x4096.size a) ∧
  (∀ (k0_h4 : k0_cond4 k0_t1 arg14_r0 = 1#1), ∀ a, (k0_off14 arg10_r0) a + S1.size a ≤ S2.size a) ∧
  (∀ (k0_h4 : k0_cond4 k0_t1 arg14_r0 = 1#1), ∀ a, (k0_off15 arg10_r0) a + S1x512x4096.size a ≤ S2x512x4096.size a) ∧
  (∀ (k0_h4 : k0_cond4 k0_t1 arg14_r0 = 1#1), ∀ a, (k0_off16 arg14_r0) a + S512x4096.size a ≤ S9216x4096.size a) ∧
  (∀ (k0_h4 : k0_cond4 k0_t1 arg14_r0 = 1#1), ∀ (hinb : ∀ a, (k0_off16 arg14_r0) a + S512x4096.size a ≤ S9216x4096.size a), (Rect.unit (s := S9216x4096) (k0_off16 arg14_r0) S512x4096.size hinb).WholeWords (EltTy.packing .bf16)) ∧
  (∀ (k0_h4 : k0_cond4 k0_t1 arg14_r0 = 1#1), ∀ (hinb : ∀ a, (k0_off15 arg10_r0) a + S1x512x4096.size a ≤ S2x512x4096.size a), (Rect.unit (s := S2x512x4096) (k0_off15 arg10_r0) S1x512x4096.size hinb).WholeWords (EltTy.packing .bf16)) ∧
  (∀ (k0_h6 : k0_cond6 arg14_r0 = 1#1), ∀ a, (k0_off17 arg6_r0) a + S1x1024x4096.size a ≤ S2x1024x4096.size a) ∧
  (∀ (k0_h9 : k0_cond9 k0_t1 arg13_r0 arg14_r0 = 1#1), ∀ a, (k0_off20 arg11_r0) a + S1.size a ≤ S2.size a) ∧
  (∀ (k0_h9 : k0_cond9 k0_t1 arg13_r0 arg14_r0 = 1#1), ∀ a, (k0_off21 arg13_r0 arg14_r0) a + S512x1024.size a ≤ S9216x16384.size a) ∧
  (∀ (k0_h9 : k0_cond9 k0_t1 arg13_r0 arg14_r0 = 1#1), ∀ a, (k0_off22 arg11_r0) a + S1x512x1024.size a ≤ S2x512x1024.size a) ∧
  (∀ (k0_h12 : k0_cond12 k0_t1 arg13_r0 arg14_r0 = 1#1), ∀ a, (k0_off23 arg12_r0) a + S1.size a ≤ S2.size a) ∧
  (∀ (k0_h12 : k0_cond12 k0_t1 arg13_r0 arg14_r0 = 1#1), ∀ a, (k0_off24 arg13_r0 arg14_r0) a + S512x1024.size a ≤ S9216x16384.size a) ∧
  (∀ (k0_h12 : k0_cond12 k0_t1 arg13_r0 arg14_r0 = 1#1), ∀ a, (k0_off25 arg12_r0) a + S1x512x1024.size a ≤ S2x512x1024.size a)
theorem k0_off8_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h2 : k0_cond2 k0_t1 arg14_r0 = 1#1), ∀ a, (k0_off8 arg9_r0) a + S1.size a ≤ S2.size a := fun k0_t1 arg6_r0 arg9_r0 arg10_r0 arg11_r0 arg12_r0 arg13_r0 arg14_r0 k0_hw3 k0_h2 => k0_hw3.1 k0_h2
theorem k0_off9_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h2 : k0_cond2 k0_t1 arg14_r0 = 1#1), ∀ a, (k0_off9 arg9_r0) a + S1x512x4096.size a ≤ S2x512x4096.size a := fun k0_t1 arg6_r0 arg9_r0 arg10_r0 arg11_r0 arg12_r0 arg13_r0 arg14_r0 k0_hw3 k0_h2 => k0_hw3.2.1 k0_h2
theorem k0_off10_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h2 : k0_cond2 k0_t1 arg14_r0 = 1#1), ∀ a, (k0_off10 arg14_r0) a + S512x4096.size a ≤ S9216x4096.size a := fun k0_t1 arg6_r0 arg9_r0 arg10_r0 arg11_r0 arg12_r0 arg13_r0 arg14_r0 k0_hw3 k0_h2 => k0_hw3.2.2.1 k0_h2
theorem k0_off10_wordsbf16 : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h2 : k0_cond2 k0_t1 arg14_r0 = 1#1), (Rect.unit (s := S9216x4096) (k0_off10 arg14_r0) S512x4096.size (k0_off10_inb k0_t1 arg6_r0 arg9_r0 arg10_r0 arg11_r0 arg12_r0 arg13_r0 arg14_r0 k0_hw3 k0_h2)).WholeWords (EltTy.packing .bf16) := fun k0_t1 arg6_r0 arg9_r0 arg10_r0 arg11_r0 arg12_r0 arg13_r0 arg14_r0 k0_hw3 k0_h2 => k0_hw3.2.2.2.1 k0_h2 (k0_off10_inb k0_t1 arg6_r0 arg9_r0 arg10_r0 arg11_r0 arg12_r0 arg13_r0 arg14_r0 k0_hw3 k0_h2)
theorem k0_off9_wordsbf16 : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h2 : k0_cond2 k0_t1 arg14_r0 = 1#1), (Rect.unit (s := S2x512x4096) (k0_off9 arg9_r0) S1x512x4096.size (k0_off9_inb k0_t1 arg6_r0 arg9_r0 arg10_r0 arg11_r0 arg12_r0 arg13_r0 arg14_r0 k0_hw3 k0_h2)).WholeWords (EltTy.packing .bf16) := fun k0_t1 arg6_r0 arg9_r0 arg10_r0 arg11_r0 arg12_r0 arg13_r0 arg14_r0 k0_hw3 k0_h2 => k0_hw3.2.2.2.2.1 k0_h2 (k0_off9_inb k0_t1 arg6_r0 arg9_r0 arg10_r0 arg11_r0 arg12_r0 arg13_r0 arg14_r0 k0_hw3 k0_h2)
theorem k0_off11_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h3 : k0_cond3 k0_t1 arg13_r0 arg14_r0 = 1#1), ∀ a, (k0_off11 arg6_r0) a + S1.size a ≤ S2.size a := fun k0_t1 arg6_r0 arg9_r0 arg10_r0 arg11_r0 arg12_r0 arg13_r0 arg14_r0 k0_hw3 k0_h3 => k0_hw3.2.2.2.2.2.1 k0_h3
theorem k0_off12_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h3 : k0_cond3 k0_t1 arg13_r0 arg14_r0 = 1#1), ∀ a, (k0_off12 arg6_r0) a + S1x1024x4096.size a ≤ S2x1024x4096.size a := fun k0_t1 arg6_r0 arg9_r0 arg10_r0 arg11_r0 arg12_r0 arg13_r0 arg14_r0 k0_hw3 k0_h3 => k0_hw3.2.2.2.2.2.2.1 k0_h3
theorem k0_off13_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h3 : k0_cond3 k0_t1 arg13_r0 arg14_r0 = 1#1), ∀ a, (k0_off13 arg13_r0) a + S1024x4096.size a ≤ S16384x4096.size a := fun k0_t1 arg6_r0 arg9_r0 arg10_r0 arg11_r0 arg12_r0 arg13_r0 arg14_r0 k0_hw3 k0_h3 => k0_hw3.2.2.2.2.2.2.2.1 k0_h3
theorem k0_off14_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h4 : k0_cond4 k0_t1 arg14_r0 = 1#1), ∀ a, (k0_off14 arg10_r0) a + S1.size a ≤ S2.size a := fun k0_t1 arg6_r0 arg9_r0 arg10_r0 arg11_r0 arg12_r0 arg13_r0 arg14_r0 k0_hw3 k0_h4 => k0_hw3.2.2.2.2.2.2.2.2.1 k0_h4
theorem k0_off15_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h4 : k0_cond4 k0_t1 arg14_r0 = 1#1), ∀ a, (k0_off15 arg10_r0) a + S1x512x4096.size a ≤ S2x512x4096.size a := fun k0_t1 arg6_r0 arg9_r0 arg10_r0 arg11_r0 arg12_r0 arg13_r0 arg14_r0 k0_hw3 k0_h4 => k0_hw3.2.2.2.2.2.2.2.2.2.1 k0_h4
theorem k0_off16_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h4 : k0_cond4 k0_t1 arg14_r0 = 1#1), ∀ a, (k0_off16 arg14_r0) a + S512x4096.size a ≤ S9216x4096.size a := fun k0_t1 arg6_r0 arg9_r0 arg10_r0 arg11_r0 arg12_r0 arg13_r0 arg14_r0 k0_hw3 k0_h4 => k0_hw3.2.2.2.2.2.2.2.2.2.2.1 k0_h4
theorem k0_off16_wordsbf16 : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h4 : k0_cond4 k0_t1 arg14_r0 = 1#1), (Rect.unit (s := S9216x4096) (k0_off16 arg14_r0) S512x4096.size (k0_off16_inb k0_t1 arg6_r0 arg9_r0 arg10_r0 arg11_r0 arg12_r0 arg13_r0 arg14_r0 k0_hw3 k0_h4)).WholeWords (EltTy.packing .bf16) := fun k0_t1 arg6_r0 arg9_r0 arg10_r0 arg11_r0 arg12_r0 arg13_r0 arg14_r0 k0_hw3 k0_h4 => k0_hw3.2.2.2.2.2.2.2.2.2.2.2.1 k0_h4 (k0_off16_inb k0_t1 arg6_r0 arg9_r0 arg10_r0 arg11_r0 arg12_r0 arg13_r0 arg14_r0 k0_hw3 k0_h4)
theorem k0_off15_wordsbf16 : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h4 : k0_cond4 k0_t1 arg14_r0 = 1#1), (Rect.unit (s := S2x512x4096) (k0_off15 arg10_r0) S1x512x4096.size (k0_off15_inb k0_t1 arg6_r0 arg9_r0 arg10_r0 arg11_r0 arg12_r0 arg13_r0 arg14_r0 k0_hw3 k0_h4)).WholeWords (EltTy.packing .bf16) := fun k0_t1 arg6_r0 arg9_r0 arg10_r0 arg11_r0 arg12_r0 arg13_r0 arg14_r0 k0_hw3 k0_h4 => k0_hw3.2.2.2.2.2.2.2.2.2.2.2.2.1 k0_h4 (k0_off15_inb k0_t1 arg6_r0 arg9_r0 arg10_r0 arg11_r0 arg12_r0 arg13_r0 arg14_r0 k0_hw3 k0_h4)
theorem k0_off17_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h6 : k0_cond6 arg14_r0 = 1#1), ∀ a, (k0_off17 arg6_r0) a + S1x1024x4096.size a ≤ S2x1024x4096.size a := fun k0_t1 arg6_r0 arg9_r0 arg10_r0 arg11_r0 arg12_r0 arg13_r0 arg14_r0 k0_hw3 k0_h6 => k0_hw3.2.2.2.2.2.2.2.2.2.2.2.2.2.1 k0_h6
theorem k0_off20_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h9 : k0_cond9 k0_t1 arg13_r0 arg14_r0 = 1#1), ∀ a, (k0_off20 arg11_r0) a + S1.size a ≤ S2.size a := fun k0_t1 arg6_r0 arg9_r0 arg10_r0 arg11_r0 arg12_r0 arg13_r0 arg14_r0 k0_hw3 k0_h9 => k0_hw3.2.2.2.2.2.2.2.2.2.2.2.2.2.2.1 k0_h9
theorem k0_off21_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h9 : k0_cond9 k0_t1 arg13_r0 arg14_r0 = 1#1), ∀ a, (k0_off21 arg13_r0 arg14_r0) a + S512x1024.size a ≤ S9216x16384.size a := fun k0_t1 arg6_r0 arg9_r0 arg10_r0 arg11_r0 arg12_r0 arg13_r0 arg14_r0 k0_hw3 k0_h9 => k0_hw3.2.2.2.2.2.2.2.2.2.2.2.2.2.2.2.1 k0_h9
theorem k0_off22_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h9 : k0_cond9 k0_t1 arg13_r0 arg14_r0 = 1#1), ∀ a, (k0_off22 arg11_r0) a + S1x512x1024.size a ≤ S2x512x1024.size a := fun k0_t1 arg6_r0 arg9_r0 arg10_r0 arg11_r0 arg12_r0 arg13_r0 arg14_r0 k0_hw3 k0_h9 => k0_hw3.2.2.2.2.2.2.2.2.2.2.2.2.2.2.2.2.1 k0_h9
theorem k0_off23_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h12 : k0_cond12 k0_t1 arg13_r0 arg14_r0 = 1#1), ∀ a, (k0_off23 arg12_r0) a + S1.size a ≤ S2.size a := fun k0_t1 arg6_r0 arg9_r0 arg10_r0 arg11_r0 arg12_r0 arg13_r0 arg14_r0 k0_hw3 k0_h12 => k0_hw3.2.2.2.2.2.2.2.2.2.2.2.2.2.2.2.2.2.1 k0_h12
theorem k0_off24_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h12 : k0_cond12 k0_t1 arg13_r0 arg14_r0 = 1#1), ∀ a, (k0_off24 arg13_r0 arg14_r0) a + S512x1024.size a ≤ S9216x16384.size a := fun k0_t1 arg6_r0 arg9_r0 arg10_r0 arg11_r0 arg12_r0 arg13_r0 arg14_r0 k0_hw3 k0_h12 => k0_hw3.2.2.2.2.2.2.2.2.2.2.2.2.2.2.2.2.2.2.1 k0_h12
theorem k0_off25_inb : ∀ (k0_t1 : Fin k0_t1_loop.trips) (arg6_r0 : BitVec 32) (arg9_r0 : BitVec 32) (arg10_r0 : BitVec 32) (arg11_r0 : BitVec 32) (arg12_r0 : BitVec 32) (arg13_r0 : BitVec 32) (arg14_r0 : BitVec 32) (k0_hw3 : k0_chk3 k0_t1 arg6_r0 arg9_r0 arg10_r0 arg11_r0 arg12_r0 arg13_r0 arg14_r0), ∀ (k0_h12 : k0_cond12 k0_t1 arg13_r0 arg14_r0 = 1#1), ∀ a, (k0_off25 arg12_r0) a + S1x512x1024.size a ≤ S2x512x1024.size a := fun k0_t1 arg6_r0 arg9_r0 arg10_r0 arg11_r0 arg12_r0 arg13_r0 arg14_r0 k0_hw3 k0_h12 => k0_hw3.2.2.2.2.2.2.2.2.2.2.2.2.2.2.2.2.2.2.2 k0_h12

def k0_off26 (v48_7_r0 : BitVec 32) : Fin 1 → Nat :=
  let c2_i32_92_r0 : BitVec 32 := 2#32
  let v89_r0 : BitVec 32 := Scalar.remui v48_7_r0 c2_i32_92_r0
  ![v89_r0.toNat]

def k0_off27 (v48_9_r0 : BitVec 32) (v48_8_r0 : BitVec 32) : Fin 2 → Nat :=
  let c512_i32_r0 : BitVec 32 := 512#32
  let true_57_r0 : BitVec 1 := 1#1
  let c1_i32_56_r0 : BitVec 32 := 1#32
  let v49_r0 : BitVec 32 := Scalar.subi v48_9_r0 c1_i32_56_r0
  let v50_r0 : BitVec 32 := Scalar.select true_57_r0 v49_r0 v48_9_r0
  let c_m1_i32_58_r0 : BitVec 32 := 4294967295#32
  let v51_r0 : BitVec 1 := Scalar.cmpi .eq v50_r0 c_m1_i32_58_r0
  let c17_i32_59_r0 : BitVec 32 := 17#32
  let v52_r0 : BitVec 32 := Scalar.select v51_r0 c17_i32_59_r0 v50_r0
  let c0_i32_64_r0 : BitVec 32 := 0#32
  let v58_r0 : BitVec 32 := Scalar.addi v52_r0 c0_i32_64_r0
  let v90_r0 : BitVec 32 := Scalar.muli c512_i32_r0 v58_r0
  let c1024_i32_93_r0 : BitVec 32 := 1024#32
  let c1_i32_60_r0 : BitVec 32 := 1#32
  let v53_r0 : BitVec 32 := Scalar.subi v48_8_r0 c1_i32_60_r0
  let v54_r0 : BitVec 32 := Scalar.select v51_r0 v53_r0 v48_8_r0
  let c_m1_i32_61_r0 : BitVec 32 := 4294967295#32
  let v55_r0 : BitVec 1 := Scalar.cmpi .eq v54_r0 c_m1_i32_61_r0
  let c15_i32_62_r0 : BitVec 32 := 15#32
  let v56_r0 : BitVec 32 := Scalar.select v55_r0 c15_i32_62_r0 v54_r0
  let c0_i32_63_r0 : BitVec 32 := 0#32
  let v57_r0 : BitVec 32 := Scalar.addi v56_r0 c0_i32_63_r0
  let v91_r0 : BitVec 32 := Scalar.muli c1024_i32_93_r0 v57_r0
  ![v90_r0.toNat, v91_r0.toNat]

def k0_chk7 (v48_9_r0 : BitVec 32) (v48_8_r0 : BitVec 32) : Prop :=
  (∀ a, (k0_off27 v48_9_r0 v48_8_r0) a + S512x1024.size a ≤ S9216x16384.size a)
theorem k0_off27_inb : ∀ (v48_9_r0 : BitVec 32) (v48_8_r0 : BitVec 32) (k0_hw7 : k0_chk7 v48_9_r0 v48_8_r0), ∀ a, (k0_off27 v48_9_r0 v48_8_r0) a + S512x1024.size a ≤ S9216x16384.size a := fun v48_9_r0 v48_8_r0 k0_hw7 => k0_hw7

def k0_off28 (v48_7_r0 : BitVec 32) : Fin 3 → Nat :=
  let c2_i32_92_r0 : BitVec 32 := 2#32
  let v89_r0 : BitVec 32 := Scalar.remui v48_7_r0 c2_i32_92_r0
  let c0_i32_96_r0 : BitVec 32 := 0#32
  let c0_i32_97_r0 : BitVec 32 := 0#32
  ![v89_r0.toNat, 0, 0]

def k0_chk6 (v48_7_r0 : BitVec 32) : Prop :=
  (∀ a, (k0_off26 v48_7_r0) a + S1.size a ≤ S2.size a) ∧
  (∀ a, (k0_off28 v48_7_r0) a + S1x512x1024.size a ≤ S2x512x1024.size a)
theorem k0_off26_inb : ∀ (v48_7_r0 : BitVec 32) (k0_hw6 : k0_chk6 v48_7_r0), ∀ a, (k0_off26 v48_7_r0) a + S1.size a ≤ S2.size a := fun v48_7_r0 k0_hw6 => k0_hw6.1
theorem k0_off28_inb : ∀ (v48_7_r0 : BitVec 32) (k0_hw6 : k0_chk6 v48_7_r0), ∀ a, (k0_off28 v48_7_r0) a + S1x512x1024.size a ≤ S2x512x1024.size a := fun v48_7_r0 k0_hw6 => k0_hw6.2

def k0_off29 : Fin 1 → Nat :=
  let c0_i32_29_r1 : BitVec 32 := 0#32
  let c2_i32_r1 : BitVec 32 := 2#32
  let v31_r1 : BitVec 32 := Scalar.remui c0_i32_29_r1 c2_i32_r1
  ![v31_r1.toNat]
def k0_off30 : Fin 3 → Nat :=
  let c0_i32_29_r1 : BitVec 32 := 0#32
  let c2_i32_r1 : BitVec 32 := 2#32
  let v31_r1 : BitVec 32 := Scalar.remui c0_i32_29_r1 c2_i32_r1
  let c0_i32_30_r1 : BitVec 32 := 0#32
  let c0_i32_31_r1 : BitVec 32 := 0#32
  ![v31_r1.toNat, 0, 0]
def k0_off31 : Fin 2 → Nat :=
  let c1024_i32_r1 : BitVec 32 := 1024#32
  let c0_i32_25_r1 : BitVec 32 := 0#32
  let c0_i32_26_r1 : BitVec 32 := 0#32
  let v29_r1 : BitVec 32 := Scalar.addi c0_i32_25_r1 c0_i32_26_r1
  let v32_r1 : BitVec 32 := Scalar.muli c1024_i32_r1 v29_r1
  let c0_i32_33_r1 : BitVec 32 := 0#32
  ![v32_r1.toNat, 0]
def k0_off32 : Fin 3 → Nat :=
  let c0_i32_36_r1 : BitVec 32 := 0#32
  let c2_i32_37_r1 : BitVec 32 := 2#32
  let v40_r1 : BitVec 32 := Scalar.remui c0_i32_36_r1 c2_i32_37_r1
  let c0_i32_38_r1 : BitVec 32 := 0#32
  let c0_i32_39_r1 : BitVec 32 := 0#32
  ![v40_r1.toNat, 0, 0]
@[reducible] def k0_t2_loop : Scf.Loop 32 :=
  let c0_i32_52_r1 : BitVec 32 := 0#32
  let c252_i32_r1 : BitVec 32 := 252#32
  let v47_r1 : BitVec 32 := Scalar.addi c0_i32_52_r1 c252_i32_r1
  let c1_i32_53_r1 : BitVec 32 := 1#32
  ⟨c0_i32_52_r1, v47_r1, c1_i32_53_r1⟩
def k0_off33 (arg19_r1 : BitVec 32) : Fin 1 → Nat :=
  let c2_i32_197_r1 : BitVec 32 := 2#32
  let v269_r1 : BitVec 32 := Scalar.remui arg19_r1 c2_i32_197_r1
  ![v269_r1.toNat]
def k0_cond13 (arg15_r1 : BitVec 32) (arg17_r1 : BitVec 32) : BitVec 1 :=
  let c0_i32_185_r1 : BitVec 32 := 0#32
  let v253_r1 : BitVec 32 := Scalar.addi arg15_r1 c0_i32_185_r1
  let c0_i32_187_r1 : BitVec 32 := 0#32
  let v255_r1 : BitVec 32 := Scalar.addi arg17_r1 c0_i32_187_r1
  let v257_r1 : BitVec 1 := Scalar.cmpi .ne v253_r1 v255_r1
  let v258_r1 : BitVec 32 := Scalar.extui v257_r1
  let c0_i32_189_r1 : BitVec 32 := 0#32
  let v259_r1 : BitVec 1 := Scalar.cmpi .ne v258_r1 c0_i32_189_r1
  v259_r1

def k0_off34 (arg19_r1 : BitVec 32) : Fin 3 → Nat :=
  let c2_i32_197_r1 : BitVec 32 := 2#32
  let v269_r1 : BitVec 32 := Scalar.remui arg19_r1 c2_i32_197_r1
  let c0_i32_199_r1 : BitVec 32 := 0#32
  let c0_i32_200_r1 : BitVec 32 := 0#32
  ![v269_r1.toNat, 0, 0]

def k0_chk8 (arg15_r1 : BitVec 32) (arg17_r1 : BitVec 32) (arg19_r1 : BitVec 32) : Prop :=
  (∀ (k0_h13 : k0_cond13 arg15_r1 arg17_r1 = 1#1), ∀ a, (k0_off33 arg19_r1) a + S1.size a ≤ S2.size a) ∧
  (∀ (k0_h13 : k0_cond13 arg15_r1 arg17_r1 = 1#1), ∀ a, (k0_off34 arg19_r1) a + S1x1024x4096.size a ≤ S2x1024x4096.size a)
theorem k0_off33_inb : ∀ (arg15_r1 : BitVec 32) (arg17_r1 : BitVec 32) (arg19_r1 : BitVec 32) (k0_hw8 : k0_chk8 arg15_r1 arg17_r1 arg19_r1), ∀ (k0_h13 : k0_cond13 arg15_r1 arg17_r1 = 1#1), ∀ a, (k0_off33 arg19_r1) a + S1.size a ≤ S2.size a := fun arg15_r1 arg17_r1 arg19_r1 k0_hw8 k0_h13 => k0_hw8.1 k0_h13
theorem k0_off34_inb : ∀ (arg15_r1 : BitVec 32) (arg17_r1 : BitVec 32) (arg19_r1 : BitVec 32) (k0_hw8 : k0_chk8 arg15_r1 arg17_r1 arg19_r1), ∀ (k0_h13 : k0_cond13 arg15_r1 arg17_r1 = 1#1), ∀ a, (k0_off34 arg19_r1) a + S1x1024x4096.size a ≤ S2x1024x4096.size a := fun arg15_r1 arg17_r1 arg19_r1 k0_hw8 k0_h13 => k0_hw8.2 k0_h13

def k0_off35 (arg17_r1 : BitVec 32) : Fin 2 → Nat :=
  let c1024_i32_198_r1 : BitVec 32 := 1024#32
  let c0_i32_187_r1 : BitVec 32 := 0#32
  let v255_r1 : BitVec 32 := Scalar.addi arg17_r1 c0_i32_187_r1
  let v270_r1 : BitVec 32 := Scalar.muli c1024_i32_198_r1 v255_r1
  let c0_i32_203_r1 : BitVec 32 := 0#32
  ![v270_r1.toNat, 0]

def k0_chk9 (arg15_r1 : BitVec 32) (arg17_r1 : BitVec 32) : Prop :=
  (∀ (k0_h13 : k0_cond13 arg15_r1 arg17_r1 = 1#1), ∀ a, (k0_off35 arg17_r1) a + S1024x4096.size a ≤ S14336x4096.size a)
theorem k0_off35_inb : ∀ (arg15_r1 : BitVec 32) (arg17_r1 : BitVec 32) (k0_hw9 : k0_chk9 arg15_r1 arg17_r1), ∀ (k0_h13 : k0_cond13 arg15_r1 arg17_r1 = 1#1), ∀ a, (k0_off35 arg17_r1) a + S1024x4096.size a ≤ S14336x4096.size a := fun arg15_r1 arg17_r1 k0_hw9 k0_h13 => k0_hw9 k0_h13

def k0_off36 (arg9_r1 : BitVec 32) : Fin 1 → Nat :=
  let c2_i32_185_r1 : BitVec 32 := 2#32
  let v253_r1 : BitVec 32 := Scalar.remui arg9_r1 c2_i32_185_r1
  ![v253_r1.toNat]
def k0_cond14 (k0_t2 : Fin k0_t2_loop.trips) (arg14_r1 : BitVec 32) : BitVec 1 :=
  let c0_i32_98_r1 : BitVec 32 := 0#32
  let v101_r1 : BitVec 32 := Scalar.addi arg14_r1 c0_i32_98_r1
  let true_109_r1 : BitVec 1 := 1#1
  let c1_i32_108_r1 : BitVec 32 := 1#32
  let v112_r1 : BitVec 32 := Scalar.addi arg14_r1 c1_i32_108_r1
  let v113_r1 : BitVec 32 := Scalar.select true_109_r1 v112_r1 arg14_r1
  let c18_i32_110_r1 : BitVec 32 := 18#32
  let v114_r1 : BitVec 1 := Scalar.cmpi .eq v113_r1 c18_i32_110_r1
  let c0_i32_111_r1 : BitVec 32 := 0#32
  let v115_r1 : BitVec 32 := Scalar.select v114_r1 c0_i32_111_r1 v113_r1
  let c0_i32_116_r1 : BitVec 32 := 0#32
  let v121_r1 : BitVec 32 := Scalar.addi v115_r1 c0_i32_116_r1
  let v145_r1 : BitVec 1 := Scalar.cmpi .ne v101_r1 v121_r1
  let c0_i32_52_r1 : BitVec 32 := 0#32
  let c1_i32_53_r1 : BitVec 32 := 1#32
  let arg4_r1 : BitVec 32 := Scf.iv c0_i32_52_r1 c1_i32_53_r1 k0_t2
  let c251_i32_135_r1 : BitVec 32 := 251#32
  let v146_r1 : BitVec 1 := Scalar.cmpi .sge arg4_r1 c251_i32_135_r1
  let true_136_r1 : BitVec 1 := 1#1
  let v147_r1 : BitVec 1 := Scalar.xori v146_r1 true_136_r1
  let v148_r1 : BitVec 1 := Scalar.andi v145_r1 v147_r1
  let true_137_r1 : BitVec 1 := 1#1
  let v149_r1 : BitVec 1 := Scalar.andi v148_r1 true_137_r1
  let v150_r1 : BitVec 32 := Scalar.extui v149_r1
  let c0_i32_138_r1 : BitVec 32 := 0#32
  let v151_r1 : BitVec 1 := Scalar.cmpi .ne v150_r1 c0_i32_138_r1
  v151_r1

def k0_off37 (arg9_r1 : BitVec 32) : Fin 3 → Nat :=
  let c2_i32_185_r1 : BitVec 32 := 2#32
  let v253_r1 : BitVec 32 := Scalar.remui arg9_r1 c2_i32_185_r1
  let c0_i32_187_r1 : BitVec 32 := 0#32
  let c0_i32_188_r1 : BitVec 32 := 0#32
  ![v253_r1.toNat, 0, 0]
def k0_off38 (arg14_r1 : BitVec 32) : Fin 2 → Nat :=
  let c512_i32_186_r1 : BitVec 32 := 512#32
  let true_109_r1 : BitVec 1 := 1#1
  let c1_i32_108_r1 : BitVec 32 := 1#32
  let v112_r1 : BitVec 32 := Scalar.addi arg14_r1 c1_i32_108_r1
  let v113_r1 : BitVec 32 := Scalar.select true_109_r1 v112_r1 arg14_r1
  let c18_i32_110_r1 : BitVec 32 := 18#32
  let v114_r1 : BitVec 1 := Scalar.cmpi .eq v113_r1 c18_i32_110_r1
  let c0_i32_111_r1 : BitVec 32 := 0#32
  let v115_r1 : BitVec 32 := Scalar.select v114_r1 c0_i32_111_r1 v113_r1
  let c0_i32_116_r1 : BitVec 32 := 0#32
  let v121_r1 : BitVec 32 := Scalar.addi v115_r1 c0_i32_116_r1
  let v254_r1 : BitVec 32 := Scalar.muli c512_i32_186_r1 v121_r1
  let c0_i32_189_r1 : BitVec 32 := 0#32
  ![v254_r1.toNat, 0]
def k0_off39 (arg6_r1 : BitVec 32) : Fin 1 → Nat :=
  let c2_i32_186_r1 : BitVec 32 := 2#32
  let v254_r1 : BitVec 32 := Scalar.remui arg6_r1 c2_i32_186_r1
  ![v254_r1.toNat]
def k0_cond15 (k0_t2 : Fin k0_t2_loop.trips) (arg13_r1 : BitVec 32) (arg14_r1 : BitVec 32) : BitVec 1 :=
  let c0_i32_97_r1 : BitVec 32 := 0#32
  let v100_r1 : BitVec 32 := Scalar.addi arg13_r1 c0_i32_97_r1
  let true_100_r1 : BitVec 1 := 1#1
  let c1_i32_99_r1 : BitVec 32 := 1#32
  let v102_r1 : BitVec 32 := Scalar.subi arg14_r1 c1_i32_99_r1
  let v103_r1 : BitVec 32 := Scalar.select true_100_r1 v102_r1 arg14_r1
  let c_m1_i32_101_r1 : BitVec 32 := 4294967295#32
  let v104_r1 : BitVec 1 := Scalar.cmpi .eq v103_r1 c_m1_i32_101_r1
  let c1_i32_103_r1 : BitVec 32 := 1#32
  let v106_r1 : BitVec 32 := Scalar.subi arg13_r1 c1_i32_103_r1
  let v107_r1 : BitVec 32 := Scalar.select v104_r1 v106_r1 arg13_r1
  let c_m1_i32_104_r1 : BitVec 32 := 4294967295#32
  let v108_r1 : BitVec 1 := Scalar.cmpi .eq v107_r1 c_m1_i32_104_r1
  let c13_i32_105_r1 : BitVec 32 := 13#32
  let v109_r1 : BitVec 32 := Scalar.select v108_r1 c13_i32_105_r1 v107_r1
  let c0_i32_106_r1 : BitVec 32 := 0#32
  let v110_r1 : BitVec 32 := Scalar.addi v109_r1 c0_i32_106_r1
  let v161_r1 : BitVec 1 := Scalar.cmpi .ne v100_r1 v110_r1
  let c0_i32_52_r1 : BitVec 32 := 0#32
  let c1_i32_53_r1 : BitVec 32 := 1#32
  let arg4_r1 : BitVec 32 := Scf.iv c0_i32_52_r1 c1_i32_53_r1 k0_t2
  let c0_i32_96_r1 : BitVec 32 := 0#32
  let v98_r1 : BitVec 1 := Scalar.cmpi .eq arg4_r1 c0_i32_96_r1
  let v162_r1 : BitVec 1 := Scalar.ori v161_r1 v98_r1
  let c0_i32_143_r1 : BitVec 32 := 0#32
  let v163_r1 : BitVec 1 := Scalar.cmpi .sge arg4_r1 c0_i32_143_r1
  let v164_r1 : BitVec 1 := Scalar.andi v162_r1 v163_r1
  let v165_r1 : BitVec 32 := Scalar.extui v164_r1
  let c0_i32_144_r1 : BitVec 32 := 0#32
  let v166_r1 : BitVec 1 := Scalar.cmpi .ne v165_r1 c0_i32_144_r1
  v166_r1

def k0_off40 (arg6_r1 : BitVec 32) : Fin 3 → Nat :=
  let c2_i32_186_r1 : BitVec 32 := 2#32
  let v254_r1 : BitVec 32 := Scalar.remui arg6_r1 c2_i32_186_r1
  let c0_i32_187_r1 : BitVec 32 := 0#32
  let c0_i32_188_r1 : BitVec 32 := 0#32
  ![v254_r1.toNat, 0, 0]
def k0_off41 (arg13_r1 : BitVec 32) : Fin 2 → Nat :=
  let c1024_i32_185_r1 : BitVec 32 := 1024#32
  let c0_i32_97_r1 : BitVec 32 := 0#32
  let v100_r1 : BitVec 32 := Scalar.addi arg13_r1 c0_i32_97_r1
  let v253_r1 : BitVec 32 := Scalar.muli c1024_i32_185_r1 v100_r1
  let c0_i32_191_r1 : BitVec 32 := 0#32
  ![v253_r1.toNat, 0]
def k0_off42 (arg10_r1 : BitVec 32) : Fin 1 → Nat :=
  let c2_i32_186_r1 : BitVec 32 := 2#32
  let v254_r1 : BitVec 32 := Scalar.remui arg10_r1 c2_i32_186_r1
  ![v254_r1.toNat]
def k0_cond16 (k0_t2 : Fin k0_t2_loop.trips) (arg14_r1 : BitVec 32) : BitVec 1 :=
  let c0_i32_98_r1 : BitVec 32 := 0#32
  let v101_r1 : BitVec 32 := Scalar.addi arg14_r1 c0_i32_98_r1
  let true_100_r1 : BitVec 1 := 1#1
  let c1_i32_99_r1 : BitVec 32 := 1#32
  let v102_r1 : BitVec 32 := Scalar.subi arg14_r1 c1_i32_99_r1
  let v103_r1 : BitVec 32 := Scalar.select true_100_r1 v102_r1 arg14_r1
  let c_m1_i32_101_r1 : BitVec 32 := 4294967295#32
  let v104_r1 : BitVec 1 := Scalar.cmpi .eq v103_r1 c_m1_i32_101_r1
  let c17_i32_102_r1 : BitVec 32 := 17#32
  let v105_r1 : BitVec 32 := Scalar.select v104_r1 c17_i32_102_r1 v103_r1
  let c0_i32_107_r1 : BitVec 32 := 0#32
  let v111_r1 : BitVec 32 := Scalar.addi v105_r1 c0_i32_107_r1
  let v167_r1 : BitVec 1 := Scalar.cmpi .ne v101_r1 v111_r1
  let c0_i32_52_r1 : BitVec 32 := 0#32
  let c1_i32_53_r1 : BitVec 32 := 1#32
  let arg4_r1 : BitVec 32 := Scf.iv c0_i32_52_r1 c1_i32_53_r1 k0_t2
  let c0_i32_96_r1 : BitVec 32 := 0#32
  let v98_r1 : BitVec 1 := Scalar.cmpi .eq arg4_r1 c0_i32_96_r1
  let v168_r1 : BitVec 1 := Scalar.ori v167_r1 v98_r1
  let c0_i32_145_r1 : BitVec 32 := 0#32
  let v169_r1 : BitVec 1 := Scalar.cmpi .sge arg4_r1 c0_i32_145_r1
  let v170_r1 : BitVec 1 := Scalar.andi v168_r1 v169_r1
  let v171_r1 : BitVec 32 := Scalar.extui v170_r1
  let c0_i32_146_r1 : BitVec 32 := 0#32
  let v172_r1 : BitVec 1 := Scalar.cmpi .ne v171_r1 c0_i32_146_r1
  v172_r1

def k0_off43 (arg10_r1 : BitVec 32) : Fin 3 → Nat :=
  let c2_i32_186_r1 : BitVec 32 := 2#32
  let v254_r1 : BitVec 32 := Scalar.remui arg10_r1 c2_i32_186_r1
  let c0_i32_187_r1 : BitVec 32 := 0#32
  let c0_i32_188_r1 : BitVec 32 := 0#32
  ![v254_r1.toNat, 0, 0]
def k0_off44 (arg14_r1 : BitVec 32) : Fin 2 → Nat :=
  let c512_i32_185_r1 : BitVec 32 := 512#32
  let c0_i32_98_r1 : BitVec 32 := 0#32
  let v101_r1 : BitVec 32 := Scalar.addi arg14_r1 c0_i32_98_r1
  let v253_r1 : BitVec 32 := Scalar.muli c512_i32_185_r1 v101_r1
  let c0_i32_189_r1 : BitVec 32 := 0#32
  ![v253_r1.toNat, 0]
def k0_off45 (arg6_r1 : BitVec 32) : Fin 3 → Nat :=
  let c2_i32_149_r1 : BitVec 32 := 2#32
  let v181_r1 : BitVec 32 := Scalar.remui arg6_r1 c2_i32_149_r1
  let v253_r1 : Index := Scalar.indexCast v181_r1
  let c0_185_r1 : Index := 0#32
  let c0_186_r1 : Index := 0#32
  ![v253_r1.toNat, 0, 0]
def k0_cond18 (arg14_r1 : BitVec 32) : BitVec 1 :=
  let c0_i32_98_r1 : BitVec 32 := 0#32
  let v101_r1 : BitVec 32 := Scalar.addi arg14_r1 c0_i32_98_r1
  let c0_i32_152_r1 : BitVec 32 := 0#32
  let v184_r1 : BitVec 1 := Scalar.cmpi .eq v101_r1 c0_i32_152_r1
  let v185_r1 : BitVec 32 := Scalar.extui v184_r1
  let c0_i32_153_r1 : BitVec 32 := 0#32
  let v186_r1 : BitVec 1 := Scalar.cmpi .ne v185_r1 c0_i32_153_r1
  v186_r1

def k0_off46 (arg10_r1 : BitVec 32) : Fin 3 → Nat :=
  let c2_i32_150_r1 : BitVec 32 := 2#32
  let v182_r1 : BitVec 32 := Scalar.remui arg10_r1 c2_i32_150_r1
  let v187_r1 : Index := Scalar.indexCast v182_r1
  let c0_r1 : Index := 0#32
  let c0_154_r1 : Index := 0#32
  ![v187_r1.toNat, 0, 0]

def k0_chk11 (arg10_r1 : BitVec 32) : Prop :=
  (∀ a, (k0_off46 arg10_r1) a + S1x512x4096.size a ≤ S2x512x4096.size a)
theorem k0_off46_inb : ∀ (arg10_r1 : BitVec 32) (k0_hw11 : k0_chk11 arg10_r1), ∀ a, (k0_off46 arg10_r1) a + S1x512x4096.size a ≤ S2x512x4096.size a := fun arg10_r1 k0_hw11 => k0_hw11

def k0_off47 (arg11_r1 : BitVec 32) : Fin 3 → Nat :=
  let c2_i32_151_r1 : BitVec 32 := 2#32
  let v183_r1 : BitVec 32 := Scalar.remui arg11_r1 c2_i32_151_r1
  let v192_r1 : Index := Scalar.indexCast v183_r1
  let c0_157_r1 : Index := 0#32
  let c0_158_r1 : Index := 0#32
  ![v192_r1.toNat, 0, 0]

def k0_chk12 (arg11_r1 : BitVec 32) : Prop :=
  (∀ a, (k0_off47 arg11_r1) a + S1x512x1024.size a ≤ S2x512x1024.size a)
theorem k0_off47_inb : ∀ (arg11_r1 : BitVec 32) (k0_hw12 : k0_chk12 arg11_r1), ∀ a, (k0_off47 arg11_r1) a + S1x512x1024.size a ≤ S2x512x1024.size a := fun arg11_r1 k0_hw12 => k0_hw12

def k0_off48 (arg11_r1 : BitVec 32) : Fin 1 → Nat :=
  let c2_i32_185_r1 : BitVec 32 := 2#32
  let v253_r1 : BitVec 32 := Scalar.remui arg11_r1 c2_i32_185_r1
  ![v253_r1.toNat]
def k0_cond21 (k0_t2 : Fin k0_t2_loop.trips) (arg13_r1 : BitVec 32) (arg14_r1 : BitVec 32) : BitVec 1 :=
  let c0_i32_98_r1 : BitVec 32 := 0#32
  let v101_r1 : BitVec 32 := Scalar.addi arg14_r1 c0_i32_98_r1
  let true_109_r1 : BitVec 1 := 1#1
  let c1_i32_108_r1 : BitVec 32 := 1#32
  let v112_r1 : BitVec 32 := Scalar.addi arg14_r1 c1_i32_108_r1
  let v113_r1 : BitVec 32 := Scalar.select true_109_r1 v112_r1 arg14_r1
  let c18_i32_110_r1 : BitVec 32 := 18#32
  let v114_r1 : BitVec 1 := Scalar.cmpi .eq v113_r1 c18_i32_110_r1
  let c0_i32_111_r1 : BitVec 32 := 0#32
  let v115_r1 : BitVec 32 := Scalar.select v114_r1 c0_i32_111_r1 v113_r1
  let c0_i32_116_r1 : BitVec 32 := 0#32
  let v121_r1 : BitVec 32 := Scalar.addi v115_r1 c0_i32_116_r1
  let v206_r1 : BitVec 1 := Scalar.cmpi .ne v101_r1 v121_r1
  let c0_i32_97_r1 : BitVec 32 := 0#32
  let v100_r1 : BitVec 32 := Scalar.addi arg13_r1 c0_i32_97_r1
  let c1_i32_112_r1 : BitVec 32 := 1#32
  let v116_r1 : BitVec 32 := Scalar.addi arg13_r1 c1_i32_112_r1
  let v117_r1 : BitVec 32 := Scalar.select v114_r1 v116_r1 arg13_r1
  let c14_i32_113_r1 : BitVec 32 := 14#32
  let v118_r1 : BitVec 1 := Scalar.cmpi .eq v117_r1 c14_i32_113_r1
  let c0_i32_114_r1 : BitVec 32 := 0#32
  let v119_r1 : BitVec 32 := Scalar.select v118_r1 c0_i32_114_r1 v117_r1
  let c0_i32_115_r1 : BitVec 32 := 0#32
  let v120_r1 : BitVec 32 := Scalar.addi v119_r1 c0_i32_115_r1
  let v207_r1 : BitVec 1 := Scalar.cmpi .ne v100_r1 v120_r1
  let v208_r1 : BitVec 1 := Scalar.ori v206_r1 v207_r1
  let c0_i32_52_r1 : BitVec 32 := 0#32
  let c1_i32_53_r1 : BitVec 32 := 1#32
  let arg4_r1 : BitVec 32 := Scf.iv c0_i32_52_r1 c1_i32_53_r1 k0_t2
  let c251_i32_r1 : BitVec 32 := 251#32
  let v99_r1 : BitVec 1 := Scalar.cmpi .eq arg4_r1 c251_i32_r1
  let v209_r1 : BitVec 1 := Scalar.ori v208_r1 v99_r1
  let v210_r1 : BitVec 32 := Scalar.extui v209_r1
  let c0_i32_163_r1 : BitVec 32 := 0#32
  let v211_r1 : BitVec 1 := Scalar.cmpi .ne v210_r1 c0_i32_163_r1
  v211_r1

def k0_off49 (arg13_r1 : BitVec 32) (arg14_r1 : BitVec 32) : Fin 2 → Nat :=
  let c512_i32_186_r1 : BitVec 32 := 512#32
  let c0_i32_98_r1 : BitVec 32 := 0#32
  let v101_r1 : BitVec 32 := Scalar.addi arg14_r1 c0_i32_98_r1
  let v254_r1 : BitVec 32 := Scalar.muli c512_i32_186_r1 v101_r1
  let c1024_i32_187_r1 : BitVec 32 := 1024#32
  let c0_i32_97_r1 : BitVec 32 := 0#32
  let v100_r1 : BitVec 32 := Scalar.addi arg13_r1 c0_i32_97_r1
  let v255_r1 : BitVec 32 := Scalar.muli c1024_i32_187_r1 v100_r1
  ![v254_r1.toNat, v255_r1.toNat]
def k0_off50 (arg11_r1 : BitVec 32) : Fin 3 → Nat :=
  let c2_i32_185_r1 : BitVec 32 := 2#32
  let v253_r1 : BitVec 32 := Scalar.remui arg11_r1 c2_i32_185_r1
  let c0_i32_190_r1 : BitVec 32 := 0#32
  let c0_i32_191_r1 : BitVec 32 := 0#32
  ![v253_r1.toNat, 0, 0]
def k0_off51 (arg12_r1 : BitVec 32) : Fin 1 → Nat :=
  let c2_i32_185_r1 : BitVec 32 := 2#32
  let v253_r1 : BitVec 32 := Scalar.remui arg12_r1 c2_i32_185_r1
  ![v253_r1.toNat]
def k0_cond24 (k0_t2 : Fin k0_t2_loop.trips) (arg13_r1 : BitVec 32) (arg14_r1 : BitVec 32) : BitVec 1 :=
  let c0_i32_98_r1 : BitVec 32 := 0#32
  let v101_r1 : BitVec 32 := Scalar.addi arg14_r1 c0_i32_98_r1
  let true_100_r1 : BitVec 1 := 1#1
  let c1_i32_99_r1 : BitVec 32 := 1#32
  let v102_r1 : BitVec 32 := Scalar.subi arg14_r1 c1_i32_99_r1
  let v103_r1 : BitVec 32 := Scalar.select true_100_r1 v102_r1 arg14_r1
  let c_m1_i32_101_r1 : BitVec 32 := 4294967295#32
  let v104_r1 : BitVec 1 := Scalar.cmpi .eq v103_r1 c_m1_i32_101_r1
  let c17_i32_102_r1 : BitVec 32 := 17#32
  let v105_r1 : BitVec 32 := Scalar.select v104_r1 c17_i32_102_r1 v103_r1
  let c0_i32_107_r1 : BitVec 32 := 0#32
  let v111_r1 : BitVec 32 := Scalar.addi v105_r1 c0_i32_107_r1
  let v227_r1 : BitVec 1 := Scalar.cmpi .ne v101_r1 v111_r1
  let c0_i32_97_r1 : BitVec 32 := 0#32
  let v100_r1 : BitVec 32 := Scalar.addi arg13_r1 c0_i32_97_r1
  let c1_i32_103_r1 : BitVec 32 := 1#32
  let v106_r1 : BitVec 32 := Scalar.subi arg13_r1 c1_i32_103_r1
  let v107_r1 : BitVec 32 := Scalar.select v104_r1 v106_r1 arg13_r1
  let c_m1_i32_104_r1 : BitVec 32 := 4294967295#32
  let v108_r1 : BitVec 1 := Scalar.cmpi .eq v107_r1 c_m1_i32_104_r1
  let c13_i32_105_r1 : BitVec 32 := 13#32
  let v109_r1 : BitVec 32 := Scalar.select v108_r1 c13_i32_105_r1 v107_r1
  let c0_i32_106_r1 : BitVec 32 := 0#32
  let v110_r1 : BitVec 32 := Scalar.addi v109_r1 c0_i32_106_r1
  let v228_r1 : BitVec 1 := Scalar.cmpi .ne v100_r1 v110_r1
  let v229_r1 : BitVec 1 := Scalar.ori v227_r1 v228_r1
  let c0_i32_52_r1 : BitVec 32 := 0#32
  let c1_i32_53_r1 : BitVec 32 := 1#32
  let arg4_r1 : BitVec 32 := Scf.iv c0_i32_52_r1 c1_i32_53_r1 k0_t2
  let c0_i32_96_r1 : BitVec 32 := 0#32
  let v98_r1 : BitVec 1 := Scalar.cmpi .eq arg4_r1 c0_i32_96_r1
  let true_172_r1 : BitVec 1 := 1#1
  let v230_r1 : BitVec 1 := Scalar.xori v98_r1 true_172_r1
  let v231_r1 : BitVec 1 := Scalar.andi v229_r1 v230_r1
  let v232_r1 : BitVec 32 := Scalar.extui v231_r1
  let c0_i32_173_r1 : BitVec 32 := 0#32
  let v233_r1 : BitVec 1 := Scalar.cmpi .ne v232_r1 c0_i32_173_r1
  v233_r1

def k0_off52 (arg13_r1 : BitVec 32) (arg14_r1 : BitVec 32) : Fin 2 → Nat :=
  let c512_i32_186_r1 : BitVec 32 := 512#32
  let true_100_r1 : BitVec 1 := 1#1
  let c1_i32_99_r1 : BitVec 32 := 1#32
  let v102_r1 : BitVec 32 := Scalar.subi arg14_r1 c1_i32_99_r1
  let v103_r1 : BitVec 32 := Scalar.select true_100_r1 v102_r1 arg14_r1
  let c_m1_i32_101_r1 : BitVec 32 := 4294967295#32
  let v104_r1 : BitVec 1 := Scalar.cmpi .eq v103_r1 c_m1_i32_101_r1
  let c17_i32_102_r1 : BitVec 32 := 17#32
  let v105_r1 : BitVec 32 := Scalar.select v104_r1 c17_i32_102_r1 v103_r1
  let c0_i32_107_r1 : BitVec 32 := 0#32
  let v111_r1 : BitVec 32 := Scalar.addi v105_r1 c0_i32_107_r1
  let v254_r1 : BitVec 32 := Scalar.muli c512_i32_186_r1 v111_r1
  let c1024_i32_187_r1 : BitVec 32 := 1024#32
  let c1_i32_103_r1 : BitVec 32 := 1#32
  let v106_r1 : BitVec 32 := Scalar.subi arg13_r1 c1_i32_103_r1
  let v107_r1 : BitVec 32 := Scalar.select v104_r1 v106_r1 arg13_r1
  let c_m1_i32_104_r1 : BitVec 32 := 4294967295#32
  let v108_r1 : BitVec 1 := Scalar.cmpi .eq v107_r1 c_m1_i32_104_r1
  let c13_i32_105_r1 : BitVec 32 := 13#32
  let v109_r1 : BitVec 32 := Scalar.select v108_r1 c13_i32_105_r1 v107_r1
  let c0_i32_106_r1 : BitVec 32 := 0#32
  let v110_r1 : BitVec 32 := Scalar.addi v109_r1 c0_i32_106_r1
  let v255_r1 : BitVec 32 := Scalar.muli c1024_i32_187_r1 v110_r1
  ![v254_r1.toNat, v255_r1.toNat]
def k0_off53 (arg12_r1 : BitVec 32) : Fin 3 → Nat :=
  let c2_i32_185_r1 : BitVec 32 := 2#32
  let v253_r1 : BitVec 32 := Scalar.remui arg12_r1 c2_i32_185_r1
  let c0_i32_190_r1 : BitVec 32 := 0#32
  let c0_i32_191_r1 : BitVec 32 := 0#32
  ![v253_r1.toNat, 0, 0]

def k0_chk10 (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) : Prop :=
  (∀ (k0_h14 : k0_cond14 k0_t2 arg14_r1 = 1#1), ∀ a, (k0_off36 arg9_r1) a + S1.size a ≤ S2.size a) ∧
  (∀ (k0_h14 : k0_cond14 k0_t2 arg14_r1 = 1#1), ∀ a, (k0_off37 arg9_r1) a + S1x512x4096.size a ≤ S2x512x4096.size a) ∧
  (∀ (k0_h14 : k0_cond14 k0_t2 arg14_r1 = 1#1), ∀ a, (k0_off38 arg14_r1) a + S512x4096.size a ≤ S9216x4096.size a) ∧
  (∀ (k0_h14 : k0_cond14 k0_t2 arg14_r1 = 1#1), ∀ (hinb : ∀ a, (k0_off38 arg14_r1) a + S512x4096.size a ≤ S9216x4096.size a), (Rect.unit (s := S9216x4096) (k0_off38 arg14_r1) S512x4096.size hinb).WholeWords (EltTy.packing .bf16)) ∧
  (∀ (k0_h14 : k0_cond14 k0_t2 arg14_r1 = 1#1), ∀ (hinb : ∀ a, (k0_off37 arg9_r1) a + S1x512x4096.size a ≤ S2x512x4096.size a), (Rect.unit (s := S2x512x4096) (k0_off37 arg9_r1) S1x512x4096.size hinb).WholeWords (EltTy.packing .bf16)) ∧
  (∀ (k0_h15 : k0_cond15 k0_t2 arg13_r1 arg14_r1 = 1#1), ∀ a, (k0_off39 arg6_r1) a + S1.size a ≤ S2.size a) ∧
  (∀ (k0_h15 : k0_cond15 k0_t2 arg13_r1 arg14_r1 = 1#1), ∀ a, (k0_off40 arg6_r1) a + S1x1024x4096.size a ≤ S2x1024x4096.size a) ∧
  (∀ (k0_h15 : k0_cond15 k0_t2 arg13_r1 arg14_r1 = 1#1), ∀ a, (k0_off41 arg13_r1) a + S1024x4096.size a ≤ S14336x4096.size a) ∧
  (∀ (k0_h16 : k0_cond16 k0_t2 arg14_r1 = 1#1), ∀ a, (k0_off42 arg10_r1) a + S1.size a ≤ S2.size a) ∧
  (∀ (k0_h16 : k0_cond16 k0_t2 arg14_r1 = 1#1), ∀ a, (k0_off43 arg10_r1) a + S1x512x4096.size a ≤ S2x512x4096.size a) ∧
  (∀ (k0_h16 : k0_cond16 k0_t2 arg14_r1 = 1#1), ∀ a, (k0_off44 arg14_r1) a + S512x4096.size a ≤ S9216x4096.size a) ∧
  (∀ (k0_h16 : k0_cond16 k0_t2 arg14_r1 = 1#1), ∀ (hinb : ∀ a, (k0_off44 arg14_r1) a + S512x4096.size a ≤ S9216x4096.size a), (Rect.unit (s := S9216x4096) (k0_off44 arg14_r1) S512x4096.size hinb).WholeWords (EltTy.packing .bf16)) ∧
  (∀ (k0_h16 : k0_cond16 k0_t2 arg14_r1 = 1#1), ∀ (hinb : ∀ a, (k0_off43 arg10_r1) a + S1x512x4096.size a ≤ S2x512x4096.size a), (Rect.unit (s := S2x512x4096) (k0_off43 arg10_r1) S1x512x4096.size hinb).WholeWords (EltTy.packing .bf16)) ∧
  (∀ (k0_h18 : k0_cond18 arg14_r1 = 1#1), ∀ a, (k0_off45 arg6_r1) a + S1x1024x4096.size a ≤ S2x1024x4096.size a) ∧
  (∀ (k0_h21 : k0_cond21 k0_t2 arg13_r1 arg14_r1 = 1#1), ∀ a, (k0_off48 arg11_r1) a + S1.size a ≤ S2.size a) ∧
  (∀ (k0_h21 : k0_cond21 k0_t2 arg13_r1 arg14_r1 = 1#1), ∀ a, (k0_off49 arg13_r1 arg14_r1) a + S512x1024.size a ≤ S9216x14336.size a) ∧
  (∀ (k0_h21 : k0_cond21 k0_t2 arg13_r1 arg14_r1 = 1#1), ∀ a, (k0_off50 arg11_r1) a + S1x512x1024.size a ≤ S2x512x1024.size a) ∧
  (∀ (k0_h24 : k0_cond24 k0_t2 arg13_r1 arg14_r1 = 1#1), ∀ a, (k0_off51 arg12_r1) a + S1.size a ≤ S2.size a) ∧
  (∀ (k0_h24 : k0_cond24 k0_t2 arg13_r1 arg14_r1 = 1#1), ∀ a, (k0_off52 arg13_r1 arg14_r1) a + S512x1024.size a ≤ S9216x14336.size a) ∧
  (∀ (k0_h24 : k0_cond24 k0_t2 arg13_r1 arg14_r1 = 1#1), ∀ a, (k0_off53 arg12_r1) a + S1x512x1024.size a ≤ S2x512x1024.size a)
theorem k0_off36_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h14 : k0_cond14 k0_t2 arg14_r1 = 1#1), ∀ a, (k0_off36 arg9_r1) a + S1.size a ≤ S2.size a := fun k0_t2 arg6_r1 arg9_r1 arg10_r1 arg11_r1 arg12_r1 arg13_r1 arg14_r1 k0_hw10 k0_h14 => k0_hw10.1 k0_h14
theorem k0_off37_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h14 : k0_cond14 k0_t2 arg14_r1 = 1#1), ∀ a, (k0_off37 arg9_r1) a + S1x512x4096.size a ≤ S2x512x4096.size a := fun k0_t2 arg6_r1 arg9_r1 arg10_r1 arg11_r1 arg12_r1 arg13_r1 arg14_r1 k0_hw10 k0_h14 => k0_hw10.2.1 k0_h14
theorem k0_off38_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h14 : k0_cond14 k0_t2 arg14_r1 = 1#1), ∀ a, (k0_off38 arg14_r1) a + S512x4096.size a ≤ S9216x4096.size a := fun k0_t2 arg6_r1 arg9_r1 arg10_r1 arg11_r1 arg12_r1 arg13_r1 arg14_r1 k0_hw10 k0_h14 => k0_hw10.2.2.1 k0_h14
theorem k0_off38_wordsbf16 : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h14 : k0_cond14 k0_t2 arg14_r1 = 1#1), (Rect.unit (s := S9216x4096) (k0_off38 arg14_r1) S512x4096.size (k0_off38_inb k0_t2 arg6_r1 arg9_r1 arg10_r1 arg11_r1 arg12_r1 arg13_r1 arg14_r1 k0_hw10 k0_h14)).WholeWords (EltTy.packing .bf16) := fun k0_t2 arg6_r1 arg9_r1 arg10_r1 arg11_r1 arg12_r1 arg13_r1 arg14_r1 k0_hw10 k0_h14 => k0_hw10.2.2.2.1 k0_h14 (k0_off38_inb k0_t2 arg6_r1 arg9_r1 arg10_r1 arg11_r1 arg12_r1 arg13_r1 arg14_r1 k0_hw10 k0_h14)
theorem k0_off37_wordsbf16 : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h14 : k0_cond14 k0_t2 arg14_r1 = 1#1), (Rect.unit (s := S2x512x4096) (k0_off37 arg9_r1) S1x512x4096.size (k0_off37_inb k0_t2 arg6_r1 arg9_r1 arg10_r1 arg11_r1 arg12_r1 arg13_r1 arg14_r1 k0_hw10 k0_h14)).WholeWords (EltTy.packing .bf16) := fun k0_t2 arg6_r1 arg9_r1 arg10_r1 arg11_r1 arg12_r1 arg13_r1 arg14_r1 k0_hw10 k0_h14 => k0_hw10.2.2.2.2.1 k0_h14 (k0_off37_inb k0_t2 arg6_r1 arg9_r1 arg10_r1 arg11_r1 arg12_r1 arg13_r1 arg14_r1 k0_hw10 k0_h14)
theorem k0_off39_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h15 : k0_cond15 k0_t2 arg13_r1 arg14_r1 = 1#1), ∀ a, (k0_off39 arg6_r1) a + S1.size a ≤ S2.size a := fun k0_t2 arg6_r1 arg9_r1 arg10_r1 arg11_r1 arg12_r1 arg13_r1 arg14_r1 k0_hw10 k0_h15 => k0_hw10.2.2.2.2.2.1 k0_h15
theorem k0_off40_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h15 : k0_cond15 k0_t2 arg13_r1 arg14_r1 = 1#1), ∀ a, (k0_off40 arg6_r1) a + S1x1024x4096.size a ≤ S2x1024x4096.size a := fun k0_t2 arg6_r1 arg9_r1 arg10_r1 arg11_r1 arg12_r1 arg13_r1 arg14_r1 k0_hw10 k0_h15 => k0_hw10.2.2.2.2.2.2.1 k0_h15
theorem k0_off41_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h15 : k0_cond15 k0_t2 arg13_r1 arg14_r1 = 1#1), ∀ a, (k0_off41 arg13_r1) a + S1024x4096.size a ≤ S14336x4096.size a := fun k0_t2 arg6_r1 arg9_r1 arg10_r1 arg11_r1 arg12_r1 arg13_r1 arg14_r1 k0_hw10 k0_h15 => k0_hw10.2.2.2.2.2.2.2.1 k0_h15
theorem k0_off42_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h16 : k0_cond16 k0_t2 arg14_r1 = 1#1), ∀ a, (k0_off42 arg10_r1) a + S1.size a ≤ S2.size a := fun k0_t2 arg6_r1 arg9_r1 arg10_r1 arg11_r1 arg12_r1 arg13_r1 arg14_r1 k0_hw10 k0_h16 => k0_hw10.2.2.2.2.2.2.2.2.1 k0_h16
theorem k0_off43_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h16 : k0_cond16 k0_t2 arg14_r1 = 1#1), ∀ a, (k0_off43 arg10_r1) a + S1x512x4096.size a ≤ S2x512x4096.size a := fun k0_t2 arg6_r1 arg9_r1 arg10_r1 arg11_r1 arg12_r1 arg13_r1 arg14_r1 k0_hw10 k0_h16 => k0_hw10.2.2.2.2.2.2.2.2.2.1 k0_h16
theorem k0_off44_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h16 : k0_cond16 k0_t2 arg14_r1 = 1#1), ∀ a, (k0_off44 arg14_r1) a + S512x4096.size a ≤ S9216x4096.size a := fun k0_t2 arg6_r1 arg9_r1 arg10_r1 arg11_r1 arg12_r1 arg13_r1 arg14_r1 k0_hw10 k0_h16 => k0_hw10.2.2.2.2.2.2.2.2.2.2.1 k0_h16
theorem k0_off44_wordsbf16 : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h16 : k0_cond16 k0_t2 arg14_r1 = 1#1), (Rect.unit (s := S9216x4096) (k0_off44 arg14_r1) S512x4096.size (k0_off44_inb k0_t2 arg6_r1 arg9_r1 arg10_r1 arg11_r1 arg12_r1 arg13_r1 arg14_r1 k0_hw10 k0_h16)).WholeWords (EltTy.packing .bf16) := fun k0_t2 arg6_r1 arg9_r1 arg10_r1 arg11_r1 arg12_r1 arg13_r1 arg14_r1 k0_hw10 k0_h16 => k0_hw10.2.2.2.2.2.2.2.2.2.2.2.1 k0_h16 (k0_off44_inb k0_t2 arg6_r1 arg9_r1 arg10_r1 arg11_r1 arg12_r1 arg13_r1 arg14_r1 k0_hw10 k0_h16)
theorem k0_off43_wordsbf16 : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h16 : k0_cond16 k0_t2 arg14_r1 = 1#1), (Rect.unit (s := S2x512x4096) (k0_off43 arg10_r1) S1x512x4096.size (k0_off43_inb k0_t2 arg6_r1 arg9_r1 arg10_r1 arg11_r1 arg12_r1 arg13_r1 arg14_r1 k0_hw10 k0_h16)).WholeWords (EltTy.packing .bf16) := fun k0_t2 arg6_r1 arg9_r1 arg10_r1 arg11_r1 arg12_r1 arg13_r1 arg14_r1 k0_hw10 k0_h16 => k0_hw10.2.2.2.2.2.2.2.2.2.2.2.2.1 k0_h16 (k0_off43_inb k0_t2 arg6_r1 arg9_r1 arg10_r1 arg11_r1 arg12_r1 arg13_r1 arg14_r1 k0_hw10 k0_h16)
theorem k0_off45_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h18 : k0_cond18 arg14_r1 = 1#1), ∀ a, (k0_off45 arg6_r1) a + S1x1024x4096.size a ≤ S2x1024x4096.size a := fun k0_t2 arg6_r1 arg9_r1 arg10_r1 arg11_r1 arg12_r1 arg13_r1 arg14_r1 k0_hw10 k0_h18 => k0_hw10.2.2.2.2.2.2.2.2.2.2.2.2.2.1 k0_h18
theorem k0_off48_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h21 : k0_cond21 k0_t2 arg13_r1 arg14_r1 = 1#1), ∀ a, (k0_off48 arg11_r1) a + S1.size a ≤ S2.size a := fun k0_t2 arg6_r1 arg9_r1 arg10_r1 arg11_r1 arg12_r1 arg13_r1 arg14_r1 k0_hw10 k0_h21 => k0_hw10.2.2.2.2.2.2.2.2.2.2.2.2.2.2.1 k0_h21
theorem k0_off49_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h21 : k0_cond21 k0_t2 arg13_r1 arg14_r1 = 1#1), ∀ a, (k0_off49 arg13_r1 arg14_r1) a + S512x1024.size a ≤ S9216x14336.size a := fun k0_t2 arg6_r1 arg9_r1 arg10_r1 arg11_r1 arg12_r1 arg13_r1 arg14_r1 k0_hw10 k0_h21 => k0_hw10.2.2.2.2.2.2.2.2.2.2.2.2.2.2.2.1 k0_h21
theorem k0_off50_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h21 : k0_cond21 k0_t2 arg13_r1 arg14_r1 = 1#1), ∀ a, (k0_off50 arg11_r1) a + S1x512x1024.size a ≤ S2x512x1024.size a := fun k0_t2 arg6_r1 arg9_r1 arg10_r1 arg11_r1 arg12_r1 arg13_r1 arg14_r1 k0_hw10 k0_h21 => k0_hw10.2.2.2.2.2.2.2.2.2.2.2.2.2.2.2.2.1 k0_h21
theorem k0_off51_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h24 : k0_cond24 k0_t2 arg13_r1 arg14_r1 = 1#1), ∀ a, (k0_off51 arg12_r1) a + S1.size a ≤ S2.size a := fun k0_t2 arg6_r1 arg9_r1 arg10_r1 arg11_r1 arg12_r1 arg13_r1 arg14_r1 k0_hw10 k0_h24 => k0_hw10.2.2.2.2.2.2.2.2.2.2.2.2.2.2.2.2.2.1 k0_h24
theorem k0_off52_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h24 : k0_cond24 k0_t2 arg13_r1 arg14_r1 = 1#1), ∀ a, (k0_off52 arg13_r1 arg14_r1) a + S512x1024.size a ≤ S9216x14336.size a := fun k0_t2 arg6_r1 arg9_r1 arg10_r1 arg11_r1 arg12_r1 arg13_r1 arg14_r1 k0_hw10 k0_h24 => k0_hw10.2.2.2.2.2.2.2.2.2.2.2.2.2.2.2.2.2.2.1 k0_h24
theorem k0_off53_inb : ∀ (k0_t2 : Fin k0_t2_loop.trips) (arg6_r1 : BitVec 32) (arg9_r1 : BitVec 32) (arg10_r1 : BitVec 32) (arg11_r1 : BitVec 32) (arg12_r1 : BitVec 32) (arg13_r1 : BitVec 32) (arg14_r1 : BitVec 32) (k0_hw10 : k0_chk10 k0_t2 arg6_r1 arg9_r1 arg10_r1 arg11_r1 arg12_r1 arg13_r1 arg14_r1), ∀ (k0_h24 : k0_cond24 k0_t2 arg13_r1 arg14_r1 = 1#1), ∀ a, (k0_off53 arg12_r1) a + S1x512x1024.size a ≤ S2x512x1024.size a := fun k0_t2 arg6_r1 arg9_r1 arg10_r1 arg11_r1 arg12_r1 arg13_r1 arg14_r1 k0_hw10 k0_h24 => k0_hw10.2.2.2.2.2.2.2.2.2.2.2.2.2.2.2.2.2.2.2 k0_h24

def k0_off54 (v48_7_r1 : BitVec 32) : Fin 1 → Nat :=
  let c2_i32_91_r1 : BitVec 32 := 2#32
  let v89_r1 : BitVec 32 := Scalar.remui v48_7_r1 c2_i32_91_r1
  ![v89_r1.toNat]

def k0_off55 (v48_9_r1 : BitVec 32) (v48_8_r1 : BitVec 32) : Fin 2 → Nat :=
  let c512_i32_r1 : BitVec 32 := 512#32
  let true_56_r1 : BitVec 1 := 1#1
  let c1_i32_55_r1 : BitVec 32 := 1#32
  let v49_r1 : BitVec 32 := Scalar.subi v48_9_r1 c1_i32_55_r1
  let v50_r1 : BitVec 32 := Scalar.select true_56_r1 v49_r1 v48_9_r1
  let c_m1_i32_57_r1 : BitVec 32 := 4294967295#32
  let v51_r1 : BitVec 1 := Scalar.cmpi .eq v50_r1 c_m1_i32_57_r1
  let c17_i32_58_r1 : BitVec 32 := 17#32
  let v52_r1 : BitVec 32 := Scalar.select v51_r1 c17_i32_58_r1 v50_r1
  let c0_i32_63_r1 : BitVec 32 := 0#32
  let v58_r1 : BitVec 32 := Scalar.addi v52_r1 c0_i32_63_r1
  let v90_r1 : BitVec 32 := Scalar.muli c512_i32_r1 v58_r1
  let c1024_i32_92_r1 : BitVec 32 := 1024#32
  let c1_i32_59_r1 : BitVec 32 := 1#32
  let v53_r1 : BitVec 32 := Scalar.subi v48_8_r1 c1_i32_59_r1
  let v54_r1 : BitVec 32 := Scalar.select v51_r1 v53_r1 v48_8_r1
  let c_m1_i32_60_r1 : BitVec 32 := 4294967295#32
  let v55_r1 : BitVec 1 := Scalar.cmpi .eq v54_r1 c_m1_i32_60_r1
  let c13_i32_61_r1 : BitVec 32 := 13#32
  let v56_r1 : BitVec 32 := Scalar.select v55_r1 c13_i32_61_r1 v54_r1
  let c0_i32_62_r1 : BitVec 32 := 0#32
  let v57_r1 : BitVec 32 := Scalar.addi v56_r1 c0_i32_62_r1
  let v91_r1 : BitVec 32 := Scalar.muli c1024_i32_92_r1 v57_r1
  ![v90_r1.toNat, v91_r1.toNat]

def k0_chk14 (v48_9_r1 : BitVec 32) (v48_8_r1 : BitVec 32) : Prop :=
  (∀ a, (k0_off55 v48_9_r1 v48_8_r1) a + S512x1024.size a ≤ S9216x14336.size a)
theorem k0_off55_inb : ∀ (v48_9_r1 : BitVec 32) (v48_8_r1 : BitVec 32) (k0_hw14 : k0_chk14 v48_9_r1 v48_8_r1), ∀ a, (k0_off55 v48_9_r1 v48_8_r1) a + S512x1024.size a ≤ S9216x14336.size a := fun v48_9_r1 v48_8_r1 k0_hw14 => k0_hw14

def k0_off56 (v48_7_r1 : BitVec 32) : Fin 3 → Nat :=
  let c2_i32_91_r1 : BitVec 32 := 2#32
  let v89_r1 : BitVec 32 := Scalar.remui v48_7_r1 c2_i32_91_r1
  let c0_i32_94_r1 : BitVec 32 := 0#32
  let c0_i32_95_r1 : BitVec 32 := 0#32
  ![v89_r1.toNat, 0, 0]

def k0_chk13 (v48_7_r1 : BitVec 32) : Prop :=
  (∀ a, (k0_off54 v48_7_r1) a + S1.size a ≤ S2.size a) ∧
  (∀ a, (k0_off56 v48_7_r1) a + S1x512x1024.size a ≤ S2x512x1024.size a)
theorem k0_off54_inb : ∀ (v48_7_r1 : BitVec 32) (k0_hw13 : k0_chk13 v48_7_r1), ∀ a, (k0_off54 v48_7_r1) a + S1.size a ≤ S2.size a := fun v48_7_r1 k0_hw13 => k0_hw13.1
theorem k0_off56_inb : ∀ (v48_7_r1 : BitVec 32) (k0_hw13 : k0_chk13 v48_7_r1), ∀ a, (k0_off56 v48_7_r1) a + S1x512x1024.size a ≤ S2x512x1024.size a := fun v48_7_r1 k0_hw13 => k0_hw13.2
-- ==== ReferenceIdeal.lean ====
abbrev S9216x4096 : Shape := ⟨2, ![9216, 4096]⟩
abbrev S1x4096x30784 : Shape := ⟨3, ![1, 4096, 30784]⟩
abbrev S4096x30784 : Shape := ⟨2, ![4096, 30784]⟩
abbrev S9216x30784 : Shape := ⟨2, ![9216, 30784]⟩
abbrev S9216x16384 : Shape := ⟨2, ![9216, 16384]⟩
abbrev S9216x14336 : Shape := ⟨2, ![9216, 14336]⟩
abbrev S9216x30720 : Shape := ⟨2, ![9216, 30720]⟩

abbrev nBuf : Space → Nat
  | .hbm => 8
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x30784, .f32⟩
  | .hbm, ⟨2, _⟩ => ⟨S9216x4096, .f32⟩
  | .hbm, ⟨3, _⟩ => ⟨S4096x30784, .f32⟩
  | .hbm, ⟨4, _⟩ => ⟨S9216x30784, .f32⟩
  | .hbm, ⟨5, _⟩ => ⟨S9216x16384, .f32⟩
  | .hbm, ⟨6, _⟩ => ⟨S9216x14336, .f32⟩
  | .hbm, ⟨7, _⟩ => ⟨S9216x30720, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel2.lean ====
abbrev S9216x4096 : Shape := ⟨2, ![9216, 4096]⟩
abbrev S1x4096x30784 : Shape := ⟨3, ![1, 4096, 30784]⟩
abbrev S1x30784x4096 : Shape := ⟨3, ![1, 30784, 4096]⟩
abbrev S30784x4096 : Shape := ⟨2, ![30784, 4096]⟩
abbrev S64x9216 : Shape := ⟨2, ![64, 9216]⟩
abbrev S1024x4096 : Shape := ⟨2, ![1024, 4096]⟩
abbrev S64x4096 : Shape := ⟨2, ![64, 4096]⟩
abbrev S64x1024 : Shape := ⟨2, ![64, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x4096, .bf16⟩
  | .hbm, ⟨1, _⟩ => ⟨S1x4096x30784, .f32⟩
  | .hbm, ⟨2, _⟩ => ⟨S1x30784x4096, .f32⟩
  | .hbm, ⟨3, _⟩ => ⟨S30784x4096, .f32⟩
  | .hbm, ⟨4, _⟩ => ⟨S64x9216, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .f32⟩
  | .local _ .vmem, ⟨3, _⟩ => ⟨S64x1024, .f32⟩
  | .local _ .vmem, ⟨4, _⟩ => ⟨S64x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16384_i32 : BitVec 32 := 16384#32
  let c0_i32 : BitVec 32 := 0#32
  let c0_i32_0 : BitVec 32 := 0#32
  ![c16384_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S9216x4096 : Shape := ⟨2, ![9216, 4096]⟩
abbrev S1x4096x30784 : Shape := ⟨3, ![1, 4096, 30784]⟩
abbrev S4096x30784 : Shape := ⟨2, ![4096, 30784]⟩
abbrev S9216x30784 : Shape := ⟨2, ![9216, 30784]⟩
abbrev S9216x64 : Shape := ⟨2, ![9216, 64]⟩
abbrev S64x9216 : Shape := ⟨2, ![64, 9216]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x30784, .f32⟩
  | .hbm, ⟨2, _⟩ => ⟨S9216x4096, .f32⟩
  | .hbm, ⟨3, _⟩ => ⟨S4096x30784, .f32⟩
  | .hbm, ⟨4, _⟩ => ⟨S9216x30784, .f32⟩
  | .hbm, ⟨5, _⟩ => ⟨S9216x64, .f32⟩
  | .hbm, ⟨6, _⟩ => ⟨S64x9216, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8192x2048 : Shape := ⟨2, ![8192, 2048]⟩
abbrev S8192x4096 : Shape := ⟨2, ![8192, 4096]⟩
abbrev S1024x2048 : Shape := ⟨2, ![1024, 2048]⟩
abbrev S1024x4096 : Shape := ⟨2, ![1024, 4096]⟩
abbrev S1x2048x4096 : Shape := ⟨3, ![1, 2048, 4096]⟩
abbrev S1x4096x4096 : Shape := ⟨3, ![1, 4096, 4096]⟩
abbrev S9216x30720 : Shape := ⟨2, ![9216, 30720]⟩
abbrev S2048x4096 : Shape := ⟨2, ![2048, 4096]⟩
abbrev S4096x4096 : Shape := ⟨2, ![4096, 4096]⟩
abbrev S9216x4096 : Shape := ⟨2, ![9216, 4096]⟩
abbrev S2048x512 : Shape := ⟨2, ![2048, 512]⟩
abbrev S4096x512 : Shape := ⟨2, ![4096, 512]⟩
abbrev S512x2048 : Shape := ⟨2, ![512, 2048]⟩
abbrev S512x4096 : Shape := ⟨2, ![512, 4096]⟩
abbrev S512x512 : Shape := ⟨2, ![512, 512]⟩

abbrev nBuf : Space → Nat
  | .hbm => 17
  | .vmem => 23
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .bf16⟩
  | .hbm, ⟨3, _⟩ => ⟨S1024x2048, .bf16⟩
  | .hbm, ⟨4, _⟩ => ⟨S1024x4096, .bf16⟩
  | .hbm, ⟨5, _⟩ => ⟨S1024x2048, .bf16⟩
  | .hbm, ⟨6, _⟩ => ⟨S1x2048x4096, .f32⟩
  | .hbm, ⟨7, _⟩ => ⟨S1x4096x4096, .f32⟩
  | .hbm, ⟨8, _⟩ => ⟨S1x2048x4096, .f32⟩
  | .hbm, ⟨9, _⟩ => ⟨S9216x30720, .f32⟩
  | .hbm, ⟨10, _⟩ => ⟨S2048x4096, .f32⟩
  | .hbm, ⟨11, _⟩ => ⟨S2048x4096, .bf16⟩
  | .hbm, ⟨12, _⟩ => ⟨S4096x4096, .f32⟩
  | .hbm, ⟨13, _⟩ => ⟨S4096x4096, .bf16⟩
  | .hbm, ⟨14, _⟩ => ⟨S2048x4096, .f32⟩
  | .hbm, ⟨15, _⟩ => ⟨S2048x4096, .bf16⟩
  | .hbm, ⟨16, _⟩ => ⟨S9216x4096, .bf16⟩
  | .local _ .vmem, ⟨0, _⟩ => ⟨S2048x512, .bf16⟩
  | .local _ .vmem, ⟨1, _⟩ => ⟨S4096x512, .bf16⟩
  | .local _ .vmem, ⟨2, _⟩ => ⟨S2048x512, .bf16⟩
  | .local _ .vmem, ⟨3, _⟩ => ⟨S512x2048, .bf16⟩
  | .local _ .vmem, ⟨4, _⟩ => ⟨S512x2048, .bf16⟩
  | .local _ .vmem, ⟨5, _⟩ => ⟨S512x4096, .bf16⟩
  | .local _ .vmem, ⟨6, _⟩ => ⟨S512x4096, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x4096, .bf16⟩
  | .local _ .vmem, ⟨12, _⟩ => ⟨S512x4096, .bf16⟩
  | .local _ .vmem, ⟨13, _⟩ => ⟨S512x2048, .bf16⟩
  | .local _ .vmem, ⟨14, _⟩ => ⟨S512x2048, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 18], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .sge arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let c0_i32 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8192x2048 : Shape := ⟨2, ![8192, 2048]⟩
abbrev S8192x4096 : Shape := ⟨2, ![8192, 4096]⟩
abbrev S1024x2048 : Shape := ⟨2, ![1024, 2048]⟩
abbrev S1024x4096 : Shape := ⟨2, ![1024, 4096]⟩
abbrev S1x2048x4096 : Shape := ⟨3, ![1, 2048, 4096]⟩
abbrev S1x4096x4096 : Shape := ⟨3, ![1, 4096, 4096]⟩
abbrev S9216x30720 : Shape := ⟨2, ![9216, 30720]⟩
abbrev S9216x2048 : Shape := ⟨2, ![9216, 2048]⟩
abbrev S2048x4096 : Shape := ⟨2, ![2048, 4096]⟩
abbrev S9216x4096 : Shape := ⟨2, ![9216, 4096]⟩
abbrev S4096x4096 : Shape := ⟨2, ![4096, 4096]⟩
abbrev S9216x12288 : Shape := ⟨2, ![9216, 12288]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .bf16⟩
  | .hbm, ⟨3, _⟩ => ⟨S1024x2048, .bf16⟩
  | .hbm, ⟨4, _⟩ => ⟨S1024x4096, .bf16⟩
  | .hbm, ⟨5, _⟩ => ⟨S1024x2048, .bf16⟩
  | .hbm, ⟨6, _⟩ => ⟨S1x2048x4096, .f32⟩
  | .hbm, ⟨7, _⟩ => ⟨S1x4096x4096, .f32⟩
  | .hbm, ⟨8, _⟩ => ⟨S1x2048x4096, .f32⟩
  | .hbm, ⟨9, _⟩ => ⟨S9216x30720, .f32⟩
  | .hbm, ⟨10, _⟩ => ⟨S9216x2048, .bf16⟩
  | .hbm, ⟨11, _⟩ => ⟨S9216x2048, .f32⟩
  | .hbm, ⟨12, _⟩ => ⟨S2048x4096, .f32⟩
  | .hbm, ⟨13, _⟩ => ⟨S9216x4096, .f32⟩
  | .hbm, ⟨14, _⟩ => ⟨S9216x4096, .bf16⟩
  | .hbm, ⟨15, _⟩ => ⟨S9216x4096, .f32⟩
  | .hbm, ⟨16, _⟩ => ⟨S4096x4096, .f32⟩
  | .hbm, ⟨17, _⟩ => ⟨S9216x4096, .f32⟩
  | .hbm, ⟨18, _⟩ => ⟨S9216x2048, .bf16⟩
  | .hbm, ⟨19, _⟩ => ⟨S9216x2048, .f32⟩
  | .hbm, ⟨20, _⟩ => ⟨S2048x4096, .f32⟩
  | .hbm, ⟨21, _⟩ => ⟨S9216x4096, .f32⟩
  | .hbm, ⟨22, _⟩ => ⟨S9216x12288, .f32⟩
  | .hbm, ⟨23, _⟩ => ⟨S9216x12288, .f32⟩
  | .hbm, ⟨24, _⟩ => ⟨S9216x12288, .f32⟩
  | .hbm, ⟨25, _⟩ => ⟨S_, .f32⟩
  | .hbm, ⟨26, _⟩ => ⟨S9216x12288, .f32⟩
  | .hbm, ⟨27, _⟩ => ⟨S9216x12288, .f32⟩
  | .hbm, ⟨28, _⟩ => ⟨S_, .f32⟩
  | .hbm, ⟨29, _⟩ => ⟨S9216x12288, .f32⟩
  | .hbm, ⟨30, _⟩ => ⟨S9216x12288, .f32⟩
  | .hbm, ⟨31, _⟩ => ⟨S9216x4096, .f32⟩
  | .hbm, ⟨32, _⟩ => ⟨S9216x4096, .f32⟩
  | .hbm, ⟨33, _⟩ => ⟨S9216x4096, .f32⟩
  | .hbm, ⟨34, _⟩ => ⟨S9216x4096, .f32⟩
  | .hbm, ⟨35, _⟩ => ⟨S9216x4096, .f32⟩
  | .hbm, ⟨36, _⟩ => ⟨S9216x4096, .f32⟩
  | .hbm, ⟨37, _⟩ => ⟨S9216x4096, .f32⟩
  | .hbm, ⟨38, _⟩ => ⟨S9216x4096, .f32⟩
  | .hbm, ⟨39, _⟩ => ⟨S9216x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S1024x4096 : Shape := ⟨2, ![1024, 4096]⟩
abbrev S1x4096x2048 : Shape := ⟨3, ![1, 4096, 2048]⟩
abbrev S1024x2048 : Shape := ⟨2, ![1024, 2048]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S1x4096x2048, .f32⟩
  | .hbm, ⟨2, _⟩ => ⟨S1024x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1024x4096 : Shape := ⟨2, ![1024, 4096]⟩
abbrev S1x4096x2048 : Shape := ⟨3, ![1, 4096, 2048]⟩
abbrev S4096x2048 : Shape := ⟨2, ![4096, 2048]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x2048, .f32⟩
  | .hbm, ⟨2, _⟩ => ⟨S1024x4096, .f32⟩
  | .hbm, ⟨3, _⟩ => ⟨S4096x2048, .f32⟩
  | .hbm, ⟨4, _⟩ => ⟨S1024x2048, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S9216x4096 : Shape := ⟨2, ![9216, 4096]⟩
abbrev S1x4096x2048 : Shape := ⟨3, ![1, 4096, 2048]⟩
abbrev S4096x2048 : Shape := ⟨2, ![4096, 2048]⟩
abbrev S9216x2048 : Shape := ⟨2, ![9216, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S9216x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S9216x4096 : Shape := ⟨2, ![9216, 4096]⟩
abbrev S1x4096x2048 : Shape := ⟨3, ![1, 4096, 2048]⟩
abbrev S4096x2048 : Shape := ⟨2, ![4096, 2048]⟩
abbrev S9216x2048 : Shape := ⟨2, ![9216, 2048]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x2048, .f32⟩
  | .hbm, ⟨2, _⟩ => ⟨S9216x4096, .f32⟩
  | .hbm, ⟨3, _⟩ => ⟨S4096x2048, .f32⟩
  | .hbm, ⟨4, _⟩ => ⟨S9216x2048, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S9216x30720 : Shape := ⟨2, ![9216, 30720]⟩
abbrev S1x128x2x2048 : Shape := ⟨4, ![1, 128, 2, 2048]⟩
abbrev S1x3x2048 : Shape := ⟨3, ![1, 3, 2048]⟩
abbrev S128x2x2048 : Shape := ⟨3, ![128, 2, 2048]⟩
abbrev S_ : Shape := ⟨0, ![]⟩
abbrev S128x8x2048 : Shape := ⟨3, ![128, 8, 2048]⟩
abbrev S1024x2048 : Shape := ⟨2, ![1024, 2048]⟩
abbrev S3x2048 : Shape := ⟨2, ![3, 2048]⟩
abbrev S128x2048 : Shape := ⟨2, ![128, 2048]⟩
abbrev S136x2048 : Shape := ⟨2, ![136, 2048]⟩
abbrev S8x2048 : Shape := ⟨2, ![8, 2048]⟩
abbrev S1x2048 : Shape := ⟨2, ![1, 2048]⟩

abbrev nBuf : Space → Nat
  | .hbm => 11
  | .vmem => 15
  | .smem => 0
  | _ => 0

abbrev bufTy : (tb : Table) → Fin (tcTables nBuf tb) → BufTy
  | .hbm, ⟨0, _⟩ => ⟨S9216x30720, .f32⟩
  | .hbm, ⟨1, _⟩ => ⟨S1x128x2x2048, .f32⟩
  | .hbm, ⟨2, _⟩ => ⟨S1x3x2048, .f32⟩
  | .hbm, ⟨3, _⟩ => ⟨S128x2x2048, .f32⟩
  | .hbm, ⟨4, _⟩ => ⟨S_, .i32⟩
  | .hbm, ⟨5, _⟩ => ⟨S_, .f32⟩
  | .hbm, ⟨6, _⟩ => ⟨S128x8x2048, .f32⟩
  | .hbm, ⟨7, _⟩ => ⟨S1024x2048, .f32⟩
  | .hbm, ⟨8, _⟩ => ⟨S3x2048, .f32⟩
  | .hbm, ⟨9, _⟩ => ⟨S1024x2048, .bf16⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S3x2048, .f32⟩
  | .local _ .vmem, ⟨9, _⟩ => ⟨S128x2048, .bf16⟩
  | .local _ .vmem, ⟨10, _⟩ => ⟨S128x2048, .bf16⟩
  | .local _ .vmem, ⟨11, _⟩ => ⟨S128x2048, .f32⟩
  | .local _ .vmem, ⟨12, _⟩ => ⟨S128x2048, .f32⟩
  | .local _ .vmem, ⟨13, _⟩ => ⟨S136x2048, .f32⟩
  | .local _ .vmem, ⟨14, _⟩ => ⟨S136x2048, .f32⟩
  | _, _ => ⟨S9216x30720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let v1 : BitVec 32 := Scalar.addi c0_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c1_i32 : BitVec 32 := 1#32
  let v1 : BitVec 32 := Scalar.addi c1_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c2_i32 : BitVec 32 := 2#32
  let v1 : BitVec 32 := Scalar.addi c2_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S9216x30720 : Shape := ⟨2, ![9216, 30720]⟩
abbrev S1x128x2x2048 : Shape := ⟨4, ![1, 128, 2, 2048]⟩
abbrev S1x3x2048 : Shape := ⟨3, ![1, 3, 2048]⟩
abbrev S1024x6144 : Shape := ⟨2, ![1024, 6144]⟩
abbrev S128x8x6144 : Shape := ⟨3, ![128, 8, 6144]⟩
abbrev S128x8x2048 : Shape := ⟨3, ![128, 8, 2048]⟩
abbrev S128x2x2048 : Shape := ⟨3, ![128, 2, 2048]⟩
abbrev S3x2048 : Shape := ⟨2, ![3, 2048]⟩
abbrev S128x10x2048 : Shape := ⟨3, ![128, 10, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S1024x2048 : Shape := ⟨2, ![1024, 2048]⟩

abbrev nBuf : Space → Nat
  | .hbm => 39
  | .vmem => 0
  | .smem => 0
  | _ => 0

abbrev bufTy : (tb : Table) → Fin (tcTables nBuf tb) → BufTy
  | .hbm, ⟨0, _⟩ => ⟨S9216x30720, .f32⟩
  | .hbm, ⟨1, _⟩ => ⟨S1x128x2x2048, .f32⟩
  | .hbm, ⟨2, _⟩ => ⟨S1x3x2048, .f32⟩
  | .hbm, ⟨3, _⟩ => ⟨S1024x6144, .f32⟩
  | .hbm, ⟨4, _⟩ => ⟨S128x8x6144, .f32⟩
  | .hbm, ⟨5, _⟩ => ⟨S128x8x2048, .f32⟩
  | .hbm, ⟨6, _⟩ => ⟨S128x8x2048, .f32⟩
  | .hbm, ⟨7, _⟩ => ⟨S128x8x2048, .f32⟩
  | .hbm, ⟨8, _⟩ => ⟨S128x8x2048, .f32⟩
  | .hbm, ⟨9, _⟩ => ⟨S128x2x2048, .f32⟩
  | .hbm, ⟨10, _⟩ => ⟨S3x2048, .f32⟩
  | .hbm, ⟨11, _⟩ => ⟨S128x10x2048, .f32⟩
  | .hbm, ⟨12, _⟩ => ⟨S128x8x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S128x8x2048, .f32⟩
  | .hbm, ⟨17, _⟩ => ⟨S128x8x2048, .f32⟩
  | .hbm, ⟨18, _⟩ => ⟨S_, .f32⟩
  | .hbm, ⟨19, _⟩ => ⟨S128x8x2048, .f32⟩
  | .hbm, ⟨20, _⟩ => ⟨S128x8x2048, .f32⟩
  | .hbm, ⟨21, _⟩ => ⟨S128x8x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S128x8x2048, .f32⟩
  | .hbm, ⟨26, _⟩ => ⟨S128x8x2048, .f32⟩
  | .hbm, ⟨27, _⟩ => ⟨S128x8x2048, .f32⟩
  | .hbm, ⟨28, _⟩ => ⟨S128x8x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S128x8x2048, .f32⟩
  | .hbm, ⟨33, _⟩ => ⟨S128x8x2048, .f32⟩
  | .hbm, ⟨34, _⟩ => ⟨S128x8x2048, .f32⟩
  | .hbm, ⟨35, _⟩ => ⟨S128x8x2048, .f32⟩
  | .hbm, ⟨36, _⟩ => ⟨S1024x2048, .f32⟩
  | .hbm, ⟨37, _⟩ => ⟨S1024x2048, .bf16⟩
  | .hbm, ⟨38, _⟩ => ⟨S1024x2048, .f32⟩
  | _, _ => ⟨S9216x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Kernel7.lean ====
abbrev S9216x30720 : Shape := ⟨2, ![9216, 30720]⟩
abbrev S1x3x2048 : Shape := ⟨3, ![1, 3, 2048]⟩
abbrev S_ : Shape := ⟨0, ![]⟩
abbrev S4x8x2048 : Shape := ⟨3, ![4, 8, 2048]⟩
abbrev S3x2048 : Shape := ⟨2, ![3, 2048]⟩
abbrev S8192x2048 : Shape := ⟨2, ![8192, 2048]⟩
abbrev S1024x512 : Shape := ⟨2, ![1024, 512]⟩
abbrev S1x8x512 : Shape := ⟨3, ![1, 8, 512]⟩
abbrev S3x512 : Shape := ⟨2, ![3, 512]⟩
abbrev S1032x512 : Shape := ⟨2, ![1032, 512]⟩
abbrev S8x512 : Shape := ⟨2, ![8, 512]⟩
abbrev S1x512 : Shape := ⟨2, ![1, 512]⟩

abbrev nBuf : Space → Nat
  | .hbm => 7
  | .vmem => 15
  | .smem => 0
  | _ => 0

abbrev bufTy : (tb : Table) → Fin (tcTables nBuf tb) → BufTy
  | .hbm, ⟨0, _⟩ => ⟨S9216x30720, .f32⟩
  | .hbm, ⟨1, _⟩ => ⟨S1x3x2048, .f32⟩
  | .hbm, ⟨2, _⟩ => ⟨S_, .f32⟩
  | .hbm, ⟨3, _⟩ => ⟨S4x8x2048, .f32⟩
  | .hbm, ⟨4, _⟩ => ⟨S3x2048, .f32⟩
  | .hbm, ⟨5, _⟩ => ⟨S8192x2048, .bf16⟩
  | .hbm, ⟨6, _⟩ => ⟨S4x8x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x8x512, .f32⟩
  | .local _ .vmem, ⟨7, _⟩ => ⟨S1x8x512, .f32⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S1x8x512, .f32⟩
  | .local _ .vmem, ⟨13, _⟩ => ⟨S1x8x512, .f32⟩
  | .local _ .vmem, ⟨14, _⟩ => ⟨S1032x512, .f32⟩
  | _, _ => ⟨S9216x30720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c8_i32 : BitVec 32 := 8#32
  let v3 : BitVec 32 := Scalar.addi c8_i32 arg1
  let c0_i32_0 : BitVec 32 := 0#32
  ![v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S9216x30720 : Shape := ⟨2, ![9216, 30720]⟩
abbrev S1x3x2048 : Shape := ⟨3, ![1, 3, 2048]⟩
abbrev S8192x6144 : Shape := ⟨2, ![8192, 6144]⟩
abbrev S4x2048x6144 : Shape := ⟨3, ![4, 2048, 6144]⟩
abbrev S4x2048x2048 : Shape := ⟨3, ![4, 2048, 2048]⟩
abbrev S_ : Shape := ⟨0, ![]⟩
abbrev S4x2x2048 : Shape := ⟨3, ![4, 2, 2048]⟩
abbrev S3x2048 : Shape := ⟨2, ![3, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩
abbrev S4x8x2048 : Shape := ⟨3, ![4, 8, 2048]⟩

abbrev nBuf : Space → Nat
  | .hbm => 39
  | .vmem => 0
  | .smem => 0
  | _ => 0

abbrev bufTy : (tb : Table) → Fin (tcTables nBuf tb) → BufTy
  | .hbm, ⟨0, _⟩ => ⟨S9216x30720, .f32⟩
  | .hbm, ⟨1, _⟩ => ⟨S1x3x2048, .f32⟩
  | .hbm, ⟨2, _⟩ => ⟨S8192x6144, .f32⟩
  | .hbm, ⟨3, _⟩ => ⟨S4x2048x6144, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2x2048, .f32⟩
  | .hbm, ⟨10, _⟩ => ⟨S3x2048, .f32⟩
  | .hbm, ⟨11, _⟩ => ⟨S4x2050x2048, .f32⟩
  | .hbm, ⟨12, _⟩ => ⟨S4x2048x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S8192x2048, .f32⟩
  | .hbm, ⟨37, _⟩ => ⟨S8192x2048, .bf16⟩
  | .hbm, ⟨38, _⟩ => ⟨S4x8x2048, .f32⟩
  | _, _ => ⟨S9216x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Kernel8.lean ====
abbrev S9216x30720 : Shape := ⟨2, ![9216, 30720]⟩
abbrev S4x256x2048 : Shape := ⟨3, ![4, 256, 2048]⟩
abbrev S8192x2048 : Shape := ⟨2, ![8192, 2048]⟩
abbrev S512x2048 : Shape := ⟨2, ![512, 2048]⟩
abbrev S1x256x2048 : Shape := ⟨3, ![1, 256, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S9216x30720, .f32⟩
  | .hbm, ⟨1, _⟩ => ⟨S4x256x2048, .f32⟩
  | .hbm, ⟨2, _⟩ => ⟨S4x256x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S512x2048, .bf16⟩
  | .local _ .vmem, ⟨7, _⟩ => ⟨S512x2048, .bf16⟩
  | _, _ => ⟨S9216x30720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c8_i32 : BitVec 32 := 8#32
  let c0_i32_0 : BitVec 32 := 0#32
  ![v2.toNat, c8_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel8Ideal.lean ====
variable {F : FTy → Type} [FloatOps F] [Named F]
def κ : String → Option EReal := fun
  | "head_scale" => some (((Real.sqrt 512)⁻¹ : ℝ) : EReal)
  | _ => none
-- ==== Reference8Ideal.lean ====
abbrev S9216x30720 : Shape := ⟨2, ![9216, 30720]⟩
abbrev S4x256x2048 : Shape := ⟨3, ![4, 256, 2048]⟩
abbrev S8192x2048 : Shape := ⟨2, ![8192, 2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 30
  | .vmem => 0
  | .smem => 0
  | _ => 0

abbrev bufTy : (tb : Table) → Fin (tcTables nBuf tb) → BufTy
  | .hbm, ⟨0, _⟩ => ⟨S9216x30720, .f32⟩
  | .hbm, ⟨1, _⟩ => ⟨S4x256x2048, .f32⟩
  | .hbm, ⟨2, _⟩ => ⟨S4x256x2048, .f32⟩
  | .hbm, ⟨3, _⟩ => ⟨S8192x2048, .f32⟩
  | .hbm, ⟨4, _⟩ => ⟨S4x2048x4x512, .f32⟩
  | .hbm, ⟨5, _⟩ => ⟨S4x256x4x512, .f32⟩
  | .hbm, ⟨6, _⟩ => ⟨S4x4x2048x256, .f32⟩
  | .hbm, ⟨7, _⟩ => ⟨S_, .f32⟩
  | .hbm, ⟨8, _⟩ => ⟨S_, .f32⟩
  | .hbm, ⟨9, _⟩ => ⟨S4x4x2048x256, .f32⟩
  | .hbm, ⟨10, _⟩ => ⟨S4x4x2048x256, .f32⟩
  | .hbm, ⟨11, _⟩ => ⟨S_, .f32⟩
  | .hbm, ⟨12, _⟩ => ⟨S4x4x2048, .f32⟩
  | .hbm, ⟨13, _⟩ => ⟨S_, .f32⟩
  | .hbm, ⟨14, _⟩ => ⟨S4x4x2048, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .f32⟩
  | .hbm, ⟨25, _⟩ => ⟨S4x256x4x512, .f32⟩
  | .hbm, ⟨26, _⟩ => ⟨S4x4x512x2048, .f32⟩
  | .hbm, ⟨27, _⟩ => ⟨S4x2048x4x512, .f32⟩
  | .hbm, ⟨28, _⟩ => ⟨S8192x2048, .f32⟩
  | .hbm, ⟨29, _⟩ => ⟨S8192x2048, .bf16⟩
  | _, _ => ⟨S9216x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.Base.lean ====
/-
  What both column ranges share: the resource algebra of the run, the seven whole buffers, and the activations' blocks.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Tactic

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline library's resources, beside the counters that the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
/-- The lookahead calls itself: its calls are bounded by naturals. -/
abbrev 𝒱₀ : Variants := Variants.nat

omit [FloatOps F] in
theorem entails_of_eq {P Q : sProp 𝕄} (e : P = Q) : P ⊢ Q := e ▸ .rfl

/-- The activations, the transposed weight, the result, the rounded weight block. -/
abbrev aM : Memref sig .tc .hbm S9216x4096 .bf16 := Memref.whole main_arg0
abbrev wM : Memref sig .tc .hbm S30784x4096 .f32 := Memref.whole main_v1
abbrev oM : Memref sig .tc .hbm S9216x30720 .f32 := Memref.whole main_v2
abbrev sM : Memref sig .tc .vmem S1024x4096 .bf16 := Memref.whole cc0_scratch0

/-- Activation block `b`: rows `512 b` to `512 b + 512`. -/
theorem act_inb (b : Fin 18) : ∀ a, (![512 * b.val, 0] : Fin 2 → Nat) a + S512x4096.size a ≤ S9216x4096.size a := by
  have := b.isLt; intro a; fin_cases a
  · show 512 * b.val + 512 ≤ 9216; omega
  · show 0 + 4096 ≤ 4096; omega
def act (b : Fin 18) : Memref sig .tc .hbm S512x4096 .bf16 :=
  aM.slice (Rect.unit (s := S9216x4096) ![512 * b.val, 0] S512x4096.size (act_inb b)) (fun _ => rfl)

theorem act_congr {off : Fin 2 → Nat} {b : Fin 18} (e : off = ![512 * b.val, 0]) (hh hs) :
    aM.slice (Rect.unit (s := S9216x4096) off S512x4096.size hh) hs = act b :=
  Memref.slice_unit_congr _ e _ _ _ (fun _ => rfl)

/-- A prologue's first activation block. -/
@[sl_canon] theorem actL (hh hs) : aM.slice (Rect.unit (s := S9216x4096) ![0, 0] S512x4096.size hh) hs = act 0 := act_congr (by decide) _ _

section
variable (c : Dev nD) (XA : Buf (Elt F) (aM.view.loc (c : Thread nD τ)))
/-- An activation block held at the activations' contents. -/
abbrev actP (b : Fin 18) : sProp 𝕄 := (act b).view.loc (c : Thread nD τ) ↦[(act b).view.set]{fullShare} XA
/-- Its values. -/
abbrev actV (b : Fin 18) : S512x4096.Idx → Elt F .bf16 := (act b).view.read (Elt F) XA
end

end Cert.Proof

end
-- ==== Proof.Slots.lean ====
/-
  The two slots of a ring `2 × a × b` as sets of its elements.
-/
module

public import Idealize.ShloMosaic.Lib.Ring
public import Idealize.ShloMosaic.Lib.ValueIdx

@[expose] public section

namespace Cert.Proof

open Idealize.ShloMosaic

theorem slot_inb (a b : ℕ) (s : Fin 2) : ∀ i, (![s.val, 0, 0] : Fin 3 → ℕ) i + (![1, a, b] : Fin 3 → ℕ) i ≤ (![2, a, b] : Fin 3 → ℕ) i := by
  have := s.isLt; intro i; fin_cases i
  · show s.val + 1 ≤ 2; omega
  · show 0 + a ≤ a; omega
  · show 0 + b ≤ b; omega

/-- The elements of slot `s`. -/
def box (a b : ℕ) (s : Fin 2) : Finset (Shape.Idx ⟨3, ![2, a, b]⟩) :=
  (Rect.unit (s := ⟨3, ![2, a, b]⟩) ![s.val, 0, 0] ![1, a, b] (slot_inb a b s)).set

variable {a b : ℕ}

theorem mem_box (s : Fin 2) (y : Shape.Idx ⟨3, ![2, a, b]⟩) : y ∈ box a b s ↔ (y 0).val = s.val := by
  rw [box, Rect.mem_set_unit]
  have h1 : (y 1).val < a := (y 1).isLt
  have h2 : (y 2).val < b := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + a; omega
    · show 0 ≤ (y 2).val ∧ (y 2).val < 0 + b; omega
theorem box_disjoint (s s' : Fin 2) (h : s ≠ s') : Disjoint (box a b s) (box a b s') := by
  rw [Finset.disjoint_left]; intro y hy hy'; rw [mem_box] at hy hy'; exact h (Fin.ext (hy.symm.trans hy'))
theorem box_cover : (Finset.univ : Finset (Fin 2)).biUnion (box a b) = Finset.univ := by
  ext y; simp only [Finset.mem_biUnion, Finset.mem_univ, true_and, iff_true]; exact ⟨⟨(y 0).val, (y 0).isLt⟩, (mem_box _ _).mpr rfl⟩

end Cert.Proof
-- ==== Proof.Words0.lean ====
/-
  The carried words of the first column range's pipeline, in closed form.

  The loop of `T = 288` trips visits the pairs (weight block `k / 18`, activation block `k % 18`). The ten carried
  words before trip `k` are numbers that follow from `k` alone (`w5` … `w14`); this module states them, and checks, by
  evaluating the printed chains at each of the trips, what the trip's offsets, conditions, side conditions and next
  words are.
-/
module

public import proofs.«01_k».proof.Defs
public import proofs.«01_k».proof.Proof.Gen.KernelIdeal
public import Idealize.ShloMosaic.Lib.Ring

@[expose] public section

noncomputable section

namespace Cert.Proof.R0

open Cert.KernelIdeal
open Idealize.ShloMosaic Idealize.ShloMosaic.TcCoe

/-- The number of weight blocks and of trips. -/
abbrev NB : ℕ := 16
abbrev T : ℕ := 288

/-- Weight blocks copied in, and waited for, before trip `k`. -/
def w5 (k : ℕ) : BitVec 32 := BitVec.ofNat 32 (if k = 0 then 1 else min NB ((k - 1) / 18 + 2))
def w6 (k : ℕ) : BitVec 32 := BitVec.ofNat 32 (k / 18)
/-- The grid point the lookahead has reached. -/
def w7 (k : ℕ) : BitVec 32 := BitVec.ofNat 32 (if k = 0 then 0 else min (NB - 1) ((k - 1) / 18 + 1))
def w8 (k : ℕ) : BitVec 32 := BitVec.ofNat 32 (if (NB - 1) * 18 < k then 17 else 0)
/-- Activation blocks copied in, and waited for. -/
def w9 (k : ℕ) : BitVec 32 := BitVec.ofNat 32 (min T (k + 1))
def w10 (k : ℕ) : BitVec 32 := BitVec.ofNat 32 k
/-- Result tiles sent out, and waited for. -/
def w11 (k : ℕ) : BitVec 32 := BitVec.ofNat 32 k
def w12 (k : ℕ) : BitVec 32 := BitVec.ofNat 32 (k - 1)
/-- The grid point of the trip. -/
def w13 (k : ℕ) : BitVec 32 := BitVec.ofNat 32 (k / 18 % NB)
def w14 (k : ℕ) : BitVec 32 := BitVec.ofNat 32 (k % 18)

/-- Offsets of a semaphore, of a buffer's slot, of an activation block, of a weight block in its range, of the result
    tile of trip `t` in its range. -/
abbrev semOff (s : Fin 2) : Fin 1 → Nat := ![s.val]
abbrev slotOff (s : Fin 2) : Fin 3 → Nat := ![s.val, 0, 0]
abbrev actOff (b : Fin 18) : Fin 2 → Nat := ![512 * b.val, 0]
abbrev wtOff (b : Fin NB) : Fin 2 → Nat := ![1024 * b.val, 0]
abbrev tileOff (t : Fin T) : Fin 2 → Nat := ![512 * (t.val % 18), 1024 * (t.val / 18)]

abbrev K := Fin k0_t1_loop.trips
theorem trips_eq : k0_t1_loop.trips = T := by decide +kernel

theorem chk5_k : ∀ k : K, k0_chk5 (w11 k) := by decide +kernel
theorem chk4_k : ∀ k : K, k0_chk4 (w10 k) := by decide +kernel
theorem chk3_k : ∀ k : K, k0_chk3 k (w6 k) (w9 k) (w10 k) (w11 k) (w12 k) (w13 k) (w14 k) := by decide +kernel

theorem cond2_pos : ∀ k : K, k.val + 1 < T → k0_cond2 k (w14 k) = 1#1 := by decide +kernel
theorem cond2_neg : ∀ k : K, ¬ k.val + 1 < T → ¬ k0_cond2 k (w14 k) = 1#1 := by decide +kernel
theorem cond3_pos : ∀ k : K, k.val % 18 = 0 → k0_cond3 k (w13 k) (w14 k) = 1#1 := by decide +kernel
theorem cond3_neg : ∀ k : K, ¬ k.val % 18 = 0 → ¬ k0_cond3 k (w13 k) (w14 k) = 1#1 := by decide +kernel
theorem cond4_pos : ∀ k : K, k0_cond4 k (w14 k) = 1#1 := by decide +kernel
theorem cond6_pos : ∀ k : K, k.val % 18 = 0 → k0_cond6 (w14 k) = 1#1 := by decide +kernel
theorem cond6_neg : ∀ k : K, ¬ k.val % 18 = 0 → ¬ k0_cond6 (w14 k) = 1#1 := by decide +kernel
theorem cond9_pos : ∀ k : K, k0_cond9 k (w13 k) (w14 k) = 1#1 := by decide +kernel
theorem cond12_pos : ∀ k : K, ¬ k.val = 0 → k0_cond12 k (w13 k) (w14 k) = 1#1 := by decide +kernel
theorem cond12_neg : ∀ k : K, k.val = 0 → ¬ k0_cond12 k (w13 k) (w14 k) = 1#1 := by decide +kernel

theorem off8_k : ∀ k : K, k.val + 1 < T → k0_off8 (w9 k) = semOff (Ring.sl 2 (k.val + 1)) := by decide +kernel
theorem off9_k : ∀ k : K, k.val + 1 < T → k0_off9 (w9 k) = slotOff (Ring.sl 2 (k.val + 1)) := by decide +kernel
theorem off10_k : ∀ k : K, k0_off10 (w14 k) = actOff (Ring.bk 18 (k.val + 1)) := by decide +kernel
theorem off11_k : ∀ k : K, k0_off11 (w6 k) = semOff (Ring.sl 2 (k.val / 18)) := by decide +kernel
theorem off12_k : ∀ k : K, k0_off12 (w6 k) = slotOff (Ring.sl 2 (k.val / 18)) := by decide +kernel
theorem off13_k : ∀ k : K, k0_off13 (w13 k) = wtOff (Ring.bk NB (k.val / 18)) := by decide +kernel
theorem off14_k : ∀ k : K, k0_off14 (w10 k) = semOff (Ring.sl 2 k.val) := by decide +kernel
theorem off15_k : ∀ k : K, k0_off15 (w10 k) = slotOff (Ring.sl 2 k.val) := by decide +kernel
theorem off16_k : ∀ k : K, k0_off16 (w14 k) = actOff (Ring.bk 18 k.val) := by decide +kernel
theorem off17_k : ∀ k : K, k0_off17 (w6 k) = slotOff (Ring.sl 2 (k.val / 18)) := by decide +kernel
theorem off18_k : ∀ k : K, k0_off18 (w10 k) = slotOff (Ring.sl 2 k.val) := by decide +kernel
theorem off19_k : ∀ k : K, k0_off19 (w11 k) = slotOff (Ring.sl 2 k.val) := by decide +kernel
theorem off20_k : ∀ k : K, k0_off20 (w11 k) = semOff (Ring.sl 2 k.val) := by decide +kernel
theorem off21_k : ∀ k : K, k0_off21 (w13 k) (w14 k) = tileOff (Ring.bk T k.val) := by decide +kernel
theorem off22_k : ∀ k : K, k0_off22 (w11 k) = slotOff (Ring.sl 2 k.val) := by decide +kernel
theorem off23_k : ∀ k : K, ¬ k.val = 0 → k0_off23 (w12 k) = semOff (Ring.sl 2 (k.val + 1)) := by decide +kernel
theorem off24_k : ∀ k : K, ¬ k.val = 0 → k0_off24 (w13 k) (w14 k) = tileOff (Ring.bk T (k.val - 1)) := by decide +kernel
theorem off25_k : ∀ k : K, ¬ k.val = 0 → k0_off25 (w12 k) = slotOff (Ring.sl 2 (k.val + 1)) := by decide +kernel

/-- The lookahead's block `j`, copied when the lookahead comes from block `j - 1`. -/
theorem chk2_j : ∀ j : Fin (NB - 1), k0_chk2 (BitVec.ofNat 32 j.val) (BitVec.ofNat 32 (j.val + 1)) := by decide +kernel
theorem chk1_j : ∀ j : Fin (NB - 1), k0_chk1 (BitVec.ofNat 32 j.val) (BitVec.ofNat 32 (j.val + 1)) (BitVec.ofNat 32 (j.val + 1)) := by decide +kernel
theorem cond1_pos : ∀ j : Fin (NB - 1), k0_cond1 (BitVec.ofNat 32 j.val) (BitVec.ofNat 32 (j.val + 1)) = 1#1 := by decide +kernel
theorem chk2_s : ∀ j : Fin NB, k0_chk2 (BitVec.ofNat 32 j.val) (BitVec.ofNat 32 j.val) := by decide +kernel
theorem chk1_s : ∀ j : Fin NB, k0_chk1 (BitVec.ofNat 32 j.val) (BitVec.ofNat 32 j.val) (BitVec.ofNat 32 (j.val + 1)) := by decide +kernel
theorem cond1_neg : ∀ j : Fin NB, ¬ k0_cond1 (BitVec.ofNat 32 j.val) (BitVec.ofNat 32 j.val) = 1#1 := by decide +kernel
theorem off5_j : ∀ j : Fin (NB - 1), k0_off5 (BitVec.ofNat 32 (j.val + 1)) = semOff (Ring.sl 2 (j.val + 1)) := by decide +kernel
theorem off6_j : ∀ j : Fin (NB - 1), k0_off6 (BitVec.ofNat 32 (j.val + 1)) = slotOff (Ring.sl 2 (j.val + 1)) := by decide +kernel
theorem off7_j : ∀ j : Fin (NB - 1), k0_off7 (BitVec.ofNat 32 (j.val + 1)) = wtOff (Ring.bk NB (j.val + 1)) := by decide +kernel

/-- After the last trip. -/
theorem chk7_T : k0_chk7 (w14 T) (w13 T) := by decide +kernel
theorem chk6_T : k0_chk6 (w12 T) := by decide +kernel
theorem off26_T : k0_off26 (w12 T) = semOff 1 := by decide +kernel
theorem off27_T : k0_off27 (w14 T) (w13 T) = tileOff (Ring.bk T 287) := by decide +kernel
theorem off28_T : k0_off28 (w12 T) = slotOff 1 := by decide +kernel

end Cert.Proof.R0

end
-- ==== Proof.Pieces0.lean ====
/-
  The first column range: its buffers, blocks and tiles under names of their own, and what is held of each.
-/
module

public import proofs.«01_k».proof.Proof.Base
public import proofs.«01_k».proof.Proof.Slots
public import proofs.«01_k».proof.Proof.Words0

@[expose] public section

noncomputable section

namespace Cert.Proof.R0

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The three rings: two slots each -/

abbrev wR : Memref sig .tc .vmem S2x1024x4096 .f32 := Memref.whole cc0_scoped0
abbrev aR : Memref sig .tc .vmem S2x512x4096 .bf16 := Memref.whole cc0_scoped2
abbrev oR : Memref sig .tc .vmem S2x512x1024 .f32 := Memref.whole cc0_scoped4
abbrev wS : DmaSems sig S2 := cc0_scoped1
abbrev aS : DmaSems sig S2 := cc0_scoped3
abbrev oS : DmaSems sig S2 := cc0_scoped5

theorem sem_inb (s : Fin 2) : ∀ a, semOff s a + S1.size a ≤ S2.size a := by
  have := s.isLt; intro a; fin_cases a; show s.val + 1 ≤ 2; omega
theorem wslot_inb (s : Fin 2) : ∀ a, slotOff s a + S1x1024x4096.size a ≤ S2x1024x4096.size a := slot_inb 1024 4096 s
theorem aslot_inb (s : Fin 2) : ∀ a, slotOff s a + S1x512x4096.size a ≤ S2x512x4096.size a := slot_inb 512 4096 s
theorem oslot_inb (s : Fin 2) : ∀ a, slotOff s a + S1x512x1024.size a ≤ S2x512x1024.size a := slot_inb 512 1024 s

def wslot (s : Fin 2) : Memref sig .tc .vmem S1024x4096 .f32 :=
  (wR.slice (Rect.unit (s := S2x1024x4096) (slotOff s) S1x1024x4096.size (wslot_inb s)) (fun _ => rfl)).squeeze S1024x4096 squeezes_S1x1024x4096_S1024x4096
def aslot (s : Fin 2) : Memref sig .tc .vmem S512x4096 .bf16 :=
  (aR.slice (Rect.unit (s := S2x512x4096) (slotOff s) S1x512x4096.size (aslot_inb s)) (fun _ => rfl)).squeeze S512x4096 squeezes_S1x512x4096_S512x4096
def oslot (s : Fin 2) : Memref sig .tc .vmem S512x1024 .f32 :=
  (oR.slice (Rect.unit (s := S2x512x1024) (slotOff s) S1x512x1024.size (oslot_inb s)) (fun _ => rfl)).squeeze S512x1024 squeezes_S1x512x1024_S512x1024
def wsm (s : Fin 2) : DmaSems sig S_ := (wS.slice (Rect.unit (s := S2) (semOff s) S1.size (sem_inb s))).squeeze S_ squeezes_S1_S_
def asm (s : Fin 2) : DmaSems sig S_ := (aS.slice (Rect.unit (s := S2) (semOff s) S1.size (sem_inb s))).squeeze S_ squeezes_S1_S_
def osm (s : Fin 2) : DmaSems sig S_ := (oS.slice (Rect.unit (s := S2) (semOff s) S1.size (sem_inb s))).squeeze S_ squeezes_S1_S_

/-! ## The weight's blocks and the result's tiles, each a slice of the range's rows or columns -/

theorem wt_inb (b : Fin NB) : ∀ a, wtOff b a + S1024x4096.size a ≤ S16384x4096.size a := by
  have := b.isLt; intro a; fin_cases a
  · show 1024 * b.val + 1024 ≤ 1024 * NB; omega
  · show 0 + 4096 ≤ 4096; omega
theorem tile_inb (t : Fin T) : ∀ a, tileOff t a + S512x1024.size a ≤ S9216x16384.size a := by
  have : t.val < 288 := t.isLt; intro a; fin_cases a
  · show 512 * (t.val % 18) + 512 ≤ 9216; omega
  · show 1024 * (t.val / 18) + 1024 ≤ 16384; omega

abbrev wRange : Memref sig .tc .hbm S16384x4096 .f32 :=
  wM.slice (Rect.unit (s := S30784x4096) ![0, 0] S16384x4096.size inb_S30784x4096_S16384x4096_0_0) (fun _ => rfl)
abbrev oRange : Memref sig .tc .hbm S9216x16384 .f32 :=
  oM.slice (Rect.unit (s := S9216x30720) ![0, 0] S9216x16384.size inb_S9216x30720_S9216x16384_0_0) (fun _ => rfl)
def wt (b : Fin NB) : Memref sig .tc .hbm S1024x4096 .f32 :=
  wRange.slice (Rect.unit (s := S16384x4096) (wtOff b) S1024x4096.size (wt_inb b)) (fun _ => rfl)
def tile (t : Fin T) : Memref sig .tc .hbm S512x1024 .f32 :=
  oRange.slice (Rect.unit (s := S9216x16384) (tileOff t) S512x1024.size (tile_inb t)) (fun _ => rfl)

/-! ## The body's own slices are these -/

theorem wsm_congr {off : Fin 1 → Nat} {s : Fin 2} (e : off = semOff s) (hh) :
    (wS.slice (Rect.unit (s := S2) off S1.size hh)).squeeze S_ squeezes_S1_S_ = wsm s :=
  congrArg (fun A : DmaSems sig S1 => A.squeeze S_ squeezes_S1_S_) (SemArray.slice_unit_congr _ e _ _)
theorem asm_congr {off : Fin 1 → Nat} {s : Fin 2} (e : off = semOff s) (hh) :
    (aS.slice (Rect.unit (s := S2) off S1.size hh)).squeeze S_ squeezes_S1_S_ = asm s :=
  congrArg (fun A : DmaSems sig S1 => A.squeeze S_ squeezes_S1_S_) (SemArray.slice_unit_congr _ e _ _)
theorem osm_congr {off : Fin 1 → Nat} {s : Fin 2} (e : off = semOff s) (hh) :
    (oS.slice (Rect.unit (s := S2) off S1.size hh)).squeeze S_ squeezes_S1_S_ = osm s :=
  congrArg (fun A : DmaSems sig S1 => A.squeeze S_ squeezes_S1_S_) (SemArray.slice_unit_congr _ e _ _)
theorem wslot_congr {off : Fin 3 → Nat} {s : Fin 2} (e : off = slotOff s) (hh hs) :
    (wR.slice (Rect.unit (s := S2x1024x4096) off S1x1024x4096.size hh) hs).squeeze S1024x4096 squeezes_S1x1024x4096_S1024x4096 = wslot s :=
  congrArg (fun M : Memref sig .tc .vmem S1x1024x4096 .f32 => M.squeeze S1024x4096 squeezes_S1x1024x4096_S1024x4096) (Memref.slice_unit_congr _ e _ _ _ _)
theorem aslot_congr {off : Fin 3 → Nat} {s : Fin 2} (e : off = slotOff s) (hh hs) :
    (aR.slice (Rect.unit (s := S2x512x4096) off S1x512x4096.size hh) hs).squeeze S512x4096 squeezes_S1x512x4096_S512x4096 = aslot s :=
  congrArg (fun M : Memref sig .tc .vmem S1x512x4096 .bf16 => M.squeeze S512x4096 squeezes_S1x512x4096_S512x4096) (Memref.slice_unit_congr _ e _ _ _ _)
theorem oslot_congr {off : Fin 3 → Nat} {s : Fin 2} (e : off = slotOff s) (hh hs) :
    (oR.slice (Rect.unit (s := S2x512x1024) off S1x512x1024.size hh) hs).squeeze S512x1024 squeezes_S1x512x1024_S512x1024 = oslot s :=
  congrArg (fun M : Memref sig .tc .vmem S1x512x1024 .f32 => M.squeeze S512x1024 squeezes_S1x512x1024_S512x1024) (Memref.slice_unit_congr _ e _ _ _ _)
theorem wt_congr {off : Fin 2 → Nat} {b : Fin NB} (e : off = wtOff b) (hh hs) :
    wRange.slice (Rect.unit (s := S16384x4096) off S1024x4096.size hh) hs = wt b := Memref.slice_unit_congr _ e _ _ _ (fun _ => rfl)
theorem tile_congr {off : Fin 2 → Nat} {t : Fin T} (e : off = tileOff t) (hh hs) :
    oRange.slice (Rect.unit (s := S9216x16384) off S512x1024.size hh) hs = tile t := Memref.slice_unit_congr _ e _ _ _ (fun _ => rfl)

/-- The prologue. -/
@[sl_canon] theorem wsmL (hh) : (wS.slice (Rect.unit (s := S2) ![0] S1.size hh)).squeeze S_ squeezes_S1_S_ = wsm 0 := wsm_congr (by decide) _
@[sl_canon] theorem asmL (hh) : (aS.slice (Rect.unit (s := S2) ![0] S1.size hh)).squeeze S_ squeezes_S1_S_ = asm 0 := asm_congr (by decide) _
@[sl_canon] theorem wslotL (hh hs) : (wR.slice (Rect.unit (s := S2x1024x4096) ![0, 0, 0] S1x1024x4096.size hh) hs).squeeze S1024x4096 squeezes_S1x1024x4096_S1024x4096 = wslot 0 := wslot_congr (by decide) _ _
@[sl_canon] theorem aslotL (hh hs) : (aR.slice (Rect.unit (s := S2x512x4096) ![0, 0, 0] S1x512x4096.size hh) hs).squeeze S512x4096 squeezes_S1x512x4096_S512x4096 = aslot 0 := aslot_congr (by decide) _ _
@[sl_canon] theorem wtL (hh hs) : wRange.slice (Rect.unit (s := S16384x4096) ![0, 0] S1024x4096.size hh) hs = wt 0 := wt_congr (by decide) _ _

/-- The lookahead's transfer of weight block `j + 1`. -/
@[sl_canon] theorem wsmJ (j : Fin (NB - 1)) (hh) : (wS.slice (Rect.unit (s := S2) (k0_off5 (BitVec.ofNat 32 (j.val + 1))) S1.size hh)).squeeze S_ squeezes_S1_S_ = wsm (Ring.sl 2 (j.val + 1)) := wsm_congr (off5_j j) _
@[sl_canon] theorem wslotJ (j : Fin (NB - 1)) (hh hs) : (wR.slice (Rect.unit (s := S2x1024x4096) (k0_off6 (BitVec.ofNat 32 (j.val + 1))) S1x1024x4096.size hh) hs).squeeze S1024x4096 squeezes_S1x1024x4096_S1024x4096 = wslot (Ring.sl 2 (j.val + 1)) := wslot_congr (off6_j j) _ _
@[sl_canon] theorem wtJ (j : Fin (NB - 1)) (hh hs) : wRange.slice (Rect.unit (s := S16384x4096) (k0_off7 (BitVec.ofNat 32 (j.val + 1))) S1024x4096.size hh) hs = wt (Ring.bk NB (j.val + 1)) := wt_congr (off7_j j) _ _

/-- The activation block sent ahead, and the one waited for. -/
@[sl_canon] theorem asm8 (k : K) (hk : k.val + 1 < T) (hh) : (aS.slice (Rect.unit (s := S2) (k0_off8 (w9 k.val)) S1.size hh)).squeeze S_ squeezes_S1_S_ = asm (Ring.sl 2 (k.val + 1)) := asm_congr (off8_k k hk) _
@[sl_canon] theorem aslot9 (k : K) (hk : k.val + 1 < T) (hh hs) : (aR.slice (Rect.unit (s := S2x512x4096) (k0_off9 (w9 k.val)) S1x512x4096.size hh) hs).squeeze S512x4096 squeezes_S1x512x4096_S512x4096 = aslot (Ring.sl 2 (k.val + 1)) := aslot_congr (off9_k k hk) _ _
@[sl_canon] theorem act10 (k : K) (hh hs) : aM.slice (Rect.unit (s := S9216x4096) (k0_off10 (w14 k.val)) S512x4096.size hh) hs = act (Ring.bk 18 (k.val + 1)) := act_congr (off10_k k) _ _
@[sl_canon] theorem asm14 (k : K) (hh) : (aS.slice (Rect.unit (s := S2) (k0_off14 (w10 k.val)) S1.size hh)).squeeze S_ squeezes_S1_S_ = asm (Ring.sl 2 k.val) := asm_congr (off14_k k) _
@[sl_canon] theorem aslot15 (k : K) (hh hs) : (aR.slice (Rect.unit (s := S2x512x4096) (k0_off15 (w10 k.val)) S1x512x4096.size hh) hs).squeeze S512x4096 squeezes_S1x512x4096_S512x4096 = aslot (Ring.sl 2 k.val) := aslot_congr (off15_k k) _ _
@[sl_canon] theorem act16 (k : K) (hh hs) : aM.slice (Rect.unit (s := S9216x4096) (k0_off16 (w14 k.val)) S512x4096.size hh) hs = act (Ring.bk 18 k.val) := act_congr (off16_k k) _ _

/-- The weight block waited for. -/
@[sl_canon] theorem wsm11 (k : K) (hh) : (wS.slice (Rect.unit (s := S2) (k0_off11 (w6 k.val)) S1.size hh)).squeeze S_ squeezes_S1_S_ = wsm (Ring.sl 2 (k.val / 18)) := wsm_congr (off11_k k) _
@[sl_canon] theorem wslot12 (k : K) (hh hs) : (wR.slice (Rect.unit (s := S2x1024x4096) (k0_off12 (w6 k.val)) S1x1024x4096.size hh) hs).squeeze S1024x4096 squeezes_S1x1024x4096_S1024x4096 = wslot (Ring.sl 2 (k.val / 18)) := wslot_congr (off12_k k) _ _
@[sl_canon] theorem wt13 (k : K) (hh hs) : wRange.slice (Rect.unit (s := S16384x4096) (k0_off13 (w13 k.val)) S1024x4096.size hh) hs = wt (Ring.bk NB (k.val / 18)) := wt_congr (off13_k k) _ _

/-- The tile sent out, and the one waited for. -/
@[sl_canon] theorem osm20 (k : K) (hh) : (oS.slice (Rect.unit (s := S2) (k0_off20 (w11 k.val)) S1.size hh)).squeeze S_ squeezes_S1_S_ = osm (Ring.sl 2 k.val) := osm_congr (off20_k k) _
@[sl_canon] theorem tile21 (k : K) (hh hs) : oRange.slice (Rect.unit (s := S9216x16384) (k0_off21 (w13 k.val) (w14 k.val)) S512x1024.size hh) hs = tile (Ring.bk T k.val) := tile_congr (off21_k k) _ _
@[sl_canon] theorem oslot22 (k : K) (hh hs) : (oR.slice (Rect.unit (s := S2x512x1024) (k0_off22 (w11 k.val)) S1x512x1024.size hh) hs).squeeze S512x1024 squeezes_S1x512x1024_S512x1024 = oslot (Ring.sl 2 k.val) := oslot_congr (off22_k k) _ _
@[sl_canon] theorem osm23 (k : K) (hk : ¬ k.val = 0) (hh) : (oS.slice (Rect.unit (s := S2) (k0_off23 (w12 k.val)) S1.size hh)).squeeze S_ squeezes_S1_S_ = osm (Ring.sl 2 (k.val + 1)) := osm_congr (off23_k k hk) _
@[sl_canon] theorem tile24 (k : K) (hk : ¬ k.val = 0) (hh hs) : oRange.slice (Rect.unit (s := S9216x16384) (k0_off24 (w13 k.val) (w14 k.val)) S512x1024.size hh) hs = tile (Ring.bk T (k.val - 1)) := tile_congr (off24_k k hk) _ _
@[sl_canon] theorem oslot25 (k : K) (hk : ¬ k.val = 0) (hh hs) : (oR.slice (Rect.unit (s := S2x512x1024) (k0_off25 (w12 k.val)) S1x512x1024.size hh) hs).squeeze S512x1024 squeezes_S1x512x1024_S512x1024 = oslot (Ring.sl 2 (k.val + 1)) := oslot_congr (off25_k k hk) _ _

/-- The last tile, waited for after the loop. -/
@[sl_canon] theorem osm26 (hh) : (oS.slice (Rect.unit (s := S2) (k0_off26 (w12 T)) S1.size hh)).squeeze S_ squeezes_S1_S_ = osm 1 := osm_congr off26_T _
@[sl_canon] theorem tile27 (hh hs) : oRange.slice (Rect.unit (s := S9216x16384) (k0_off27 (w14 T) (w13 T)) S512x1024.size hh) hs = tile (Ring.bk T 287) := tile_congr off27_T _ _
@[sl_canon] theorem oslot28 (hh hs) : (oR.slice (Rect.unit (s := S2x512x1024) (k0_off28 (w12 T)) S1x512x1024.size hh) hs).squeeze S512x1024 squeezes_S1x512x1024_S512x1024 = oslot 1 := oslot_congr off28_T _ _

instance (s : Fin 2) : ClosedOff (slotOff s) := ⟨slotOff s, rfl⟩
instance (k : K) : ClosedOff (k0_off17 (w6 k.val)) := ⟨slotOff (Ring.sl 2 (k.val / 18)), off17_k k⟩
instance (k : K) : ClosedOff (k0_off18 (w10 k.val)) := ⟨slotOff (Ring.sl 2 k.val), off18_k k⟩
instance (k : K) : ClosedOff (k0_off19 (w11 k.val)) := ⟨slotOff (Ring.sl 2 k.val), off19_k k⟩

/-! ## What is held -/

section Held
variable (c : Dev nD) (XA : Buf (Elt F) (aM.view.loc (c : Thread nD τ))) (XW : Buf (Elt F) (wM.view.loc (c : Thread nD τ)))

abbrev wcellP (s : Fin 2) : sProp 𝕄 := semVal ((c : Thread nD τ), SemLoc.dma (wsm s).sem) 0
abbrev acellP (s : Fin 2) : sProp 𝕄 := semVal ((c : Thread nD τ), SemLoc.dma (asm s).sem) 0
abbrev ocellP (s : Fin 2) : sProp 𝕄 := semVal ((c : Thread nD τ), SemLoc.dma (osm s).sem) 0
abbrev wslotP (s : Fin 2) (f : Buf (Elt F) ((wslot s).view.loc (c : Thread nD τ))) : sProp 𝕄 :=
  (wslot s).view.loc (c : Thread nD τ) ↦[(wslot s).view.set]{fullShare} f
abbrev aslotP (s : Fin 2) (f : Buf (Elt F) ((aslot s).view.loc (c : Thread nD τ))) : sProp 𝕄 :=
  (aslot s).view.loc (c : Thread nD τ) ↦[(aslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev wtP (b : Fin NB) : sProp 𝕄 := (wt b).view.loc (c : Thread nD τ) ↦[(wt b).view.set]{fullShare} XW
abbrev tileP (t : Fin T) (f : Buf (Elt F) (oM.view.loc (c : Thread nD τ))) : sProp 𝕄 :=
  (tile t).view.loc (c : Thread nD τ) ↦[(tile t).view.set]{fullShare} f
abbrev wtV (b : Fin NB) : S1024x4096.Idx → Elt F .f32 := (wt b).view.read (Elt F) XW

/-- What a transfer leaves in a slot, or a tile, over prior contents. -/
abbrev wlanded (s : Fin 2) (x : S1024x4096.Idx → Elt F .f32) (f : Buf (Elt F) ((wslot s).view.loc (c : Thread nD τ))) : Buf (Elt F) ((wslot s).view.loc (c : Thread nD τ)) :=
  (wslot s).view.writes (Elt F) f [⟨Rect.whole S1024x4096, ReadAs.same.apply x⟩]
abbrev alanded (s : Fin 2) (x : S512x4096.Idx → Elt F .bf16) (f : Buf (Elt F) ((aslot s).view.loc (c : Thread nD τ))) : Buf (Elt F) ((aslot s).view.loc (c : Thread nD τ)) :=
  (aslot s).view.writes (Elt F) f [⟨Rect.whole S512x4096, ReadAs.same.apply x⟩]
abbrev olanded (t : Fin T) (x : S512x1024.Idx → Elt F .f32) (f : Buf (Elt F) ((tile t).view.loc (c : Thread nD τ))) : Buf (Elt F) ((tile t).view.loc (c : Thread nD τ)) :=
  (tile t).view.writes (Elt F) f [⟨Rect.whole S512x1024, ReadAs.same.apply x⟩]

/-- A slot in flight with weight block `b`, or with activation block `b`; a tile in flight out of a slot. -/
abbrev wflight (s : Fin 2) (b : Fin NB) (f : Buf (Elt F) ((wslot s).view.loc (c : Thread nD τ))) : sProp 𝕄 :=
  Transfers.Flight countersEmb (c : Thread nD τ) (SemLoc.dma (wsm s).sem) () 524288 iprop(wslotP c s (wlanded c s (wtV c XW b) f) ∗ wtP c XW b)
abbrev aflight (s : Fin 2) (b : Fin 18) (f : Buf (Elt F) ((aslot s).view.loc (c : Thread nD τ))) : sProp 𝕄 :=
  Transfers.Flight countersEmb (c : Thread nD τ) (SemLoc.dma (asm s).sem) () 131072 iprop(aslotP c s (alanded c s (actV c XA b) f) ∗ actP c XA b)

end Held

end Cert.Proof.R0

end
-- ==== Proof.TwoSlots.lean ====
/-
  Two slots that take turns over a list of blocks: while the block of one step is worked on in one slot, the next
  step's block is on its way into the other. The blocks may come round again, so a step's block is its number modulo
  the number of blocks.
-/
module

public import Idealize.ShloMosaic.Lib.Ring

@[expose] public section

noncomputable section

namespace Cert.Proof

open Idealize.ShloMosaic
open Idealize.SL
open Idealize.SL.BI (sProp bigSep bigSepL bigSep_insert bigSep_empty)
open scoped Idealize.SL.BI
open Idealize.SL.BI.BIBase Idealize.SL.BI.Laws Idealize.SL.Sem Idealize.SL.ProofMode
open Idealize.SL.RA

variable {M : Type _} [URA M] {n : ℕ} [NeZero n]
variable (coming : Fin 2 → Fin n → sProp M) (idle : Fin 2 → sProp M) (home : Fin n → sProp M)

theorem sl_two (k : ℕ) : Ring.sl 2 (k + 1 + 1) = Ring.sl 2 k := Ring.sl_add 2 k

/-- Before step `p` of `N`: its block is on its way, the other slot is idle, the other blocks are at home; after the last
    step everything is idle and at home. -/
def turns (N p : ℕ) : sProp M :=
  if p < N then iprop(coming (Ring.sl 2 p) (Ring.bk n p) ∗ idle (Ring.sl 2 (p + 1)) ∗ bigSep (Finset.univ.erase (Ring.bk n p)) home)
  else iprop(idle (Ring.sl 2 p) ∗ idle (Ring.sl 2 (p + 1)) ∗ bigSep Finset.univ home)

theorem bk_ne (hn : 2 ≤ n) (p : ℕ) : Ring.bk n (p + 1) ≠ Ring.bk n p := by
  intro h
  have h' : (p + 1) % n = p % n := congrArg Fin.val h
  rcases Nat.lt_or_ge (p % n + 1) n with h1 | h1
  · rw [Nat.add_mod, Nat.mod_eq_of_lt (show 1 < n by omega), Nat.mod_eq_of_lt h1] at h'; omega
  · have h2 : p % n < n := Nat.mod_lt _ (by omega)
    rw [Nat.add_mod, Nat.mod_eq_of_lt (show 1 < n by omega), show p % n + 1 = n by omega, Nat.mod_self] at h'; omega

/-- The blocks other than the two a step has in hand. -/
abbrev others (p : ℕ) : sProp M := bigSep ((Finset.univ.erase (Ring.bk n p)).erase (Ring.bk n (p + 1))) home

theorem turns_open (hn : 2 ≤ n) (N p : ℕ) (h : p + 1 < N) :
    turns coming idle home N p = iprop(coming (Ring.sl 2 p) (Ring.bk n p) ∗ idle (Ring.sl 2 (p + 1)) ∗ home (Ring.bk n (p + 1)) ∗ others home p) := by
  unfold turns others
  rw [if_pos (show p < N by omega)]
  have e : (Finset.univ.erase (Ring.bk n p)) = insert (Ring.bk n (p + 1)) ((Finset.univ.erase (Ring.bk n p)).erase (Ring.bk n (p + 1))) :=
    (Finset.insert_erase (Finset.mem_erase.mpr ⟨bk_ne hn p, Finset.mem_univ _⟩)).symm
  conv_lhs => rw [e]
  rw [bigSep_insert (Finset.notMem_erase _ _)]; rfl

theorem turns_close (hn : 2 ≤ n) (N p : ℕ) (h : p + 1 < N) :
    turns coming idle home N (p + 1) = iprop(coming (Ring.sl 2 (p + 1)) (Ring.bk n (p + 1)) ∗ idle (Ring.sl 2 p) ∗ home (Ring.bk n p) ∗ others home p) := by
  unfold turns others
  rw [if_pos h, sl_two]
  have e : (Finset.univ.erase (Ring.bk n (p + 1))) = insert (Ring.bk n p) ((Finset.univ.erase (Ring.bk n p)).erase (Ring.bk n (p + 1))) := by
    rw [Finset.erase_right_comm]
    exact (Finset.insert_erase (Finset.mem_erase.mpr ⟨(bk_ne hn p).symm, Finset.mem_univ _⟩)).symm
  conv_lhs => rw [e]
  rw [bigSep_insert (fun h => absurd (Finset.mem_erase.mp (Finset.mem_erase.mp h).2).1 (by simp))]; rfl

theorem turns_last (N p : ℕ) (h : p + 1 = N) :
    turns coming idle home N p = iprop(coming (Ring.sl 2 p) (Ring.bk n p) ∗ idle (Ring.sl 2 (p + 1)) ∗ bigSep (Finset.univ.erase (Ring.bk n p)) home) := by
  unfold turns
  rw [if_pos (show p < N by omega)]

theorem turns_done (N p : ℕ) (h : p + 1 = N) :
    turns coming idle home N (p + 1) = iprop(idle (Ring.sl 2 (p + 1)) ∗ idle (Ring.sl 2 p) ∗ home (Ring.bk n p) ∗ bigSep (Finset.univ.erase (Ring.bk n p)) home) := by
  unfold turns
  rw [if_neg (show ¬ p + 1 < N by omega), sl_two]
  conv_lhs => rw [← Finset.insert_erase (Finset.mem_univ (Ring.bk n p))]
  rw [bigSep_insert (Finset.notMem_erase _ _)]; rfl

theorem turns_end (N p : ℕ) (h : p = N) :
    turns coming idle home N p = iprop(idle (Ring.sl 2 p) ∗ idle (Ring.sl 2 (p + 1)) ∗ bigSep Finset.univ home) := by
  unfold turns
  rw [if_neg (show ¬ p < N by omega)]

theorem turns_start (N : ℕ) (h : 0 < N) :
    turns coming idle home N 0 = iprop(coming 0 (Ring.bk n 0) ∗ idle 1 ∗ bigSep (Finset.univ.erase (Ring.bk n 0)) home) := by
  unfold turns
  rw [if_pos h]; rfl

theorem home_all (b : Fin n) : bigSep Finset.univ home = iprop(home b ∗ bigSep (Finset.univ.erase b) home) := by
  conv_lhs => rw [← Finset.insert_erase (Finset.mem_univ b)]
  rw [bigSep_insert (Finset.notMem_erase _ _)]; rfl

end Cert.Proof

end
-- ==== Proof.Trip0.lean ====
/-
  The lookahead of the first column range: a while loop that walks the grid from the point after the current one until
  the weight's block changes, and sends the new block in.

  Then one trip of the first column range's loop.
-/
module

public import proofs.«01_k».proof.Proof.Pieces0
public import proofs.«01_k».proof.Proof.TwoSlots
public import Idealize.ShloMosaic.Lib.Pipeline.Value
public import Idealize.ShloMosaic.Lib.VecWindow

@[expose] public section

noncomputable section

namespace Cert.Proof.R0

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The loop's condition: fewer blocks sent than allowed, and the point inside the grid. -/
abbrev goOn (L d e n : BitVec 32) : BitVec 1 :=
  Scalar.andi (Scalar.andi 1#1 (Scalar.cmpi .ult n L)) (Scalar.andi (Scalar.andi 1#1 (Scalar.cmpi .slt d (BitVec.ofNat 32 NB))) (Scalar.cmpi .slt e 18#32))
/-- The point after `(d, e)`. -/
abbrev nextE (e : BitVec 32) : BitVec 32 :=
  Scalar.select (Scalar.cmpi .eq (Scalar.select 1#1 (Scalar.addi e 1#32) e) 18#32) 0#32 (Scalar.select 1#1 (Scalar.addi e 1#32) e)
abbrev nextD (d e : BitVec 32) : BitVec 32 :=
  Scalar.select 0#1 0#32 (Scalar.select (Scalar.cmpi .eq (Scalar.select 1#1 (Scalar.addi e 1#32) e) 18#32) (Scalar.addi d 1#32) d)
/-- The count after a point: one more when the block differs from the previous point's. -/
abbrev nextN (a d n : BitVec 32) : BitVec 32 :=
  Scalar.addi n (Scalar.extui (Scalar.cmpi .ne (Scalar.addi a 0#32) (Scalar.addi d 0#32)))

/-! The walk's words, block `j` and point `i` of it. -/
abbrev atD (j i : ℕ) : BitVec 32 := BitVec.ofNat 32 (if i = 17 then j + 1 else j)
abbrev atE (i : ℕ) : BitVec 32 := BitVec.ofNat 32 (if i = 17 then 0 else i + 1)

theorem goOn_in : ∀ j : Fin NB, ∀ i : Fin 17, goOn (BitVec.ofNat 32 (j.val + 2)) (BitVec.ofNat 32 j.val) (BitVec.ofNat 32 (i.val + 1)) (BitVec.ofNat 32 (j.val + 1)) = 1#1 := by decide +kernel
theorem nextD_in : ∀ j : Fin NB, ∀ i : Fin 17, nextD (BitVec.ofNat 32 j.val) (BitVec.ofNat 32 (i.val + 1)) = atD j.val (i.val + 1) := by decide +kernel
theorem nextE_in : ∀ i : Fin 17, nextE (BitVec.ofNat 32 (i.val + 1)) = atE (i.val + 1) := by decide +kernel
theorem nextN_in : ∀ j : Fin NB, nextN (BitVec.ofNat 32 j.val) (BitVec.ofNat 32 j.val) (BitVec.ofNat 32 (j.val + 1)) = BitVec.ofNat 32 (j.val + 1) := by decide +kernel
theorem goOn_out : ∀ j : Fin (NB - 1), goOn (BitVec.ofNat 32 (j.val + 2)) (BitVec.ofNat 32 (j.val + 1)) 0#32 (BitVec.ofNat 32 (j.val + 1)) = 1#1 := by decide +kernel
theorem nextN_out : ∀ j : Fin (NB - 1), Scalar.addi (BitVec.ofNat 32 (j.val + 1)) 1#32 = BitVec.ofNat 32 (j.val + 2) := by decide +kernel
theorem stop_out : ∀ j : Fin (NB - 1), ¬ goOn (BitVec.ofNat 32 (j.val + 2)) (BitVec.ofNat 32 (j.val + 1)) 1#32 (BitVec.ofNat 32 (j.val + 2)) = 1#1 := by decide +kernel
theorem stop_end : ¬ goOn (BitVec.ofNat 32 (NB + 1)) (BitVec.ofNat 32 NB) 0#32 (BitVec.ofNat 32 NB) = 1#1 := by decide +kernel

/-- The trips inside a block find the lookahead done. -/
theorem stop_k : ∀ k : K, ¬ k.val % 18 = 0 → ¬ goOn (Scalar.addi (w6 k.val) 2#32) (nextD (w7 k.val) (w8 k.val)) (nextE (w8 k.val)) (w5 k.val) = 1#1 := by decide +kernel

section
variable (c : Dev nD) (k : K) (L : BitVec 32)

/-- The loop at a point, with what it carries. -/
abbrev look (a b d e n : BitVec 32) : Prog (TpuEff nD τ sig (Elt F) (Λ₀ F) .tc) (BitVec 32 × BitVec 32 × BitVec 32 × BitVec 32 × BitVec 32) :=
  cc0_while1 k L wS wR (Memref.isWhole_whole _) wM (Memref.isWhole_whole _) a b d e n

/-- A call that is all that is left to run. -/
theorem call_last {ℓ : (Λ₀ F).Label} {a : (Λ₀ F).Args ℓ} (bd : Option 𝒱₀.V) (v : ℕ) (hv : ∀ u ∈ bd, 𝒱₀.lt v u) (Q : (Λ₀ F).Result ℓ → sProp 𝕄) :
    wp frame (wpE (defs₀ (F := F)) 𝒱₀ (c : Thread nD τ) (some v)) Set.univ (defs₀ (F := F) (c : Thread nD τ).2 ℓ a) Q
      ⊢ wp frame (wpE (defs₀ (F := F)) 𝒱₀ (c : Thread nD τ) bd) Set.univ (.op (.call ℓ a) .ret) Q := by
  refine BIBase.Entails.trans (Idealize.SL.Sem.wp_mono _ _ _ fun x => ?_) (wp_call 𝒱₀ (c : Thread nD τ) bd Set.univ (v := v) (hv := hv))
  rw [Idealize.SL.Sem.wp_ret]
  exact BI.fupd_intro

/-- The loop's own last call. -/
theorem call_look (bd : Option 𝒱₀.V) (v : ℕ) (hv : ∀ u ∈ bd, 𝒱₀.lt v u) (L a b d e n : BitVec 32) (Q : BitVec 32 × BitVec 32 × BitVec 32 × BitVec 32 × BitVec 32 → sProp 𝕄) :
    wp frame (wpE (defs₀ (F := F)) 𝒱₀ (c : Thread nD τ) (some v)) Set.univ (look k L a b d e n) Q
      ⊢ wp frame (wpE (defs₀ (F := F)) 𝒱₀ (c : Thread nD τ) bd) Set.univ
        (.op (.call (1 : (Λ₀ F).Label) ⟨k, L, wS, wR, Memref.isWhole_whole _, wM, Memref.isWhole_whole _, a, b, d, e, n⟩) .ret) Q :=
  call_last (ℓ := (1 : (Λ₀ F).Label)) (a := ⟨k, L, wS, wR, Memref.isWhole_whole _, wM, Memref.isWhole_whole _, a, b, d, e, n⟩) c bd v hv Q

/-- A trip's call, whatever runs after it. -/
theorem call_trip {α : Type} (bd : Option 𝒱₀.V) (v : ℕ) (hv : ∀ u ∈ bd, 𝒱₀.lt v u) (L a b d e n : BitVec 32) (Q : α → sProp 𝕄)
    (p : BitVec 32 × BitVec 32 × BitVec 32 × BitVec 32 × BitVec 32 → Prog (TpuEff nD τ sig (Elt F) (Λ₀ F) .tc) α) :
    wp frame (wpE (defs₀ (F := F)) 𝒱₀ (c : Thread nD τ) (some v)) Set.univ (look k L a b d e n)
        (fun x => wp frame (wpE (defs₀ (F := F)) 𝒱₀ (c : Thread nD τ) bd) Set.univ (p x) Q)
      ⊢ wp frame (wpE (defs₀ (F := F)) 𝒱₀ (c : Thread nD τ) bd) Set.univ
        (.op (.call (1 : (Λ₀ F).Label) ⟨k, L, wS, wR, Memref.isWhole_whole _, wM, Memref.isWhole_whole _, a, b, d, e, n⟩) p) Q :=
  wp_call (ℓ := (1 : (Λ₀ F).Label)) (a := ⟨k, L, wS, wR, Memref.isWhole_whole _, wM, Memref.isWhole_whole _, a, b, d, e, n⟩) 𝒱₀ (c : Thread nD τ) bd Set.univ (v := v) (hv := hv)

/-- The loop ends where its condition fails. -/
theorem look_exit (bd : Option 𝒱₀.V) (a b d e n : BitVec 32) (h : ¬ goOn L d e n = 1#1)
    (Q : BitVec 32 × BitVec 32 × BitVec 32 × BitVec 32 × BitVec 32 → sProp 𝕄) :
    Q (a, b, d, e, n) ⊢ wp frame (wpE (defs₀ (F := F)) 𝒱₀ (c : Thread nD τ) bd) Set.univ (look k L a b d e n) Q := by
  iintro H
  unfold look
  sl_unfold [cc0_while1]
  sl_exec
  sl_step
  iexact H

/-- A point of the same block: nothing is sent. -/
theorem look_same (bd : Option 𝒱₀.V) (v : ℕ) (hv : ∀ u ∈ bd, 𝒱₀.lt v u) (a b d e n : BitVec 32) (h : goOn L d e n = 1#1)
    (h2 : k0_chk2 a d) (h1 : k0_chk1 a d n) (hc : ¬ k0_cond1 a d = 1#1)
    (Q : BitVec 32 × BitVec 32 × BitVec 32 × BitVec 32 × BitVec 32 → sProp 𝕄) :
    wp frame (wpE (defs₀ (F := F)) 𝒱₀ (c : Thread nD τ) (some v)) Set.univ (look k L d e (nextD d e) (nextE e) (nextN a d n)) Q
      ⊢ wp frame (wpE (defs₀ (F := F)) 𝒱₀ (c : Thread nD τ) bd) Set.univ (look k L a b d e n) Q := by
  iintro H
  conv_rhs => unfold look
  sl_unfold [cc0_while1]
  sl_exec
  iapply (call_look c k bd v hv)
  iexact H

/-- The walk inside block `j`, from any of its points to its last. -/
theorem look_spin (j : Fin NB) (Q : BitVec 32 × BitVec 32 × BitVec 32 × BitVec 32 × BitVec 32 → sProp 𝕄) (A : sProp 𝕄)
    (hA : ∀ bd : Option 𝒱₀.V, (∀ u ∈ bd, 𝒱₀.lt 0 u) → A ⊢ wp frame (wpE (defs₀ (F := F)) 𝒱₀ (c : Thread nD τ) bd) Set.univ
      (look k (BitVec.ofNat 32 (j.val + 2)) (BitVec.ofNat 32 j.val) 17#32 (BitVec.ofNat 32 (j.val + 1)) 0#32 (BitVec.ofNat 32 (j.val + 1))) Q)
    (r : ℕ) : ∀ (i : ℕ), i + r = 17 → ∀ bd : Option 𝒱₀.V, (∀ u ∈ bd, 𝒱₀.lt r u) →
      A ⊢ wp frame (wpE (defs₀ (F := F)) 𝒱₀ (c : Thread nD τ) bd) Set.univ
        (look k (BitVec.ofNat 32 (j.val + 2)) (BitVec.ofNat 32 j.val) (BitVec.ofNat 32 i) (atD j.val i) (atE i) (BitVec.ofNat 32 (j.val + 1))) Q := by
  induction r with
  | zero =>
    intro i hi bd hbd
    obtain rfl : i = 17 := by omega
    exact hA bd hbd
  | succ r ih =>
    intro i hi bd hbd
    have hi' : i < 17 := by omega
    have eD : atD j.val i = BitVec.ofNat 32 j.val := by simp only [atD]; rw [if_neg (by omega)]
    have eE : atE i = BitVec.ofNat 32 (i + 1) := by simp only [atE]; rw [if_neg (by omega)]
    rw [eD, eE]
    refine BIBase.Entails.trans ?_ (look_same c k _ bd (r + 1) hbd _ _ _ _ _
      (goOn_in j ⟨i, hi'⟩) (chk2_s j) (chk1_s j) (cond1_neg j) Q)
    rw [nextD_in j ⟨i, hi'⟩, nextE_in ⟨i, hi'⟩, nextN_in j]
    exact ih (i + 1) (by omega) (some (r + 1)) (fun u hu => by cases hu; exact Nat.lt_succ_self r)

/-- In the last block the walk runs off the grid, and nothing is sent. -/
theorem look_last (bd : Option 𝒱₀.V) (hv : ∀ u ∈ bd, 𝒱₀.lt 17 u) (Q : BitVec 32 × BitVec 32 × BitVec 32 × BitVec 32 × BitVec 32 → sProp 𝕄) :
    Q (BitVec.ofNat 32 (NB - 1), 17#32, BitVec.ofNat 32 NB, 0#32, BitVec.ofNat 32 NB)
      ⊢ wp frame (wpE (defs₀ (F := F)) 𝒱₀ (c : Thread nD τ) bd) Set.univ
        (look k (BitVec.ofNat 32 (NB + 1)) (BitVec.ofNat 32 (NB - 1)) 0#32 (BitVec.ofNat 32 (NB - 1)) 1#32 (BitVec.ofNat 32 NB)) Q :=
  look_spin c k ⟨NB - 1, by decide⟩ Q _ (fun bd' _ => look_exit c k _ bd' _ _ _ _ _ stop_end Q) 17 0 rfl bd hv

variable (XW : Buf (Elt F) (wM.view.loc (c : Thread nD τ)))

/-- The first point of block `j + 1`: the block is sent into its slot, and the loop ends. -/
theorem look_send (j : Fin (NB - 1)) (bd : Option 𝒱₀.V) (hv : ∀ u ∈ bd, 𝒱₀.lt 0 u) (f : Buf (Elt F) ((wslot (Ring.sl 2 (j.val + 1))).view.loc (c : Thread nD τ)))
    (Q : BitVec 32 × BitVec 32 × BitVec 32 × BitVec 32 × BitVec 32 → sProp 𝕄) :
    iprop((∃ W, owes (c : Thread nD τ) 0 W) ∗ wcellP c (Ring.sl 2 (j.val + 1)) ∗ wslotP c (Ring.sl 2 (j.val + 1)) f ∗ wtP c XW (Ring.bk NB (j.val + 1))
      ∗ ((∃ W, owes (c : Thread nD τ) 0 W) -∗ wflight c XW (Ring.sl 2 (j.val + 1)) (Ring.bk NB (j.val + 1)) f
          -∗ Q (BitVec.ofNat 32 (j.val + 1), 0#32, BitVec.ofNat 32 (j.val + 1), 1#32, BitVec.ofNat 32 (j.val + 2))))
      ⊢ wp frame (wpE (defs₀ (F := F)) 𝒱₀ (c : Thread nD τ) bd) Set.univ
        (look k (BitVec.ofNat 32 (j.val + 2)) (BitVec.ofNat 32 j.val) 17#32 (BitVec.ofNat 32 (j.val + 1)) 0#32 (BitVec.ofNat 32 (j.val + 1))) Q := by
  iintro ⟨⟨%W, HO⟩, Hc, Hs, Hw, HQ⟩
  have h0 := goOn_out j
  have h1 := chk2_j j
  have h2 := chk1_j j
  have h3 := cond1_pos j
  unfold look
  sl_unfold [cc0_while1]
  sl_exec
  have h4 : look_send.sl.v261_r0 j = BitVec.ofNat 32 (j.val + 2) := nextN_out j
  rw [h4]
  iapply (call_look c k bd 0 hv)
  iapply (look_exit c k _ (some 0) _ _ _ _ _ (stop_out j) Q)
  iapply HQ $$ [HO] [Hc]
  · iexists W; iexact HO
  · iexact Hc

/-- In any other block the walk reaches the next block, and sends it in. -/
theorem look_next (j : Fin (NB - 1)) (bd : Option 𝒱₀.V) (hv : ∀ u ∈ bd, 𝒱₀.lt 17 u) (f : Buf (Elt F) ((wslot (Ring.sl 2 (j.val + 1))).view.loc (c : Thread nD τ)))
    (Q : BitVec 32 × BitVec 32 × BitVec 32 × BitVec 32 × BitVec 32 → sProp 𝕄) :
    iprop((∃ W, owes (c : Thread nD τ) 0 W) ∗ wcellP c (Ring.sl 2 (j.val + 1)) ∗ wslotP c (Ring.sl 2 (j.val + 1)) f ∗ wtP c XW (Ring.bk NB (j.val + 1))
      ∗ ((∃ W, owes (c : Thread nD τ) 0 W) -∗ wflight c XW (Ring.sl 2 (j.val + 1)) (Ring.bk NB (j.val + 1)) f
          -∗ Q (BitVec.ofNat 32 (j.val + 1), 0#32, BitVec.ofNat 32 (j.val + 1), 1#32, BitVec.ofNat 32 (j.val + 2))))
      ⊢ wp frame (wpE (defs₀ (F := F)) 𝒱₀ (c : Thread nD τ) bd) Set.univ
        (look k (BitVec.ofNat 32 (j.val + 2)) (BitVec.ofNat 32 j.val) 0#32 (BitVec.ofNat 32 j.val) 1#32 (BitVec.ofNat 32 (j.val + 1))) Q := by
  refine look_spin c k (j.castLE (by decide)) Q _ (fun bd' hbd' => ?_) 17 0 rfl bd hv
  exact look_send c k XW j bd' hbd' f Q

end

/-! ## A trip -/

abbrev Words : Type := BitVec 32 × BitVec 32 × BitVec 32 × BitVec 32 × BitVec 32 × BitVec 32 × BitVec 32 × BitVec 32 × BitVec 32 × BitVec 32
/-- What the loop carries before trip `k`. -/
def words (k : ℕ) : Words := (w5 k, w6 k, w7 k, w8 k, w9 k, w10 k, w11 k, w12 k, w13 k, w14 k)

/-- The body of a trip, at the call's buffers. -/
abbrev trip (v29 : BitVec 32) (k : K) (acc : Words) : Prog (TpuEff nD τ sig (Elt F) (Λ₀ F) .tc) Words :=
  k0_t1_body aM (Memref.isWhole_whole _) wM (Memref.isWhole_whole _) oM (Memref.isWhole_whole _) sM (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11
    v29 k acc

section
variable (c : Dev nD) (XA : Buf (Elt F) (aM.view.loc (c : Thread nD τ))) (XW : Buf (Elt F) (wM.view.loc (c : Thread nD τ)))
  (O0 : Buf (Elt F) (oM.view.loc (c : Thread nD τ))) (v29 : BitVec 32)

/-- The rounded weight block `b`, and the tile of trip `t`. -/
def wtR (b : Fin NB) : S1024x4096.Idx → Elt F .bf16 := truncf .bf16 (wtV c XW b) bitsLt_bf16_f32
def tileV (t : Fin T) : S512x1024.Idx → Elt F .f32 :=
  matmul dot_S512x4096_S1024x4096_S512x1024_1_1_0_0_n_n none (actV c XA (Ring.bk 18 t.val)) (wtR c XW (Ring.bk NB (t.val / 18))) (constant S512x1024 .f32 0x00000000#32)

abbrev sP (f : Buf (Elt F) (sM.view.loc (c : Thread nD τ))) : sProp 𝕄 := sM.view.loc (c : Thread nD τ) ↦[sM.view.set]{fullShare} f
/-- Tile `t` in flight out of slot `s`, with values `x`. -/
abbrev oflight (s : Fin 2) (t : Fin T) (x : S512x1024.Idx → Elt F .f32) (g : Buf (Elt F) ((oslot s).view.loc (c : Thread nD τ))) : sProp 𝕄 :=
  Transfers.Flight countersEmb (c : Thread nD τ) (SemLoc.dma (osm s).sem) () 65536 iprop(tileP c t (olanded c t x O0) ∗ oslotP c s g)

/-- A load at slot `s`'s box, with its unit axis dropped, is what the slot's view reads. -/
theorem aslot_load {off : Fin 3 → ℕ} {s : Fin 2} (e : off = slotOff s) (hh : ∀ a, off a + S1x512x4096.size a ≤ S2x512x4096.size a)
    (f : Buf (Elt F) (aR.view.loc (c : Thread nD τ))) (hc : S1x512x4096.ShapeCasts S512x4096) :
    shapeCast S512x4096 (aR.view.readAt (Elt F) (Rect.unit (s := S2x512x4096) off S1x512x4096.size hh).toLoadRect f) hc = (aslot s).view.read (Elt F) f := by
  subst e; rfl
theorem wslot_load {off : Fin 3 → ℕ} {s : Fin 2} (e : off = slotOff s) (hh : ∀ a, off a + S1x1024x4096.size a ≤ S2x1024x4096.size a)
    (f : Buf (Elt F) (wR.view.loc (c : Thread nD τ))) (hc : S1x1024x4096.ShapeCasts S1024x4096) :
    shapeCast S1024x4096 (wR.view.readAt (Elt F) (Rect.unit (s := S2x1024x4096) off S1x1024x4096.size hh).toLoadRect f) hc = (wslot s).view.read (Elt F) f := by
  subst e; rfl
/-- After a store into slot `s`'s box the slot's view reads the stored values, with their unit axis dropped. -/
theorem oslot_store {off : Fin 3 → ℕ} {s : Fin 2} (e : off = slotOff s) (hh : ∀ a, off a + S1x512x1024.size a ≤ S2x512x1024.size a)
    (f : Buf (Elt F) (oR.view.loc (c : Thread nD τ))) (y : S1x512x1024.Idx → Elt F .f32) :
    (oslot s).view.read (Elt F) (View.write (Elt F) (oR.access (Rect.unit (s := S2x512x1024) off S1x512x1024.size hh)) f y Finset.univ)
      = shapeCast S512x1024 y shapeCasts_S1x512x1024_S512x1024 := by
  subst e
  refine (Memref.read_squeeze_slice oR (Rect.unit (s := S2x512x1024) (slotOff s) S1x512x1024.size hh) (fun _ => rfl) squeezes_S1x512x1024_S512x1024
    shapeCasts_S1x512x1024_S512x1024 _).trans (congrArg (shapeCast S512x1024 · shapeCasts_S1x512x1024_S512x1024) ?_)
  exact View.read_write_univ (v := oR.view.slice (Rect.unit (s := S2x512x1024) (slotOff s) S1x512x1024.size hh)) f y

/-- The rounded block a block's first trip stores. -/
theorem block_store {off : Fin 3 → ℕ} {s : Fin 2} (e : off = slotOff s) (ha) (b : Fin NB) (f : Buf (Elt F) (wR.view.loc (c : Thread nD τ)))
    (hf : (wslot s).view.read (Elt F) f = wtV c XW b) :
    k0_pay1 (wR.view.readAt (Elt F) (Rect.unit (s := S2x1024x4096) off S1x1024x4096.size ha).toLoadRect f) = wtR c XW b := by
  unfold k0_pay1 wtR
  rw [wslot_load c e, hf]
  exact shapeCast_self _ _

theorem words_eq {k : ℕ} {a5 a6 a7 a8 a9 a10 a11 a12 a13 a14 : BitVec 32} (e5 : a5 = w5 k) (e6 : a6 = w6 k) (e7 : a7 = w7 k) (e8 : a8 = w8 k) (e9 : a9 = w9 k)
    (e10 : a10 = w10 k) (e11 : a11 = w11 k) (e12 : a12 = w12 k) (e13 : a13 = w13 k) (e14 : a14 = w14 k) :
    (a5, a6, a7, a8, a9, a10, a11, a12, a13, a14) = words k := by
  rw [e5, e6, e7, e8, e9, e10, e11, e12, e13, e14]; rfl

/-- The tile a trip stores: the product of its activation block and the rounded weight block. -/
theorem tile_store (k : K) {off off' : Fin 3 → ℕ} (e : off = slotOff (Ring.sl 2 k.val)) (e' : off' = slotOff (Ring.sl 2 k.val)) (ho ha)
    (fo : Buf (Elt F) (oR.view.loc (c : Thread nD τ))) (f : Buf (Elt F) (aR.view.loc (c : Thread nD τ))) (w : S1024x4096.Idx → Elt F .bf16)
    (hf : (aslot (Ring.sl 2 k.val)).view.read (Elt F) f = actV c XA (Ring.bk 18 k.val)) (hw : w = wtR c XW (Ring.bk NB (k.val / 18))) :
    ReadAs.same.apply ((oslot (Ring.sl 2 k.val)).view.read (Elt F) (View.write (Elt F) (oR.access (Rect.unit (s := S2x512x1024) off S1x512x1024.size ho)) fo
        (k0_pay2 (aR.view.readAt (Elt F) (Rect.unit (s := S2x512x4096) off' S1x512x4096.size ha).toLoadRect f) w) Finset.univ))
      = tileV c XA XW (Ring.bk T k.val) := by
  refine (oslot_store c e ho fo _).trans ?_
  unfold k0_pay2 tileV
  have hk : (Ring.bk T k.val).val = k.val := Nat.mod_eq_of_lt (trips_eq ▸ k.isLt)
  rw [hk, hw, aslot_load c e', hf]
  exact shapeCast_shapeCast _ _ _

/-- A slot on its way or idle; a tile on its way out; a finished tile; the scratch holding a rounded weight block. -/
abbrev inA (s : Fin 2) (b : Fin 18) : sProp 𝕄 := iprop(∃ f, aflight c XA s b f)
abbrev frA (s : Fin 2) : sProp 𝕄 := iprop(acellP c s ∗ ∃ f, aslotP c s f)
abbrev inW (s : Fin 2) (b : Fin NB) : sProp 𝕄 := iprop(∃ f, wflight c XW s b f)
abbrev frW (s : Fin 2) : sProp 𝕄 := iprop(wcellP c s ∗ ∃ f, wslotP c s f)
abbrev inO (s : Fin 2) (t : Fin T) : sProp 𝕄 := iprop(∃ g, oflight c O0 s t (tileV c XA XW t) g)
abbrev frO (s : Fin 2) : sProp 𝕄 := iprop(ocellP c s ∗ ∃ f, oslotP c s f)
abbrev doneP (t : Fin T) : sProp 𝕄 := iprop(∃ f, tileP c t f ∗ ⌜(tile t).view.read (Elt F) f = tileV c XA XW t⌝)
abbrev sIs (b : Fin NB) : sProp 𝕄 := iprop(∃ f, sP c f ∗ ⌜sM.view.read (Elt F) f = wtR c XW b⌝)

theorem lt_bound : ∀ u ∈ (some 18 : Option 𝒱₀.V), 𝒱₀.lt 17 u := by
  intro u hu
  obtain rfl : 18 = u := by simpa using hu
  exact (by decide : 17 < 18)

theorem inO_of {s : Fin 2} {t : Fin T} {x : S512x1024.Idx → Elt F .f32} (e : x = tileV c XA XW t) (g : Buf (Elt F) ((oslot s).view.loc (c : Thread nD τ))) :
    oflight c O0 s t x g ⊢ inO c XA XW O0 s t := by
  subst e; iintro H; iexists _; iexact H

/-- The words before the first trip of a column block, as the read-ahead loop names them. -/
theorem at_j : ∀ k : K, k.val % 18 = 0 → nextD (w7 k.val) (w8 k.val) = BitVec.ofNat 32 (k.val / 18) ∧ nextE (w8 k.val) = 1#32
    ∧ w5 k.val = BitVec.ofNat 32 (k.val / 18 + 1) ∧ Scalar.addi (w6 k.val) 2#32 = BitVec.ofNat 32 (k.val / 18 + 2)
    ∧ w7 k.val = BitVec.ofNat 32 (k.val / 18) ∧ w8 k.val = 0#32 := by decide +kernel

theorem at_last : ∀ k : K, k.val % 18 = 0 → k.val / 18 = NB - 1 → nextD (w7 k.val) (w8 k.val) = BitVec.ofNat 32 (NB - 1) ∧ nextE (w8 k.val) = 1#32
    ∧ w5 k.val = BitVec.ofNat 32 NB ∧ Scalar.addi (w6 k.val) 2#32 = BitVec.ofNat 32 (NB + 1)
    ∧ w7 k.val = BitVec.ofNat 32 (NB - 1) ∧ w8 k.val = 0#32 := by decide +kernel

/-- The read-ahead loop's two full runs, from words known to be its own. -/
theorem look_next_of (k : K) (j : Fin (NB - 1)) (f : Buf (Elt F) ((wslot (Ring.sl 2 (j.val + 1))).view.loc (c : Thread nD τ)))
    (Q : BitVec 32 × BitVec 32 × BitVec 32 × BitVec 32 × BitVec 32 → sProp 𝕄) (L a b d e n : BitVec 32)
    (h : d = BitVec.ofNat 32 j.val ∧ e = 1#32 ∧ n = BitVec.ofNat 32 (j.val + 1) ∧ L = BitVec.ofNat 32 (j.val + 2) ∧ a = BitVec.ofNat 32 j.val ∧ b = 0#32) :
    iprop((∃ W, owes (c : Thread nD τ) 0 W) ∗ wcellP c (Ring.sl 2 (j.val + 1)) ∗ wslotP c (Ring.sl 2 (j.val + 1)) f ∗ wtP c XW (Ring.bk NB (j.val + 1))
      ∗ ((∃ W, owes (c : Thread nD τ) 0 W) -∗ wflight c XW (Ring.sl 2 (j.val + 1)) (Ring.bk NB (j.val + 1)) f
          -∗ Q (BitVec.ofNat 32 (j.val + 1), 0#32, BitVec.ofNat 32 (j.val + 1), 1#32, BitVec.ofNat 32 (j.val + 2))))
      ⊢ wp frame (wpE (defs₀ (F := F)) 𝒱₀ (c : Thread nD τ) (some 18)) Set.univ (look k L a b d e n) Q := by
  obtain ⟨rfl, rfl, rfl, rfl, rfl, rfl⟩ := h
  exact look_next c k XW j (some 18) lt_bound f Q
theorem look_last_of (k : K) (Q : BitVec 32 × BitVec 32 × BitVec 32 × BitVec 32 × BitVec 32 → sProp 𝕄) (L a b d e n : BitVec 32)
    (h : d = BitVec.ofNat 32 (NB - 1) ∧ e = 1#32 ∧ n = BitVec.ofNat 32 NB ∧ L = BitVec.ofNat 32 (NB + 1) ∧ a = BitVec.ofNat 32 (NB - 1) ∧ b = 0#32) :
    Q (BitVec.ofNat 32 (NB - 1), 17#32, BitVec.ofNat 32 NB, 0#32, BitVec.ofNat 32 NB)
      ⊢ wp frame (wpE (defs₀ (F := F)) 𝒱₀ (c : Thread nD τ) (some 18)) Set.univ (look k L a b d e n) Q := by
  obtain ⟨rfl, rfl, rfl, rfl, rfl, rfl⟩ := h
  exact look_last c k (some 18) lt_bound Q

/-- A trip inside a column block. -/
theorem trip_mid (k : K) (hi : ¬ k.val % 18 = 0) (h0 : ¬ k.val = 0) (hT : k.val + 1 < T) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ sIs c XW (Ring.bk NB (k.val / 18)) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨Hac, %fa', Has⟩, Hact, ⟨%fs, Hs, %hfs⟩, ⟨%fo', Ho⟩, ⟨Hoc, %fo, Hos⟩, Ht⟩
  have c5 := chk5_k k; have c4 := chk4_k k; have c3 := chk3_k k; have d4 := cond4_pos k; have d9 := cond9_pos k
  have d2 := cond2_pos k hT; have d3 := cond3_neg k hi; have d6 := cond6_neg k hi; have d12 := cond12_pos k h0
  unfold words trip
  sl_unfold [k0_t1_body]
  sl_exec
  iapply (call_trip c k none 0 (fun _ h => nomatch h))
  iapply (look_exit c k _ (some 0) _ _ _ _ _ (stop_k k hi))
  sl_exec
  have ew : ∀ (k : K) (hi : ¬ k.val % 18 = 0) (h0 : ¬ k.val = 0) (hT : k.val + 1 < T),
      trip_mid.sl.r_2 k = w5 (k.val + 1) ∧ trip_mid.sl.v240_r0 k = w6 (k.val + 1) ∧ trip_mid.sl.r k = w7 (k.val + 1) ∧ trip_mid.sl.r_1 k = w8 (k.val + 1) ∧ trip_mid.sl.v154_r0 k = w9 (k.val + 1)
        ∧ trip_mid.sl.v244_r0 k = w10 (k.val + 1) ∧ trip_mid.sl.v214_r0 k = w11 (k.val + 1) ∧ trip_mid.sl.v236_r0 k = w12 (k.val + 1) ∧ trip_mid.sl.v252_r0 k = w13 (k.val + 1) ∧ trip_mid.sl.v248_r0 k = w14 (k.val + 1) := by decide +kernel
  obtain ⟨e1, e2, e3, e4, e5, e6, e7, e8, e9, e10⟩ := ew k hi h0 hT
  have es : sM.view.read (Elt F) fs = wtR c XW (Ring.bk NB (k.val / 18)) := hfs
  have ev : trip_mid.sl.dma4 c XA k fs fo c5 c4 = tileV c XA XW (Ring.bk T k.val) := by
    unfold trip_mid.sl.dma4 trip_mid.sl.Hos_w1 trip_mid.sl.v188_r0
    exact tile_store c XA XW k (off19_k k) (off18_k k) _ _ _ _ _ (View.read_writes_whole _ _ _) ((View.readAt_full _ _ _).trans es)
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

/-- The first trip. -/
theorem trip_first (k : K) (hi : k.val % 18 = 0) (h0 : k.val = 0) (hT : k.val + 1 < T) (hj : k.val / 18 < NB - 1) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ inW c XW (Ring.sl 2 (k.val / 18)) (Ring.bk NB (k.val / 18)) ∗ (∃ f, sP c f) ∗ frW c (Ring.sl 2 (k.val / 18 + 1)) ∗ wtP c XW (Ring.bk NB (k.val / 18 + 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ inW c XW (Ring.sl 2 (k.val / 18 + 1)) (Ring.bk NB (k.val / 18 + 1)) ∗ wcellP c (Ring.sl 2 (k.val / 18)) ∗ (∃ f, wslotP c (Ring.sl 2 (k.val / 18)) f) ∗ wtP c XW (Ring.bk NB (k.val / 18)) ∗ sIs c XW (Ring.bk NB (k.val / 18)) ∗ inO c XA XW O0 (Ring.sl 2 k.val) (Ring.bk T k.val))) := by
  iintro ⟨⟨%W, HO⟩, ⟨%fa, Ha⟩, ⟨Hac, %fa', Has⟩, Hact, ⟨%fw, Hw⟩, ⟨%fs, Hs⟩, ⟨Hwc, %fw', Hws⟩, Hwt, ⟨Hoc, %fo, Hos⟩, Ht⟩
  have c5 := chk5_k k; have c4 := chk4_k k; have c3 := chk3_k k; have d4 := cond4_pos k; have d9 := cond9_pos k
  have d2 := cond2_pos k hT; have d3 := cond3_pos k hi; have d6 := cond6_pos k hi; have d12 := cond12_neg k h0
  unfold words trip
  sl_unfold [k0_t1_body]
  sl_exec
  iapply (call_trip c k none 18 (fun _ h => nomatch h))
  iapply (look_next_of c XW k ⟨k.val / 18, hj⟩ fw' _ _ _ _ _ _ _ (at_j k hi))
  isplitl [HO]; · iexists _; iexact HO
  isplitl [Hwc]; · iexact Hwc
  isplitl [Hws]; · iexact Hws
  isplitl [Hwt]; · iexact Hwt
  iintro ⟨%W', HO⟩ Hwf
  sl_exec
  have ew : ∀ (k : K) (hi : k.val % 18 = 0) (h0 : k.val = 0) (hT : k.val + 1 < T) (hj : k.val / 18 < NB - 1),
      trip_first.sl.r_1 k hj = w5 (k.val + 1) ∧ trip_first.sl.v240_r0 k = w6 (k.val + 1) ∧ trip_first.sl.r k hj = w7 (k.val + 1) ∧ 0#32 = w8 (k.val + 1) ∧ trip_first.sl.v154_r0 k = w9 (k.val + 1)
        ∧ trip_first.sl.v244_r0 k = w10 (k.val + 1) ∧ trip_first.sl.v214_r0 k = w11 (k.val + 1) ∧ trip_first.sl.v236_r0 k = w12 (k.val + 1) ∧ trip_first.sl.v252_r0 k = w13 (k.val + 1) ∧ trip_first.sl.v248_r0 k = w14 (k.val + 1) := by decide +kernel
  obtain ⟨e1, e2, e3, e4, e5, e6, e7, e8, e9, e10⟩ := ew k hi h0 hT hj
  have er : k0_pay1 (trip_first.sl.v254_r0 c XW k c3 d6) = wtR c XW (Ring.bk NB (k.val / 18)) := by
    unfold trip_first.sl.v254_r0
    exact block_store c XW (off17_k k) _ _ _ (View.read_writes_whole _ _ _)
  have es : sM.view.read (Elt F) (sM.view.writes (Elt F) fs (trip_first.sl.Hs_1 c XW k c3 d6)) = wtR c XW (Ring.bk NB (k.val / 18)) := by
    unfold trip_first.sl.Hs_1
    exact (View.read_writes_full _ _ _ _ _).trans er
  have el : trip_first.sl.v190_r0 c XW k c3 d6 = wtR c XW (Ring.bk NB (k.val / 18)) := by
    unfold trip_first.sl.v190_r0 trip_first.sl.Hs_1
    exact (View.readCov_full _ _ _ _ _).trans er
  have ev : trip_first.sl.dma7 c XA XW k fo c5 c4 c3 d6 = tileV c XA XW (Ring.bk T k.val) := by
    unfold trip_first.sl.dma7 trip_first.sl.Hos_w1 trip_first.sl.v188_r0
    exact tile_store c XA XW k (off19_k k) (off18_k k) _ _ _ _ _ (View.read_writes_whole _ _ _) el
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hwf]
  · iexists _; iexact Hwf
  isplitl [Hw]
  · iexact Hw
  isplitl [Hw_dst]
  · iexists _; iexact Hw_dst
  isplitl [Hw_src]
  · iexact Hw_src
  isplitl [Hs]
  · iexists _; isplitl [Hs]; · iexact Hs
    ipureintro; exact es
  iapply (inO_of c XA XW O0 ev _); iexact Hoc

/-- The first trip of a later column block, but the last block. -/
theorem trip_new (k : K) (hi : k.val % 18 = 0) (h0 : ¬ k.val = 0) (hT : k.val + 1 < T) (hj : k.val / 18 < NB - 1) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ inW c XW (Ring.sl 2 (k.val / 18)) (Ring.bk NB (k.val / 18)) ∗ (∃ f, sP c f) ∗ frW c (Ring.sl 2 (k.val / 18 + 1)) ∗ wtP c XW (Ring.bk NB (k.val / 18 + 1)) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ inW c XW (Ring.sl 2 (k.val / 18 + 1)) (Ring.bk NB (k.val / 18 + 1)) ∗ wcellP c (Ring.sl 2 (k.val / 18)) ∗ (∃ f, wslotP c (Ring.sl 2 (k.val / 18)) f) ∗ wtP c XW (Ring.bk NB (k.val / 18)) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨Hac, %fa', Has⟩, Hact, ⟨%fw, Hw⟩, ⟨%fs, Hs⟩, ⟨Hwc, %fw', Hws⟩, Hwt, ⟨%fo', Ho⟩, ⟨Hoc, %fo, Hos⟩, Ht⟩
  have c5 := chk5_k k; have c4 := chk4_k k; have c3 := chk3_k k; have d4 := cond4_pos k; have d9 := cond9_pos k
  have d2 := cond2_pos k hT; have d3 := cond3_pos k hi; have d6 := cond6_pos k hi; have d12 := cond12_pos k h0
  unfold words trip
  sl_unfold [k0_t1_body]
  sl_exec
  iapply (call_trip c k none 18 (fun _ h => nomatch h))
  iapply (look_next_of c XW k ⟨k.val / 18, hj⟩ fw' _ _ _ _ _ _ _ (at_j k hi))
  isplitl [HO]; · iexists _; iexact HO
  isplitl [Hwc]; · iexact Hwc
  isplitl [Hws]; · iexact Hws
  isplitl [Hwt]; · iexact Hwt
  iintro ⟨%W', HO⟩ Hwf
  sl_exec
  have ew : ∀ (k : K) (hi : k.val % 18 = 0) (h0 : ¬ k.val = 0) (hT : k.val + 1 < T) (hj : k.val / 18 < NB - 1),
      trip_new.sl.r_1 k hj = w5 (k.val + 1) ∧ trip_new.sl.v240_r0 k = w6 (k.val + 1) ∧ trip_new.sl.r k hj = w7 (k.val + 1) ∧ 0#32 = w8 (k.val + 1) ∧ trip_new.sl.v154_r0 k = w9 (k.val + 1)
        ∧ trip_new.sl.v244_r0 k = w10 (k.val + 1) ∧ trip_new.sl.v214_r0 k = w11 (k.val + 1) ∧ trip_new.sl.v236_r0 k = w12 (k.val + 1) ∧ trip_new.sl.v252_r0 k = w13 (k.val + 1) ∧ trip_new.sl.v248_r0 k = w14 (k.val + 1) := by decide +kernel
  obtain ⟨e1, e2, e3, e4, e5, e6, e7, e8, e9, e10⟩ := ew k hi h0 hT hj
  have er : k0_pay1 (trip_new.sl.v254_r0 c XW k c3 d6) = wtR c XW (Ring.bk NB (k.val / 18)) := by
    unfold trip_new.sl.v254_r0
    exact block_store c XW (off17_k k) _ _ _ (View.read_writes_whole _ _ _)
  have es : sM.view.read (Elt F) (sM.view.writes (Elt F) fs (trip_new.sl.Hs_1 c XW k c3 d6)) = wtR c XW (Ring.bk NB (k.val / 18)) := by
    unfold trip_new.sl.Hs_1
    exact (View.read_writes_full _ _ _ _ _).trans er
  have el : trip_new.sl.v190_r0 c XW k c3 d6 = wtR c XW (Ring.bk NB (k.val / 18)) := by
    unfold trip_new.sl.v190_r0 trip_new.sl.Hs_1
    exact (View.readCov_full _ _ _ _ _).trans er
  have ev : trip_new.sl.dma7 c XA XW k fo c5 c4 c3 d6 = tileV c XA XW (Ring.bk T k.val) := by
    unfold trip_new.sl.dma7 trip_new.sl.Hos_w1 trip_new.sl.v188_r0
    exact tile_store c XA XW k (off19_k k) (off18_k k) _ _ _ _ _ (View.read_writes_whole _ _ _) el
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hwf]
  · iexists _; iexact Hwf
  isplitl [Hw]
  · iexact Hw
  isplitl [Hw_dst]
  · iexists _; iexact Hw_dst
  isplitl [Hw_src]
  · iexact Hw_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

/-- The first trip of the last column block. -/
theorem trip_newlast (k : K) (hi : k.val % 18 = 0) (h0 : ¬ k.val = 0) (hT : k.val + 1 < T) (hj : k.val / 18 = NB - 1) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ inW c XW (Ring.sl 2 (k.val / 18)) (Ring.bk NB (k.val / 18)) ∗ (∃ f, sP c f) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ wcellP c (Ring.sl 2 (k.val / 18)) ∗ (∃ f, wslotP c (Ring.sl 2 (k.val / 18)) f) ∗ wtP c XW (Ring.bk NB (k.val / 18)) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨Hac, %fa', Has⟩, Hact, ⟨%fw, Hw⟩, ⟨%fs, Hs⟩, ⟨%fo', Ho⟩, ⟨Hoc, %fo, Hos⟩, Ht⟩
  have c5 := chk5_k k; have c4 := chk4_k k; have c3 := chk3_k k; have d4 := cond4_pos k; have d9 := cond9_pos k
  have d2 := cond2_pos k hT; have d3 := cond3_pos k hi; have d6 := cond6_pos k hi; have d12 := cond12_pos k h0
  unfold words trip
  sl_unfold [k0_t1_body]
  sl_exec
  iapply (call_trip c k none 18 (fun _ h => nomatch h))
  iapply (look_last_of c k _ _ _ _ _ _ _ (at_last k hi hj))
  sl_exec
  have ew : ∀ (k : K) (hi : k.val % 18 = 0) (h0 : ¬ k.val = 0) (hT : k.val + 1 < T) (hj : k.val / 18 = NB - 1),
      BitVec.ofNat 32 NB = w5 (k.val + 1) ∧ trip_newlast.sl.v240_r0 k = w6 (k.val + 1) ∧ BitVec.ofNat 32 (NB - 1) = w7 (k.val + 1) ∧ 17#32 = w8 (k.val + 1) ∧ trip_newlast.sl.v154_r0 k = w9 (k.val + 1)
        ∧ trip_newlast.sl.v244_r0 k = w10 (k.val + 1) ∧ trip_newlast.sl.v214_r0 k = w11 (k.val + 1) ∧ trip_newlast.sl.v236_r0 k = w12 (k.val + 1) ∧ trip_newlast.sl.v252_r0 k = w13 (k.val + 1) ∧ trip_newlast.sl.v248_r0 k = w14 (k.val + 1) := by decide +kernel
  obtain ⟨e1, e2, e3, e4, e5, e6, e7, e8, e9, e10⟩ := ew k hi h0 hT hj
  have er : k0_pay1 (trip_newlast.sl.v254_r0 c XW k c3 d6) = wtR c XW (Ring.bk NB (k.val / 18)) := by
    unfold trip_newlast.sl.v254_r0
    exact block_store c XW (off17_k k) _ _ _ (View.read_writes_whole _ _ _)
  have es : sM.view.read (Elt F) (sM.view.writes (Elt F) fs (trip_newlast.sl.Hs_1 c XW k c3 d6)) = wtR c XW (Ring.bk NB (k.val / 18)) := by
    unfold trip_newlast.sl.Hs_1
    exact (View.read_writes_full _ _ _ _ _).trans er
  have el : trip_newlast.sl.v190_r0 c XW k c3 d6 = wtR c XW (Ring.bk NB (k.val / 18)) := by
    unfold trip_newlast.sl.v190_r0 trip_newlast.sl.Hs_1
    exact (View.readCov_full _ _ _ _ _).trans er
  have ev : trip_newlast.sl.dma7 c XA XW k fo c5 c4 c3 d6 = tileV c XA XW (Ring.bk T k.val) := by
    unfold trip_newlast.sl.dma7 trip_newlast.sl.Hos_w1 trip_newlast.sl.v188_r0
    exact tile_store c XA XW k (off19_k k) (off18_k k) _ _ _ _ _ (View.read_writes_whole _ _ _) el
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hw]
  · iexact Hw
  isplitl [Hw_dst]
  · iexists _; iexact Hw_dst
  isplitl [Hw_src]
  · iexact Hw_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

/-- The last trip. -/
theorem trip_end (k : K) (hi : ¬ k.val % 18 = 0) (h0 : ¬ k.val = 0) (hT : ¬ k.val + 1 < T) :
    iprop((∃ W, owes (c : Thread nD τ) 0 W) ∗ inA c XA (Ring.sl 2 k.val) (Ring.bk 18 k.val) ∗ sIs c XW (Ring.bk NB (k.val / 18)) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ acellP c (Ring.sl 2 k.val) ∗ (∃ f, aslotP c (Ring.sl 2 k.val) f) ∗ actP c XA (Ring.bk 18 k.val) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨%fs, Hs, %hfs⟩, ⟨%fo', Ho⟩, ⟨Hoc, %fo, Hos⟩, Ht⟩
  have c5 := chk5_k k; have c4 := chk4_k k; have c3 := chk3_k k; have d4 := cond4_pos k; have d9 := cond9_pos k
  have d2 := cond2_neg k hT; have d3 := cond3_neg k hi; have d6 := cond6_neg k hi; have d12 := cond12_pos k h0
  unfold words trip
  sl_unfold [k0_t1_body]
  sl_exec
  iapply (call_trip c k none 0 (fun _ h => nomatch h))
  iapply (look_exit c k _ (some 0) _ _ _ _ _ (stop_k k hi))
  sl_exec
  have ew : ∀ (k : K) (hi : ¬ k.val % 18 = 0) (h0 : ¬ k.val = 0) (hT : ¬ k.val + 1 < T),
      trip_end.sl.r_2 k = w5 (k.val + 1) ∧ trip_end.sl.v240_r0 k = w6 (k.val + 1) ∧ trip_end.sl.r k = w7 (k.val + 1) ∧ trip_end.sl.r_1 k = w8 (k.val + 1) ∧ trip_end.sl.v154_r0 k = w9 (k.val + 1)
        ∧ trip_end.sl.v244_r0 k = w10 (k.val + 1) ∧ trip_end.sl.v214_r0 k = w11 (k.val + 1) ∧ trip_end.sl.v236_r0 k = w12 (k.val + 1) ∧ trip_end.sl.v252_r0 k = w13 (k.val + 1) ∧ trip_end.sl.v248_r0 k = w14 (k.val + 1) := by decide +kernel
  obtain ⟨e1, e2, e3, e4, e5, e6, e7, e8, e9, e10⟩ := ew k hi h0 hT
  have es : sM.view.read (Elt F) fs = wtR c XW (Ring.bk NB (k.val / 18)) := hfs
  have ev : trip_end.sl.dma4 c XA k fs fo c5 c4 = tileV c XA XW (Ring.bk T k.val) := by
    unfold trip_end.sl.dma4 trip_end.sl.Hos_w1 trip_end.sl.v188_r0
    exact tile_store c XA XW k (off19_k k) (off18_k k) _ _ _ _ _ (View.read_writes_whole _ _ _) ((View.readAt_full _ _ _).trans es)
  sl_step
  isplitr; · ipureintro; exact words_eq e1 e2 e3 e4 e5 e6 e7 e8 e9 e10
  isplitl [HO]
  · iexists _; iexact HO
  isplitl [Ha]
  · iexact Ha
  isplitl [Ha_dst]
  · iexists _; iexact Ha_dst
  isplitl [Ha_src]
  · iexact Ha_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

end

end Cert.Proof.R0

end
-- ==== Proof.Loop0.lean ====
/-
  The first column range's loop: what is held before each trip, and that a trip keeps it.

  Then its slots, weight blocks and tiles as sets of elements of the buffers they are cut from.
-/
module

public import proofs.«01_k».proof.Proof.Trip0
public import Idealize.ShloMosaic.Lib.Ring
public import Idealize.ShloMosaic.Lib.ValueIdx

@[expose] public section

noncomputable section

namespace Cert.Proof.R0

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (XA : Buf (Elt F) (aM.view.loc (c : Thread nD τ))) (XW : Buf (Elt F) (wM.view.loc (c : Thread nD τ)))
  (O0 : Buf (Elt F) (oM.view.loc (c : Thread nD τ))) (v29 : BitVec 32)

/-- The scratch before trip `k`: inside a column block it holds the rounded block. -/
def scratch (k : ℕ) : sProp 𝕄 := if k % 18 = 0 then iprop(∃ f, sP c f) else sIs c XW (Ring.bk NB (k / 18))
/-- The finished tiles other than the last, and the tiles after trip `k`'s. -/
abbrev tiles (k : ℕ) : sProp 𝕄 := iprop(bigSep (Ring.rangeSet T 0 (k - 1)) (doneP c XA XW) ∗ bigSep (Ring.rangeSet T (k + 1) T) (fun t => tileP c t O0))
/-- The output side before trip `k`: from the second trip on the last tile is on its way. -/
def output (k : ℕ) : sProp 𝕄 :=
  iprop((if k = 0 then frO c (Ring.sl 2 (k + 1)) else inO c XA XW O0 (Ring.sl 2 (k + 1)) (Ring.bk T (k - 1))) ∗ frO c (Ring.sl 2 k)
    ∗ bigSep (Ring.rangeSet T 0 (k - 1)) (doneP c XA XW) ∗ bigSep (Ring.rangeSet T k T) (fun t => tileP c t O0))
/-- What is held before trip `k`. -/
def inv (k : ℕ) (acc : Words) : sProp 𝕄 :=
  iprop(⌜acc = words k⌝ ∗ (∃ W, owes (c : Thread nD τ) 0 W) ∗ turns (inA c XA) (frA c) (actP c XA) T k
    ∗ turns (inW c XW) (frW c) (wtP c XW) NB ((k + 17) / 18) ∗ scratch c XW k ∗ output c XA XW O0 k)

theorem scratch_next (k : ℕ) : sIs c XW (Ring.bk NB (k / 18)) ⊢ scratch c XW (k + 1) := by
  unfold scratch
  split
  · iintro ⟨%f, H, -⟩; iexists f; iexact H
  · rename_i h; rw [show (k + 1) / 18 = k / 18 by omega]

theorem bk_T {k : ℕ} (h : k < T) : Ring.bk T k = ⟨k, h⟩ := Fin.ext (Nat.mod_eq_of_lt h)

theorem tiles_split (k : ℕ) (hk : k < T) :
    bigSep (Ring.rangeSet T k T) (fun t => tileP (F := F) c t O0) = iprop(tileP c (Ring.bk T k) O0 ∗ bigSep (Ring.rangeSet T (k + 1) T) (fun t => tileP c t O0)) := by
  rw [Ring.bigSep_rangeSet_head hk hk, bk_T hk]

theorem output_first (k : ℕ) (hk : k < T) (h0 : k = 0) :
    output c XA XW O0 k = iprop(frO c (Ring.sl 2 (k + 1)) ∗ frO c (Ring.sl 2 k) ∗ bigSep (Ring.rangeSet T 0 (k - 1)) (doneP c XA XW)
      ∗ tileP c (Ring.bk T k) O0 ∗ bigSep (Ring.rangeSet T (k + 1) T) (fun t => tileP c t O0)) := by
  unfold output; rw [if_pos h0, tiles_split c O0 k hk]

theorem output_open (k : ℕ) (hk : k < T) (h0 : ¬ k = 0) :
    output c XA XW O0 k = iprop(inO c XA XW O0 (Ring.sl 2 (k + 1)) (Ring.bk T (k - 1)) ∗ frO c (Ring.sl 2 k) ∗ bigSep (Ring.rangeSet T 0 (k - 1)) (doneP c XA XW)
      ∗ tileP c (Ring.bk T k) O0 ∗ bigSep (Ring.rangeSet T (k + 1) T) (fun t => tileP c t O0)) := by
  unfold output; rw [if_neg h0, tiles_split c O0 k hk]

theorem output_first_next (k : ℕ) (h0 : k = 0) :
    output c XA XW O0 (k + 1) = iprop(inO c XA XW O0 (Ring.sl 2 k) (Ring.bk T k) ∗ frO c (Ring.sl 2 (k + 1)) ∗ bigSep (Ring.rangeSet T 0 (k - 1)) (doneP c XA XW)
      ∗ bigSep (Ring.rangeSet T (k + 1) T) (fun t => tileP c t O0)) := by
  subst h0; rfl

theorem output_next (k : ℕ) (hk : k < T) (h0 : ¬ k = 0) :
    output c XA XW O0 (k + 1) = iprop(inO c XA XW O0 (Ring.sl 2 k) (Ring.bk T k) ∗ frO c (Ring.sl 2 (k + 1))
      ∗ (doneP c XA XW (Ring.bk T (k - 1)) ∗ bigSep (Ring.rangeSet T 0 (k - 1)) (doneP c XA XW)) ∗ bigSep (Ring.rangeSet T (k + 1) T) (fun t => tileP c t O0)) := by
  unfold output
  rw [if_neg (Nat.succ_ne_zero k), sl_two, Nat.add_sub_cancel, Ring.bigSep_rangeSet_last (lo := 0) (hi := k) (by omega) (by omega), bk_T (show k - 1 < T by omega)]

theorem scratch_any (k : ℕ) (h : k % 18 = 0) : scratch c XW k = iprop(∃ f, sP c f) := if_pos h
theorem scratch_is (k : ℕ) (h : ¬ k % 18 = 0) : scratch c XW k = sIs c XW (Ring.bk NB (k / 18)) := if_neg h

theorem step_mid (k : K) (hk : k.val < T) (hi : ¬ k.val % 18 = 0) (h0 : ¬ k.val = 0) (hT : k.val + 1 < T) :
    inv c XA XW O0 k.val (words k.val) ⊢ wp frame (wpE (defs₀ (F := F)) 𝒱₀ (c : Thread nD τ) none) Set.univ (trip v29 k (words k.val)) (inv c XA XW O0 (k.val + 1)) := by
  have hk' : k.val < 288 := hk
  unfold inv
  rw [turns_open (inA c XA) (frA c) (actP c XA) (by decide) T k.val hT,
    turns_close (inA c XA) (frA c) (actP c XA) (by decide) T k.val hT,
    show (k.val + 1 + 17) / 18 = (k.val + 17) / 18 by omega,
    scratch_is c XW k.val hi,
    output_open c XA XW O0 k.val hk h0,
    output_next c XA XW O0 k.val hk h0]
  iintro ⟨-, HO, ⟨HA1, ⟨HA2, HA3⟩, HA4, HA5⟩, HW, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HS Ho1 Ho2 Ht]
  · iapply (trip_mid c XA XW O0 v29 k hi h0 hT)
    isplitl [HO]; · iexact HO
    isplitl [HA1]; · iexact HA1
    isplitl [HA2 HA3]
    · isplitl [HA2]; · iexact HA2
      iexact HA3
    isplitl [HA4]; · iexact HA4
    isplitl [HS]; · iexact HS
    isplitl [Ho1]; · iexact Ho1
    isplitl [Ho2]; · iexact Ho2
    iexact Ht
  iintro %acc ⟨%e, HO, A1, A2, A3, A4, S, O1, O2, O3, D⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [HW]
  · iexact HW
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

theorem step_first (k : K) (hk : k.val < T) (hi : k.val % 18 = 0) (h0 : k.val = 0) (hT : k.val + 1 < T) (hj : k.val / 18 < NB - 1) :
    inv c XA XW O0 k.val (words k.val) ⊢ wp frame (wpE (defs₀ (F := F)) 𝒱₀ (c : Thread nD τ) none) Set.univ (trip v29 k (words k.val)) (inv c XA XW O0 (k.val + 1)) := by
  have hk' : k.val < 288 := hk
  have hj' : k.val / 18 < 16 - 1 := hj
  unfold inv
  rw [turns_open (inA c XA) (frA c) (actP c XA) (by decide) T k.val hT,
    turns_close (inA c XA) (frA c) (actP c XA) (by decide) T k.val hT,
    show (k.val + 17) / 18 = k.val / 18 by omega,
    show (k.val + 1 + 17) / 18 = k.val / 18 + 1 by omega,
    scratch_any c XW k.val hi,
    turns_open (inW c XW) (frW c) (wtP c XW) (by decide) NB (k.val / 18) (by omega),
    turns_close (inW c XW) (frW c) (wtP c XW) (by decide) NB (k.val / 18) (by omega),
    output_first c XA XW O0 k.val hk h0,
    output_first_next c XA XW O0 k.val h0]
  iintro ⟨-, HO, ⟨HA1, ⟨HA2, HA3⟩, HA4, HA5⟩, ⟨HW1, ⟨HW2, HW3⟩, HW4, HW5⟩, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HW1 HS HW2 HW3 HW4 Ho2 Ht]
  · iapply (trip_first c XA XW O0 v29 k hi h0 hT hj)
    isplitl [HO]; · iexact HO
    isplitl [HA1]; · iexact HA1
    isplitl [HA2 HA3]
    · isplitl [HA2]; · iexact HA2
      iexact HA3
    isplitl [HA4]; · iexact HA4
    isplitl [HW1]; · iexact HW1
    isplitl [HS]; · iexact HS
    isplitl [HW2 HW3]
    · isplitl [HW2]; · iexact HW2
      iexact HW3
    isplitl [HW4]; · iexact HW4
    isplitl [Ho2]; · iexact Ho2
    iexact Ht
  iintro %acc ⟨%e, HO, A1, A2, A3, A4, W1, W2, W3, W4, S, O1⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [W1 W2 W3 W4 HW5]
  · isplitl [W1]; · iexact W1
    isplitl [W2 W3]
    · isplitl [W2]; · iexact W2
      iexact W3
    isplitl [W4]; · iexact W4
    iexact HW5
  isplitl [S]; · iapply (scratch_next c XW k.val); iexact S
  isplitl [O1]; · iexact O1
  isplitl [Ho1]; · iexact Ho1
  isplitl [Hd]; · iexact Hd
  iexact Hr

theorem step_new (k : K) (hk : k.val < T) (hi : k.val % 18 = 0) (h0 : ¬ k.val = 0) (hT : k.val + 1 < T) (hj : k.val / 18 < NB - 1) :
    inv c XA XW O0 k.val (words k.val) ⊢ wp frame (wpE (defs₀ (F := F)) 𝒱₀ (c : Thread nD τ) none) Set.univ (trip v29 k (words k.val)) (inv c XA XW O0 (k.val + 1)) := by
  have hk' : k.val < 288 := hk
  have hj' : k.val / 18 < 16 - 1 := hj
  unfold inv
  rw [turns_open (inA c XA) (frA c) (actP c XA) (by decide) T k.val hT,
    turns_close (inA c XA) (frA c) (actP c XA) (by decide) T k.val hT,
    show (k.val + 17) / 18 = k.val / 18 by omega,
    show (k.val + 1 + 17) / 18 = k.val / 18 + 1 by omega,
    scratch_any c XW k.val hi,
    turns_open (inW c XW) (frW c) (wtP c XW) (by decide) NB (k.val / 18) (by omega),
    turns_close (inW c XW) (frW c) (wtP c XW) (by decide) NB (k.val / 18) (by omega),
    output_open c XA XW O0 k.val hk h0,
    output_next c XA XW O0 k.val hk h0]
  iintro ⟨-, HO, ⟨HA1, ⟨HA2, HA3⟩, HA4, HA5⟩, ⟨HW1, ⟨HW2, HW3⟩, HW4, HW5⟩, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HW1 HS HW2 HW3 HW4 Ho1 Ho2 Ht]
  · iapply (trip_new c XA XW O0 v29 k hi h0 hT hj)
    isplitl [HO]; · iexact HO
    isplitl [HA1]; · iexact HA1
    isplitl [HA2 HA3]
    · isplitl [HA2]; · iexact HA2
      iexact HA3
    isplitl [HA4]; · iexact HA4
    isplitl [HW1]; · iexact HW1
    isplitl [HS]; · iexact HS
    isplitl [HW2 HW3]
    · isplitl [HW2]; · iexact HW2
      iexact HW3
    isplitl [HW4]; · iexact HW4
    isplitl [Ho1]; · iexact Ho1
    isplitl [Ho2]; · iexact Ho2
    iexact Ht
  iintro %acc ⟨%e, HO, A1, A2, A3, A4, W1, W2, W3, W4, S, O1, O2, O3, D⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [W1 W2 W3 W4 HW5]
  · isplitl [W1]; · iexact W1
    isplitl [W2 W3]
    · isplitl [W2]; · iexact W2
      iexact W3
    isplitl [W4]; · iexact W4
    iexact HW5
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

theorem step_newlast (k : K) (hk : k.val < T) (hi : k.val % 18 = 0) (h0 : ¬ k.val = 0) (hT : k.val + 1 < T) (hj : k.val / 18 = NB - 1) :
    inv c XA XW O0 k.val (words k.val) ⊢ wp frame (wpE (defs₀ (F := F)) 𝒱₀ (c : Thread nD τ) none) Set.univ (trip v29 k (words k.val)) (inv c XA XW O0 (k.val + 1)) := by
  have hk' : k.val < 288 := hk
  have hj' : k.val / 18 = 16 - 1 := hj
  unfold inv
  rw [turns_open (inA c XA) (frA c) (actP c XA) (by decide) T k.val hT,
    turns_close (inA c XA) (frA c) (actP c XA) (by decide) T k.val hT,
    show (k.val + 17) / 18 = k.val / 18 by omega,
    show (k.val + 1 + 17) / 18 = k.val / 18 + 1 by omega,
    scratch_any c XW k.val hi,
    turns_last (inW c XW) (frW c) (wtP c XW) NB (k.val / 18) (by omega),
    turns_done (inW c XW) (frW c) (wtP c XW) NB (k.val / 18) (by omega),
    output_open c XA XW O0 k.val hk h0,
    output_next c XA XW O0 k.val hk h0]
  iintro ⟨-, HO, ⟨HA1, ⟨HA2, HA3⟩, HA4, HA5⟩, ⟨HW1, HW2, HW5⟩, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HW1 HS Ho1 Ho2 Ht]
  · iapply (trip_newlast c XA XW O0 v29 k hi h0 hT hj)
    isplitl [HO]; · iexact HO
    isplitl [HA1]; · iexact HA1
    isplitl [HA2 HA3]
    · isplitl [HA2]; · iexact HA2
      iexact HA3
    isplitl [HA4]; · iexact HA4
    isplitl [HW1]; · iexact HW1
    isplitl [HS]; · iexact HS
    isplitl [Ho1]; · iexact Ho1
    isplitl [Ho2]; · iexact Ho2
    iexact Ht
  iintro %acc ⟨%e, HO, A1, A2, A3, A4, W2, W3, W4, S, O1, O2, O3, D⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [HW2 W2 W3 W4 HW5]
  · isplitl [HW2]; · iexact HW2
    isplitl [W2 W3]
    · isplitl [W2]; · iexact W2
      iexact W3
    isplitl [W4]; · iexact W4
    iexact HW5
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

theorem step_end (k : K) (hk : k.val < T) (hi : ¬ k.val % 18 = 0) (h0 : ¬ k.val = 0) (hT : ¬ k.val + 1 < T) :
    inv c XA XW O0 k.val (words k.val) ⊢ wp frame (wpE (defs₀ (F := F)) 𝒱₀ (c : Thread nD τ) none) Set.univ (trip v29 k (words k.val)) (inv c XA XW O0 (k.val + 1)) := by
  have hk' : k.val < 288 := hk
  have hT' : k.val + 1 = T := Nat.le_antisymm hk (Nat.not_lt.mp hT)
  unfold inv
  rw [turns_last (inA c XA) (frA c) (actP c XA) T k.val hT',
    turns_done (inA c XA) (frA c) (actP c XA) T k.val hT',
    show (k.val + 1 + 17) / 18 = (k.val + 17) / 18 by omega,
    scratch_is c XW k.val hi,
    output_open c XA XW O0 k.val hk h0,
    output_next c XA XW O0 k.val hk h0]
  iintro ⟨-, HO, ⟨HA1, HA2, HA5⟩, HW, HS, Ho1, Ho2, Hd, Ht, Hr⟩
  iapply (wp_wand_r Idealize.ShloMosaic.frame (wpE (defs₀ (F := F)) 𝒱₀ (c : Thread nD τ) none) Set.univ)
  isplitl [HO HA1 HS Ho1 Ho2 Ht]
  · iapply (trip_end c XA XW O0 v29 k hi h0 hT)
    isplitl [HO]; · iexact HO
    isplitl [HA1]; · iexact HA1
    isplitl [HS]; · iexact HS
    isplitl [Ho1]; · iexact Ho1
    isplitl [Ho2]; · iexact Ho2
    iexact Ht
  iintro %acc ⟨%e, HO, A2, A3, A4, S, O1, O2, O3, D⟩
  isplitr; · ipureintro; exact e
  isplitl [HO]; · iexact HO
  isplitl [HA2 A2 A3 A4 HA5]
  · isplitl [HA2]; · iexact HA2
    isplitl [A2 A3]
    · isplitl [A2]; · iexact A2
      iexact A3
    isplitl [A4]; · iexact A4
    iexact HA5
  isplitl [HW]
  · iexact HW
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

/-- A trip keeps what is held. -/
theorem step (k : K) (acc : Words) :
    inv c XA XW O0 k.val acc ⊢ wp frame (wpE (defs₀ (F := F)) 𝒱₀ (c : Thread nD τ) none) Set.univ (trip v29 k acc) (inv c XA XW O0 (k.val + 1)) := by
  have hk : k.val < T := trips_eq ▸ k.isLt
  have hT : k.val < 288 := hk
  by_cases e : acc = words k.val
  · subst e
    by_cases hi : k.val % 18 = 0
    · have h1 : k.val + 1 < T := by show k.val + 1 < 288; omega
      by_cases h0 : k.val = 0
      · exact step_first c XA XW O0 v29 k hk hi h0 h1 (by show k.val / 18 < 16 - 1; omega)
      · by_cases hj : k.val / 18 < NB - 1
        · exact step_new c XA XW O0 v29 k hk hi h0 h1 hj
        · have hj' : ¬ k.val / 18 < 16 - 1 := hj
          exact step_newlast c XA XW O0 v29 k hk hi h0 h1 (by show k.val / 18 = 16 - 1; omega)
    · have h0 : ¬ k.val = 0 := fun h => hi (by rw [h])
      by_cases h1 : k.val + 1 < T
      · exact step_mid c XA XW O0 v29 k hk hi h0 h1
      · exact step_end c XA XW O0 v29 k hk hi h0 h1
  · unfold inv; iintro ⟨%e', -⟩; exact absurd e' e

end

/-! ## Entering the loop and leaving it -/

section
variable (c : Dev nD) (XA : Buf (Elt F) (aM.view.loc (c : Thread nD τ))) (XW : Buf (Elt F) (wM.view.loc (c : Thread nD τ)))
  (O0 : Buf (Elt F) (oM.view.loc (c : Thread nD τ)))

/-- Both prologue transfers sent, the rest at rest: the loop may begin. -/
theorem enter :
    iprop((∃ W, owes (c : Thread nD τ) 0 W) ∗ inA c XA 0 0 ∗ frA c 1 ∗ bigSep (Finset.univ.erase 0) (actP c XA)
        ∗ inW c XW 0 0 ∗ frW c 1 ∗ bigSep (Finset.univ.erase 0) (wtP c XW) ∗ (∃ f, sP c f) ∗ frO c 0 ∗ frO c 1 ∗ bigSep Finset.univ (fun t => tileP c t O0))
      ⊢ inv c XA XW O0 0 (words 0) := by
  unfold inv output
  rw [show (0 + 17) / 18 = 0 from rfl, turns_start (inA c XA) (frA c) (actP c XA) T (by decide), turns_start (inW c XW) (frW c) (wtP c XW) NB (by decide), scratch_any c XW 0 rfl, if_pos rfl]
  iintro ⟨HO, A1, A2, A3, W1, W2, W3, S, O1, O2, Ht⟩
  isplitr; · ipureintro; rfl
  isplitl [HO]; · iexact HO
  isplitl [A1 A2 A3]
  · isplitl [A1]; · iexact A1
    isplitl [A2]; · iexact A2
    iexact A3
  isplitl [W1 W2 W3]
  · isplitl [W1]; · iexact W1
    isplitl [W2]; · iexact W2
    iexact W3
  isplitl [S]; · iexact S
  isplitl [O2]; · iexact O2
  isplitl [O1]; · iexact O1
  isplitr
  · irw [Ring.bigSep_rangeSet_empty (lo := 0) (hi := 0 - 1) (Nat.le_refl _)]; iempintro
  irw [Ring.rangeSet_univ]
  iexact Ht

/-- The last trip made: only the last tile is still on its way. -/
theorem leave (k : ℕ) (hk : k = T) (acc : Words) :
    inv c XA XW O0 k acc ⊢ iprop(⌜acc = words T⌝ ∗ (∃ W, owes (c : Thread nD τ) 0 W) ∗ frA c 0 ∗ frA c 1 ∗ bigSep Finset.univ (actP c XA)
      ∗ frW c 0 ∗ frW c 1 ∗ bigSep Finset.univ (wtP c XW) ∗ (∃ f, sP c f) ∗ inO c XA XW O0 1 (Ring.bk T 287) ∗ frO c 0 ∗ bigSep (Ring.rangeSet T 0 287) (doneP c XA XW)) := by
  subst hk
  unfold inv output
  rw [turns_end (inA c XA) (frA c) (actP c XA) T T rfl, turns_end (inW c XW) (frW c) (wtP c XW) NB ((T + 17) / 18) (by decide), scratch_any c XW T rfl, if_neg (by decide)]
  iintro ⟨%e, HO, ⟨A1, A2, A3⟩, ⟨W1, W2, W3⟩, S, O1, O2, D, -⟩
  isplitr; · ipureintro; exact e
  isplitl [HO]; · iexact HO
  isplitl [A1]; · iexact A1
  isplitl [A2]; · iexact A2
  isplitl [A3]; · iexact A3
  isplitl [W1]; · iexact W1
  isplitl [W2]; · iexact W2
  isplitl [W3]; · iexact W3
  isplitl [S]; · iexact S
  isplitl [O1]; · iexact O1
  isplitl [O2]; · iexact O2
  iexact D

/-- With the last tile landed, every tile is done. -/
theorem all_done :
    iprop(doneP c XA XW (Ring.bk T 287) ∗ bigSep (Ring.rangeSet T 0 287) (doneP c XA XW)) = bigSep Finset.univ (doneP c XA XW) := by
  have h := Ring.bigSep_rangeSet_last (Φ := doneP c XA XW) (NB := T) (lo := 0) (hi := T) (by decide) (Nat.le_refl _)
  rw [← Ring.rangeSet_univ, h]; rfl

end

open Idealize.ShloMosaic.ValueIdx

/-! ## Two slots fill a ring -/

theorem wslot_set (s : Fin 2) : (wslot s).view.set = box 1024 4096 s := (View.set_reshape _ _).trans (View.set_slice_whole _ _)
theorem aslot_set (s : Fin 2) : (aslot s).view.set = box 512 4096 s := (View.set_reshape _ _).trans (View.set_slice_whole _ _)
theorem oslot_set (s : Fin 2) : (oslot s).view.set = box 512 1024 s := (View.set_reshape _ _).trans (View.set_slice_whole _ _)

section
variable (c : Dev nD)

theorem wslotP_eq (s : Fin 2) (f) : wslotP c s f = (((c : Thread nD τ).loc cc0_scoped0) ↦[box 1024 4096 s]{fullShare} f : sProp 𝕄) := congrArg (fun S => (_ ↦[S]{fullShare} f : sProp 𝕄)) (wslot_set s)
theorem aslotP_eq (s : Fin 2) (f) : aslotP c s f = (((c : Thread nD τ).loc cc0_scoped2) ↦[box 512 4096 s]{fullShare} f : sProp 𝕄) := congrArg (fun S => (_ ↦[S]{fullShare} f : sProp 𝕄)) (aslot_set s)
theorem oslotP_eq (s : Fin 2) (f) : oslotP c s f = (((c : Thread nD τ).loc cc0_scoped4) ↦[box 512 1024 s]{fullShare} f : sProp 𝕄) := congrArg (fun S => (_ ↦[S]{fullShare} f : sProp 𝕄)) (oslot_set s)

set_option maxRecDepth 20000 in
theorem w_split : iprop(∃ f : Buf (Elt F) ((c : Thread nD τ).loc cc0_scoped0), ((c : Thread nD τ).loc cc0_scoped0) ↦{fullShare} f) ⊢ (iprop((∃ f, wslotP c 0 f) ∗ ∃ f, wslotP c 1 f) : sProp 𝕄) :=
  Ring.slots2_split (ℓ := (c : Thread nD τ).loc cc0_scoped0) (box 1024 4096) box_disjoint box_cover _ _ (wslotP_eq c 0) (wslotP_eq c 1)
set_option maxRecDepth 20000 in
theorem w_join : (iprop((∃ f, wslotP c 0 f) ∗ ∃ f, wslotP c 1 f) : sProp 𝕄) ⊢ iprop(∃ f : Buf (Elt F) ((c : Thread nD τ).loc cc0_scoped0), ((c : Thread nD τ).loc cc0_scoped0) ↦{fullShare} f) :=
  Ring.slots2_join (ℓ := (c : Thread nD τ).loc cc0_scoped0) (box 1024 4096) box_disjoint box_cover _ _ (wslotP_eq c 0) (wslotP_eq c 1)
set_option maxRecDepth 20000 in
theorem a_split : iprop(∃ f : Buf (Elt F) ((c : Thread nD τ).loc cc0_scoped2), ((c : Thread nD τ).loc cc0_scoped2) ↦{fullShare} f) ⊢ (iprop((∃ f, aslotP c 0 f) ∗ ∃ f, aslotP c 1 f) : sProp 𝕄) :=
  Ring.slots2_split (ℓ := (c : Thread nD τ).loc cc0_scoped2) (box 512 4096) box_disjoint box_cover _ _ (aslotP_eq c 0) (aslotP_eq c 1)
set_option maxRecDepth 20000 in
theorem a_join : (iprop((∃ f, aslotP c 0 f) ∗ ∃ f, aslotP c 1 f) : sProp 𝕄) ⊢ iprop(∃ f : Buf (Elt F) ((c : Thread nD τ).loc cc0_scoped2), ((c : Thread nD τ).loc cc0_scoped2) ↦{fullShare} f) :=
  Ring.slots2_join (ℓ := (c : Thread nD τ).loc cc0_scoped2) (box 512 4096) box_disjoint box_cover _ _ (aslotP_eq c 0) (aslotP_eq c 1)
set_option maxRecDepth 20000 in
theorem o_split : iprop(∃ f : Buf (Elt F) ((c : Thread nD τ).loc cc0_scoped4), ((c : Thread nD τ).loc cc0_scoped4) ↦{fullShare} f) ⊢ (iprop((∃ f, oslotP c 0 f) ∗ ∃ f, oslotP c 1 f) : sProp 𝕄) :=
  Ring.slots2_split (ℓ := (c : Thread nD τ).loc cc0_scoped4) (box 512 1024) box_disjoint box_cover _ _ (oslotP_eq c 0) (oslotP_eq c 1)
set_option maxRecDepth 20000 in
theorem o_join : (iprop((∃ f, oslotP c 0 f) ∗ ∃ f, oslotP c 1 f) : sProp 𝕄) ⊢ iprop(∃ f : Buf (Elt F) ((c : Thread nD τ).loc cc0_scoped4), ((c : Thread nD τ).loc cc0_scoped4) ↦{fullShare} f) :=
  Ring.slots2_join (ℓ := (c : Thread nD τ).loc cc0_scoped4) (box 512 1024) box_disjoint box_cover _ _ (oslotP_eq c 0) (oslotP_eq c 1)

end

/-! ## The weight's blocks and the result's tiles -/

/-- The range's first row of the transposed weight, its first column of the result, and its width. -/
abbrev row0 : ℕ := 0
abbrev col0 : ℕ := 0
abbrev width : ℕ := 16384

/-- Where an element of a weight block, or of a tile, lies in the whole. -/
def wtAt (b : Fin NB) (x : S1024x4096.Idx) : S30784x4096.Idx := (wt b).view.emb x
def tileAt (t : Fin T) (x : S512x1024.Idx) : S9216x30720.Idx := (tile t).view.emb x

theorem wt_emb (b : Fin NB) (x : S1024x4096.Idx) :
    (wtAt b x 0).val = row0 + 1024 * b.val + (x 0).val ∧ (wtAt b x 1).val = (x 1).val := by
  constructor
  · show row0 + 1 * (1024 * b.val + 1 * (x 0).val) = _; omega
  · show 0 + 1 * (0 + 1 * (x 1).val) = _; omega
theorem tile_emb (t : Fin T) (x : S512x1024.Idx) :
    (tileAt t x 0).val = 512 * (t.val % 18) + (x 0).val ∧ (tileAt t x 1).val = col0 + 1024 * (t.val / 18) + (x 1).val := by
  constructor
  · show 0 + 1 * (512 * (t.val % 18) + 1 * (x 0).val) = _; omega
  · show col0 + 1 * (1024 * (t.val / 18) + 1 * (x 1).val) = _; omega

/-- Their elements, in the whole buffers. -/
def wtI (b : Fin NB) : Finset S30784x4096.Idx := (wt b).view.set
def tileI (t : Fin T) : Finset S9216x30720.Idx := (tile t).view.set

theorem mem_wt (b : Fin NB) (y : S30784x4096.Idx) : y ∈ wtI b ↔ row0 ≤ (y 0).val ∧ ((y 0).val - row0) / 1024 = b.val := by
  constructor
  · intro h
    obtain ⟨x, -, rfl⟩ := Finset.mem_map.mp h
    have h0 := (wt_emb b x).1
    have hx : (x 0).val < 1024 := (x 0).isLt
    constructor
    · exact le_of_le_of_eq (by omega) h0.symm
    · refine (congrArg (fun n => (n - row0) / 1024) h0).trans ?_
      show (row0 + 1024 * b.val + (x 0).val - row0) / 1024 = _; omega
  · rintro ⟨h1, h2⟩
    have hy : (y 1).val < 4096 := (y 1).isLt
    have hb : (y 0).val - row0 - 1024 * b.val < 1024 := by omega
    refine Finset.mem_map.mpr ⟨ix2 ⟨(y 0).val - row0 - 1024 * b.val, hb⟩ ⟨(y 1).val, hy⟩, Finset.mem_univ _, ?_⟩
    have e := wt_emb b (ix2 ⟨(y 0).val - row0 - 1024 * b.val, hb⟩ ⟨(y 1).val, hy⟩)
    funext a; apply Fin.ext; fin_cases a
    · refine e.1.trans ?_; show row0 + 1024 * b.val + ((y 0).val - row0 - 1024 * b.val) = (y 0).val; omega
    · exact e.2

theorem mem_tile (t : Fin T) (y : S9216x30720.Idx) :
    y ∈ tileI t ↔ (col0 ≤ (y 1).val ∧ ((y 1).val - col0) / 1024 = t.val / 18) ∧ (y 0).val / 512 = t.val % 18 := by
  constructor
  · intro h
    obtain ⟨x, -, rfl⟩ := Finset.mem_map.mp h
    obtain ⟨h0, h1⟩ := tile_emb t x
    have hx : (x 0).val < 512 := (x 0).isLt
    have hx' : (x 1).val < 1024 := (x 1).isLt
    refine ⟨⟨le_of_le_of_eq (by omega) h1.symm, ?_⟩, ?_⟩
    · refine (congrArg (fun n => (n - col0) / 1024) h1).trans ?_
      show (col0 + 1024 * (t.val / 18) + (x 1).val - col0) / 1024 = _; omega
    · refine (congrArg (fun n => n / 512) h0).trans ?_
      show (512 * (t.val % 18) + (x 0).val) / 512 = _; omega
  · rintro ⟨⟨h1, h2⟩, h3⟩
    have ha : (y 0).val - 512 * (t.val % 18) < 512 := by omega
    have hb : (y 1).val - col0 - 1024 * (t.val / 18) < 1024 := by omega
    refine Finset.mem_map.mpr ⟨ix2 ⟨(y 0).val - 512 * (t.val % 18), ha⟩ ⟨(y 1).val - col0 - 1024 * (t.val / 18), hb⟩, Finset.mem_univ _, ?_⟩
    have e := tile_emb t (ix2 ⟨(y 0).val - 512 * (t.val % 18), ha⟩ ⟨(y 1).val - col0 - 1024 * (t.val / 18), hb⟩)
    funext a; apply Fin.ext; fin_cases a
    · refine e.1.trans ?_; show 512 * (t.val % 18) + ((y 0).val - 512 * (t.val % 18)) = (y 0).val; omega
    · refine e.2.trans ?_; show col0 + 1024 * (t.val / 18) + ((y 1).val - col0 - 1024 * (t.val / 18)) = (y 1).val; omega

/-- The weight's rows and the result's columns of the range. -/
def rows : Finset S30784x4096.Idx := Finset.univ.filter fun y => row0 ≤ (y 0).val ∧ (y 0).val < row0 + width
def cols : Finset S9216x30720.Idx := Finset.univ.filter fun y => col0 ≤ (y 1).val ∧ (y 1).val < col0 + width

theorem wt_disjoint (b b' : Fin NB) (h : b ≠ b') : Disjoint (wtI b) (wtI b') := by
  rw [Finset.disjoint_left]; intro y hy hy'
  exact h (Fin.ext (((mem_wt b y).mp hy).2.symm.trans ((mem_wt b' y).mp hy').2))
theorem tile_disjoint (t t' : Fin T) (h : t ≠ t') : Disjoint (tileI t) (tileI t') := by
  rw [Finset.disjoint_left]; intro y hy hy'
  have h1 := (mem_tile t y).mp hy
  have h2 := (mem_tile t' y).mp hy'
  exact h (Fin.ext (by omega))
theorem wt_cover : (Finset.univ : Finset (Fin NB)).biUnion wtI = rows := by
  ext y
  rw [Finset.mem_biUnion, rows, Finset.mem_filter]
  constructor
  · rintro ⟨b, -, hb⟩
    have h := (mem_wt b y).mp hb
    have hb' : b.val < 16 := b.isLt
    refine ⟨Finset.mem_univ _, h.1, ?_⟩
    show (y 0).val < row0 + 16384; omega
  · rintro ⟨-, h1, h2⟩
    have h2' : (y 0).val < row0 + 16384 := h2
    exact ⟨⟨((y 0).val - row0) / 1024, show _ < 16 by omega⟩, Finset.mem_univ _, (mem_wt _ y).mpr ⟨h1, rfl⟩⟩
theorem tile_cover : (Finset.univ : Finset (Fin T)).biUnion tileI = cols := by
  ext y
  rw [Finset.mem_biUnion, cols, Finset.mem_filter]
  have hy : (y 0).val < 9216 := (y 0).isLt
  constructor
  · rintro ⟨t, -, ht⟩
    have h := (mem_tile t y).mp ht
    have ht' : t.val < 288 := t.isLt
    refine ⟨Finset.mem_univ _, h.1.1, ?_⟩
    show (y 1).val < col0 + 16384; omega
  · rintro ⟨-, h1, h2⟩
    have h2' : (y 1).val < col0 + 16384 := h2
    have hq : ((y 1).val - col0) / 1024 < 16 := by omega
    have hp : (y 0).val / 512 < 18 := by omega
    refine ⟨⟨18 * (((y 1).val - col0) / 1024) + (y 0).val / 512, show _ < 288 by omega⟩, Finset.mem_univ _, (mem_tile _ y).mpr ⟨⟨h1, ?_⟩, ?_⟩⟩
    · show _ = (18 * (((y 1).val - col0) / 1024) + (y 0).val / 512) / 18; omega
    · show _ = (18 * (((y 1).val - col0) / 1024) + (y 0).val / 512) % 18; omega

section
variable (c : Dev nD) (XA : Buf (Elt F) (aM.view.loc (c : Thread nD τ))) (XW : Buf (Elt F) (wM.view.loc (c : Thread nD τ)))

theorem rows_eq : (((c : Thread nD τ).loc main_v1) ↦[rows]{fullShare} XW : sProp 𝕄) = bigSep Finset.univ (wtP c XW) :=
  Ring.pointsTo_sub_blocks (ℓ := (c : Thread nD τ).loc main_v1) wtI wt_disjoint rows wt_cover XW
theorem cols_eq (f : Buf (Elt F) (oM.view.loc (c : Thread nD τ))) :
    (((c : Thread nD τ).loc main_v2) ↦[cols]{fullShare} f : sProp 𝕄) = bigSep Finset.univ (fun t => tileP c t f) :=
  Ring.pointsTo_sub_blocks (ℓ := (c : Thread nD τ).loc main_v2) tileI tile_disjoint cols tile_cover f

/-- Any contents whose tiles are the computed ones serve for what the loop left. -/
theorem tile_of (f : Buf (Elt F) (oM.view.loc (c : Thread nD τ))) (t : Fin T) (h : (tile t).view.read (Elt F) f = tileV c XA XW t) : doneP c XA XW t ⊢ tileP c t f := by
  iintro ⟨%g, H, %hg⟩
  have e : tileP c t g = (tileP c t f : sProp 𝕄) := pointsTo_congr (fun i hi => by
    obtain ⟨x, -, rfl⟩ := Finset.mem_map.mp hi
    exact congrFun (hg.trans h.symm) x)
  iapply (entails_of_eq e)
  iexact H
theorem cols_of (f : Buf (Elt F) (oM.view.loc (c : Thread nD τ))) (h : ∀ t, (tile t).view.read (Elt F) f = tileV c XA XW t) :
    bigSep Finset.univ (doneP c XA XW) ⊢ (((c : Thread nD τ).loc main_v2) ↦[cols]{fullShare} f : sProp 𝕄) := by
  rw [cols_eq]
  exact bigSep_mono fun t _ => tile_of c XA XW f t (h t)

end

end Cert.Proof.R0

end
-- ==== Proof.Words1.lean ====
/-
  The carried words of the second column range's pipeline, in closed form.

  The loop of `T = 252` trips visits the pairs (weight block `k / 18`, activation block `k % 18`). The ten carried
  words before trip `k` are numbers that follow from `k` alone (`w5` … `w14`); this module states them, and checks, by
  evaluating the printed chains at each of the trips, what the trip's offsets, conditions, side conditions and next
  words are.
-/
module

public import proofs.«01_k».proof.Defs
public import proofs.«01_k».proof.Proof.Gen.KernelIdeal
public import Idealize.ShloMosaic.Lib.Ring

@[expose] public section

noncomputable section

namespace Cert.Proof.R1

open Cert.KernelIdeal
open Idealize.ShloMosaic Idealize.ShloMosaic.TcCoe

/-- The number of weight blocks and of trips. -/
abbrev NB : ℕ := 14
abbrev T : ℕ := 252

/-- Weight blocks copied in, and waited for, before trip `k`. -/
def w5 (k : ℕ) : BitVec 32 := BitVec.ofNat 32 (if k = 0 then 1 else min NB ((k - 1) / 18 + 2))
def w6 (k : ℕ) : BitVec 32 := BitVec.ofNat 32 (k / 18)
/-- The grid point the lookahead has reached. -/
def w7 (k : ℕ) : BitVec 32 := BitVec.ofNat 32 (if k = 0 then 0 else min (NB - 1) ((k - 1) / 18 + 1))
def w8 (k : ℕ) : BitVec 32 := BitVec.ofNat 32 (if (NB - 1) * 18 < k then 17 else 0)
/-- Activation blocks copied in, and waited for. -/
def w9 (k : ℕ) : BitVec 32 := BitVec.ofNat 32 (min T (k + 1))
def w10 (k : ℕ) : BitVec 32 := BitVec.ofNat 32 k
/-- Result tiles sent out, and waited for. -/
def w11 (k : ℕ) : BitVec 32 := BitVec.ofNat 32 k
def w12 (k : ℕ) : BitVec 32 := BitVec.ofNat 32 (k - 1)
/-- The grid point of the trip. -/
def w13 (k : ℕ) : BitVec 32 := BitVec.ofNat 32 (k / 18 % NB)
def w14 (k : ℕ) : BitVec 32 := BitVec.ofNat 32 (k % 18)

/-- Offsets of a semaphore, of a buffer's slot, of an activation block, of a weight block in its range, of the result
    tile of trip `t` in its range. -/
abbrev semOff (s : Fin 2) : Fin 1 → Nat := ![s.val]
abbrev slotOff (s : Fin 2) : Fin 3 → Nat := ![s.val, 0, 0]
abbrev actOff (b : Fin 18) : Fin 2 → Nat := ![512 * b.val, 0]
abbrev wtOff (b : Fin NB) : Fin 2 → Nat := ![1024 * b.val, 0]
abbrev tileOff (t : Fin T) : Fin 2 → Nat := ![512 * (t.val % 18), 1024 * (t.val / 18)]

abbrev K := Fin k0_t2_loop.trips
theorem trips_eq : k0_t2_loop.trips = T := by decide +kernel

theorem chk12_k : ∀ k : K, k0_chk12 (w11 k) := by decide +kernel
theorem chk11_k : ∀ k : K, k0_chk11 (w10 k) := by decide +kernel
theorem chk10_k : ∀ k : K, k0_chk10 k (w6 k) (w9 k) (w10 k) (w11 k) (w12 k) (w13 k) (w14 k) := by decide +kernel

theorem cond14_pos : ∀ k : K, k.val + 1 < T → k0_cond14 k (w14 k) = 1#1 := by decide +kernel
theorem cond14_neg : ∀ k : K, ¬ k.val + 1 < T → ¬ k0_cond14 k (w14 k) = 1#1 := by decide +kernel
theorem cond15_pos : ∀ k : K, k.val % 18 = 0 → k0_cond15 k (w13 k) (w14 k) = 1#1 := by decide +kernel
theorem cond15_neg : ∀ k : K, ¬ k.val % 18 = 0 → ¬ k0_cond15 k (w13 k) (w14 k) = 1#1 := by decide +kernel
theorem cond16_pos : ∀ k : K, k0_cond16 k (w14 k) = 1#1 := by decide +kernel
theorem cond18_pos : ∀ k : K, k.val % 18 = 0 → k0_cond18 (w14 k) = 1#1 := by decide +kernel
theorem cond18_neg : ∀ k : K, ¬ k.val % 18 = 0 → ¬ k0_cond18 (w14 k) = 1#1 := by decide +kernel
theorem cond21_pos : ∀ k : K, k0_cond21 k (w13 k) (w14 k) = 1#1 := by decide +kernel
theorem cond24_pos : ∀ k : K, ¬ k.val = 0 → k0_cond24 k (w13 k) (w14 k) = 1#1 := by decide +kernel
theorem cond24_neg : ∀ k : K, k.val = 0 → ¬ k0_cond24 k (w13 k) (w14 k) = 1#1 := by decide +kernel

theorem off36_k : ∀ k : K, k.val + 1 < T → k0_off36 (w9 k) = semOff (Ring.sl 2 (k.val + 1)) := by decide +kernel
theorem off37_k : ∀ k : K, k.val + 1 < T → k0_off37 (w9 k) = slotOff (Ring.sl 2 (k.val + 1)) := by decide +kernel
theorem off38_k : ∀ k : K, k0_off38 (w14 k) = actOff (Ring.bk 18 (k.val + 1)) := by decide +kernel
theorem off39_k : ∀ k : K, k0_off39 (w6 k) = semOff (Ring.sl 2 (k.val / 18)) := by decide +kernel
theorem off40_k : ∀ k : K, k0_off40 (w6 k) = slotOff (Ring.sl 2 (k.val / 18)) := by decide +kernel
theorem off41_k : ∀ k : K, k0_off41 (w13 k) = wtOff (Ring.bk NB (k.val / 18)) := by decide +kernel
theorem off42_k : ∀ k : K, k0_off42 (w10 k) = semOff (Ring.sl 2 k.val) := by decide +kernel
theorem off43_k : ∀ k : K, k0_off43 (w10 k) = slotOff (Ring.sl 2 k.val) := by decide +kernel
theorem off44_k : ∀ k : K, k0_off44 (w14 k) = actOff (Ring.bk 18 k.val) := by decide +kernel
theorem off45_k : ∀ k : K, k0_off45 (w6 k) = slotOff (Ring.sl 2 (k.val / 18)) := by decide +kernel
theorem off46_k : ∀ k : K, k0_off46 (w10 k) = slotOff (Ring.sl 2 k.val) := by decide +kernel
theorem off47_k : ∀ k : K, k0_off47 (w11 k) = slotOff (Ring.sl 2 k.val) := by decide +kernel
theorem off48_k : ∀ k : K, k0_off48 (w11 k) = semOff (Ring.sl 2 k.val) := by decide +kernel
theorem off49_k : ∀ k : K, k0_off49 (w13 k) (w14 k) = tileOff (Ring.bk T k.val) := by decide +kernel
theorem off50_k : ∀ k : K, k0_off50 (w11 k) = slotOff (Ring.sl 2 k.val) := by decide +kernel
theorem off51_k : ∀ k : K, ¬ k.val = 0 → k0_off51 (w12 k) = semOff (Ring.sl 2 (k.val + 1)) := by decide +kernel
theorem off52_k : ∀ k : K, ¬ k.val = 0 → k0_off52 (w13 k) (w14 k) = tileOff (Ring.bk T (k.val - 1)) := by decide +kernel
theorem off53_k : ∀ k : K, ¬ k.val = 0 → k0_off53 (w12 k) = slotOff (Ring.sl 2 (k.val + 1)) := by decide +kernel

/-- The lookahead's block `j`, copied when the lookahead comes from block `j - 1`. -/
theorem chk9_j : ∀ j : Fin (NB - 1), k0_chk9 (BitVec.ofNat 32 j.val) (BitVec.ofNat 32 (j.val + 1)) := by decide +kernel
theorem chk8_j : ∀ j : Fin (NB - 1), k0_chk8 (BitVec.ofNat 32 j.val) (BitVec.ofNat 32 (j.val + 1)) (BitVec.ofNat 32 (j.val + 1)) := by decide +kernel
theorem cond13_pos : ∀ j : Fin (NB - 1), k0_cond13 (BitVec.ofNat 32 j.val) (BitVec.ofNat 32 (j.val + 1)) = 1#1 := by decide +kernel
theorem chk9_s : ∀ j : Fin NB, k0_chk9 (BitVec.ofNat 32 j.val) (BitVec.ofNat 32 j.val) := by decide +kernel
theorem chk8_s : ∀ j : Fin NB, k0_chk8 (BitVec.ofNat 32 j.val) (BitVec.ofNat 32 j.val) (BitVec.ofNat 32 (j.val + 1)) := by decide +kernel
theorem cond13_neg : ∀ j : Fin NB, ¬ k0_cond13 (BitVec.ofNat 32 j.val) (BitVec.ofNat 32 j.val) = 1#1 := by decide +kernel
theorem off33_j : ∀ j : Fin (NB - 1), k0_off33 (BitVec.ofNat 32 (j.val + 1)) = semOff (Ring.sl 2 (j.val + 1)) := by decide +kernel
theorem off34_j : ∀ j : Fin (NB - 1), k0_off34 (BitVec.ofNat 32 (j.val + 1)) = slotOff (Ring.sl 2 (j.val + 1)) := by decide +kernel
theorem off35_j : ∀ j : Fin (NB - 1), k0_off35 (BitVec.ofNat 32 (j.val + 1)) = wtOff (Ring.bk NB (j.val + 1)) := by decide +kernel

/-- After the last trip. -/
theorem chk14_T : k0_chk14 (w14 T) (w13 T) := by decide +kernel
theorem chk13_T : k0_chk13 (w12 T) := by decide +kernel
theorem off54_T : k0_off54 (w12 T) = semOff 1 := by decide +kernel
theorem off55_T : k0_off55 (w14 T) (w13 T) = tileOff (Ring.bk T 251) := by decide +kernel
theorem off56_T : k0_off56 (w12 T) = slotOff 1 := by decide +kernel

end Cert.Proof.R1

end
-- ==== Proof.Pieces1.lean ====
/-
  The second column range: its buffers, blocks and tiles under names of their own, and what is held of each.
-/
module

public import proofs.«01_k».proof.Proof.Base
public import proofs.«01_k».proof.Proof.Slots
public import proofs.«01_k».proof.Proof.Words0
public import proofs.«01_k».proof.Proof.Words1

@[expose] public section

noncomputable section

namespace Cert.Proof.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The three rings: two slots each -/

abbrev wR : Memref sig .tc .vmem S2x1024x4096 .f32 := Memref.whole cc0_scoped6
abbrev aR : Memref sig .tc .vmem S2x512x4096 .bf16 := Memref.whole cc0_scoped8
abbrev oR : Memref sig .tc .vmem S2x512x1024 .f32 := Memref.whole cc0_scoped10
abbrev wS : DmaSems sig S2 := cc0_scoped7
abbrev aS : DmaSems sig S2 := cc0_scoped9
abbrev oS : DmaSems sig S2 := cc0_scoped11

theorem sem_inb (s : Fin 2) : ∀ a, semOff s a + S1.size a ≤ S2.size a := by
  have := s.isLt; intro a; fin_cases a; show s.val + 1 ≤ 2; omega
theorem wslot_inb (s : Fin 2) : ∀ a, slotOff s a + S1x1024x4096.size a ≤ S2x1024x4096.size a := slot_inb 1024 4096 s
theorem aslot_inb (s : Fin 2) : ∀ a, slotOff s a + S1x512x4096.size a ≤ S2x512x4096.size a := slot_inb 512 4096 s
theorem oslot_inb (s : Fin 2) : ∀ a, slotOff s a + S1x512x1024.size a ≤ S2x512x1024.size a := slot_inb 512 1024 s

def wslot (s : Fin 2) : Memref sig .tc .vmem S1024x4096 .f32 :=
  (wR.slice (Rect.unit (s := S2x1024x4096) (slotOff s) S1x1024x4096.size (wslot_inb s)) (fun _ => rfl)).squeeze S1024x4096 squeezes_S1x1024x4096_S1024x4096
def aslot (s : Fin 2) : Memref sig .tc .vmem S512x4096 .bf16 :=
  (aR.slice (Rect.unit (s := S2x512x4096) (slotOff s) S1x512x4096.size (aslot_inb s)) (fun _ => rfl)).squeeze S512x4096 squeezes_S1x512x4096_S512x4096
def oslot (s : Fin 2) : Memref sig .tc .vmem S512x1024 .f32 :=
  (oR.slice (Rect.unit (s := S2x512x1024) (slotOff s) S1x512x1024.size (oslot_inb s)) (fun _ => rfl)).squeeze S512x1024 squeezes_S1x512x1024_S512x1024
def wsm (s : Fin 2) : DmaSems sig S_ := (wS.slice (Rect.unit (s := S2) (semOff s) S1.size (sem_inb s))).squeeze S_ squeezes_S1_S_
def asm (s : Fin 2) : DmaSems sig S_ := (aS.slice (Rect.unit (s := S2) (semOff s) S1.size (sem_inb s))).squeeze S_ squeezes_S1_S_
def osm (s : Fin 2) : DmaSems sig S_ := (oS.slice (Rect.unit (s := S2) (semOff s) S1.size (sem_inb s))).squeeze S_ squeezes_S1_S_

/-! ## The weight's blocks and the result's tiles, each a slice of the range's rows or columns -/

theorem wt_inb (b : Fin NB) : ∀ a, wtOff b a + S1024x4096.size a ≤ S14336x4096.size a := by
  have := b.isLt; intro a; fin_cases a
  · show 1024 * b.val + 1024 ≤ 1024 * NB; omega
  · show 0 + 4096 ≤ 4096; omega
theorem tile_inb (t : Fin T) : ∀ a, tileOff t a + S512x1024.size a ≤ S9216x14336.size a := by
  have : t.val < 252 := t.isLt; intro a; fin_cases a
  · show 512 * (t.val % 18) + 512 ≤ 9216; omega
  · show 1024 * (t.val / 18) + 1024 ≤ 14336; omega

abbrev wRange : Memref sig .tc .hbm S14336x4096 .f32 :=
  wM.slice (Rect.unit (s := S30784x4096) ![16448, 0] S14336x4096.size inb_S30784x4096_S14336x4096_16448_0) (fun _ => rfl)
abbrev oRange : Memref sig .tc .hbm S9216x14336 .f32 :=
  oM.slice (Rect.unit (s := S9216x30720) ![0, 16384] S9216x14336.size inb_S9216x30720_S9216x14336_0_16384) (fun _ => rfl)
def wt (b : Fin NB) : Memref sig .tc .hbm S1024x4096 .f32 :=
  wRange.slice (Rect.unit (s := S14336x4096) (wtOff b) S1024x4096.size (wt_inb b)) (fun _ => rfl)
def tile (t : Fin T) : Memref sig .tc .hbm S512x1024 .f32 :=
  oRange.slice (Rect.unit (s := S9216x14336) (tileOff t) S512x1024.size (tile_inb t)) (fun _ => rfl)

/-! ## The body's own slices are these -/

theorem wsm_congr {off : Fin 1 → Nat} {s : Fin 2} (e : off = semOff s) (hh) :
    (wS.slice (Rect.unit (s := S2) off S1.size hh)).squeeze S_ squeezes_S1_S_ = wsm s :=
  congrArg (fun A : DmaSems sig S1 => A.squeeze S_ squeezes_S1_S_) (SemArray.slice_unit_congr _ e _ _)
theorem asm_congr {off : Fin 1 → Nat} {s : Fin 2} (e : off = semOff s) (hh) :
    (aS.slice (Rect.unit (s := S2) off S1.size hh)).squeeze S_ squeezes_S1_S_ = asm s :=
  congrArg (fun A : DmaSems sig S1 => A.squeeze S_ squeezes_S1_S_) (SemArray.slice_unit_congr _ e _ _)
theorem osm_congr {off : Fin 1 → Nat} {s : Fin 2} (e : off = semOff s) (hh) :
    (oS.slice (Rect.unit (s := S2) off S1.size hh)).squeeze S_ squeezes_S1_S_ = osm s :=
  congrArg (fun A : DmaSems sig S1 => A.squeeze S_ squeezes_S1_S_) (SemArray.slice_unit_congr _ e _ _)
theorem wslot_congr {off : Fin 3 → Nat} {s : Fin 2} (e : off = slotOff s) (hh hs) :
    (wR.slice (Rect.unit (s := S2x1024x4096) off S1x1024x4096.size hh) hs).squeeze S1024x4096 squeezes_S1x1024x4096_S1024x4096 = wslot s :=
  congrArg (fun M : Memref sig .tc .vmem S1x1024x4096 .f32 => M.squeeze S1024x4096 squeezes_S1x1024x4096_S1024x4096) (Memref.slice_unit_congr _ e _ _ _ _)
theorem aslot_congr {off : Fin 3 → Nat} {s : Fin 2} (e : off = slotOff s) (hh hs) :
    (aR.slice (Rect.unit (s := S2x512x4096) off S1x512x4096.size hh) hs).squeeze S512x4096 squeezes_S1x512x4096_S512x4096 = aslot s :=
  congrArg (fun M : Memref sig .tc .vmem S1x512x4096 .bf16 => M.squeeze S512x4096 squeezes_S1x512x4096_S512x4096) (Memref.slice_unit_congr _ e _ _ _ _)
theorem oslot_congr {off : Fin 3 → Nat} {s : Fin 2} (e : off = slotOff s) (hh hs) :
    (oR.slice (Rect.unit (s := S2x512x1024) off S1x512x1024.size hh) hs).squeeze S512x1024 squeezes_S1x512x1024_S512x1024 = oslot s :=
  congrArg (fun M : Memref sig .tc .vmem S1x512x1024 .f32 => M.squeeze S512x1024 squeezes_S1x512x1024_S512x1024) (Memref.slice_unit_congr _ e _ _ _ _)
theorem wt_congr {off : Fin 2 → Nat} {b : Fin NB} (e : off = wtOff b) (hh hs) :
    wRange.slice (Rect.unit (s := S14336x4096) off S1024x4096.size hh) hs = wt b := Memref.slice_unit_congr _ e _ _ _ (fun _ => rfl)
theorem tile_congr {off : Fin 2 → Nat} {t : Fin T} (e : off = tileOff t) (hh hs) :
    oRange.slice (Rect.unit (s := S9216x14336) off S512x1024.size hh) hs = tile t := Memref.slice_unit_congr _ e _ _ _ (fun _ => rfl)

/-- The prologue. -/
@[sl_canon] theorem wsmL (hh) : (wS.slice (Rect.unit (s := S2) ![0] S1.size hh)).squeeze S_ squeezes_S1_S_ = wsm 0 := wsm_congr (by decide) _
@[sl_canon] theorem asmL (hh) : (aS.slice (Rect.unit (s := S2) ![0] S1.size hh)).squeeze S_ squeezes_S1_S_ = asm 0 := asm_congr (by decide) _
@[sl_canon] theorem wslotL (hh hs) : (wR.slice (Rect.unit (s := S2x1024x4096) ![0, 0, 0] S1x1024x4096.size hh) hs).squeeze S1024x4096 squeezes_S1x1024x4096_S1024x4096 = wslot 0 := wslot_congr (by decide) _ _
@[sl_canon] theorem aslotL (hh hs) : (aR.slice (Rect.unit (s := S2x512x4096) ![0, 0, 0] S1x512x4096.size hh) hs).squeeze S512x4096 squeezes_S1x512x4096_S512x4096 = aslot 0 := aslot_congr (by decide) _ _
@[sl_canon] theorem wtL (hh hs) : wRange.slice (Rect.unit (s := S14336x4096) ![0, 0] S1024x4096.size hh) hs = wt 0 := wt_congr (by decide) _ _

/-- The lookahead's transfer of weight block `j + 1`. -/
@[sl_canon] theorem wsmJ (j : Fin (NB - 1)) (hh) : (wS.slice (Rect.unit (s := S2) (k0_off33 (BitVec.ofNat 32 (j.val + 1))) S1.size hh)).squeeze S_ squeezes_S1_S_ = wsm (Ring.sl 2 (j.val + 1)) := wsm_congr (off33_j j) _
@[sl_canon] theorem wslotJ (j : Fin (NB - 1)) (hh hs) : (wR.slice (Rect.unit (s := S2x1024x4096) (k0_off34 (BitVec.ofNat 32 (j.val + 1))) S1x1024x4096.size hh) hs).squeeze S1024x4096 squeezes_S1x1024x4096_S1024x4096 = wslot (Ring.sl 2 (j.val + 1)) := wslot_congr (off34_j j) _ _
@[sl_canon] theorem wtJ (j : Fin (NB - 1)) (hh hs) : wRange.slice (Rect.unit (s := S14336x4096) (k0_off35 (BitVec.ofNat 32 (j.val + 1))) S1024x4096.size hh) hs = wt (Ring.bk NB (j.val + 1)) := wt_congr (off35_j j) _ _

/-- The activation block sent ahead, and the one waited for. -/
@[sl_canon] theorem asm8 (k : K) (hk : k.val + 1 < T) (hh) : (aS.slice (Rect.unit (s := S2) (k0_off36 (w9 k.val)) S1.size hh)).squeeze S_ squeezes_S1_S_ = asm (Ring.sl 2 (k.val + 1)) := asm_congr (off36_k k hk) _
@[sl_canon] theorem aslot9 (k : K) (hk : k.val + 1 < T) (hh hs) : (aR.slice (Rect.unit (s := S2x512x4096) (k0_off37 (w9 k.val)) S1x512x4096.size hh) hs).squeeze S512x4096 squeezes_S1x512x4096_S512x4096 = aslot (Ring.sl 2 (k.val + 1)) := aslot_congr (off37_k k hk) _ _
@[sl_canon] theorem act10 (k : K) (hh hs) : aM.slice (Rect.unit (s := S9216x4096) (k0_off38 (w14 k.val)) S512x4096.size hh) hs = act (Ring.bk 18 (k.val + 1)) := act_congr (off38_k k) _ _
@[sl_canon] theorem asm14 (k : K) (hh) : (aS.slice (Rect.unit (s := S2) (k0_off42 (w10 k.val)) S1.size hh)).squeeze S_ squeezes_S1_S_ = asm (Ring.sl 2 k.val) := asm_congr (off42_k k) _
@[sl_canon] theorem aslot15 (k : K) (hh hs) : (aR.slice (Rect.unit (s := S2x512x4096) (k0_off43 (w10 k.val)) S1x512x4096.size hh) hs).squeeze S512x4096 squeezes_S1x512x4096_S512x4096 = aslot (Ring.sl 2 k.val) := aslot_congr (off43_k k) _ _
@[sl_canon] theorem act16 (k : K) (hh hs) : aM.slice (Rect.unit (s := S9216x4096) (k0_off44 (w14 k.val)) S512x4096.size hh) hs = act (Ring.bk 18 k.val) := act_congr (off44_k k) _ _

/-- The weight block waited for. -/
@[sl_canon] theorem wsm11 (k : K) (hh) : (wS.slice (Rect.unit (s := S2) (k0_off39 (w6 k.val)) S1.size hh)).squeeze S_ squeezes_S1_S_ = wsm (Ring.sl 2 (k.val / 18)) := wsm_congr (off39_k k) _
@[sl_canon] theorem wslot12 (k : K) (hh hs) : (wR.slice (Rect.unit (s := S2x1024x4096) (k0_off40 (w6 k.val)) S1x1024x4096.size hh) hs).squeeze S1024x4096 squeezes_S1x1024x4096_S1024x4096 = wslot (Ring.sl 2 (k.val / 18)) := wslot_congr (off40_k k) _ _
@[sl_canon] theorem wt13 (k : K) (hh hs) : wRange.slice (Rect.unit (s := S14336x4096) (k0_off41 (w13 k.val)) S1024x4096.size hh) hs = wt (Ring.bk NB (k.val / 18)) := wt_congr (off41_k k) _ _

/-- The tile sent out, and the one waited for. -/
@[sl_canon] theorem osm20 (k : K) (hh) : (oS.slice (Rect.unit (s := S2) (k0_off48 (w11 k.val)) S1.size hh)).squeeze S_ squeezes_S1_S_ = osm (Ring.sl 2 k.val) := osm_congr (off48_k k) _
@[sl_canon] theorem tile21 (k : K) (hh hs) : oRange.slice (Rect.unit (s := S9216x14336) (k0_off49 (w13 k.val) (w14 k.val)) S512x1024.size hh) hs = tile (Ring.bk T k.val) := tile_congr (off49_k k) _ _
@[sl_canon] theorem oslot22 (k : K) (hh hs) : (oR.slice (Rect.unit (s := S2x512x1024) (k0_off50 (w11 k.val)) S1x512x1024.size hh) hs).squeeze S512x1024 squeezes_S1x512x1024_S512x1024 = oslot (Ring.sl 2 k.val) := oslot_congr (off50_k k) _ _
@[sl_canon] theorem osm23 (k : K) (hk : ¬ k.val = 0) (hh) : (oS.slice (Rect.unit (s := S2) (k0_off51 (w12 k.val)) S1.size hh)).squeeze S_ squeezes_S1_S_ = osm (Ring.sl 2 (k.val + 1)) := osm_congr (off51_k k hk) _
@[sl_canon] theorem tile24 (k : K) (hk : ¬ k.val = 0) (hh hs) : oRange.slice (Rect.unit (s := S9216x14336) (k0_off52 (w13 k.val) (w14 k.val)) S512x1024.size hh) hs = tile (Ring.bk T (k.val - 1)) := tile_congr (off52_k k hk) _ _
@[sl_canon] theorem oslot25 (k : K) (hk : ¬ k.val = 0) (hh hs) : (oR.slice (Rect.unit (s := S2x512x1024) (k0_off53 (w12 k.val)) S1x512x1024.size hh) hs).squeeze S512x1024 squeezes_S1x512x1024_S512x1024 = oslot (Ring.sl 2 (k.val + 1)) := oslot_congr (off53_k k hk) _ _

/-- The last tile, waited for after the loop. -/
@[sl_canon] theorem osm26 (hh) : (oS.slice (Rect.unit (s := S2) (k0_off54 (w12 T)) S1.size hh)).squeeze S_ squeezes_S1_S_ = osm 1 := osm_congr off54_T _
@[sl_canon] theorem tile27 (hh hs) : oRange.slice (Rect.unit (s := S9216x14336) (k0_off55 (w14 T) (w13 T)) S512x1024.size hh) hs = tile (Ring.bk T 251) := tile_congr off55_T _ _
@[sl_canon] theorem oslot28 (hh hs) : (oR.slice (Rect.unit (s := S2x512x1024) (k0_off56 (w12 T)) S1x512x1024.size hh) hs).squeeze S512x1024 squeezes_S1x512x1024_S512x1024 = oslot 1 := oslot_congr off56_T _ _

instance (s : Fin 2) : ClosedOff (slotOff s) := ⟨slotOff s, rfl⟩
instance (k : K) : ClosedOff (k0_off45 (w6 k.val)) := ⟨slotOff (Ring.sl 2 (k.val / 18)), off45_k k⟩
instance (k : K) : ClosedOff (k0_off46 (w10 k.val)) := ⟨slotOff (Ring.sl 2 k.val), off46_k k⟩
instance (k : K) : ClosedOff (k0_off47 (w11 k.val)) := ⟨slotOff (Ring.sl 2 k.val), off47_k k⟩

/-! ## What is held -/

section Held
variable (c : Dev nD) (XA : Buf (Elt F) (aM.view.loc (c : Thread nD τ))) (XW : Buf (Elt F) (wM.view.loc (c : Thread nD τ)))

abbrev wcellP (s : Fin 2) : sProp 𝕄 := semVal ((c : Thread nD τ), SemLoc.dma (wsm s).sem) 0
abbrev acellP (s : Fin 2) : sProp 𝕄 := semVal ((c : Thread nD τ), SemLoc.dma (asm s).sem) 0
abbrev ocellP (s : Fin 2) : sProp 𝕄 := semVal ((c : Thread nD τ), SemLoc.dma (osm s).sem) 0
abbrev wslotP (s : Fin 2) (f : Buf (Elt F) ((wslot s).view.loc (c : Thread nD τ))) : sProp 𝕄 :=
  (wslot s).view.loc (c : Thread nD τ) ↦[(wslot s).view.set]{fullShare} f
abbrev aslotP (s : Fin 2) (f : Buf (Elt F) ((aslot s).view.loc (c : Thread nD τ))) : sProp 𝕄 :=
  (aslot s).view.loc (c : Thread nD τ) ↦[(aslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev wtP (b : Fin NB) : sProp 𝕄 := (wt b).view.loc (c : Thread nD τ) ↦[(wt b).view.set]{fullShare} XW
abbrev tileP (t : Fin T) (f : Buf (Elt F) (oM.view.loc (c : Thread nD τ))) : sProp 𝕄 :=
  (tile t).view.loc (c : Thread nD τ) ↦[(tile t).view.set]{fullShare} f
abbrev wtV (b : Fin NB) : S1024x4096.Idx → Elt F .f32 := (wt b).view.read (Elt F) XW

/-- What a transfer leaves in a slot, or a tile, over prior contents. -/
abbrev wlanded (s : Fin 2) (x : S1024x4096.Idx → Elt F .f32) (f : Buf (Elt F) ((wslot s).view.loc (c : Thread nD τ))) : Buf (Elt F) ((wslot s).view.loc (c : Thread nD τ)) :=
  (wslot s).view.writes (Elt F) f [⟨Rect.whole S1024x4096, ReadAs.same.apply x⟩]
abbrev alanded (s : Fin 2) (x : S512x4096.Idx → Elt F .bf16) (f : Buf (Elt F) ((aslot s).view.loc (c : Thread nD τ))) : Buf (Elt F) ((aslot s).view.loc (c : Thread nD τ)) :=
  (aslot s).view.writes (Elt F) f [⟨Rect.whole S512x4096, ReadAs.same.apply x⟩]
abbrev olanded (t : Fin T) (x : S512x1024.Idx → Elt F .f32) (f : Buf (Elt F) ((tile t).view.loc (c : Thread nD τ))) : Buf (Elt F) ((tile t).view.loc (c : Thread nD τ)) :=
  (tile t).view.writes (Elt F) f [⟨Rect.whole S512x1024, ReadAs.same.apply x⟩]

/-- A slot in flight with weight block `b`, or with activation block `b`; a tile in flight out of a slot. -/
abbrev wflight (s : Fin 2) (b : Fin NB) (f : Buf (Elt F) ((wslot s).view.loc (c : Thread nD τ))) : sProp 𝕄 :=
  Transfers.Flight countersEmb (c : Thread nD τ) (SemLoc.dma (wsm s).sem) () 524288 iprop(wslotP c s (wlanded c s (wtV c XW b) f) ∗ wtP c XW b)
abbrev aflight (s : Fin 2) (b : Fin 18) (f : Buf (Elt F) ((aslot s).view.loc (c : Thread nD τ))) : sProp 𝕄 :=
  Transfers.Flight countersEmb (c : Thread nD τ) (SemLoc.dma (asm s).sem) () 131072 iprop(aslotP c s (alanded c s (actV c XA b) f) ∗ actP c XA b)

end Held

end Cert.Proof.R1

end
-- ==== Proof.Trip1.lean ====
/-
  The lookahead of the second column range: a while loop that walks the grid from the point after the current one until
  the weight's block changes, and sends the new block in.

  Then one trip of the second column range's loop.
-/
module

public import proofs.«01_k».proof.Proof.Pieces1
public import proofs.«01_k».proof.Proof.TwoSlots
public import Idealize.ShloMosaic.Lib.Pipeline.Value
public import Idealize.ShloMosaic.Lib.VecWindow

@[expose] public section

noncomputable section

namespace Cert.Proof.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The loop's condition: fewer blocks sent than allowed, and the point inside the grid. -/
abbrev goOn (L d e n : BitVec 32) : BitVec 1 :=
  Scalar.andi (Scalar.andi 1#1 (Scalar.cmpi .ult n L)) (Scalar.andi (Scalar.andi 1#1 (Scalar.cmpi .slt d (BitVec.ofNat 32 NB))) (Scalar.cmpi .slt e 18#32))
/-- The point after `(d, e)`. -/
abbrev nextE (e : BitVec 32) : BitVec 32 :=
  Scalar.select (Scalar.cmpi .eq (Scalar.select 1#1 (Scalar.addi e 1#32) e) 18#32) 0#32 (Scalar.select 1#1 (Scalar.addi e 1#32) e)
abbrev nextD (d e : BitVec 32) : BitVec 32 :=
  Scalar.select 0#1 0#32 (Scalar.select (Scalar.cmpi .eq (Scalar.select 1#1 (Scalar.addi e 1#32) e) 18#32) (Scalar.addi d 1#32) d)
/-- The count after a point: one more when the block differs from the previous point's. -/
abbrev nextN (a d n : BitVec 32) : BitVec 32 :=
  Scalar.addi n (Scalar.extui (Scalar.cmpi .ne (Scalar.addi a 0#32) (Scalar.addi d 0#32)))

/-! The walk's words, block `j` and point `i` of it. -/
abbrev atD (j i : ℕ) : BitVec 32 := BitVec.ofNat 32 (if i = 17 then j + 1 else j)
abbrev atE (i : ℕ) : BitVec 32 := BitVec.ofNat 32 (if i = 17 then 0 else i + 1)

theorem goOn_in : ∀ j : Fin NB, ∀ i : Fin 17, goOn (BitVec.ofNat 32 (j.val + 2)) (BitVec.ofNat 32 j.val) (BitVec.ofNat 32 (i.val + 1)) (BitVec.ofNat 32 (j.val + 1)) = 1#1 := by decide +kernel
theorem nextD_in : ∀ j : Fin NB, ∀ i : Fin 17, nextD (BitVec.ofNat 32 j.val) (BitVec.ofNat 32 (i.val + 1)) = atD j.val (i.val + 1) := by decide +kernel
theorem nextE_in : ∀ i : Fin 17, nextE (BitVec.ofNat 32 (i.val + 1)) = atE (i.val + 1) := by decide +kernel
theorem nextN_in : ∀ j : Fin NB, nextN (BitVec.ofNat 32 j.val) (BitVec.ofNat 32 j.val) (BitVec.ofNat 32 (j.val + 1)) = BitVec.ofNat 32 (j.val + 1) := by decide +kernel
theorem goOn_out : ∀ j : Fin (NB - 1), goOn (BitVec.ofNat 32 (j.val + 2)) (BitVec.ofNat 32 (j.val + 1)) 0#32 (BitVec.ofNat 32 (j.val + 1)) = 1#1 := by decide +kernel
theorem nextN_out : ∀ j : Fin (NB - 1), Scalar.addi (BitVec.ofNat 32 (j.val + 1)) 1#32 = BitVec.ofNat 32 (j.val + 2) := by decide +kernel
theorem stop_out : ∀ j : Fin (NB - 1), ¬ goOn (BitVec.ofNat 32 (j.val + 2)) (BitVec.ofNat 32 (j.val + 1)) 1#32 (BitVec.ofNat 32 (j.val + 2)) = 1#1 := by decide +kernel
theorem stop_end : ¬ goOn (BitVec.ofNat 32 (NB + 1)) (BitVec.ofNat 32 NB) 0#32 (BitVec.ofNat 32 NB) = 1#1 := by decide +kernel

/-- The trips inside a block find the lookahead done. -/
theorem stop_k : ∀ k : K, ¬ k.val % 18 = 0 → ¬ goOn (Scalar.addi (w6 k.val) 2#32) (nextD (w7 k.val) (w8 k.val)) (nextE (w8 k.val)) (w5 k.val) = 1#1 := by decide +kernel

section
variable (c : Dev nD) (k : K) (L : BitVec 32)

/-- The loop at a point, with what it carries. -/
abbrev look (a b d e n : BitVec 32) : Prog (TpuEff nD τ sig (Elt F) (Λ₀ F) .tc) (BitVec 32 × BitVec 32 × BitVec 32 × BitVec 32 × BitVec 32) :=
  cc0_while2 (R0.w12 R0.T) R0.chk6_T (R0.w14 R0.T) (R0.w13 R0.T) R0.chk7_T k L wS wR (Memref.isWhole_whole _) wM (Memref.isWhole_whole _) a b d e n

/-- A call that is all that is left to run. -/
theorem call_last {ℓ : (Λ₀ F).Label} {a : (Λ₀ F).Args ℓ} (bd : Option 𝒱₀.V) (v : ℕ) (hv : ∀ u ∈ bd, 𝒱₀.lt v u) (Q : (Λ₀ F).Result ℓ → sProp 𝕄) :
    wp frame (wpE (defs₀ (F := F)) 𝒱₀ (c : Thread nD τ) (some v)) Set.univ (defs₀ (F := F) (c : Thread nD τ).2 ℓ a) Q
      ⊢ wp frame (wpE (defs₀ (F := F)) 𝒱₀ (c : Thread nD τ) bd) Set.univ (.op (.call ℓ a) .ret) Q := by
  refine BIBase.Entails.trans (Idealize.SL.Sem.wp_mono _ _ _ fun x => ?_) (wp_call 𝒱₀ (c : Thread nD τ) bd Set.univ (v := v) (hv := hv))
  rw [Idealize.SL.Sem.wp_ret]
  exact BI.fupd_intro

/-- The loop's own last call. -/
theorem call_look (bd : Option 𝒱₀.V) (v : ℕ) (hv : ∀ u ∈ bd, 𝒱₀.lt v u) (L a b d e n : BitVec 32) (Q : BitVec 32 × BitVec 32 × BitVec 32 × BitVec 32 × BitVec 32 → sProp 𝕄) :
    wp frame (wpE (defs₀ (F := F)) 𝒱₀ (c : Thread nD τ) (some v)) Set.univ (look k L a b d e n) Q
      ⊢ wp frame (wpE (defs₀ (F := F)) 𝒱₀ (c : Thread nD τ) bd) Set.univ
        (.op (.call (2 : (Λ₀ F).Label) ⟨R0.w12 R0.T, R0.chk6_T, R0.w14 R0.T, R0.w13 R0.T, R0.chk7_T, k, L, wS, wR, Memref.isWhole_whole _, wM, Memref.isWhole_whole _, a, b, d, e, n⟩) .ret) Q :=
  call_last (ℓ := (2 : (Λ₀ F).Label)) (a := ⟨R0.w12 R0.T, R0.chk6_T, R0.w14 R0.T, R0.w13 R0.T, R0.chk7_T, k, L, wS, wR, Memref.isWhole_whole _, wM, Memref.isWhole_whole _, a, b, d, e, n⟩) c bd v hv Q

/-- A trip's call, whatever runs after it. -/
theorem call_trip {α : Type} (bd : Option 𝒱₀.V) (v : ℕ) (hv : ∀ u ∈ bd, 𝒱₀.lt v u) (L a b d e n : BitVec 32) (Q : α → sProp 𝕄)
    (p : BitVec 32 × BitVec 32 × BitVec 32 × BitVec 32 × BitVec 32 → Prog (TpuEff nD τ sig (Elt F) (Λ₀ F) .tc) α) :
    wp frame (wpE (defs₀ (F := F)) 𝒱₀ (c : Thread nD τ) (some v)) Set.univ (look k L a b d e n)
        (fun x => wp frame (wpE (defs₀ (F := F)) 𝒱₀ (c : Thread nD τ) bd) Set.univ (p x) Q)
      ⊢ wp frame (wpE (defs₀ (F := F)) 𝒱₀ (c : Thread nD τ) bd) Set.univ
        (.op (.call (2 : (Λ₀ F).Label) ⟨R0.w12 R0.T, R0.chk6_T, R0.w14 R0.T, R0.w13 R0.T, R0.chk7_T, k, L, wS, wR, Memref.isWhole_whole _, wM, Memref.isWhole_whole _, a, b, d, e, n⟩) p) Q :=
  wp_call (ℓ := (2 : (Λ₀ F).Label)) (a := ⟨R0.w12 R0.T, R0.chk6_T, R0.w14 R0.T, R0.w13 R0.T, R0.chk7_T, k, L, wS, wR, Memref.isWhole_whole _, wM, Memref.isWhole_whole _, a, b, d, e, n⟩) 𝒱₀ (c : Thread nD τ) bd Set.univ (v := v) (hv := hv)

/-- The loop ends where its condition fails. -/
theorem look_exit (bd : Option 𝒱₀.V) (a b d e n : BitVec 32) (h : ¬ goOn L d e n = 1#1)
    (Q : BitVec 32 × BitVec 32 × BitVec 32 × BitVec 32 × BitVec 32 → sProp 𝕄) :
    Q (a, b, d, e, n) ⊢ wp frame (wpE (defs₀ (F := F)) 𝒱₀ (c : Thread nD τ) bd) Set.univ (look k L a b d e n) Q := by
  iintro H
  unfold look
  sl_unfold [cc0_while2]
  sl_exec
  sl_step
  iexact H

/-- A point of the same block: nothing is sent. -/
theorem look_same (bd : Option 𝒱₀.V) (v : ℕ) (hv : ∀ u ∈ bd, 𝒱₀.lt v u) (a b d e n : BitVec 32) (h : goOn L d e n = 1#1)
    (h2 : k0_chk9 a d) (h1 : k0_chk8 a d n) (hc : ¬ k0_cond13 a d = 1#1)
    (Q : BitVec 32 × BitVec 32 × BitVec 32 × BitVec 32 × BitVec 32 → sProp 𝕄) :
    wp frame (wpE (defs₀ (F := F)) 𝒱₀ (c : Thread nD τ) (some v)) Set.univ (look k L d e (nextD d e) (nextE e) (nextN a d n)) Q
      ⊢ wp frame (wpE (defs₀ (F := F)) 𝒱₀ (c : Thread nD τ) bd) Set.univ (look k L a b d e n) Q := by
  iintro H
  conv_rhs => unfold look
  sl_unfold [cc0_while2]
  sl_exec
  iapply (call_look c k bd v hv)
  iexact H

/-- The walk inside block `j`, from any of its points to its last. -/
theorem look_spin (j : Fin NB) (Q : BitVec 32 × BitVec 32 × BitVec 32 × BitVec 32 × BitVec 32 → sProp 𝕄) (A : sProp 𝕄)
    (hA : ∀ bd : Option 𝒱₀.V, (∀ u ∈ bd, 𝒱₀.lt 0 u) → A ⊢ wp frame (wpE (defs₀ (F := F)) 𝒱₀ (c : Thread nD τ) bd) Set.univ
      (look k (BitVec.ofNat 32 (j.val + 2)) (BitVec.ofNat 32 j.val) 17#32 (BitVec.ofNat 32 (j.val + 1)) 0#32 (BitVec.ofNat 32 (j.val + 1))) Q)
    (r : ℕ) : ∀ (i : ℕ), i + r = 17 → ∀ bd : Option 𝒱₀.V, (∀ u ∈ bd, 𝒱₀.lt r u) →
      A ⊢ wp frame (wpE (defs₀ (F := F)) 𝒱₀ (c : Thread nD τ) bd) Set.univ
        (look k (BitVec.ofNat 32 (j.val + 2)) (BitVec.ofNat 32 j.val) (BitVec.ofNat 32 i) (atD j.val i) (atE i) (BitVec.ofNat 32 (j.val + 1))) Q := by
  induction r with
  | zero =>
    intro i hi bd hbd
    obtain rfl : i = 17 := by omega
    exact hA bd hbd
  | succ r ih =>
    intro i hi bd hbd
    have hi' : i < 17 := by omega
    have eD : atD j.val i = BitVec.ofNat 32 j.val := by simp only [atD]; rw [if_neg (by omega)]
    have eE : atE i = BitVec.ofNat 32 (i + 1) := by simp only [atE]; rw [if_neg (by omega)]
    rw [eD, eE]
    refine BIBase.Entails.trans ?_ (look_same c k _ bd (r + 1) hbd _ _ _ _ _
      (goOn_in j ⟨i, hi'⟩) (chk9_s j) (chk8_s j) (cond13_neg j) Q)
    rw [nextD_in j ⟨i, hi'⟩, nextE_in ⟨i, hi'⟩, nextN_in j]
    exact ih (i + 1) (by omega) (some (r + 1)) (fun u hu => by cases hu; exact Nat.lt_succ_self r)

/-- In the last block the walk runs off the grid, and nothing is sent. -/
theorem look_last (bd : Option 𝒱₀.V) (hv : ∀ u ∈ bd, 𝒱₀.lt 17 u) (Q : BitVec 32 × BitVec 32 × BitVec 32 × BitVec 32 × BitVec 32 → sProp 𝕄) :
    Q (BitVec.ofNat 32 (NB - 1), 17#32, BitVec.ofNat 32 NB, 0#32, BitVec.ofNat 32 NB)
      ⊢ wp frame (wpE (defs₀ (F := F)) 𝒱₀ (c : Thread nD τ) bd) Set.univ
        (look k (BitVec.ofNat 32 (NB + 1)) (BitVec.ofNat 32 (NB - 1)) 0#32 (BitVec.ofNat 32 (NB - 1)) 1#32 (BitVec.ofNat 32 NB)) Q :=
  look_spin c k ⟨NB - 1, by decide⟩ Q _ (fun bd' _ => look_exit c k _ bd' _ _ _ _ _ stop_end Q) 17 0 rfl bd hv

variable (XW : Buf (Elt F) (wM.view.loc (c : Thread nD τ)))

/-- The first point of block `j + 1`: the block is sent into its slot, and the loop ends. -/
theorem look_send (j : Fin (NB - 1)) (bd : Option 𝒱₀.V) (hv : ∀ u ∈ bd, 𝒱₀.lt 0 u) (f : Buf (Elt F) ((wslot (Ring.sl 2 (j.val + 1))).view.loc (c : Thread nD τ)))
    (Q : BitVec 32 × BitVec 32 × BitVec 32 × BitVec 32 × BitVec 32 → sProp 𝕄) :
    iprop((∃ W, owes (c : Thread nD τ) 0 W) ∗ wcellP c (Ring.sl 2 (j.val + 1)) ∗ wslotP c (Ring.sl 2 (j.val + 1)) f ∗ wtP c XW (Ring.bk NB (j.val + 1))
      ∗ ((∃ W, owes (c : Thread nD τ) 0 W) -∗ wflight c XW (Ring.sl 2 (j.val + 1)) (Ring.bk NB (j.val + 1)) f
          -∗ Q (BitVec.ofNat 32 (j.val + 1), 0#32, BitVec.ofNat 32 (j.val + 1), 1#32, BitVec.ofNat 32 (j.val + 2))))
      ⊢ wp frame (wpE (defs₀ (F := F)) 𝒱₀ (c : Thread nD τ) bd) Set.univ
        (look k (BitVec.ofNat 32 (j.val + 2)) (BitVec.ofNat 32 j.val) 17#32 (BitVec.ofNat 32 (j.val + 1)) 0#32 (BitVec.ofNat 32 (j.val + 1))) Q := by
  iintro ⟨⟨%W, HO⟩, Hc, Hs, Hw, HQ⟩
  have h0 := goOn_out j
  have h1 := chk9_j j
  have h2 := chk8_j j
  have h3 := cond13_pos j
  unfold look
  sl_unfold [cc0_while2]
  sl_exec
  have h4 : look_send.sl.v261_r1 j = BitVec.ofNat 32 (j.val + 2) := nextN_out j
  rw [h4]
  iapply (call_look c k bd 0 hv)
  iapply (look_exit c k _ (some 0) _ _ _ _ _ (stop_out j) Q)
  iapply HQ $$ [HO] [Hc]
  · iexists W; iexact HO
  · iexact Hc

/-- In any other block the walk reaches the next block, and sends it in. -/
theorem look_next (j : Fin (NB - 1)) (bd : Option 𝒱₀.V) (hv : ∀ u ∈ bd, 𝒱₀.lt 17 u) (f : Buf (Elt F) ((wslot (Ring.sl 2 (j.val + 1))).view.loc (c : Thread nD τ)))
    (Q : BitVec 32 × BitVec 32 × BitVec 32 × BitVec 32 × BitVec 32 → sProp 𝕄) :
    iprop((∃ W, owes (c : Thread nD τ) 0 W) ∗ wcellP c (Ring.sl 2 (j.val + 1)) ∗ wslotP c (Ring.sl 2 (j.val + 1)) f ∗ wtP c XW (Ring.bk NB (j.val + 1))
      ∗ ((∃ W, owes (c : Thread nD τ) 0 W) -∗ wflight c XW (Ring.sl 2 (j.val + 1)) (Ring.bk NB (j.val + 1)) f
          -∗ Q (BitVec.ofNat 32 (j.val + 1), 0#32, BitVec.ofNat 32 (j.val + 1), 1#32, BitVec.ofNat 32 (j.val + 2))))
      ⊢ wp frame (wpE (defs₀ (F := F)) 𝒱₀ (c : Thread nD τ) bd) Set.univ
        (look k (BitVec.ofNat 32 (j.val + 2)) (BitVec.ofNat 32 j.val) 0#32 (BitVec.ofNat 32 j.val) 1#32 (BitVec.ofNat 32 (j.val + 1))) Q := by
  refine look_spin c k (j.castLE (by decide)) Q _ (fun bd' hbd' => ?_) 17 0 rfl bd hv
  exact look_send c k XW j bd' hbd' f Q

end

/-! ## A trip -/

abbrev Words : Type := BitVec 32 × BitVec 32 × BitVec 32 × BitVec 32 × BitVec 32 × BitVec 32 × BitVec 32 × BitVec 32 × BitVec 32 × BitVec 32
/-- What the loop carries before trip `k`. -/
def words (k : ℕ) : Words := (w5 k, w6 k, w7 k, w8 k, w9 k, w10 k, w11 k, w12 k, w13 k, w14 k)

/-- The body of a trip, at the call's buffers. -/
abbrev trip (v29 : BitVec 32) (k : K) (acc : Words) : Prog (TpuEff nD τ sig (Elt F) (Λ₀ F) .tc) Words :=
  k0_t2_body aM (Memref.isWhole_whole _) wM (Memref.isWhole_whole _) oM (Memref.isWhole_whole _) sM (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11
    (R0.w12 R0.T) (R0.w13 R0.T) (R0.w14 R0.T) R0.chk7_T R0.chk6_T v29 k acc

section
variable (c : Dev nD) (XA : Buf (Elt F) (aM.view.loc (c : Thread nD τ))) (XW : Buf (Elt F) (wM.view.loc (c : Thread nD τ)))
  (O0 : Buf (Elt F) (oM.view.loc (c : Thread nD τ))) (v29 : BitVec 32)

/-- The rounded weight block `b`, and the tile of trip `t`. -/
def wtR (b : Fin NB) : S1024x4096.Idx → Elt F .bf16 := truncf .bf16 (wtV c XW b) bitsLt_bf16_f32
def tileV (t : Fin T) : S512x1024.Idx → Elt F .f32 :=
  matmul dot_S512x4096_S1024x4096_S512x1024_1_1_0_0_n_n none (actV c XA (Ring.bk 18 t.val)) (wtR c XW (Ring.bk NB (t.val / 18))) (constant S512x1024 .f32 0x00000000#32)

abbrev sP (f : Buf (Elt F) (sM.view.loc (c : Thread nD τ))) : sProp 𝕄 := sM.view.loc (c : Thread nD τ) ↦[sM.view.set]{fullShare} f
/-- Tile `t` in flight out of slot `s`, with values `x`. -/
abbrev oflight (s : Fin 2) (t : Fin T) (x : S512x1024.Idx → Elt F .f32) (g : Buf (Elt F) ((oslot s).view.loc (c : Thread nD τ))) : sProp 𝕄 :=
  Transfers.Flight countersEmb (c : Thread nD τ) (SemLoc.dma (osm s).sem) () 65536 iprop(tileP c t (olanded c t x O0) ∗ oslotP c s g)

/-- A load at slot `s`'s box, with its unit axis dropped, is what the slot's view reads. -/
theorem aslot_load {off : Fin 3 → ℕ} {s : Fin 2} (e : off = slotOff s) (hh : ∀ a, off a + S1x512x4096.size a ≤ S2x512x4096.size a)
    (f : Buf (Elt F) (aR.view.loc (c : Thread nD τ))) (hc : S1x512x4096.ShapeCasts S512x4096) :
    shapeCast S512x4096 (aR.view.readAt (Elt F) (Rect.unit (s := S2x512x4096) off S1x512x4096.size hh).toLoadRect f) hc = (aslot s).view.read (Elt F) f := by
  subst e; rfl
theorem wslot_load {off : Fin 3 → ℕ} {s : Fin 2} (e : off = slotOff s) (hh : ∀ a, off a + S1x1024x4096.size a ≤ S2x1024x4096.size a)
    (f : Buf (Elt F) (wR.view.loc (c : Thread nD τ))) (hc : S1x1024x4096.ShapeCasts S1024x4096) :
    shapeCast S1024x4096 (wR.view.readAt (Elt F) (Rect.unit (s := S2x1024x4096) off S1x1024x4096.size hh).toLoadRect f) hc = (wslot s).view.read (Elt F) f := by
  subst e; rfl
/-- After a store into slot `s`'s box the slot's view reads the stored values, with their unit axis dropped. -/
theorem oslot_store {off : Fin 3 → ℕ} {s : Fin 2} (e : off = slotOff s) (hh : ∀ a, off a + S1x512x1024.size a ≤ S2x512x1024.size a)
    (f : Buf (Elt F) (oR.view.loc (c : Thread nD τ))) (y : S1x512x1024.Idx → Elt F .f32) :
    (oslot s).view.read (Elt F) (View.write (Elt F) (oR.access (Rect.unit (s := S2x512x1024) off S1x512x1024.size hh)) f y Finset.univ)
      = shapeCast S512x1024 y shapeCasts_S1x512x1024_S512x1024 := by
  subst e
  refine (Memref.read_squeeze_slice oR (Rect.unit (s := S2x512x1024) (slotOff s) S1x512x1024.size hh) (fun _ => rfl) squeezes_S1x512x1024_S512x1024
    shapeCasts_S1x512x1024_S512x1024 _).trans (congrArg (shapeCast S512x1024 · shapeCasts_S1x512x1024_S512x1024) ?_)
  exact View.read_write_univ (v := oR.view.slice (Rect.unit (s := S2x512x1024) (slotOff s) S1x512x1024.size hh)) f y

/-- The rounded block a block's first trip stores. -/
theorem block_store {off : Fin 3 → ℕ} {s : Fin 2} (e : off = slotOff s) (ha) (b : Fin NB) (f : Buf (Elt F) (wR.view.loc (c : Thread nD τ)))
    (hf : (wslot s).view.read (Elt F) f = wtV c XW b) :
    k0_pay3 (wR.view.readAt (Elt F) (Rect.unit (s := S2x1024x4096) off S1x1024x4096.size ha).toLoadRect f) = wtR c XW b := by
  unfold k0_pay3 wtR
  rw [wslot_load c e, hf]
  exact shapeCast_self _ _

theorem words_eq {k : ℕ} {a5 a6 a7 a8 a9 a10 a11 a12 a13 a14 : BitVec 32} (e5 : a5 = w5 k) (e6 : a6 = w6 k) (e7 : a7 = w7 k) (e8 : a8 = w8 k) (e9 : a9 = w9 k)
    (e10 : a10 = w10 k) (e11 : a11 = w11 k) (e12 : a12 = w12 k) (e13 : a13 = w13 k) (e14 : a14 = w14 k) :
    (a5, a6, a7, a8, a9, a10, a11, a12, a13, a14) = words k := by
  rw [e5, e6, e7, e8, e9, e10, e11, e12, e13, e14]; rfl

/-- The tile a trip stores: the product of its activation block and the rounded weight block. -/
theorem tile_store (k : K) {off off' : Fin 3 → ℕ} (e : off = slotOff (Ring.sl 2 k.val)) (e' : off' = slotOff (Ring.sl 2 k.val)) (ho ha)
    (fo : Buf (Elt F) (oR.view.loc (c : Thread nD τ))) (f : Buf (Elt F) (aR.view.loc (c : Thread nD τ))) (w : S1024x4096.Idx → Elt F .bf16)
    (hf : (aslot (Ring.sl 2 k.val)).view.read (Elt F) f = actV c XA (Ring.bk 18 k.val)) (hw : w = wtR c XW (Ring.bk NB (k.val / 18))) :
    ReadAs.same.apply ((oslot (Ring.sl 2 k.val)).view.read (Elt F) (View.write (Elt F) (oR.access (Rect.unit (s := S2x512x1024) off S1x512x1024.size ho)) fo
        (k0_pay4 (aR.view.readAt (Elt F) (Rect.unit (s := S2x512x4096) off' S1x512x4096.size ha).toLoadRect f) w) Finset.univ))
      = tileV c XA XW (Ring.bk T k.val) := by
  refine (oslot_store c e ho fo _).trans ?_
  unfold k0_pay4 tileV
  have hk : (Ring.bk T k.val).val = k.val := Nat.mod_eq_of_lt (trips_eq ▸ k.isLt)
  rw [hk, hw, aslot_load c e', hf]
  exact shapeCast_shapeCast _ _ _

/-- A slot on its way or idle; a tile on its way out; a finished tile; the scratch holding a rounded weight block. -/
abbrev inA (s : Fin 2) (b : Fin 18) : sProp 𝕄 := iprop(∃ f, aflight c XA s b f)
abbrev frA (s : Fin 2) : sProp 𝕄 := iprop(acellP c s ∗ ∃ f, aslotP c s f)
abbrev inW (s : Fin 2) (b : Fin NB) : sProp 𝕄 := iprop(∃ f, wflight c XW s b f)
abbrev frW (s : Fin 2) : sProp 𝕄 := iprop(wcellP c s ∗ ∃ f, wslotP c s f)
abbrev inO (s : Fin 2) (t : Fin T) : sProp 𝕄 := iprop(∃ g, oflight c O0 s t (tileV c XA XW t) g)
abbrev frO (s : Fin 2) : sProp 𝕄 := iprop(ocellP c s ∗ ∃ f, oslotP c s f)
abbrev doneP (t : Fin T) : sProp 𝕄 := iprop(∃ f, tileP c t f ∗ ⌜(tile t).view.read (Elt F) f = tileV c XA XW t⌝)
abbrev sIs (b : Fin NB) : sProp 𝕄 := iprop(∃ f, sP c f ∗ ⌜sM.view.read (Elt F) f = wtR c XW b⌝)

theorem lt_bound : ∀ u ∈ (some 18 : Option 𝒱₀.V), 𝒱₀.lt 17 u := by
  intro u hu
  obtain rfl : 18 = u := by simpa using hu
  exact (by decide : 17 < 18)

theorem inO_of {s : Fin 2} {t : Fin T} {x : S512x1024.Idx → Elt F .f32} (e : x = tileV c XA XW t) (g : Buf (Elt F) ((oslot s).view.loc (c : Thread nD τ))) :
    oflight c O0 s t x g ⊢ inO c XA XW O0 s t := by
  subst e; iintro H; iexists _; iexact H

/-- The words before the first trip of a column block, as the read-ahead loop names them. -/
theorem at_j : ∀ k : K, k.val % 18 = 0 → nextD (w7 k.val) (w8 k.val) = BitVec.ofNat 32 (k.val / 18) ∧ nextE (w8 k.val) = 1#32
    ∧ w5 k.val = BitVec.ofNat 32 (k.val / 18 + 1) ∧ Scalar.addi (w6 k.val) 2#32 = BitVec.ofNat 32 (k.val / 18 + 2)
    ∧ w7 k.val = BitVec.ofNat 32 (k.val / 18) ∧ w8 k.val = 0#32 := by decide +kernel

theorem at_last : ∀ k : K, k.val % 18 = 0 → k.val / 18 = NB - 1 → nextD (w7 k.val) (w8 k.val) = BitVec.ofNat 32 (NB - 1) ∧ nextE (w8 k.val) = 1#32
    ∧ w5 k.val = BitVec.ofNat 32 NB ∧ Scalar.addi (w6 k.val) 2#32 = BitVec.ofNat 32 (NB + 1)
    ∧ w7 k.val = BitVec.ofNat 32 (NB - 1) ∧ w8 k.val = 0#32 := by decide +kernel

/-- The read-ahead loop's two full runs, from words known to be its own. -/
theorem look_next_of (k : K) (j : Fin (NB - 1)) (f : Buf (Elt F) ((wslot (Ring.sl 2 (j.val + 1))).view.loc (c : Thread nD τ)))
    (Q : BitVec 32 × BitVec 32 × BitVec 32 × BitVec 32 × BitVec 32 → sProp 𝕄) (L a b d e n : BitVec 32)
    (h : d = BitVec.ofNat 32 j.val ∧ e = 1#32 ∧ n = BitVec.ofNat 32 (j.val + 1) ∧ L = BitVec.ofNat 32 (j.val + 2) ∧ a = BitVec.ofNat 32 j.val ∧ b = 0#32) :
    iprop((∃ W, owes (c : Thread nD τ) 0 W) ∗ wcellP c (Ring.sl 2 (j.val + 1)) ∗ wslotP c (Ring.sl 2 (j.val + 1)) f ∗ wtP c XW (Ring.bk NB (j.val + 1))
      ∗ ((∃ W, owes (c : Thread nD τ) 0 W) -∗ wflight c XW (Ring.sl 2 (j.val + 1)) (Ring.bk NB (j.val + 1)) f
          -∗ Q (BitVec.ofNat 32 (j.val + 1), 0#32, BitVec.ofNat 32 (j.val + 1), 1#32, BitVec.ofNat 32 (j.val + 2))))
      ⊢ wp frame (wpE (defs₀ (F := F)) 𝒱₀ (c : Thread nD τ) (some 18)) Set.univ (look k L a b d e n) Q := by
  obtain ⟨rfl, rfl, rfl, rfl, rfl, rfl⟩ := h
  exact look_next c k XW j (some 18) lt_bound f Q
theorem look_last_of (k : K) (Q : BitVec 32 × BitVec 32 × BitVec 32 × BitVec 32 × BitVec 32 → sProp 𝕄) (L a b d e n : BitVec 32)
    (h : d = BitVec.ofNat 32 (NB - 1) ∧ e = 1#32 ∧ n = BitVec.ofNat 32 NB ∧ L = BitVec.ofNat 32 (NB + 1) ∧ a = BitVec.ofNat 32 (NB - 1) ∧ b = 0#32) :
    Q (BitVec.ofNat 32 (NB - 1), 17#32, BitVec.ofNat 32 NB, 0#32, BitVec.ofNat 32 NB)
      ⊢ wp frame (wpE (defs₀ (F := F)) 𝒱₀ (c : Thread nD τ) (some 18)) Set.univ (look k L a b d e n) Q := by
  obtain ⟨rfl, rfl, rfl, rfl, rfl, rfl⟩ := h
  exact look_last c k (some 18) lt_bound Q

/-- A trip inside a column block. -/
theorem trip_mid (k : K) (hi : ¬ k.val % 18 = 0) (h0 : ¬ k.val = 0) (hT : k.val + 1 < T) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ sIs c XW (Ring.bk NB (k.val / 18)) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨Hac, %fa', Has⟩, Hact, ⟨%fs, Hs, %hfs⟩, ⟨%fo', Ho⟩, ⟨Hoc, %fo, Hos⟩, Ht⟩
  have c5 := chk12_k k; have c4 := chk11_k k; have c3 := chk10_k k; have d4 := cond16_pos k; have d9 := cond21_pos k
  have d2 := cond14_pos k hT; have d3 := cond15_neg k hi; have d6 := cond18_neg k hi; have d12 := cond24_pos k h0
  unfold words trip
  sl_unfold [k0_t2_body]
  sl_exec
  iapply (call_trip c k none 0 (fun _ h => nomatch h))
  iapply (look_exit c k _ (some 0) _ _ _ _ _ (stop_k k hi))
  sl_exec
  have ew : ∀ (k : K) (hi : ¬ k.val % 18 = 0) (h0 : ¬ k.val = 0) (hT : k.val + 1 < T),
      trip_mid.sl.r_2 k = w5 (k.val + 1) ∧ trip_mid.sl.v240_r1 k = w6 (k.val + 1) ∧ trip_mid.sl.r k = w7 (k.val + 1) ∧ trip_mid.sl.r_1 k = w8 (k.val + 1) ∧ trip_mid.sl.v154_r1 k = w9 (k.val + 1)
        ∧ trip_mid.sl.v244_r1 k = w10 (k.val + 1) ∧ trip_mid.sl.v214_r1 k = w11 (k.val + 1) ∧ trip_mid.sl.v236_r1 k = w12 (k.val + 1) ∧ trip_mid.sl.v252_r1 k = w13 (k.val + 1) ∧ trip_mid.sl.v248_r1 k = w14 (k.val + 1) := by decide +kernel
  obtain ⟨e1, e2, e3, e4, e5, e6, e7, e8, e9, e10⟩ := ew k hi h0 hT
  have es : sM.view.read (Elt F) fs = wtR c XW (Ring.bk NB (k.val / 18)) := hfs
  have ev : trip_mid.sl.dma4 c XA k fs fo c5 c4 = tileV c XA XW (Ring.bk T k.val) := by
    unfold trip_mid.sl.dma4 trip_mid.sl.Hos_w1 trip_mid.sl.v188_r1
    exact tile_store c XA XW k (off47_k k) (off46_k k) _ _ _ _ _ (View.read_writes_whole _ _ _) ((View.readAt_full _ _ _).trans es)
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

/-- The first trip. -/
theorem trip_first (k : K) (hi : k.val % 18 = 0) (h0 : k.val = 0) (hT : k.val + 1 < T) (hj : k.val / 18 < NB - 1) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ inW c XW (Ring.sl 2 (k.val / 18)) (Ring.bk NB (k.val / 18)) ∗ (∃ f, sP c f) ∗ frW c (Ring.sl 2 (k.val / 18 + 1)) ∗ wtP c XW (Ring.bk NB (k.val / 18 + 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ inW c XW (Ring.sl 2 (k.val / 18 + 1)) (Ring.bk NB (k.val / 18 + 1)) ∗ wcellP c (Ring.sl 2 (k.val / 18)) ∗ (∃ f, wslotP c (Ring.sl 2 (k.val / 18)) f) ∗ wtP c XW (Ring.bk NB (k.val / 18)) ∗ sIs c XW (Ring.bk NB (k.val / 18)) ∗ inO c XA XW O0 (Ring.sl 2 k.val) (Ring.bk T k.val))) := by
  iintro ⟨⟨%W, HO⟩, ⟨%fa, Ha⟩, ⟨Hac, %fa', Has⟩, Hact, ⟨%fw, Hw⟩, ⟨%fs, Hs⟩, ⟨Hwc, %fw', Hws⟩, Hwt, ⟨Hoc, %fo, Hos⟩, Ht⟩
  have c5 := chk12_k k; have c4 := chk11_k k; have c3 := chk10_k k; have d4 := cond16_pos k; have d9 := cond21_pos k
  have d2 := cond14_pos k hT; have d3 := cond15_pos k hi; have d6 := cond18_pos k hi; have d12 := cond24_neg k h0
  unfold words trip
  sl_unfold [k0_t2_body]
  sl_exec
  iapply (call_trip c k none 18 (fun _ h => nomatch h))
  iapply (look_next_of c XW k ⟨k.val / 18, hj⟩ fw' _ _ _ _ _ _ _ (at_j k hi))
  isplitl [HO]; · iexists _; iexact HO
  isplitl [Hwc]; · iexact Hwc
  isplitl [Hws]; · iexact Hws
  isplitl [Hwt]; · iexact Hwt
  iintro ⟨%W', HO⟩ Hwf
  sl_exec
  have ew : ∀ (k : K) (hi : k.val % 18 = 0) (h0 : k.val = 0) (hT : k.val + 1 < T) (hj : k.val / 18 < NB - 1),
      trip_first.sl.r_1 k hj = w5 (k.val + 1) ∧ trip_first.sl.v240_r1 k = w6 (k.val + 1) ∧ trip_first.sl.r k hj = w7 (k.val + 1) ∧ 0#32 = w8 (k.val + 1) ∧ trip_first.sl.v154_r1 k = w9 (k.val + 1)
        ∧ trip_first.sl.v244_r1 k = w10 (k.val + 1) ∧ trip_first.sl.v214_r1 k = w11 (k.val + 1) ∧ trip_first.sl.v236_r1 k = w12 (k.val + 1) ∧ trip_first.sl.v252_r1 k = w13 (k.val + 1) ∧ trip_first.sl.v248_r1 k = w14 (k.val + 1) := by decide +kernel
  obtain ⟨e1, e2, e3, e4, e5, e6, e7, e8, e9, e10⟩ := ew k hi h0 hT hj
  have er : k0_pay3 (trip_first.sl.v254_r1 c XW k c3 d6) = wtR c XW (Ring.bk NB (k.val / 18)) := by
    unfold trip_first.sl.v254_r1
    exact block_store c XW (off45_k k) _ _ _ (View.read_writes_whole _ _ _)
  have es : sM.view.read (Elt F) (sM.view.writes (Elt F) fs (trip_first.sl.Hs_1 c XW k c3 d6)) = wtR c XW (Ring.bk NB (k.val / 18)) := by
    unfold trip_first.sl.Hs_1
    exact (View.read_writes_full _ _ _ _ _).trans er
  have el : trip_first.sl.v190_r1 c XW k c3 d6 = wtR c XW (Ring.bk NB (k.val / 18)) := by
    unfold trip_first.sl.v190_r1 trip_first.sl.Hs_1
    exact (View.readCov_full _ _ _ _ _).trans er
  have ev : trip_first.sl.dma7 c XA XW k fo c5 c4 c3 d6 = tileV c XA XW (Ring.bk T k.val) := by
    unfold trip_first.sl.dma7 trip_first.sl.Hos_w1 trip_first.sl.v188_r1
    exact tile_store c XA XW k (off47_k k) (off46_k k) _ _ _ _ _ (View.read_writes_whole _ _ _) el
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hwf]
  · iexists _; iexact Hwf
  isplitl [Hw]
  · iexact Hw
  isplitl [Hw_dst]
  · iexists _; iexact Hw_dst
  isplitl [Hw_src]
  · iexact Hw_src
  isplitl [Hs]
  · iexists _; isplitl [Hs]; · iexact Hs
    ipureintro; exact es
  iapply (inO_of c XA XW O0 ev _); iexact Hoc

/-- The first trip of a later column block, but the last block. -/
theorem trip_new (k : K) (hi : k.val % 18 = 0) (h0 : ¬ k.val = 0) (hT : k.val + 1 < T) (hj : k.val / 18 < NB - 1) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ inW c XW (Ring.sl 2 (k.val / 18)) (Ring.bk NB (k.val / 18)) ∗ (∃ f, sP c f) ∗ frW c (Ring.sl 2 (k.val / 18 + 1)) ∗ wtP c XW (Ring.bk NB (k.val / 18 + 1)) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ inW c XW (Ring.sl 2 (k.val / 18 + 1)) (Ring.bk NB (k.val / 18 + 1)) ∗ wcellP c (Ring.sl 2 (k.val / 18)) ∗ (∃ f, wslotP c (Ring.sl 2 (k.val / 18)) f) ∗ wtP c XW (Ring.bk NB (k.val / 18)) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨Hac, %fa', Has⟩, Hact, ⟨%fw, Hw⟩, ⟨%fs, Hs⟩, ⟨Hwc, %fw', Hws⟩, Hwt, ⟨%fo', Ho⟩, ⟨Hoc, %fo, Hos⟩, Ht⟩
  have c5 := chk12_k k; have c4 := chk11_k k; have c3 := chk10_k k; have d4 := cond16_pos k; have d9 := cond21_pos k
  have d2 := cond14_pos k hT; have d3 := cond15_pos k hi; have d6 := cond18_pos k hi; have d12 := cond24_pos k h0
  unfold words trip
  sl_unfold [k0_t2_body]
  sl_exec
  iapply (call_trip c k none 18 (fun _ h => nomatch h))
  iapply (look_next_of c XW k ⟨k.val / 18, hj⟩ fw' _ _ _ _ _ _ _ (at_j k hi))
  isplitl [HO]; · iexists _; iexact HO
  isplitl [Hwc]; · iexact Hwc
  isplitl [Hws]; · iexact Hws
  isplitl [Hwt]; · iexact Hwt
  iintro ⟨%W', HO⟩ Hwf
  sl_exec
  have ew : ∀ (k : K) (hi : k.val % 18 = 0) (h0 : ¬ k.val = 0) (hT : k.val + 1 < T) (hj : k.val / 18 < NB - 1),
      trip_new.sl.r_1 k hj = w5 (k.val + 1) ∧ trip_new.sl.v240_r1 k = w6 (k.val + 1) ∧ trip_new.sl.r k hj = w7 (k.val + 1) ∧ 0#32 = w8 (k.val + 1) ∧ trip_new.sl.v154_r1 k = w9 (k.val + 1)
        ∧ trip_new.sl.v244_r1 k = w10 (k.val + 1) ∧ trip_new.sl.v214_r1 k = w11 (k.val + 1) ∧ trip_new.sl.v236_r1 k = w12 (k.val + 1) ∧ trip_new.sl.v252_r1 k = w13 (k.val + 1) ∧ trip_new.sl.v248_r1 k = w14 (k.val + 1) := by decide +kernel
  obtain ⟨e1, e2, e3, e4, e5, e6, e7, e8, e9, e10⟩ := ew k hi h0 hT hj
  have er : k0_pay3 (trip_new.sl.v254_r1 c XW k c3 d6) = wtR c XW (Ring.bk NB (k.val / 18)) := by
    unfold trip_new.sl.v254_r1
    exact block_store c XW (off45_k k) _ _ _ (View.read_writes_whole _ _ _)
  have es : sM.view.read (Elt F) (sM.view.writes (Elt F) fs (trip_new.sl.Hs_1 c XW k c3 d6)) = wtR c XW (Ring.bk NB (k.val / 18)) := by
    unfold trip_new.sl.Hs_1
    exact (View.read_writes_full _ _ _ _ _).trans er
  have el : trip_new.sl.v190_r1 c XW k c3 d6 = wtR c XW (Ring.bk NB (k.val / 18)) := by
    unfold trip_new.sl.v190_r1 trip_new.sl.Hs_1
    exact (View.readCov_full _ _ _ _ _).trans er
  have ev : trip_new.sl.dma7 c XA XW k fo c5 c4 c3 d6 = tileV c XA XW (Ring.bk T k.val) := by
    unfold trip_new.sl.dma7 trip_new.sl.Hos_w1 trip_new.sl.v188_r1
    exact tile_store c XA XW k (off47_k k) (off46_k k) _ _ _ _ _ (View.read_writes_whole _ _ _) el
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hwf]
  · iexists _; iexact Hwf
  isplitl [Hw]
  · iexact Hw
  isplitl [Hw_dst]
  · iexists _; iexact Hw_dst
  isplitl [Hw_src]
  · iexact Hw_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

/-- The first trip of the last column block. -/
theorem trip_newlast (k : K) (hi : k.val % 18 = 0) (h0 : ¬ k.val = 0) (hT : k.val + 1 < T) (hj : k.val / 18 = NB - 1) :
    iprop((∃ W, owes (c : Thread nD τ) 0 W) ∗ inA c XA (Ring.sl 2 k.val) (Ring.bk 18 k.val) ∗ frA c (Ring.sl 2 (k.val + 1)) ∗ actP c XA (Ring.bk 18 (k.val + 1)) ∗ inW c XW (Ring.sl 2 (k.val / 18)) (Ring.bk NB (k.val / 18)) ∗ (∃ f, sP c f) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ inA c XA (Ring.sl 2 (k.val + 1)) (Ring.bk 18 (k.val + 1)) ∗ acellP c (Ring.sl 2 k.val) ∗ (∃ f, aslotP c (Ring.sl 2 k.val) f) ∗ actP c XA (Ring.bk 18 k.val) ∗ wcellP c (Ring.sl 2 (k.val / 18)) ∗ (∃ f, wslotP c (Ring.sl 2 (k.val / 18)) f) ∗ wtP c XW (Ring.bk NB (k.val / 18)) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨Hac, %fa', Has⟩, Hact, ⟨%fw, Hw⟩, ⟨%fs, Hs⟩, ⟨%fo', Ho⟩, ⟨Hoc, %fo, Hos⟩, Ht⟩
  have c5 := chk12_k k; have c4 := chk11_k k; have c3 := chk10_k k; have d4 := cond16_pos k; have d9 := cond21_pos k
  have d2 := cond14_pos k hT; have d3 := cond15_pos k hi; have d6 := cond18_pos k hi; have d12 := cond24_pos k h0
  unfold words trip
  sl_unfold [k0_t2_body]
  sl_exec
  iapply (call_trip c k none 18 (fun _ h => nomatch h))
  iapply (look_last_of c k _ _ _ _ _ _ _ (at_last k hi hj))
  sl_exec
  have ew : ∀ (k : K) (hi : k.val % 18 = 0) (h0 : ¬ k.val = 0) (hT : k.val + 1 < T) (hj : k.val / 18 = NB - 1),
      BitVec.ofNat 32 NB = w5 (k.val + 1) ∧ trip_newlast.sl.v240_r1 k = w6 (k.val + 1) ∧ BitVec.ofNat 32 (NB - 1) = w7 (k.val + 1) ∧ 17#32 = w8 (k.val + 1) ∧ trip_newlast.sl.v154_r1 k = w9 (k.val + 1)
        ∧ trip_newlast.sl.v244_r1 k = w10 (k.val + 1) ∧ trip_newlast.sl.v214_r1 k = w11 (k.val + 1) ∧ trip_newlast.sl.v236_r1 k = w12 (k.val + 1) ∧ trip_newlast.sl.v252_r1 k = w13 (k.val + 1) ∧ trip_newlast.sl.v248_r1 k = w14 (k.val + 1) := by decide +kernel
  obtain ⟨e1, e2, e3, e4, e5, e6, e7, e8, e9, e10⟩ := ew k hi h0 hT hj
  have er : k0_pay3 (trip_newlast.sl.v254_r1 c XW k c3 d6) = wtR c XW (Ring.bk NB (k.val / 18)) := by
    unfold trip_newlast.sl.v254_r1
    exact block_store c XW (off45_k k) _ _ _ (View.read_writes_whole _ _ _)
  have es : sM.view.read (Elt F) (sM.view.writes (Elt F) fs (trip_newlast.sl.Hs_1 c XW k c3 d6)) = wtR c XW (Ring.bk NB (k.val / 18)) := by
    unfold trip_newlast.sl.Hs_1
    exact (View.read_writes_full _ _ _ _ _).trans er
  have el : trip_newlast.sl.v190_r1 c XW k c3 d6 = wtR c XW (Ring.bk NB (k.val / 18)) := by
    unfold trip_newlast.sl.v190_r1 trip_newlast.sl.Hs_1
    exact (View.readCov_full _ _ _ _ _).trans er
  have ev : trip_newlast.sl.dma7 c XA XW k fo c5 c4 c3 d6 = tileV c XA XW (Ring.bk T k.val) := by
    unfold trip_newlast.sl.dma7 trip_newlast.sl.Hos_w1 trip_newlast.sl.v188_r1
    exact tile_store c XA XW k (off47_k k) (off46_k k) _ _ _ _ _ (View.read_writes_whole _ _ _) el
  sl_step
  isplitr; · ipureintro; exact words_eq e1 e2 e3 e4 e5 e6 e7 e8 e9 e10
  isplitl [HO]
  · iexists _; iexact HO
  isplitl [Hac]
  · iexists _; iexact Hac
  isplitl [Ha]
  · iexact Ha
  isplitl [Ha_dst]
  · iexists _; iexact Ha_dst
  isplitl [Ha_src]
  · iexact Ha_src
  isplitl [Hw]
  · iexact Hw
  isplitl [Hw_dst]
  · iexists _; iexact Hw_dst
  isplitl [Hw_src]
  · iexact Hw_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

/-- The last trip. -/
theorem trip_end (k : K) (hi : ¬ k.val % 18 = 0) (h0 : ¬ k.val = 0) (hT : ¬ k.val + 1 < T) :
    iprop((∃ W, owes (c : Thread nD τ) 0 W) ∗ inA c XA (Ring.sl 2 k.val) (Ring.bk 18 k.val) ∗ sIs c XW (Ring.bk NB (k.val / 18)) ∗ inO c XA XW O0 (Ring.sl 2 (k.val + 1)) (Ring.bk T (k.val - 1)) ∗ frO c (Ring.sl 2 k.val) ∗ tileP c (Ring.bk T k.val) O0)
      ⊢ wp frame (wpE (defs₀ (F := F)) 𝒱₀ (c : Thread nD τ) none) Set.univ (trip v29 k (words k.val))
        (fun acc => iprop(⌜acc = words (k.val + 1)⌝ ∗ (∃ W, owes (c : Thread nD τ) 0 W) ∗ acellP c (Ring.sl 2 k.val) ∗ (∃ f, aslotP c (Ring.sl 2 k.val) f) ∗ actP c XA (Ring.bk 18 k.val) ∗ sIs c XW (Ring.bk NB (k.val / 18)) ∗ inO c XA XW O0 (Ring.sl 2 k.val) (Ring.bk T k.val) ∗ ocellP c (Ring.sl 2 (k.val + 1)) ∗ (∃ f, oslotP c (Ring.sl 2 (k.val + 1)) f) ∗ doneP c XA XW (Ring.bk T (k.val - 1)))) := by
  iintro ⟨⟨%W, HO⟩, ⟨%fa, Ha⟩, ⟨%fs, Hs, %hfs⟩, ⟨%fo', Ho⟩, ⟨Hoc, %fo, Hos⟩, Ht⟩
  have c5 := chk12_k k; have c4 := chk11_k k; have c3 := chk10_k k; have d4 := cond16_pos k; have d9 := cond21_pos k
  have d2 := cond14_neg k hT; have d3 := cond15_neg k hi; have d6 := cond18_neg k hi; have d12 := cond24_pos k h0
  unfold words trip
  sl_unfold [k0_t2_body]
  sl_exec
  iapply (call_trip c k none 0 (fun _ h => nomatch h))
  iapply (look_exit c k _ (some 0) _ _ _ _ _ (stop_k k hi))
  sl_exec
  have ew : ∀ (k : K) (hi : ¬ k.val % 18 = 0) (h0 : ¬ k.val = 0) (hT : ¬ k.val + 1 < T),
      trip_end.sl.r_2 k = w5 (k.val + 1) ∧ trip_end.sl.v240_r1 k = w6 (k.val + 1) ∧ trip_end.sl.r k = w7 (k.val + 1) ∧ trip_end.sl.r_1 k = w8 (k.val + 1) ∧ trip_end.sl.v154_r1 k = w9 (k.val + 1)
        ∧ trip_end.sl.v244_r1 k = w10 (k.val + 1) ∧ trip_end.sl.v214_r1 k = w11 (k.val + 1) ∧ trip_end.sl.v236_r1 k = w12 (k.val + 1) ∧ trip_end.sl.v252_r1 k = w13 (k.val + 1) ∧ trip_end.sl.v248_r1 k = w14 (k.val + 1) := by decide +kernel
  obtain ⟨e1, e2, e3, e4, e5, e6, e7, e8, e9, e10⟩ := ew k hi h0 hT
  have es : sM.view.read (Elt F) fs = wtR c XW (Ring.bk NB (k.val / 18)) := hfs
  have ev : trip_end.sl.dma4 c XA k fs fo c5 c4 = tileV c XA XW (Ring.bk T k.val) := by
    unfold trip_end.sl.dma4 trip_end.sl.Hos_w1 trip_end.sl.v188_r1
    exact tile_store c XA XW k (off47_k k) (off46_k k) _ _ _ _ _ (View.read_writes_whole _ _ _) ((View.readAt_full _ _ _).trans es)
  sl_step
  isplitr; · ipureintro; exact words_eq e1 e2 e3 e4 e5 e6 e7 e8 e9 e10
  isplitl [HO]
  · iexists _; iexact HO
  isplitl [Ha]
  · iexact Ha
  isplitl [Ha_dst]
  · iexists _; iexact Ha_dst
  isplitl [Ha_src]
  · iexact Ha_src
  isplitl [Hs]
  · iexists _; isplitl [Hs]; · iexact Hs
    ipureintro; exact es
  isplitl [Hoc]
  · iapply (inO_of c XA XW O0 ev _); iexact Hoc
  isplitl [Ho]
  · iexact Ho
  isplitl [Ho_src]
  · iexists _; iexact Ho_src
  iexists _; isplitl [Ho_dst]; · iexact Ho_dst
  ipureintro; exact View.read_writes_whole _ _ _

end

end Cert.Proof.R1

end
-- ==== Proof.Loop1.lean ====
/-
  The second column range's loop: what is held before each trip, and that a trip keeps it.

  Then its slots, weight blocks and tiles as sets of elements of the buffers they are cut from.
-/
module

public import proofs.«01_k».proof.Proof.Trip1
public import Idealize.ShloMosaic.Lib.Ring
public import Idealize.ShloMosaic.Lib.ValueIdx

@[expose] public section

noncomputable section

namespace Cert.Proof.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (XA : Buf (Elt F) (aM.view.loc (c : Thread nD τ))) (XW : Buf (Elt F) (wM.view.loc (c : Thread nD τ)))
  (O0 : Buf (Elt F) (oM.view.loc (c : Thread nD τ))) (v29 : BitVec 32)

/-- The scratch before trip `k`: inside a column block it holds the rounded block. -/
def scratch (k : ℕ) : sProp 𝕄 := if k % 18 = 0 then iprop(∃ f, sP c f) else sIs c XW (Ring.bk NB (k / 18))
/-- The finished tiles other than the last, and the tiles after trip `k`'s. -/
abbrev tiles (k : ℕ) : sProp 𝕄 := iprop(bigSep (Ring.rangeSet T 0 (k - 1)) (doneP c XA XW) ∗ bigSep (Ring.rangeSet T (k + 1) T) (fun t => tileP c t O0))
/-- The output side before trip `k`: from the second trip on the last tile is on its way. -/
def output (k : ℕ) : sProp 𝕄 :=
  iprop((if k = 0 then frO c (Ring.sl 2 (k + 1)) else inO c XA XW O0 (Ring.sl 2 (k + 1)) (Ring.bk T (k - 1))) ∗ frO c (Ring.sl 2 k)
    ∗ bigSep (Ring.rangeSet T 0 (k - 1)) (doneP c XA XW) ∗ bigSep (Ring.rangeSet T k T) (fun t => tileP c t O0))
/-- What is held before trip `k`. -/
def inv (k : ℕ) (acc : Words) : sProp 𝕄 :=
  iprop(⌜acc = words k⌝ ∗ (∃ W, owes (c : Thread nD τ) 0 W) ∗ turns (inA c XA) (frA c) (actP c XA) T k
    ∗ turns (inW c XW) (frW c) (wtP c XW) NB ((k + 17) / 18) ∗ scratch c XW k ∗ output c XA XW O0 k)

theorem scratch_next (k : ℕ) : sIs c XW (Ring.bk NB (k / 18)) ⊢ scratch c XW (k + 1) := by
  unfold scratch
  split
  · iintro ⟨%f, H, -⟩; iexists f; iexact H
  · rename_i h; rw [show (k + 1) / 18 = k / 18 by omega]

theorem bk_T {k : ℕ} (h : k < T) : Ring.bk T k = ⟨k, h⟩ := Fin.ext (Nat.mod_eq_of_lt h)

theorem tiles_split (k : ℕ) (hk : k < T) :
    bigSep (Ring.rangeSet T k T) (fun t => tileP (F := F) c t O0) = iprop(tileP c (Ring.bk T k) O0 ∗ bigSep (Ring.rangeSet T (k + 1) T) (fun t => tileP c t O0)) := by
  rw [Ring.bigSep_rangeSet_head hk hk, bk_T hk]

theorem output_first (k : ℕ) (hk : k < T) (h0 : k = 0) :
    output c XA XW O0 k = iprop(frO c (Ring.sl 2 (k + 1)) ∗ frO c (Ring.sl 2 k) ∗ bigSep (Ring.rangeSet T 0 (k - 1)) (doneP c XA XW)
      ∗ tileP c (Ring.bk T k) O0 ∗ bigSep (Ring.rangeSet T (k + 1) T) (fun t => tileP c t O0)) := by
  unfold output; rw [if_pos h0, tiles_split c O0 k hk]

theorem output_open (k : ℕ) (hk : k < T) (h0 : ¬ k = 0) :
    output c XA XW O0 k = iprop(inO c XA XW O0 (Ring.sl 2 (k + 1)) (Ring.bk T (k - 1)) ∗ frO c (Ring.sl 2 k) ∗ bigSep (Ring.rangeSet T 0 (k - 1)) (doneP c XA XW)
      ∗ tileP c (Ring.bk T k) O0 ∗ bigSep (Ring.rangeSet T (k + 1) T) (fun t => tileP c t O0)) := by
  unfold output; rw [if_neg h0, tiles_split c O0 k hk]

theorem output_first_next (k : ℕ) (h0 : k = 0) :
    output c XA XW O0 (k + 1) = iprop(inO c XA XW O0 (Ring.sl 2 k) (Ring.bk T k) ∗ frO c (Ring.sl 2 (k + 1)) ∗ bigSep (Ring.rangeSet T 0 (k - 1)) (doneP c XA XW)
      ∗ bigSep (Ring.rangeSet T (k + 1) T) (fun t => tileP c t O0)) := by
  subst h0; rfl

theorem output_next (k : ℕ) (hk : k < T) (h0 : ¬ k = 0) :
    output c XA XW O0 (k + 1) = iprop(inO c XA XW O0 (Ring.sl 2 k) (Ring.bk T k) ∗ frO c (Ring.sl 2 (k + 1))
      ∗ (doneP c XA XW (Ring.bk T (k - 1)) ∗ bigSep (Ring.rangeSet T 0 (k - 1)) (doneP c XA XW)) ∗ bigSep (Ring.rangeSet T (k + 1) T) (fun t => tileP c t O0)) := by
  unfold output
  rw [if_neg (Nat.succ_ne_zero k), sl_two, Nat.add_sub_cancel, Ring.bigSep_rangeSet_last (lo := 0) (hi := k) (by omega) (by omega), bk_T (show k - 1 < T by omega)]

theorem scratch_any (k : ℕ) (h : k % 18 = 0) : scratch c XW k = iprop(∃ f, sP c f) := if_pos h
theorem scratch_is (k : ℕ) (h : ¬ k % 18 = 0) : scratch c XW k = sIs c XW (Ring.bk NB (k / 18)) := if_neg h

theorem step_mid (k : K) (hk : k.val < T) (hi : ¬ k.val % 18 = 0) (h0 : ¬ k.val = 0) (hT : k.val + 1 < T) :
    inv c XA XW O0 k.val (words k.val) ⊢ wp frame (wpE (defs₀ (F := F)) 𝒱₀ (c : Thread nD τ) none) Set.univ (trip v29 k (words k.val)) (inv c XA XW O0 (k.val + 1)) := by
  have hk' : k.val < 252 := hk
  unfold inv
  rw [turns_open (inA c XA) (frA c) (actP c XA) (by decide) T k.val hT,
    turns_close (inA c XA) (frA c) (actP c XA) (by decide) T k.val hT,
    show (k.val + 1 + 17) / 18 = (k.val + 17) / 18 by omega,
    scratch_is c XW k.val hi,
    output_open c XA XW O0 k.val hk h0,
    output_next c XA XW O0 k.val hk h0]
  iintro ⟨-, HO, ⟨HA1, ⟨HA2, HA3⟩, HA4, HA5⟩, HW, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HS Ho1 Ho2 Ht]
  · iapply (trip_mid c XA XW O0 v29 k hi h0 hT)
    isplitl [HO]; · iexact HO
    isplitl [HA1]; · iexact HA1
    isplitl [HA2 HA3]
    · isplitl [HA2]; · iexact HA2
      iexact HA3
    isplitl [HA4]; · iexact HA4
    isplitl [HS]; · iexact HS
    isplitl [Ho1]; · iexact Ho1
    isplitl [Ho2]; · iexact Ho2
    iexact Ht
  iintro %acc ⟨%e, HO, A1, A2, A3, A4, S, O1, O2, O3, D⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [HW]
  · iexact HW
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

theorem step_first (k : K) (hk : k.val < T) (hi : k.val % 18 = 0) (h0 : k.val = 0) (hT : k.val + 1 < T) (hj : k.val / 18 < NB - 1) :
    inv c XA XW O0 k.val (words k.val) ⊢ wp frame (wpE (defs₀ (F := F)) 𝒱₀ (c : Thread nD τ) none) Set.univ (trip v29 k (words k.val)) (inv c XA XW O0 (k.val + 1)) := by
  have hk' : k.val < 252 := hk
  have hj' : k.val / 18 < 14 - 1 := hj
  unfold inv
  rw [turns_open (inA c XA) (frA c) (actP c XA) (by decide) T k.val hT,
    turns_close (inA c XA) (frA c) (actP c XA) (by decide) T k.val hT,
    show (k.val + 17) / 18 = k.val / 18 by omega,
    show (k.val + 1 + 17) / 18 = k.val / 18 + 1 by omega,
    scratch_any c XW k.val hi,
    turns_open (inW c XW) (frW c) (wtP c XW) (by decide) NB (k.val / 18) (by omega),
    turns_close (inW c XW) (frW c) (wtP c XW) (by decide) NB (k.val / 18) (by omega),
    output_first c XA XW O0 k.val hk h0,
    output_first_next c XA XW O0 k.val h0]
  iintro ⟨-, HO, ⟨HA1, ⟨HA2, HA3⟩, HA4, HA5⟩, ⟨HW1, ⟨HW2, HW3⟩, HW4, HW5⟩, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HW1 HS HW2 HW3 HW4 Ho2 Ht]
  · iapply (trip_first c XA XW O0 v29 k hi h0 hT hj)
    isplitl [HO]; · iexact HO
    isplitl [HA1]; · iexact HA1
    isplitl [HA2 HA3]
    · isplitl [HA2]; · iexact HA2
      iexact HA3
    isplitl [HA4]; · iexact HA4
    isplitl [HW1]; · iexact HW1
    isplitl [HS]; · iexact HS
    isplitl [HW2 HW3]
    · isplitl [HW2]; · iexact HW2
      iexact HW3
    isplitl [HW4]; · iexact HW4
    isplitl [Ho2]; · iexact Ho2
    iexact Ht
  iintro %acc ⟨%e, HO, A1, A2, A3, A4, W1, W2, W3, W4, S, O1⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [W1 W2 W3 W4 HW5]
  · isplitl [W1]; · iexact W1
    isplitl [W2 W3]
    · isplitl [W2]; · iexact W2
      iexact W3
    isplitl [W4]; · iexact W4
    iexact HW5
  isplitl [S]; · iapply (scratch_next c XW k.val); iexact S
  isplitl [O1]; · iexact O1
  isplitl [Ho1]; · iexact Ho1
  isplitl [Hd]; · iexact Hd
  iexact Hr

theorem step_new (k : K) (hk : k.val < T) (hi : k.val % 18 = 0) (h0 : ¬ k.val = 0) (hT : k.val + 1 < T) (hj : k.val / 18 < NB - 1) :
    inv c XA XW O0 k.val (words k.val) ⊢ wp frame (wpE (defs₀ (F := F)) 𝒱₀ (c : Thread nD τ) none) Set.univ (trip v29 k (words k.val)) (inv c XA XW O0 (k.val + 1)) := by
  have hk' : k.val < 252 := hk
  have hj' : k.val / 18 < 14 - 1 := hj
  unfold inv
  rw [turns_open (inA c XA) (frA c) (actP c XA) (by decide) T k.val hT,
    turns_close (inA c XA) (frA c) (actP c XA) (by decide) T k.val hT,
    show (k.val + 17) / 18 = k.val / 18 by omega,
    show (k.val + 1 + 17) / 18 = k.val / 18 + 1 by omega,
    scratch_any c XW k.val hi,
    turns_open (inW c XW) (frW c) (wtP c XW) (by decide) NB (k.val / 18) (by omega),
    turns_close (inW c XW) (frW c) (wtP c XW) (by decide) NB (k.val / 18) (by omega),
    output_open c XA XW O0 k.val hk h0,
    output_next c XA XW O0 k.val hk h0]
  iintro ⟨-, HO, ⟨HA1, ⟨HA2, HA3⟩, HA4, HA5⟩, ⟨HW1, ⟨HW2, HW3⟩, HW4, HW5⟩, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HW1 HS HW2 HW3 HW4 Ho1 Ho2 Ht]
  · iapply (trip_new c XA XW O0 v29 k hi h0 hT hj)
    isplitl [HO]; · iexact HO
    isplitl [HA1]; · iexact HA1
    isplitl [HA2 HA3]
    · isplitl [HA2]; · iexact HA2
      iexact HA3
    isplitl [HA4]; · iexact HA4
    isplitl [HW1]; · iexact HW1
    isplitl [HS]; · iexact HS
    isplitl [HW2 HW3]
    · isplitl [HW2]; · iexact HW2
      iexact HW3
    isplitl [HW4]; · iexact HW4
    isplitl [Ho1]; · iexact Ho1
    isplitl [Ho2]; · iexact Ho2
    iexact Ht
  iintro %acc ⟨%e, HO, A1, A2, A3, A4, W1, W2, W3, W4, S, O1, O2, O3, D⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [W1 W2 W3 W4 HW5]
  · isplitl [W1]; · iexact W1
    isplitl [W2 W3]
    · isplitl [W2]; · iexact W2
      iexact W3
    isplitl [W4]; · iexact W4
    iexact HW5
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

theorem step_newlast (k : K) (hk : k.val < T) (hi : k.val % 18 = 0) (h0 : ¬ k.val = 0) (hT : k.val + 1 < T) (hj : k.val / 18 = NB - 1) :
    inv c XA XW O0 k.val (words k.val) ⊢ wp frame (wpE (defs₀ (F := F)) 𝒱₀ (c : Thread nD τ) none) Set.univ (trip v29 k (words k.val)) (inv c XA XW O0 (k.val + 1)) := by
  have hk' : k.val < 252 := hk
  have hj' : k.val / 18 = 14 - 1 := hj
  unfold inv
  rw [turns_open (inA c XA) (frA c) (actP c XA) (by decide) T k.val hT,
    turns_close (inA c XA) (frA c) (actP c XA) (by decide) T k.val hT,
    show (k.val + 17) / 18 = k.val / 18 by omega,
    show (k.val + 1 + 17) / 18 = k.val / 18 + 1 by omega,
    scratch_any c XW k.val hi,
    turns_last (inW c XW) (frW c) (wtP c XW) NB (k.val / 18) (by omega),
    turns_done (inW c XW) (frW c) (wtP c XW) NB (k.val / 18) (by omega),
    output_open c XA XW O0 k.val hk h0,
    output_next c XA XW O0 k.val hk h0]
  iintro ⟨-, HO, ⟨HA1, ⟨HA2, HA3⟩, HA4, HA5⟩, ⟨HW1, HW2, HW5⟩, HS, Ho1, Ho2, Hd, Ht, Hr⟩
  iapply (wp_wand_r Idealize.ShloMosaic.frame (wpE (defs₀ (F := F)) 𝒱₀ (c : Thread nD τ) none) Set.univ)
  isplitl [HO HA1 HA2 HA3 HA4 HW1 HS Ho1 Ho2 Ht]
  · iapply (trip_newlast c XA XW O0 v29 k hi h0 hT hj)
    isplitl [HO]; · iexact HO
    isplitl [HA1]; · iexact HA1
    isplitl [HA2 HA3]
    · isplitl [HA2]; · iexact HA2
      iexact HA3
    isplitl [HA4]; · iexact HA4
    isplitl [HW1]; · iexact HW1
    isplitl [HS]; · iexact HS
    isplitl [Ho1]; · iexact Ho1
    isplitl [Ho2]; · iexact Ho2
    iexact Ht
  iintro %acc ⟨%e, HO, A1, A2, A3, A4, W2, W3, W4, S, O1, O2, O3, D⟩
  isplitr; · ipureintro; exact e
  isplitl [HO]; · iexact HO
  isplitl [A1 A2 A3 A4 HA5]
  · isplitl [A1]; · iexact A1
    isplitl [A2 A3]
    · isplitl [A2]; · iexact A2
      iexact A3
    isplitl [A4]; · iexact A4
    iexact HA5
  isplitl [HW2 W2 W3 W4 HW5]
  · isplitl [HW2]; · iexact HW2
    isplitl [W2 W3]
    · isplitl [W2]; · iexact W2
      iexact W3
    isplitl [W4]; · iexact W4
    iexact HW5
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

theorem step_end (k : K) (hk : k.val < T) (hi : ¬ k.val % 18 = 0) (h0 : ¬ k.val = 0) (hT : ¬ k.val + 1 < T) :
    inv c XA XW O0 k.val (words k.val) ⊢ wp frame (wpE (defs₀ (F := F)) 𝒱₀ (c : Thread nD τ) none) Set.univ (trip v29 k (words k.val)) (inv c XA XW O0 (k.val + 1)) := by
  have hk' : k.val < 252 := hk
  have hT' : k.val + 1 = T := Nat.le_antisymm hk (Nat.not_lt.mp hT)
  unfold inv
  rw [turns_last (inA c XA) (frA c) (actP c XA) T k.val hT',
    turns_done (inA c XA) (frA c) (actP c XA) T k.val hT',
    show (k.val + 1 + 17) / 18 = (k.val + 17) / 18 by omega,
    scratch_is c XW k.val hi,
    output_open c XA XW O0 k.val hk h0,
    output_next c XA XW O0 k.val hk h0]
  iintro ⟨-, HO, ⟨HA1, HA2, HA5⟩, HW, HS, Ho1, Ho2, Hd, Ht, Hr⟩
  iapply (wp_wand_r Idealize.ShloMosaic.frame (wpE (defs₀ (F := F)) 𝒱₀ (c : Thread nD τ) none) Set.univ)
  isplitl [HO HA1 HS Ho1 Ho2 Ht]
  · iapply (trip_end c XA XW O0 v29 k hi h0 hT)
    isplitl [HO]; · iexact HO
    isplitl [HA1]; · iexact HA1
    isplitl [HS]; · iexact HS
    isplitl [Ho1]; · iexact Ho1
    isplitl [Ho2]; · iexact Ho2
    iexact Ht
  iintro %acc ⟨%e, HO, A2, A3, A4, S, O1, O2, O3, D⟩
  isplitr; · ipureintro; exact e
  isplitl [HO]; · iexact HO
  isplitl [HA2 A2 A3 A4 HA5]
  · isplitl [HA2]; · iexact HA2
    isplitl [A2 A3]
    · isplitl [A2]; · iexact A2
      iexact A3
    isplitl [A4]; · iexact A4
    iexact HA5
  isplitl [HW]
  · iexact HW
  isplitl [S]; · iapply (scratch_next c XW k.val); iexact S
  isplitl [O1]; · iexact O1
  isplitl [O2 O3]
  · isplitl [O2]; · iexact O2
    iexact O3
  isplitl [D Hd]
  · isplitl [D]; · iexact D
    iexact Hd
  iexact Hr

/-- A trip keeps what is held. -/
theorem step (k : K) (acc : Words) :
    inv c XA XW O0 k.val acc ⊢ wp frame (wpE (defs₀ (F := F)) 𝒱₀ (c : Thread nD τ) none) Set.univ (trip v29 k acc) (inv c XA XW O0 (k.val + 1)) := by
  have hk : k.val < T := trips_eq ▸ k.isLt
  have hT : k.val < 252 := hk
  by_cases e : acc = words k.val
  · subst e
    by_cases hi : k.val % 18 = 0
    · have h1 : k.val + 1 < T := by show k.val + 1 < 252; omega
      by_cases h0 : k.val = 0
      · exact step_first c XA XW O0 v29 k hk hi h0 h1 (by show k.val / 18 < 14 - 1; omega)
      · by_cases hj : k.val / 18 < NB - 1
        · exact step_new c XA XW O0 v29 k hk hi h0 h1 hj
        · have hj' : ¬ k.val / 18 < 14 - 1 := hj
          exact step_newlast c XA XW O0 v29 k hk hi h0 h1 (by show k.val / 18 = 14 - 1; omega)
    · have h0 : ¬ k.val = 0 := fun h => hi (by rw [h])
      by_cases h1 : k.val + 1 < T
      · exact step_mid c XA XW O0 v29 k hk hi h0 h1
      · exact step_end c XA XW O0 v29 k hk hi h0 h1
  · unfold inv; iintro ⟨%e', -⟩; exact absurd e' e

end

/-! ## Entering the loop and leaving it -/

section
variable (c : Dev nD) (XA : Buf (Elt F) (aM.view.loc (c : Thread nD τ))) (XW : Buf (Elt F) (wM.view.loc (c : Thread nD τ)))
  (O0 : Buf (Elt F) (oM.view.loc (c : Thread nD τ)))

/-- Both prologue transfers sent, the rest at rest: the loop may begin. -/
theorem enter :
    iprop((∃ W, owes (c : Thread nD τ) 0 W) ∗ inA c XA 0 0 ∗ frA c 1 ∗ bigSep (Finset.univ.erase 0) (actP c XA)
        ∗ inW c XW 0 0 ∗ frW c 1 ∗ bigSep (Finset.univ.erase 0) (wtP c XW) ∗ (∃ f, sP c f) ∗ frO c 0 ∗ frO c 1 ∗ bigSep Finset.univ (fun t => tileP c t O0))
      ⊢ inv c XA XW O0 0 (words 0) := by
  unfold inv output
  rw [show (0 + 17) / 18 = 0 from rfl, turns_start (inA c XA) (frA c) (actP c XA) T (by decide), turns_start (inW c XW) (frW c) (wtP c XW) NB (by decide), scratch_any c XW 0 rfl, if_pos rfl]
  iintro ⟨HO, A1, A2, A3, W1, W2, W3, S, O1, O2, Ht⟩
  isplitr; · ipureintro; rfl
  isplitl [HO]; · iexact HO
  isplitl [A1 A2 A3]
  · isplitl [A1]; · iexact A1
    isplitl [A2]; · iexact A2
    iexact A3
  isplitl [W1 W2 W3]
  · isplitl [W1]; · iexact W1
    isplitl [W2]; · iexact W2
    iexact W3
  isplitl [S]; · iexact S
  isplitl [O2]; · iexact O2
  isplitl [O1]; · iexact O1
  isplitr
  · irw [Ring.bigSep_rangeSet_empty (lo := 0) (hi := 0 - 1) (Nat.le_refl _)]; iempintro
  irw [Ring.rangeSet_univ]
  iexact Ht

/-- The last trip made: only the last tile is still on its way. -/
theorem leave (k : ℕ) (hk : k = T) (acc : Words) :
    inv c XA XW O0 k acc ⊢ iprop(⌜acc = words T⌝ ∗ (∃ W, owes (c : Thread nD τ) 0 W) ∗ frA c 0 ∗ frA c 1 ∗ bigSep Finset.univ (actP c XA)
      ∗ frW c 0 ∗ frW c 1 ∗ bigSep Finset.univ (wtP c XW) ∗ (∃ f, sP c f) ∗ inO c XA XW O0 1 (Ring.bk T 251) ∗ frO c 0 ∗ bigSep (Ring.rangeSet T 0 251) (doneP c XA XW)) := by
  subst hk
  unfold inv output
  rw [turns_end (inA c XA) (frA c) (actP c XA) T T rfl, turns_end (inW c XW) (frW c) (wtP c XW) NB ((T + 17) / 18) (by decide), scratch_any c XW T rfl, if_neg (by decide)]
  iintro ⟨%e, HO, ⟨A1, A2, A3⟩, ⟨W1, W2, W3⟩, S, O1, O2, D, -⟩
  isplitr; · ipureintro; exact e
  isplitl [HO]; · iexact HO
  isplitl [A1]; · iexact A1
  isplitl [A2]; · iexact A2
  isplitl [A3]; · iexact A3
  isplitl [W1]; · iexact W1
  isplitl [W2]; · iexact W2
  isplitl [W3]; · iexact W3
  isplitl [S]; · iexact S
  isplitl [O1]; · iexact O1
  isplitl [O2]; · iexact O2
  iexact D

/-- With the last tile landed, every tile is done. -/
theorem all_done :
    iprop(doneP c XA XW (Ring.bk T 251) ∗ bigSep (Ring.rangeSet T 0 251) (doneP c XA XW)) = bigSep Finset.univ (doneP c XA XW) := by
  have h := Ring.bigSep_rangeSet_last (Φ := doneP c XA XW) (NB := T) (lo := 0) (hi := T) (by decide) (Nat.le_refl _)
  rw [← Ring.rangeSet_univ, h]; rfl

end

open Idealize.ShloMosaic.ValueIdx

/-! ## Two slots fill a ring -/

theorem wslot_set (s : Fin 2) : (wslot s).view.set = box 1024 4096 s := (View.set_reshape _ _).trans (View.set_slice_whole _ _)
theorem aslot_set (s : Fin 2) : (aslot s).view.set = box 512 4096 s := (View.set_reshape _ _).trans (View.set_slice_whole _ _)
theorem oslot_set (s : Fin 2) : (oslot s).view.set = box 512 1024 s := (View.set_reshape _ _).trans (View.set_slice_whole _ _)

section
variable (c : Dev nD)

theorem wslotP_eq (s : Fin 2) (f) : wslotP c s f = (((c : Thread nD τ).loc cc0_scoped6) ↦[box 1024 4096 s]{fullShare} f : sProp 𝕄) := congrArg (fun S => (_ ↦[S]{fullShare} f : sProp 𝕄)) (wslot_set s)
theorem aslotP_eq (s : Fin 2) (f) : aslotP c s f = (((c : Thread nD τ).loc cc0_scoped8) ↦[box 512 4096 s]{fullShare} f : sProp 𝕄) := congrArg (fun S => (_ ↦[S]{fullShare} f : sProp 𝕄)) (aslot_set s)
theorem oslotP_eq (s : Fin 2) (f) : oslotP c s f = (((c : Thread nD τ).loc cc0_scoped10) ↦[box 512 1024 s]{fullShare} f : sProp 𝕄) := congrArg (fun S => (_ ↦[S]{fullShare} f : sProp 𝕄)) (oslot_set s)

set_option maxRecDepth 20000 in
theorem w_split : iprop(∃ f : Buf (Elt F) ((c : Thread nD τ).loc cc0_scoped6), ((c : Thread nD τ).loc cc0_scoped6) ↦{fullShare} f) ⊢ (iprop((∃ f, wslotP c 0 f) ∗ ∃ f, wslotP c 1 f) : sProp 𝕄) :=
  Ring.slots2_split (ℓ := (c : Thread nD τ).loc cc0_scoped6) (box 1024 4096) box_disjoint box_cover _ _ (wslotP_eq c 0) (wslotP_eq c 1)
set_option maxRecDepth 20000 in
theorem w_join : (iprop((∃ f, wslotP c 0 f) ∗ ∃ f, wslotP c 1 f) : sProp 𝕄) ⊢ iprop(∃ f : Buf (Elt F) ((c : Thread nD τ).loc cc0_scoped6), ((c : Thread nD τ).loc cc0_scoped6) ↦{fullShare} f) :=
  Ring.slots2_join (ℓ := (c : Thread nD τ).loc cc0_scoped6) (box 1024 4096) box_disjoint box_cover _ _ (wslotP_eq c 0) (wslotP_eq c 1)
set_option maxRecDepth 20000 in
theorem a_split : iprop(∃ f : Buf (Elt F) ((c : Thread nD τ).loc cc0_scoped8), ((c : Thread nD τ).loc cc0_scoped8) ↦{fullShare} f) ⊢ (iprop((∃ f, aslotP c 0 f) ∗ ∃ f, aslotP c 1 f) : sProp 𝕄) :=
  Ring.slots2_split (ℓ := (c : Thread nD τ).loc cc0_scoped8) (box 512 4096) box_disjoint box_cover _ _ (aslotP_eq c 0) (aslotP_eq c 1)
set_option maxRecDepth 20000 in
theorem a_join : (iprop((∃ f, aslotP c 0 f) ∗ ∃ f, aslotP c 1 f) : sProp 𝕄) ⊢ iprop(∃ f : Buf (Elt F) ((c : Thread nD τ).loc cc0_scoped8), ((c : Thread nD τ).loc cc0_scoped8) ↦{fullShare} f) :=
  Ring.slots2_join (ℓ := (c : Thread nD τ).loc cc0_scoped8) (box 512 4096) box_disjoint box_cover _ _ (aslotP_eq c 0) (aslotP_eq c 1)
set_option maxRecDepth 20000 in
theorem o_split : iprop(∃ f : Buf (Elt F) ((c : Thread nD τ).loc cc0_scoped10), ((c : Thread nD τ).loc cc0_scoped10) ↦{fullShare} f) ⊢ (iprop((∃ f, oslotP c 0 f) ∗ ∃ f, oslotP c 1 f) : sProp 𝕄) :=
  Ring.slots2_split (ℓ := (c : Thread nD τ).loc cc0_scoped10) (box 512 1024) box_disjoint box_cover _ _ (oslotP_eq c 0) (oslotP_eq c 1)
set_option maxRecDepth 20000 in
theorem o_join : (iprop((∃ f, oslotP c 0 f) ∗ ∃ f, oslotP c 1 f) : sProp 𝕄) ⊢ iprop(∃ f : Buf (Elt F) ((c : Thread nD τ).loc cc0_scoped10), ((c : Thread nD τ).loc cc0_scoped10) ↦{fullShare} f) :=
  Ring.slots2_join (ℓ := (c : Thread nD τ).loc cc0_scoped10) (box 512 1024) box_disjoint box_cover _ _ (oslotP_eq c 0) (oslotP_eq c 1)

end

/-! ## The weight's blocks and the result's tiles -/

/-- The range's first row of the transposed weight, its first column of the result, and its width. -/
abbrev row0 : ℕ := 16448
abbrev col0 : ℕ := 16384
abbrev width : ℕ := 14336

/-- Where an element of a weight block, or of a tile, lies in the whole. -/
def wtAt (b : Fin NB) (x : S1024x4096.Idx) : S30784x4096.Idx := (wt b).view.emb x
def tileAt (t : Fin T) (x : S512x1024.Idx) : S9216x30720.Idx := (tile t).view.emb x

theorem wt_emb (b : Fin NB) (x : S1024x4096.Idx) :
    (wtAt b x 0).val = row0 + 1024 * b.val + (x 0).val ∧ (wtAt b x 1).val = (x 1).val := by
  constructor
  · show row0 + 1 * (1024 * b.val + 1 * (x 0).val) = _; omega
  · show 0 + 1 * (0 + 1 * (x 1).val) = _; omega
theorem tile_emb (t : Fin T) (x : S512x1024.Idx) :
    (tileAt t x 0).val = 512 * (t.val % 18) + (x 0).val ∧ (tileAt t x 1).val = col0 + 1024 * (t.val / 18) + (x 1).val := by
  constructor
  · show 0 + 1 * (512 * (t.val % 18) + 1 * (x 0).val) = _; omega
  · show col0 + 1 * (1024 * (t.val / 18) + 1 * (x 1).val) = _; omega

/-- Their elements, in the whole buffers. -/
def wtI (b : Fin NB) : Finset S30784x4096.Idx := (wt b).view.set
def tileI (t : Fin T) : Finset S9216x30720.Idx := (tile t).view.set

theorem mem_wt (b : Fin NB) (y : S30784x4096.Idx) : y ∈ wtI b ↔ row0 ≤ (y 0).val ∧ ((y 0).val - row0) / 1024 = b.val := by
  constructor
  · intro h
    obtain ⟨x, -, rfl⟩ := Finset.mem_map.mp h
    have h0 := (wt_emb b x).1
    have hx : (x 0).val < 1024 := (x 0).isLt
    constructor
    · exact le_of_le_of_eq (by omega) h0.symm
    · refine (congrArg (fun n => (n - row0) / 1024) h0).trans ?_
      show (row0 + 1024 * b.val + (x 0).val - row0) / 1024 = _; omega
  · rintro ⟨h1, h2⟩
    have hy : (y 1).val < 4096 := (y 1).isLt
    have hb : (y 0).val - row0 - 1024 * b.val < 1024 := by omega
    refine Finset.mem_map.mpr ⟨ix2 ⟨(y 0).val - row0 - 1024 * b.val, hb⟩ ⟨(y 1).val, hy⟩, Finset.mem_univ _, ?_⟩
    have e := wt_emb b (ix2 ⟨(y 0).val - row0 - 1024 * b.val, hb⟩ ⟨(y 1).val, hy⟩)
    funext a; apply Fin.ext; fin_cases a
    · refine e.1.trans ?_; show row0 + 1024 * b.val + ((y 0).val - row0 - 1024 * b.val) = (y 0).val; omega
    · exact e.2

theorem mem_tile (t : Fin T) (y : S9216x30720.Idx) :
    y ∈ tileI t ↔ (col0 ≤ (y 1).val ∧ ((y 1).val - col0) / 1024 = t.val / 18) ∧ (y 0).val / 512 = t.val % 18 := by
  constructor
  · intro h
    obtain ⟨x, -, rfl⟩ := Finset.mem_map.mp h
    obtain ⟨h0, h1⟩ := tile_emb t x
    have hx : (x 0).val < 512 := (x 0).isLt
    have hx' : (x 1).val < 1024 := (x 1).isLt
    refine ⟨⟨le_of_le_of_eq (by omega) h1.symm, ?_⟩, ?_⟩
    · refine (congrArg (fun n => (n - col0) / 1024) h1).trans ?_
      show (col0 + 1024 * (t.val / 18) + (x 1).val - col0) / 1024 = _; omega
    · refine (congrArg (fun n => n / 512) h0).trans ?_
      show (512 * (t.val % 18) + (x 0).val) / 512 = _; omega
  · rintro ⟨⟨h1, h2⟩, h3⟩
    have ha : (y 0).val - 512 * (t.val % 18) < 512 := by omega
    have hb : (y 1).val - col0 - 1024 * (t.val / 18) < 1024 := by omega
    refine Finset.mem_map.mpr ⟨ix2 ⟨(y 0).val - 512 * (t.val % 18), ha⟩ ⟨(y 1).val - col0 - 1024 * (t.val / 18), hb⟩, Finset.mem_univ _, ?_⟩
    have e := tile_emb t (ix2 ⟨(y 0).val - 512 * (t.val % 18), ha⟩ ⟨(y 1).val - col0 - 1024 * (t.val / 18), hb⟩)
    funext a; apply Fin.ext; fin_cases a
    · refine e.1.trans ?_; show 512 * (t.val % 18) + ((y 0).val - 512 * (t.val % 18)) = (y 0).val; omega
    · refine e.2.trans ?_; show col0 + 1024 * (t.val / 18) + ((y 1).val - col0 - 1024 * (t.val / 18)) = (y 1).val; omega

/-- The weight's rows and the result's columns of the range. -/
def rows : Finset S30784x4096.Idx := Finset.univ.filter fun y => row0 ≤ (y 0).val ∧ (y 0).val < row0 + width
def cols : Finset S9216x30720.Idx := Finset.univ.filter fun y => col0 ≤ (y 1).val ∧ (y 1).val < col0 + width

theorem wt_disjoint (b b' : Fin NB) (h : b ≠ b') : Disjoint (wtI b) (wtI b') := by
  rw [Finset.disjoint_left]; intro y hy hy'
  exact h (Fin.ext (((mem_wt b y).mp hy).2.symm.trans ((mem_wt b' y).mp hy').2))
theorem tile_disjoint (t t' : Fin T) (h : t ≠ t') : Disjoint (tileI t) (tileI t') := by
  rw [Finset.disjoint_left]; intro y hy hy'
  have h1 := (mem_tile t y).mp hy
  have h2 := (mem_tile t' y).mp hy'
  exact h (Fin.ext (by omega))
theorem wt_cover : (Finset.univ : Finset (Fin NB)).biUnion wtI = rows := by
  ext y
  rw [Finset.mem_biUnion, rows, Finset.mem_filter]
  constructor
  · rintro ⟨b, -, hb⟩
    have h := (mem_wt b y).mp hb
    have hb' : b.val < 14 := b.isLt
    refine ⟨Finset.mem_univ _, h.1, ?_⟩
    show (y 0).val < row0 + 14336; omega
  · rintro ⟨-, h1, h2⟩
    have h2' : (y 0).val < row0 + 14336 := h2
    exact ⟨⟨((y 0).val - row0) / 1024, show _ < 14 by omega⟩, Finset.mem_univ _, (mem_wt _ y).mpr ⟨h1, rfl⟩⟩
theorem tile_cover : (Finset.univ : Finset (Fin T)).biUnion tileI = cols := by
  ext y
  rw [Finset.mem_biUnion, cols, Finset.mem_filter]
  have hy : (y 0).val < 9216 := (y 0).isLt
  constructor
  · rintro ⟨t, -, ht⟩
    have h := (mem_tile t y).mp ht
    have ht' : t.val < 252 := t.isLt
    refine ⟨Finset.mem_univ _, h.1.1, ?_⟩
    show (y 1).val < col0 + 14336; omega
  · rintro ⟨-, h1, h2⟩
    have h2' : (y 1).val < col0 + 14336 := h2
    have hq : ((y 1).val - col0) / 1024 < 14 := by omega
    have hp : (y 0).val / 512 < 18 := by omega
    refine ⟨⟨18 * (((y 1).val - col0) / 1024) + (y 0).val / 512, show _ < 252 by omega⟩, Finset.mem_univ _, (mem_tile _ y).mpr ⟨⟨h1, ?_⟩, ?_⟩⟩
    · show _ = (18 * (((y 1).val - col0) / 1024) + (y 0).val / 512) / 18; omega
    · show _ = (18 * (((y 1).val - col0) / 1024) + (y 0).val / 512) % 18; omega

section
variable (c : Dev nD) (XA : Buf (Elt F) (aM.view.loc (c : Thread nD τ))) (XW : Buf (Elt F) (wM.view.loc (c : Thread nD τ)))

theorem rows_eq : (((c : Thread nD τ).loc main_v1) ↦[rows]{fullShare} XW : sProp 𝕄) = bigSep Finset.univ (wtP c XW) :=
  Ring.pointsTo_sub_blocks (ℓ := (c : Thread nD τ).loc main_v1) wtI wt_disjoint rows wt_cover XW
theorem cols_eq (f : Buf (Elt F) (oM.view.loc (c : Thread nD τ))) :
    (((c : Thread nD τ).loc main_v2) ↦[cols]{fullShare} f : sProp 𝕄) = bigSep Finset.univ (fun t => tileP c t f) :=
  Ring.pointsTo_sub_blocks (ℓ := (c : Thread nD τ).loc main_v2) tileI tile_disjoint cols tile_cover f

/-- Any contents whose tiles are the computed ones serve for what the loop left. -/
theorem tile_of (f : Buf (Elt F) (oM.view.loc (c : Thread nD τ))) (t : Fin T) (h : (tile t).view.read (Elt F) f = tileV c XA XW t) : doneP c XA XW t ⊢ tileP c t f := by
  iintro ⟨%g, H, %hg⟩
  have e : tileP c t g = (tileP c t f : sProp 𝕄) := pointsTo_congr (fun i hi => by
    obtain ⟨x, -, rfl⟩ := Finset.mem_map.mp hi
    exact congrFun (hg.trans h.symm) x)
  iapply (entails_of_eq e)
  iexact H
theorem cols_of (f : Buf (Elt F) (oM.view.loc (c : Thread nD τ))) (h : ∀ t, (tile t).view.read (Elt F) f = tileV c XA XW t) :
    bigSep Finset.univ (doneP c XA XW) ⊢ (((c : Thread nD τ).loc main_v2) ↦[cols]{fullShare} f : sProp 𝕄) := by
  rw [cols_eq]
  exact bigSep_mono fun t _ => tile_of c XA XW f t (h t)

end

end Cert.Proof.R1

end
-- ==== Proof.Body.lean ====
/-
  The whole kernel: both column ranges, one after the other.
-/
module

public import proofs.«01_k».proof.Proof.Loop0
public import proofs.«01_k».proof.Proof.Loop1
public import proofs.«01_k».proof.Proof.Gen.KernelIdeal.Points

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The second range's first transfers, at the offsets the program computes for them. -/
@[sl_canon] theorem wsm29 (hh) : (R1.wS.slice (Rect.unit (s := S2) k0_off29 S1.size hh)).squeeze S_ squeezes_S1_S_ = R1.wsm 0 := R1.wsm_congr (by decide) _
@[sl_canon] theorem asm29 (hh) : (R1.aS.slice (Rect.unit (s := S2) k0_off29 S1.size hh)).squeeze S_ squeezes_S1_S_ = R1.asm 0 := R1.asm_congr (by decide) _
@[sl_canon] theorem wslot30 (hh hs) : (R1.wR.slice (Rect.unit (s := S2x1024x4096) k0_off30 S1x1024x4096.size hh) hs).squeeze S1024x4096 squeezes_S1x1024x4096_S1024x4096 = R1.wslot 0 := R1.wslot_congr (by decide) _ _
@[sl_canon] theorem wt31 (hh hs) : R1.wRange.slice (Rect.unit (s := S14336x4096) k0_off31 S1024x4096.size hh) hs = R1.wt 0 := R1.wt_congr (by decide) _ _
@[sl_canon] theorem aslot32 (hh hs) : (R1.aR.slice (Rect.unit (s := S2x512x4096) k0_off32 S1x512x4096.size hh) hs).squeeze S512x4096 squeezes_S1x512x4096_S512x4096 = R1.aslot 0 := R1.aslot_congr (by decide) _ _

/-- The kernel at the call's buffers. -/
abbrev body : Prog (TpuEff nD τ sig (Elt F) (Λ₀ F) .tc) PUnit :=
  cc0_in_proj aM (Memref.isWhole_whole _) wM (Memref.isWhole_whole _) oM (Memref.isWhole_whole _) sM (Memref.isWhole_whole _)
    (Memref.whole cc0_scoped0) (Memref.isWhole_whole _) cc0_scoped1 (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9 (Memref.whole cc0_scoped10) (Memref.isWhole_whole _) cc0_scoped11

section
variable (c : Dev nD) (XA : Buf (Elt F) (aM.view.loc (c : Thread nD τ))) (XW : Buf (Elt F) (wM.view.loc (c : Thread nD τ)))
  (O0 : Buf (Elt F) (oM.view.loc (c : Thread nD τ)))

/-- The slots and cells of both ranges, all free, and the scratch. -/
def free : sProp 𝕄 :=
  iprop(R0.frA c 0 ∗ R0.frA c 1 ∗ R0.frW c 0 ∗ R0.frW c 1 ∗ R0.frO c 0 ∗ R0.frO c 1
    ∗ R1.frA c 0 ∗ R1.frA c 1 ∗ R1.frW c 0 ∗ R1.frW c 1 ∗ R1.frO c 0 ∗ R1.frO c 1 ∗ ∃ f, R0.sP c f)
/-- The two inputs' blocks at home. -/
def homes : sProp 𝕄 :=
  iprop(bigSep Finset.univ (actP c XA) ∗ bigSep Finset.univ (R0.wtP c XW) ∗ bigSep Finset.univ (R1.wtP c XW))

theorem bodyRun (Q : PUnit → sProp 𝕄) :
    iprop(((∃ W, owes (c : Thread nD τ) 0 W) ∗ homes c XA XW ∗ free c ∗ bigSep Finset.univ (fun t => R0.tileP c t O0) ∗ bigSep Finset.univ (fun t => R1.tileP c t O0))
      ∗ (((∃ W, owes (c : Thread nD τ) 0 W) ∗ homes c XA XW ∗ free c ∗ bigSep Finset.univ (R0.doneP c XA XW) ∗ bigSep Finset.univ (R1.doneP c XA XW)) -∗ Q ⟨⟩))
      ⊢ wp frame (wpE (defs₀ (F := F)) 𝒱₀ (c : Thread nD τ) none) Set.univ body Q := by
  unfold homes free
  rw [home_all (actP c XA) 0, home_all (R0.wtP c XW) 0, home_all (R1.wtP c XW) 0]
  iintro ⟨⟨⟨%W, HO⟩, ⟨⟨Ha, Har⟩, ⟨Hw, Hwr⟩, Hv, Hvr⟩, ⟨⟨A0, %fa0, A0s⟩, A1, ⟨W0, %fw0, W0s⟩, W1, O1, O2, ⟨B0, %fb0, B0s⟩, B1, ⟨V0, %fv0, V0s⟩, V1, P0, P1, S⟩, Ht, Hu⟩, Hk⟩
  unfold body
  sl_exec
  sl_for (R0.inv c XA XW O0) $$ [HO A0 A1 Har W0 W1 Hwr S O1 O2 Ht]
  case region => intro k a; exact R0.step c XA XW O0 _ k a
  · iapply (R0.enter c XA XW O0)
    isplitl [HO]; · iexists _; iexact HO
    isplitl [A0]; · iexists _; iexact A0
    isplitl [A1]; · iexact A1
    isplitl [Har]; · iexact Har
    isplitl [W0]; · iexists _; iexact W0
    isplitl [W1]; · iexact W1
    isplitl [Hwr]; · iexact Hwr
    isplitl [S]; · iexact S
    isplitl [O1]; · iexact O1
    isplitl [O2]; · iexact O2
    iexact Ht
  iintro %a HI
  ihave HI' := (R0.leave c XA XW O0 _ R0.trips_eq a) $$ HI
  icases HI' with ⟨%ea, ⟨%W', HO⟩, A0, A1, Ha, W0, W1, Hw, S, ⟨%fo, O2⟩, O1, D⟩
  subst ea
  ihave Ha' := (entails_of_eq (home_all (actP c XA) 0)) $$ Ha
  icases Ha' with ⟨Ha, Har⟩
  have c7 := R0.chk7_T; have c6 := R0.chk6_T
  unfold R0.words
  sl_exec
  sl_for (R1.inv c XA XW O0) $$ [HO B0 B1 Har V0 V1 Hvr S P0 P1 Hu]
  case region => intro k a; exact R1.step c XA XW O0 _ k a
  · iapply (R1.enter c XA XW O0)
    isplitl [HO]; · iexists _; iexact HO
    isplitl [B0]; · iexists _; iexact B0
    isplitl [B1]; · iexact B1
    isplitl [Har]; · iexact Har
    isplitl [V0]; · iexists _; iexact V0
    isplitl [V1]; · iexact V1
    isplitl [Hvr]; · iexact Hvr
    isplitl [S]; · iexact S
    isplitl [P0]; · iexact P0
    isplitl [P1]; · iexact P1
    iexact Hu
  iintro %a HI
  ihave HI' := (R1.leave c XA XW O0 _ R1.trips_eq a) $$ HI
  icases HI' with ⟨%ea, ⟨%W'', HO⟩, B0, B1, Ha, V0, V1, Hv, S, ⟨%fp, P2⟩, P1, E⟩
  subst ea
  have d7 := R1.chk14_T; have d6 := R1.chk13_T
  unfold R1.words
  sl_exec
  sl_step
  iapply Hk
  isplitl [HO]; · iexists _; iexact HO
  isplitl [Ha Hw Hv]
  · isplitl [Ha]; · iapply (entails_of_eq (home_all (actP c XA) 0)); iexact Ha
    isplitl [Hw]; · iapply (entails_of_eq (home_all (R0.wtP c XW) 0)); iexact Hw
    iapply (entails_of_eq (home_all (R1.wtP c XW) 0)); iexact Hv
  isplitl [A0 A1 W0 W1 O1 O2 O2_src B0 B1 V0 V1 P1 P2 P2_src S]
  · isplitl [A0]; · iexact A0
    isplitl [A1]; · iexact A1
    isplitl [W0]; · iexact W0
    isplitl [W1]; · iexact W1
    isplitl [O1]; · iexact O1
    isplitl [O2 O2_src]
    · isplitl [O2]; · iexact O2
      iexists _; iexact O2_src
    isplitl [B0]; · iexact B0
    isplitl [B1]; · iexact B1
    isplitl [V0]; · iexact V0
    isplitl [V1]; · iexact V1
    isplitl [P1]; · iexact P1
    isplitl [P2 P2_src]
    · isplitl [P2]; · iexact P2
      iexists _; iexact P2_src
    iexact S
  isplitl [D O2_dst]
  · iapply (entails_of_eq (R0.all_done c XA XW))
    isplitl [O2_dst]
    · iexists _; isplitl [O2_dst]; · iexact O2_dst
      ipureintro; exact View.read_writes_whole _ _ _
    iexact D
  iapply (entails_of_eq (R1.all_done c XA XW))
  isplitl [P2_dst]
  · iexists _; isplitl [P2_dst]; · iexact P2_dst
    ipureintro; exact View.read_writes_whole _ _ _
  iexact E

end
end Cert.Proof
end
-- ==== Proof.Launch.lean ====
/-
  The call as a whole: from the buffers at launch to the result.
-/
module

public import proofs.«01_k».proof.Proof.Body
public import proofs.«01_k».proof.Proof.Loop0
public import proofs.«01_k».proof.Proof.Loop1
public import proofs.«01_k».proof.Proof.Gen.KernelIdeal.Launch
public import Idealize.ShloMosaic.Lib.Pipeline.FrameBody

@[expose] public section

noncomputable section

namespace Cert.Proof

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The result -/

section
variable (c : Dev nD) (XA : Buf (Elt F) (aM.view.loc (c : Thread nD τ))) (XW : Buf (Elt F) (wM.view.loc (c : Thread nD τ)))

/-- The tile an element of the first range is in, and of the second. -/
def tileOf0 (y : S9216x30720.Idx) (h : (y 1).val < 16384) : Fin R0.T :=
  ⟨18 * ((y 1).val / 1024) + (y 0).val / 512, by have : (y 0).val < 9216 := (y 0).isLt; show _ < 288; omega⟩
def tileOf1 (y : S9216x30720.Idx) : Fin R1.T :=
  ⟨18 * (((y 1).val - 16384) / 1024) + (y 0).val / 512, by have : (y 0).val < 9216 := (y 0).isLt; have : (y 1).val < 30720 := (y 1).isLt; show _ < 252; omega⟩
/-- Its place in the tile. -/
def within (y : S9216x30720.Idx) : S512x1024.Idx := ix2 ⟨(y 0).val % 512, Nat.mod_lt _ (by decide)⟩ ⟨(y 1).val % 1024, Nat.mod_lt _ (by decide)⟩

/-- The result, element by element. -/
def result : Buf (Elt F) (oM.view.loc (c : Thread nD τ)) := fun (y : S9216x30720.Idx) =>
  if h : (y 1).val < 16384 then R0.tileV c XA XW (tileOf0 y h) (within y) else R1.tileV c XA XW (tileOf1 y) (within y)

theorem within_of (y : S9216x30720.Idx) (x : S512x1024.Idx) (p q : ℕ) (h0 : (y 0).val = 512 * p + (x 0).val) (h1 : (y 1).val = 1024 * q + (x 1).val) : within y = x := by
  have hx : (x 0).val < 512 := (x 0).isLt
  have hx' : (x 1).val < 1024 := (x 1).isLt
  funext a; apply Fin.ext; fin_cases a
  · show (y 0).val % 512 = (x 0).val; omega
  · show (y 1).val % 1024 = (x 1).val; omega

theorem result0 (t : Fin R0.T) : (R0.tile t).view.read (Elt F) (result c XA XW) = R0.tileV c XA XW t := by
  funext x
  have ht : t.val < 288 := t.isLt
  have hx : (x 0).val < 512 := (x 0).isLt
  have hx' : (x 1).val < 1024 := (x 1).isLt
  obtain ⟨h0, h1⟩ := R0.tile_emb t x
  have h1' : (R0.tileAt t x 1).val = 1024 * (t.val / 18) + (x 1).val := h1.trans (by show 0 + _ + _ = _; omega)
  have hl : (R0.tileAt t x 1).val < 16384 := by omega
  show result c XA XW (R0.tileAt t x) = _
  unfold result
  rw [dif_pos hl, within_of _ x _ _ h0 h1', show tileOf0 (R0.tileAt t x) hl = t from Fin.ext (by show 18 * ((R0.tileAt t x 1).val / 1024) + (R0.tileAt t x 0).val / 512 = _; omega)]

theorem result1 (t : Fin R1.T) : (R1.tile t).view.read (Elt F) (result c XA XW) = R1.tileV c XA XW t := by
  funext x
  have ht : t.val < 252 := t.isLt
  have hx : (x 0).val < 512 := (x 0).isLt
  have hx' : (x 1).val < 1024 := (x 1).isLt
  obtain ⟨h0, h1⟩ := R1.tile_emb t x
  have h1' : (R1.tileAt t x 1).val = 1024 * (16 + t.val / 18) + (x 1).val := h1.trans (by show 16384 + _ + _ = _; omega)
  have hl : ¬ (R1.tileAt t x 1).val < 16384 := by omega
  show result c XA XW (R1.tileAt t x) = _
  unfold result
  rw [dif_neg hl, within_of _ x _ _ h0 h1', show tileOf1 (R1.tileAt t x) = t from Fin.ext (by show 18 * (((R1.tileAt t x 1).val - 16384) / 1024) + (R1.tileAt t x 0).val / 512 = _; omega)]

/-! ## The buffers in pieces -/

theorem cols1_eq : (Finset.univ : Finset S9216x30720.Idx) \ R0.cols = R1.cols := by
  ext y
  have hy : (y 1).val < 30720 := (y 1).isLt
  rw [Finset.mem_sdiff, R0.cols, R1.cols, Finset.mem_filter, Finset.mem_filter]
  constructor
  · rintro ⟨h, h'⟩
    refine ⟨h, ?_⟩
    have : ¬ (0 ≤ (y 1).val ∧ (y 1).val < 0 + 16384) := fun e => h' ⟨h, e⟩
    show 16384 ≤ (y 1).val ∧ (y 1).val < 16384 + 14336; omega
  · rintro ⟨h, h'⟩
    have h' : 16384 ≤ (y 1).val ∧ (y 1).val < 16384 + 14336 := h'
    refine ⟨h, fun e => ?_⟩
    have e : 0 ≤ (y 1).val ∧ (y 1).val < 0 + 16384 := e.2
    omega
theorem rows1_sub : R1.rows ⊆ (Finset.univ : Finset S30784x4096.Idx) \ R0.rows := by
  intro y hy
  rw [R1.rows, Finset.mem_filter] at hy
  have h' : 16448 ≤ (y 0).val ∧ (y 0).val < 16448 + 14336 := hy.2
  rw [Finset.mem_sdiff, R0.rows, Finset.mem_filter]
  refine ⟨hy.1, fun e => ?_⟩
  have e : 0 ≤ (y 0).val ∧ (y 0).val < 0 + 16384 := e.2
  omega

/-- The result's buffer is the tiles of both ranges; -/
theorem out_split (f : Buf (Elt F) (oM.view.loc (c : Thread nD τ))) :
    (((c : Thread nD τ).loc main_v2) ↦{fullShare} f : sProp 𝕄) ⊢ iprop(bigSep Finset.univ (fun t => R0.tileP c t f) ∗ bigSep Finset.univ (fun t => R1.tileP c t f)) := by
  rw [← R0.cols_eq, ← R1.cols_eq, ← cols1_eq]
  exact (pointsTo_split_subset (Finset.subset_univ R0.cols)).1
/-- with every tile done it holds the result. -/
theorem out_join : iprop(bigSep Finset.univ (R0.doneP c XA XW) ∗ bigSep Finset.univ (R1.doneP c XA XW)) ⊢ (((c : Thread nD τ).loc main_v2) ↦{fullShare} result c XA XW : sProp 𝕄) := by
  have h0 := R0.cols_of c XA XW (result c XA XW) (result0 c XA XW)
  have h1 := R1.cols_of c XA XW (result c XA XW) (result1 c XA XW)
  rw [← cols1_eq] at h1
  have h2 := (pointsTo_split_subset (Ix := Unit) (Name := ℕ) (U := UU nD τ) (Lvl := ℕ) (ℓ := (c : Thread nD τ).loc main_v2) (q := fullShare) (f := result c XA XW) (Finset.subset_univ R0.cols)).2
  iintro ⟨H0, H1⟩
  iapply h2
  isplitl [H0]
  · iapply h0; iexact H0
  iapply h1; iexact H1
/-- The transposed weight holds both ranges' blocks. -/
theorem w_homes (f : Buf (Elt F) (wM.view.loc (c : Thread nD τ))) :
    (((c : Thread nD τ).loc main_v1) ↦{fullShare} f : sProp 𝕄) ⊢ iprop(bigSep Finset.univ (R0.wtP c f) ∗ bigSep Finset.univ (R1.wtP c f)) := by
  rw [← R0.rows_eq, ← R1.rows_eq]
  have h1 := (pointsTo_split_subset (Ix := Unit) (Name := ℕ) (U := UU nD τ) (Lvl := ℕ) (ℓ := (c : Thread nD τ).loc main_v1) (q := fullShare) (f := f) (Finset.subset_univ R0.rows)).1
  have h2 := (pointsTo_split_subset (Ix := Unit) (Name := ℕ) (U := UU nD τ) (Lvl := ℕ) (ℓ := (c : Thread nD τ).loc main_v1) (q := fullShare) (f := f) rows1_sub).1
  iintro H
  ihave H' := h1 $$ H
  icases H' with ⟨H0, H1⟩
  ihave H'' := h2 $$ H1
  icases H'' with ⟨H1, -⟩
  isplitl [H0]; · iexact H0
  iexact H1

/-- The activations are their 18 blocks. -/
def actI (b : Fin 18) : Finset S9216x4096.Idx := (act b).view.set
theorem mem_act (b : Fin 18) (y : S9216x4096.Idx) : y ∈ actI b ↔ (y 0).val / 512 = b.val := by
  have h1 : (y 1).val < 4096 := (y 1).isLt
  have e : actI b = (Rect.unit (s := S9216x4096) ![512 * b.val, 0] S512x4096.size (act_inb b)).set := View.set_slice_whole _ _
  rw [e, Rect.mem_set_unit]
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 4096; omega
theorem act_disjoint (b b' : Fin 18) (h : b ≠ b') : Disjoint (actI b) (actI b') := by
  rw [Finset.disjoint_left]; intro y hy hy'; rw [mem_act] at hy hy'; exact h (Fin.ext (hy.symm.trans hy'))
theorem act_cover : (Finset.univ : Finset (Fin 18)).biUnion actI = Finset.univ := by
  ext y; simp only [Finset.mem_biUnion, Finset.mem_univ, true_and, iff_true]
  have : (y 0).val < 9216 := (y 0).isLt
  exact ⟨⟨(y 0).val / 512, by omega⟩, (mem_act _ _).mpr rfl⟩
theorem a_eq : (((c : Thread nD τ).loc main_arg0) ↦{fullShare} XA : sProp 𝕄) = bigSep Finset.univ (actP c XA) :=
  Ring.pointsTo_blocks (ℓ := (c : Thread nD τ).loc main_arg0) actI act_disjoint act_cover XA

/-! ## The kernel's own semaphores -/

abbrev osem : Fin 12 → SemLoc sig :=
  ![.dma (R0.wsm 0).sem, .dma (R0.wsm 1).sem, .dma (R0.asm 0).sem, .dma (R0.asm 1).sem, .dma (R0.osm 0).sem, .dma (R0.osm 1).sem,
    .dma (R1.wsm 0).sem, .dma (R1.wsm 1).sem, .dma (R1.asm 0).sem, .dma (R1.asm 1).sem, .dma (R1.osm 0).sem, .dma (R1.osm 1).sem]
theorem ownSemFacts : Pipeline.OwnSemFacts (cfg0 (F := F)).spec osem :=
  ⟨by decide, by decide, fun _ w => Fin.elim0 (show Fin 0 from w)⟩

theorem ownSems0_eq : (Pipeline.ownSems0 (Ix := Unit) (Name := ℕ) (U := UU nD τ) (Lvl := ℕ) (Val := Elt F) (τ := τ) osem c : sProp 𝕄)
    = iprop(R0.wcellP c 0 ∗ R0.wcellP c 1 ∗ R0.acellP c 0 ∗ R0.acellP c 1 ∗ R0.ocellP c 0 ∗ R0.ocellP c 1
      ∗ R1.wcellP c 0 ∗ R1.wcellP c 1 ∗ R1.acellP c 0 ∗ R1.acellP c 1 ∗ R1.ocellP c 0 ∗ R1.ocellP c 1) := by
  unfold Pipeline.ownSems0
  rw [bigSep_univ_eq_bigSepL [(0 : Fin 12), 1, 2, 3, 4, 5, 6, 7, 8, 9, 10, 11] (by decide) (by decide)]
  rfl

end

end Cert.Proof

end
-- ==== Proof.Run.lean ====
/-
  The run: for any float values, the call ends with the result in place and its arguments as they were.
-/
module

public import proofs.«01_k».proof.Proof.Launch
public import Idealize.ShloMosaic.Lib.Claim

@[expose] public section

noncomputable section

namespace Cert.Proof

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (c : Dev nD)

theorem sP_eq (f) : R0.sP c f = (((c : Thread nD τ).loc cc0_scratch0) ↦{fullShare} f : sProp 𝕄) :=
  congrArg (fun S => (_ ↦[S]{fullShare} f : sProp 𝕄)) (View.set_whole cc0_scratch0)

/-- The kernel's cells and its own buffers are what it finds free, -/
theorem free_of : iprop(Pipeline.ownSems0 osem c ∗ Pipeline.scopedRest ((cfg0 (F := F)).spec) c) ⊢ (free c : sProp 𝕄) := by
  rw [ownSems0_eq, scopedRest0_eq]
  unfold free
  iintro ⟨⟨W0, W1, A0, A1, O0, O1, V0, V1, B0, B1, P0, P1⟩, ⟨%f, S⟩, BW, BA, BO, BV, BB, BP⟩
  ihave BW' := (R0.w_split c) $$ BW
  icases BW' with ⟨W0s, W1s⟩
  ihave BA' := (R0.a_split c) $$ BA
  icases BA' with ⟨A0s, A1s⟩
  ihave BO' := (R0.o_split c) $$ BO
  icases BO' with ⟨O0s, O1s⟩
  ihave BV' := (R1.w_split c) $$ BV
  icases BV' with ⟨V0s, V1s⟩
  ihave BB' := (R1.a_split c) $$ BB
  icases BB' with ⟨B0s, B1s⟩
  ihave BP' := (R1.o_split c) $$ BP
  icases BP' with ⟨P0s, P1s⟩
  isplitl [A0 A0s]
  · isplitl [A0]; · iexact A0
    iexact A0s
  isplitl [A1 A1s]
  · isplitl [A1]; · iexact A1
    iexact A1s
  isplitl [W0 W0s]
  · isplitl [W0]; · iexact W0
    iexact W0s
  isplitl [W1 W1s]
  · isplitl [W1]; · iexact W1
    iexact W1s
  isplitl [O0 O0s]
  · isplitl [O0]; · iexact O0
    iexact O0s
  isplitl [O1 O1s]
  · isplitl [O1]; · iexact O1
    iexact O1s
  isplitl [B0 B0s]
  · isplitl [B0]; · iexact B0
    iexact B0s
  isplitl [B1 B1s]
  · isplitl [B1]; · iexact B1
    iexact B1s
  isplitl [V0 V0s]
  · isplitl [V0]; · iexact V0
    iexact V0s
  isplitl [V1 V1s]
  · isplitl [V1]; · iexact V1
    iexact V1s
  isplitl [P0 P0s]
  · isplitl [P0]; · iexact P0
    iexact P0s
  isplitl [P1 P1s]
  · isplitl [P1]; · iexact P1
    iexact P1s
  iexists f; iapply (entails_of_eq (sP_eq c f).symm); iexact S

/-- and back. -/
theorem free_to : (free c : sProp 𝕄) ⊢ iprop(Pipeline.ownSems0 osem c ∗ Pipeline.scopedRest ((cfg0 (F := F)).spec) c) := by
  rw [ownSems0_eq, scopedRest0_eq]
  unfold free
  iintro ⟨⟨A0, A0s⟩, ⟨A1, A1s⟩, ⟨W0, W0s⟩, ⟨W1, W1s⟩, ⟨O0, O0s⟩, ⟨O1, O1s⟩, ⟨B0, B0s⟩, ⟨B1, B1s⟩, ⟨V0, V0s⟩, ⟨V1, V1s⟩, ⟨P0, P0s⟩, ⟨P1, P1s⟩, ⟨%f, S⟩⟩
  isplitl [W0 W1 A0 A1 O0 O1 V0 V1 B0 B1 P0 P1]
  · isplitl [W0]; · iexact W0
    isplitl [W1]; · iexact W1
    isplitl [A0]; · iexact A0
    isplitl [A1]; · iexact A1
    isplitl [O0]; · iexact O0
    isplitl [O1]; · iexact O1
    isplitl [V0]; · iexact V0
    isplitl [V1]; · iexact V1
    isplitl [B0]; · iexact B0
    isplitl [B1]; · iexact B1
    isplitl [P0]; · iexact P0
    iexact P1
  isplitl [S]; · iexists f; iapply (entails_of_eq (sP_eq c f)); iexact S
  isplitl [W0s W1s]
  · iapply (R0.w_join c); isplitl [W0s]; · iexact W0s
    iexact W1s
  isplitl [A0s A1s]
  · iapply (R0.a_join c); isplitl [A0s]; · iexact A0s
    iexact A1s
  isplitl [O0s O1s]
  · iapply (R0.o_join c); isplitl [O0s]; · iexact O0s
    iexact O1s
  isplitl [V0s V1s]
  · iapply (R1.w_join c); isplitl [V0s]; · iexact V0s
    iexact V1s
  isplitl [B0s B1s]
  · iapply (R1.a_join c); isplitl [B0s]; · iexact B0s
    iexact B1s
  iapply (R1.o_join c); isplitl [P0s]; · iexact P0s
  iexact P1s

end

/-! ## The region's proof data -/

section
variable (m : (ℓ : Loc nD τ sig) → Buf (Elt F) ℓ) (ρ : Dev nD → PrngReg)

/-- A buffer when the region is entered: after the weight has been transposed. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor
theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The host operations leave the arguments alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    exact ⟨StableHlo.devRef_ne_of_ne (by decide), StableHlo.devRef_ne_of_ne (by decide)⟩))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    exact ⟨StableHlo.devRef_ne_of_ne (by decide), StableHlo.devRef_ne_of_ne (by decide)⟩))

abbrev XA (c : Dev nD) : Buf (Elt F) (aM.view.loc (c : Thread nD τ)) := V m c main_arg0
abbrev XW (c : Dev nD) : Buf (Elt F) (wM.view.loc (c : Thread nD τ)) := V m c main_v1
abbrev O0 (c : Dev nD) : Buf (Elt F) (oM.view.loc (c : Thread nD τ)) := V m c main_v2

def before (c : Dev nD) : sProp 𝕄 :=
  iprop(homes c (XA m c) (XW m c) ∗ free c ∗ bigSep Finset.univ (fun t => R0.tileP c t (O0 m c)) ∗ bigSep Finset.univ (fun t => R1.tileP c t (O0 m c)))
def behind (c : Dev nD) : sProp 𝕄 :=
  iprop(homes c (XA m c) (XW m c) ∗ free c ∗ bigSep Finset.univ (R0.doneP c (XA m c) (XW m c)) ∗ bigSep Finset.univ (R1.doneP c (XA m c) (XW m c)))

def dats (_ : Fin 1) (c : Dev nD) : Dat τ (Elt F) Unit ℕ (UU nD τ) ℕ (cfg0 (F := F)) c where
  A w := Fin.elim0 (show Fin 0 from w)
  after w t := Fin.elim0 (show Fin 0 from w)
  Φ t := if t.val = 0 then before m c else behind m c
  q _ := fullShare
  owed _ := 0

theorem defs_tc : (defs₀ (F := F)) .tc cfg0.body = fun _ => body := rfl
theorem prog_eq (t : Fin cfg0.N) : (defs₀ (F := F)) .tc cfg0.body (cfg0.bodyArgs t (cfg0.slots t)) = body :=
  (congrFun defs_tc _).trans rfl

set_option backward.isDefEq.respectTransparency.types false in
theorem body_obligation (c : Dev nD) : BodyObligation (dats (F := F) m 0 c) (defs₀ (F := F)) 𝒱₀ () Set.univ := fun t => by
  obtain rfl := fin_N0 t
  rw [show (Finset.univ : Finset (Fin (cfg0 (F := F)).W)) = ∅ from rfl, bigSep_empty, bigSep_empty]
  rw [show (dats m 0 c).Φ t0_0.castSucc = before m c from rfl, show (dats m 0 c).Φ t0_0.succ = behind m c from rfl]
  unfold Dat.owesAt Pipeline.owesWithin
  rw [show (dats m 0 c).owed t0_0.castSucc = 0 from rfl, show (dats m 0 c).owed t0_0.succ = 0 from rfl]
  unfold before behind
  iintro ⟨⟨H, Fr, T0, T1⟩, ⟨%W, -, HW⟩, -⟩
  sl_rw [prog_eq t0_0]
  iapply (bodyRun c (XA m c) (XW m c) (O0 m c) _)
  isplitl [H Fr T0 T1 HW]
  · isplitl [HW]; · iexists W; iexact HW
    isplitl [H]; · iexact H
    isplitl [Fr]; · iexact Fr
    isplitl [T0]; · iexact T0
    iexact T1
  · iintro ⟨⟨%W', HW⟩, H, Fr, T0, T1⟩
    isplitl [H Fr T0 T1]
    · isplitl [H]; · iexact H
      isplitl [Fr]; · iexact Fr
      isplitl [T0]; · iexact T0
      iexact T1
    isplitl [HW]
    · iexists W'; isplitr; · ipureintro; exact fun _ _ => Or.inl trivial
      iexact HW
    iempintro

/-! ## The run -/

omit [FloatOps F] in
theorem emps : (BI.emp : sProp 𝕄) ⊢ bigSep Finset.univ (fun _ : Dev nD => (BI.emp : sProp 𝕄)) := by rw [BI.bigSep_emp_const]

def intoΦ (c : Dev nD) : sProp 𝕄 :=
  iprop((homes c (XA m c) (XW m c) ∗ bigSep Finset.univ (fun t => R0.tileP c t (O0 m c)) ∗ bigSep Finset.univ (fun t => R1.tileP c t (O0 m c))) ∗ Pipeline.ownSems0 osem c)
def outOfΦ (c : Dev nD) : sProp 𝕄 :=
  iprop((((c : Thread nD τ).loc main_arg0) ↦{fullShare} V m c main_arg0) ∗ (((c : Thread nD τ).loc main_v2) ↦{fullShare} result c (XA m c) (XW m c)))
def aside (c : Dev nD) : sProp 𝕄 := ((c : Thread nD τ).loc main_arg1) ↦{fullShare} V m c main_arg1
def u₀ : UU nD τ := (initOf (Pipeline.cells (cfgs (F := F)) Cert.KernelIdeal.Gen.cellOf_inj) (Pipeline.launchToks (cfgs (F := F)) Cert.KernelIdeal.Gen.cellOf_inj), 1)
def QY (c : Dev nD) (s : MemSt nD τ sig (Elt F)) : Prop :=
  s.mem ((c : Thread nD τ).loc main_v2) = result c (XA m c) (XW m c) ∧ s.mem ((c : Thread nD τ).loc main_arg0) = V m c main_arg0 ∧ s.mem ((c : Thread nD τ).loc main_arg1) = V m c main_arg1

set_option backward.isDefEq.respectTransparency.types false in
/-- From any memory with zero counters: every weakly fair execution of @main ends, with the result's buffer at
    `result`, the arguments unchanged and every counter at zero. -/
theorem run_main : θ_run defs (onTc (τ := τ) (main (F := F))) (s₀ m ρ) (fun r => (∀ c, QY m c r.2) ∧ r.2.sem = fun _ => 0) :=
  Pipeline.θ_run_region_kit_quiescent (cfgs (F := F)) (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (emps (F := F))
      iempintro)
    (V := V m) (hmain := hmain m)
    (hA := fun _ w => Fin.elim0 (show Fin 0 from w))
    (X := intoΦ m) (Y := outOfΦ m) (Z := aside m)
    (hX := fun c => by
      rw [unscopedRest0_eq]
      unfold intoΦ aside homes
      iintro ⟨⟨HA, HB, -, HW, HO⟩, HS, -, -, -⟩; imodintro
      ihave HW' := (w_homes c (V m c main_v1)) $$ HW
      icases HW' with ⟨HW0, HW1⟩
      ihave HO' := (out_split c (V m c main_v2)) $$ HO
      icases HO' with ⟨HO0, HO1⟩
      isplitr [HB]
      · isplitr [HS]
        · isplitl [HA HW0 HW1]
          · isplitl [HA]; · iapply (entails_of_eq (a_eq c (V m c main_arg0))); iexact HA
            isplitl [HW0]; · iexact HW0
            iexact HW1
          isplitl [HO0]; · iexact HO0
          iexact HO1
        iexact HS
      iexact HB)
    (hin := fun c => by
      rw [show (dats m 0 c).Φ 0 = before m c from rfl]
      unfold intoΦ before
      iintro ⟨⟨⟨H, HO0, HO1⟩, HS⟩, Hb⟩
      isplitl [H]; · iexact H
      isplitl [HS Hb]
      · iapply (free_of c)
        isplitl [HS]; · iexact HS
        iexact Hb
      isplitl [HO0]; · iexact HO0
      iexact HO1)
    (hout := fun c => by
      rw [show (dats m 0 c).Φ (Fin.last cfg0.N) = behind m c from rfl]
      unfold behind outOfΦ homes
      iintro ⟨⟨HA, -, -⟩, Fr, D0, D1⟩
      isplitl [HA D0 D1]
      · isplitl [HA]; · iapply (entails_of_eq (a_eq c (V m c main_arg0)).symm); iexact HA
        iapply (out_join c (XA m c) (XW m c))
        isplitl [D0]; · iexact D0
        iexact D1
      iapply (free_to c); iexact Fr)
    (QY := QY m)
    (hY := fun c s' => by
      unfold outOfΦ aside QY
      iintro ⟨⟨HA, HO⟩, HB, HSI⟩
      icombine HSI HO gives %h0
      icombine HSI HA gives %h1
      icombine HSI HB gives %h2
      imodintro
      isplitr; · ipureintro; exact ⟨Buf.eq_of_forall_mem_univ h0, Buf.eq_of_forall_mem_univ h1, Buf.eq_of_forall_mem_univ h2⟩
      iexact HSI)
    (hQ := fun _ hh hz => ⟨fun c => (hh c).2, hz⟩)

end

end Cert.Proof

end
-- ==== Proof.Frames.lean ====
/-
  The frames of `in_proj`: every execution ends, the arguments unchanged and every counter at zero.
-/
module

public import proofs.«01_k».proof.Proof.Run
public import proofs.«01_k».proof.Proof.Printed.Run

@[expose] public section

noncomputable section

namespace Cert.Proof

open Idealize.ShloMosaic
open Idealize.ShloMosaic.TcCoe
open Idealize.SL.Sem

theorem frame_KernelIdeal : Cert.quiescent_KernelIdeal := fun m ρ _ =>
  (θ_run Cert.KernelIdeal.defs _ _).mono
    (fun _ h => ⟨fun c => ⟨(h.1 c).2.1.trans (V_main_arg0 m c), (h.1 c).2.2.trans (V_main_arg1 m c)⟩, h.2⟩) (run_main m ρ)

theorem frame_Kernel : Cert.quiescent_Kernel := fun m ρ _ =>
  (θ_run Cert.Kernel.defs _ _).mono
    (fun _ h => ⟨fun c => ⟨(h.1 c).2.1.trans (Printed.V_main_arg0 m c), (h.1 c).2.2.trans (Printed.V_main_arg1 m c)⟩, h.2⟩) (Printed.run_main m ρ)

end Cert.Proof

end
-- ==== Proof.Product.lean ====
/-
  The mathematics of both calls: the product of the activations and the weight, one entry at a time, over the extended reals.
-/
module

public import Idealize.ShloMosaic.Lib.MatmulPlain
public import Idealize.ShloMosaic.Lib.StackMember
public import Idealize.ShloMosaic.Lib.Pipeline.Value

@[expose] public section

noncomputable section

namespace Cert.Proof.Product

open Idealize.ShloMosaic Idealize.ShloMosaic.ValueIdx

/-- The activations' shape: a row for each token. -/
abbrev SX : Shape := ⟨2, ![9216, 4096]⟩
/-- The weight's shape, with the layer's axis in front. -/
abbrev SW : Shape := ⟨3, ![1, 4096, 30784]⟩

/-- Row `r` of the activations times column `q` of the weight. -/
def entry (x : FVec Ideal SX .bf16) (w : FVec Ideal SW .f32) (r : Fin 9216) (q : Fin 30784) : Ideal .f32 :=
  ∑ k : Fin 4096, x (ix2 r k) * w (ix3 0 k q)

/-- The weight turned, with the layer's axis dropped: row `q` is the weight's column `q`. -/
theorem turned_apply {α : Type} (w : SW.Idx → α) (ht : SW.Transposes [0, 2, 1] ⟨3, ![1, 30784, 4096]⟩)
    (hc : (⟨3, ![1, 30784, 4096]⟩ : Shape).ShapeCasts ⟨2, ![30784, 4096]⟩) (q : Fin 30784) (k : Fin 4096) :
    shapeCast ⟨2, ![30784, 4096]⟩ (transpose ⟨3, ![1, 30784, 4096]⟩ [0, 2, 1] w ht) hc (ix2 q k) = w (ix3 0 k q) := by
  rw [shapeCast_dropUnit_apply]
  refine transpose_apply _ _ _ _ _ fun b => ?_
  match b with
  | ⟨0, _⟩ => rfl
  | ⟨1, _⟩ => rfl
  | ⟨2, _⟩ => rfl

/-- The reference's product at row `r` and column `q`. -/
theorem host_entry (x : FVec Ideal SX .bf16) (w : FVec Ideal SW .f32) (hx) (hw : SW.ShapeCasts ⟨2, ![4096, 30784]⟩) (r : Fin 9216) (q : Fin 30784) :
    Host.dotGeneral (DotDims.plain 9216 4096 30784) none (extf .f32 x hx) (shapeCast ⟨2, ![4096, 30784]⟩ w hw) (ix2 r q) = entry x w r q := by
  rw [StackMember.dotGeneral_plain_apply]
  refine Finset.sum_congr rfl fun k _ => ?_
  rw [shapeCast_dropUnit_apply]
  refine congrArg₂ (· * ·) rfl (congrArg w ?_)
  funext a
  match a with
  | ⟨0, _⟩ => rfl
  | ⟨1, _⟩ => rfl
  | ⟨2, _⟩ => rfl

end Cert.Proof.Product

end
-- ==== Proof.Value.lean ====
/-
  `in_proj` computes the product: at every row and column its result is the entry of the activations times the weight, the 64 columns
  from 16384 on left out; and the reference computes the same.
-/
module

public import proofs.«01_k».proof.Proof.Run
public import proofs.«01_k».proof.Proof.Product
public import proofs.«01_k».proof.Proof.Gen.ReferenceIdeal.Run

@[expose] public section

noncomputable section

namespace Cert.Proof

open Idealize.ShloMosaic Idealize.ShloMosaic.ValueIdx
open Idealize.ShloMosaic.TcCoe
open Idealize.SL.Sem
open Product

/-- The weight's column that a column of the result comes from. -/
def column (q : Fin 30720) : Fin 30784 := ⟨if q.val < 16384 then q.val else q.val + 64, by split <;> omega⟩

section Kernel
open Cert.KernelIdeal

/-- Where an element of a block of activations lies. -/
theorem act_entry {F : FTy → Type} [FloatOps F] (c : Dev nD) (x : Buf (Elt F) (aM.view.loc (c : Thread nD τ))) (b : Fin 18) (r : Fin 512) (k : Fin 4096)
    (i : Fin 9216) (hi : i.val = 512 * b.val + r.val) : actV c x b (ix2 r k) = x (ix2 i k) := by
  refine congrArg x (funext fun a => Fin.ext ?_)
  match a with
  | ⟨0, _⟩ => show 512 * b.val + 1 * r.val = i.val; omega
  | ⟨1, _⟩ => show 0 + 1 * k.val = k.val; omega

/-- A row of a block of the turned weight. -/
theorem wt_entry0 {F : FTy → Type} [FloatOps F] (c : Dev nD) (w : Buf (Elt F) (wM.view.loc (c : Thread nD τ))) (b : Fin R0.NB) (r : Fin 1024) (k : Fin 4096)
    (i : Fin 30784) (hi : i.val = 1024 * b.val + r.val) : R0.wtV c w b (ix2 r k) = w (ix2 i k) := by
  have h := R0.wt_emb b (ix2 r k)
  have h0 : (R0.wtAt b (ix2 r k) 0).val = R0.row0 + 1024 * b.val + r.val := h.1
  have h1 : (R0.wtAt b (ix2 r k) 1).val = k.val := h.2
  refine congrArg w (funext fun a => Fin.ext ?_)
  match a with
  | ⟨0, _⟩ => show (R0.wtAt b (ix2 r k) 0).val = i.val; rw [h0, hi, show R0.row0 = 0 from rfl]; omega
  | ⟨1, _⟩ => exact h1
theorem wt_entry1 {F : FTy → Type} [FloatOps F] (c : Dev nD) (w : Buf (Elt F) (wM.view.loc (c : Thread nD τ))) (b : Fin R1.NB) (r : Fin 1024) (k : Fin 4096)
    (i : Fin 30784) (hi : i.val = 16448 + 1024 * b.val + r.val) : R1.wtV c w b (ix2 r k) = w (ix2 i k) := by
  have h := R1.wt_emb b (ix2 r k)
  have h0 : (R1.wtAt b (ix2 r k) 0).val = R1.row0 + 1024 * b.val + r.val := h.1
  have h1 : (R1.wtAt b (ix2 r k) 1).val = k.val := h.2
  refine congrArg w (funext fun a => Fin.ext ?_)
  match a with
  | ⟨0, _⟩ => show (R1.wtAt b (ix2 r k) 0).val = i.val; rw [h0, hi, show R1.row0 = 16448 from rfl]
  | ⟨1, _⟩ => exact h1

variable (m : (ℓ : Loc nD τ sig) → Buf (Elt Ideal) ℓ) (c : Dev nD)

/-- The weight as the kernel finds it, turned by the host. -/
theorem weight_entry (q : Fin 30784) (k : Fin 4096) :
    XW m c (ix2 q k) = (m ((c : Thread nD τ).loc main_arg1) : SW.Idx → Ideal .f32) (ix3 0 k q) := by
  have h : V m c main_v1 = shapeCast S30784x4096 (transpose S1x30784x4096 [0, 2, 1] (m ((c : Thread nD τ).loc main_arg1) : S1x4096x30784.Idx → Ideal .f32)
      Gen.transposes_S1x4096x30784_S1x30784x4096_0_2_1) Gen.shapeCasts_S1x30784x4096_S30784x4096 := by
    show StableHlo.after Gen.hostOps0 (fun b => m (c, b)) (main_v1 : Ref sig .tc) = _
    after_results <;> rfl
  show V m c main_v1 (ix2 q k) = _
  rw [h]
  exact turned_apply _ _ _ _ _

/-- A block of activations times a block of rows of the turned weight, an entry at a time. -/
theorem tile_entry (x : FVec Ideal S512x4096 .bf16) (w : FVec Ideal S1024x4096 .f32) (hb) (p : Fin 512) (j : Fin 1024) :
    matmul dot_S512x4096_S1024x4096_S512x1024_1_1_0_0_n_n none x (truncf .bf16 w hb) (constant S512x1024 .f32 0x00000000#32) (ix2 p j)
      = ∑ k : Fin 4096, x (ix2 p k) * w (ix2 j k) :=
  (Ideal.matmul_transposedRhs_apply (M := 512) (K := 4096) (N := 1024) none x (truncf .bf16 w hb) _ p j).trans (by
    show Ideal.ofBits .f32 0x00000000#32 + _ = _
    rw [Ideal.ofBits_zero_f32, zero_add]; rfl)

/-- The kernel's result, an entry at a time. -/
theorem result_entry (r : Fin 9216) (q : Fin 30720) :
    result c (XA m c) (XW m c) (ix2 r q)
      = entry (m ((c : Thread nD τ).loc main_arg0)) (m ((c : Thread nD τ).loc main_arg1)) r (column q) := by
  have hA : XA m c = m ((c : Thread nD τ).loc main_arg0) := V_main_arg0 m c
  have hr := r.isLt
  have hq := q.isLt
  by_cases h : q.val < 16384
  · have e : result c (XA m c) (XW m c) (ix2 r q) = R0.tileV c (XA m c) (XW m c) (tileOf0 (ix2 r q) h) (within (ix2 r q)) := dif_pos h
    have t : (tileOf0 (ix2 r q) h).val = 18 * (q.val / 1024) + r.val / 512 := rfl
    refine e.trans ((tile_entry _ _ _ _ _).trans (Finset.sum_congr rfl fun k _ => congrArg₂ (· * ·) ?_ ?_))
    · rw [← hA]
      refine act_entry c _ _ _ _ r ?_
      show r.val = 512 * ((tileOf0 (ix2 r q) h).val % 18) + r.val % 512
      omega
    · refine (wt_entry0 c _ _ _ _ (column q) ?_).trans (weight_entry m c _ _)
      show (if q.val < 16384 then q.val else q.val + 64) = 1024 * ((tileOf0 (ix2 r q) h).val / 18 % 16) + q.val % 1024
      rw [if_pos h]; omega
  · have e : result c (XA m c) (XW m c) (ix2 r q) = R1.tileV c (XA m c) (XW m c) (tileOf1 (ix2 r q)) (within (ix2 r q)) := dif_neg h
    have t : (tileOf1 (ix2 r q)).val = 18 * ((q.val - 16384) / 1024) + r.val / 512 := rfl
    refine e.trans ((tile_entry _ _ _ _ _).trans (Finset.sum_congr rfl fun k _ => congrArg₂ (· * ·) ?_ ?_))
    · rw [← hA]
      refine act_entry c _ _ _ _ r ?_
      show r.val = 512 * ((tileOf1 (ix2 r q)).val % 18) + r.val % 512
      omega
    · refine (wt_entry1 c _ _ _ _ (column q) ?_).trans (weight_entry m c _ _)
      show (if q.val < 16384 then q.val else q.val + 64) = 16448 + 1024 * ((tileOf1 (ix2 r q)).val / 18 % 14) + q.val % 1024
      rw [if_neg h]; omega

end Kernel

section Reference
open Cert.ReferenceIdeal

/-- The reference's result, an entry at a time. -/
theorem reference_entry (x : FVec Ideal SX .bf16) (w : FVec Ideal SW .f32) (hx) (hw) (hl) (hr) (hc) (r : Fin 9216) (q : Fin 30720) :
    concatenate S9216x30720 1
        [⟨S9216x16384, extractStridedSlice S9216x16384 ![0, 0] (Host.dotGeneral (F := Ideal) dot_S9216x4096_S4096x30784_S9216x30784_1_0_0_1_n_n none (extf .f32 x hx) (shapeCast S4096x30784 w hw)) hl⟩,
         ⟨S9216x14336, extractStridedSlice S9216x14336 ![0, 16448] (Host.dotGeneral (F := Ideal) dot_S9216x4096_S4096x30784_S9216x30784_1_0_0_1_n_n none (extf .f32 x hx) (shapeCast S4096x30784 w hw)) hr⟩] hc (ix2 r q)
      = entry x w r (column q) := by
  by_cases h : q.val < 16384
  · refine (concatenate_pair_apply_left (t := S9216x30720) 1 _ _ hc (ix2 r q) rfl (ix2 r ⟨q.val, h⟩) fun b => ?_).trans ?_
    · match b with
      | ⟨0, _⟩ => rfl
      | ⟨1, _⟩ => rfl
    · refine (extractStridedSlice_apply _ _ _ _ (ix2 r (column q)) fun a => ?_).trans (host_entry x w hx hw r (column q))
      match a with
      | ⟨0, _⟩ => exact (Nat.zero_add _).symm
      | ⟨1, _⟩ => exact (if_pos h).trans (Nat.zero_add _).symm
  · have hq := q.isLt
    refine (concatenate_pair_apply_right (t := S9216x30720) 1 _ _ hc (ix2 r q) rfl rfl (ix2 r ⟨q.val - 16384, by omega⟩) (fun b hb => ?_) ?_).trans ?_
    · match b with
      | ⟨0, _⟩ => rfl
      | ⟨1, _⟩ => exact absurd rfl hb
    · show q.val - 16384 + 16384 = q.val
      omega
    · refine (extractStridedSlice_apply _ _ _ _ (ix2 r (column q)) fun a => ?_).trans (host_entry x w hx hw r (column q))
      match a with
      | ⟨0, _⟩ => exact (Nat.zero_add _).symm
      | ⟨1, _⟩ =>
        refine (if_neg h).trans ?_
        show q.val + 64 = 16448 + (q.val - 16384)
        omega

end Reference

/-- `in_proj` and the reference, run from memories that agree on the arguments, both end with the product. -/
theorem in_proj_algebraic : Cert.algebraic_KernelIdeal_ReferenceIdeal := by
  intro m g m' g' _ hag
  refine ⟨fun c => result c (XA m c) (XW m c), ?_, ?_⟩
  · exact (θ_run Cert.KernelIdeal.defs _ _).mono
      (fun _ h c => ⟨(h.1 c).1, (h.1 c).2.1.trans (V_main_arg0 m c), (h.1 c).2.2.trans (V_main_arg1 m c)⟩) (run_main m g)
  · refine (θ_run Cert.ReferenceIdeal.defs _ _).mono (fun _ h c => ⟨(h c).1.trans ?_, (h c).2.1, (h c).2.2⟩) (Cert.ReferenceIdeal.Value.run m' g')
    refine funext fun (y : Cert.KernelIdeal.S9216x30720.Idx) => ?_
    rw [(hag c).1, (hag c).2, eq_ix2 y]
    exact (reference_entry _ _ _ _ _ _ _ _ _).trans (result_entry m c _ _).symm

end Cert.Proof

end
-- ==== Proof.Entry.lean ====
/-
  The entries of a block of a matrix, and of a matrix with an axis of one entry in front.
-/
module

public import proofs.«01_k».proof.Proof.Product

@[expose] public section

noncomputable section

namespace Cert.Proof.Entry

open Idealize.ShloMosaic Idealize.ShloMosaic.ValueIdx

theorem origin2 : (![0, 0] : Fin 2 → ℕ) = fun _ => 0 := funext fun a => by
  match a with
  | ⟨0, _⟩ => rfl
  | ⟨1, _⟩ => rfl
theorem origin3 : (![0, 0, 0] : Fin 3 → ℕ) = fun _ => 0 := funext fun a => by
  match a with
  | ⟨0, _⟩ => rfl
  | ⟨1, _⟩ => rfl
  | ⟨2, _⟩ => rfl

/-- Rounding changes nothing over the real numbers. -/
theorem rounded {S : Shape} (X : FVec Ideal S .f32) (h) (i : S.Idx) : (truncf .bf16 X h : FVec Ideal S .bf16) i = X i := rfl

theorem times {x x' y y' : Ideal .f32} (h : x = x') (h' : y = y') : x * y = x' * y' := congrArg₂ (fun x y : Ideal .f32 => x * y) h h'
theorem plus {x x' y y' : Ideal .f32} (h : x = x') (h' : y = y') : x + y = x' + y' := congrArg₂ (fun x y : Ideal .f32 => x + y) h h'

/-- An entry of the block that begins at block numbers `f`. -/
theorem window {α : Type} {A B a b u v : ℕ} (f : Fin 2 → ℕ) (hf : f = ![u, v]) (p q : ℕ) (x : (⟨2, ![A, B]⟩ : Shape).Idx → α) (y : (⟨2, ![A, B]⟩ : Shape).Idx) (i : Fin A) (j : Fin B)
    (h0 : (y 0).val = f 0 * a + 1 * p) (h1 : (y 1).val = f 1 * b + 1 * q) (hi : i.val = u * a + p) (hj : j.val = v * b + q) : x y = x (ix2 i j) := by
  subst hf
  refine congrArg x (funext fun d => Fin.ext ?_)
  match d with
  | ⟨0, _⟩ => show (y 0).val = i.val; rw [h0, hi, one_mul]; rfl
  | ⟨1, _⟩ => show (y 1).val = j.val; rw [h1, hj, one_mul]; rfl

/-- A leading axis of one entry, taken away. -/
theorem first {α : Type} {A B : ℕ} (w : (⟨3, ![1, A, B]⟩ : Shape).Idx → α) (h) (k : Fin A) (q : Fin B) : shapeCast ⟨2, ![A, B]⟩ w h (ix2 k q) = w (ix3 0 k q) := by
  rw [shapeCast_dropUnit_apply]
  refine congrArg w (funext fun a => ?_)
  match a with
  | ⟨0, _⟩ => rfl
  | ⟨1, _⟩ => rfl
  | ⟨2, _⟩ => rfl

end Cert.Proof.Entry

end
-- ==== Proof.Dt.lean ====
/-
  `dt_proj` computes the product's 64 columns from 16384 on, turned; and its reference computes the same.
-/
module

public import proofs.«01_k».proof.Defs
public import proofs.«01_k».proof.Proof.Entry
public import proofs.«01_k».proof.Proof.Gen.Kernel2Ideal.Value
public import proofs.«01_k».proof.Proof.Gen.Reference2Ideal.Run

@[expose] public section

noncomputable section

namespace Cert.Proof.Dt

open Idealize.ShloMosaic Idealize.ShloMosaic.ValueIdx Cert.Proof.Entry
open Idealize.ShloMosaic.TcCoe
open Idealize.SL.Sem
open Product

/-- The weight's column that a row of the result comes from. -/
def column (q : Fin 64) : Fin 30784 := ⟨16384 + q.val, by omega⟩

section Kernel
open Cert.Kernel2Ideal Cert.Kernel2Ideal.Gen

variable (m : (ℓ : Loc nD τ sig) → Buf (Elt Ideal) ℓ) (c : Dev nD)

/-- Where a grid point's blocks begin. -/
theorem act_at : ∀ t : Fin grid0.N, cc0_transform_0 (grid0.coords t) = ![t.val, 0] := by decide +kernel
theorem out_at : ∀ t : Fin grid0.N, cc0_transform_2 (grid0.coords t) = ![0, t.val] := by decide +kernel
theorem wt_at : ∀ t : Fin grid0.N, cc0_transform_1 (grid0.coords t) = ![16384, 0] := by decide +kernel
theorem flushes : ∀ t : Fin cfg0.N, (cfg0.win 2).flush t = true := (by decide +kernel : ∀ t : Fin grid0.N, win0_2.flush t = true)

/-- The activations' block. -/
theorem act_entry (t : Fin cfg0.N) (p : Fin 1024) (k : Fin 4096) (i : Fin 9216) (hi : i.val = 1024 * t.val + p.val) :
    (iblk m c 0 t : S1024x4096.Idx → Ideal .bf16) (ix2 p k) = (m ((c : Thread nD τ).loc main_arg0) : SX.Idx → Ideal .bf16) (ix2 i k) := by
  rw [← V_main_arg0 m c]
  exact window (a := 1024) (b := 4096) _ (act_at t) p.val k.val (V m c main_arg0) _ _ _ rfl rfl (by show i.val = _; omega) (by show k.val = _; omega)

/-- The weight as the kernel finds it, turned by the host. -/
theorem weight_entry (q : Fin 30784) (k : Fin 4096) :
    (V m c main_v1 : S30784x4096.Idx → Ideal .f32) (ix2 q k) = (m ((c : Thread nD τ).loc main_arg1) : SW.Idx → Ideal .f32) (ix3 0 k q) := by
  have h : V m c main_v1 = shapeCast S30784x4096 (transpose S1x30784x4096 [0, 2, 1] (m ((c : Thread nD τ).loc main_arg1) : S1x4096x30784.Idx → Ideal .f32)
      Gen.transposes_S1x4096x30784_S1x30784x4096_0_2_1) Gen.shapeCasts_S1x30784x4096_S30784x4096 := by
    show StableHlo.after Gen.hostOps0 (fun b => m (c, b)) (main_v1 : Ref sig .tc) = _
    after_results <;> rfl
  rw [h]
  exact turned_apply _ _ _ _ _

/-- The weight's block: the same 64 rows at every point. -/
theorem wt_entry (t : Fin cfg0.N) (j : Fin 64) (k : Fin 4096) :
    (iblk m c 1 t : S64x4096.Idx → Ideal .f32) (ix2 j k) = (m ((c : Thread nD τ).loc main_arg1) : SW.Idx → Ideal .f32) (ix3 0 k (column j)) := by
  refine Eq.trans (congrArg (V m c main_v1) (funext fun a => Fin.ext ?_)) (weight_entry m c (column j) k)
  match a with
  | ⟨0, _⟩ =>
    show cc0_transform_1 (grid0.coords t) 0 + 1 * j.val = 16384 + j.val
    rw [wt_at t]; show 16384 + 1 * j.val = _; omega
  | ⟨1, _⟩ =>
    show cc0_transform_1 (grid0.coords t) 1 + 1 * k.val = k.val
    rw [wt_at t]; show 0 + 1 * k.val = _; omega

/-- The body's result, an entry at a time. -/
theorem body_entry (x : Vec Ideal S1024x4096 .bf16) (w : Vec Ideal S64x4096 .f32) (j : Fin 64) (p : Fin 1024) :
    out0_2 x w (ix2 j p) = ∑ k : Fin 4096, x (ix2 p k) * w (ix2 j k) := by
  have h : out0_2 x w = k0_pay1 w x := by
    unfold out0_2 r0_0 r0_1 r0_2
    rw [View.canon_cons_unit_zero (S := S64x1024) origin2, View.ld_unit_zero (S := S1024x4096) origin2, View.ld_unit_zero (S := S64x4096) origin2]
  rw [h]
  refine (Ideal.matmul_transposedRhs_apply (M := 64) (K := 4096) (N := 1024) none _ _ _ j p).trans ?_
  show Ideal.ofBits .f32 0x00000000#32 + _ = _
  rw [Ideal.ofBits_zero_f32, zero_add, shapeCast_self]
  exact Finset.sum_congr rfl fun k _ => mul_comm (w (ix2 j k)) (x (ix2 p k))

/-- The kernel's result, an entry at a time. -/
theorem result_entry (j : Fin 64) (i : Fin 9216) :
    ((dats m 0 c).arrAt 2 cfg0.N : S64x9216.Idx → Ideal .f32) (ix2 j i)
      = entry (m ((c : Thread nD τ).loc main_arg0)) (m ((c : Thread nD τ).loc main_arg1)) i (column j) := by
  have hi := i.isLt
  let t : Fin cfg0.N := ⟨i.val / 1024, by show _ < 9; omega⟩
  let p : Fin 1024 := ⟨i.val % 1024, Nat.mod_lt _ (by decide)⟩
  have hb := congrFun (Value.blocks2 m c t (flushes t)) (ix2 j p)
  rw [Value.flushed2] at hb
  refine Eq.trans (congrArg ((dats m 0 c).arrAt 2 cfg0.N) (funext fun a => Fin.ext ?_)) (hb.trans ((body_entry _ _ j p).trans (Finset.sum_congr rfl fun k _ => congrArg₂ (· * ·) (act_entry m c t p k i ?_) (wt_entry m c t j k))))
  · match a with
    | ⟨0, _⟩ =>
      show j.val = cc0_transform_2 (grid0.coords t) 0 * 64 + 1 * j.val
      rw [out_at t]; show _ = 0 * 64 + 1 * j.val; omega
    | ⟨1, _⟩ =>
      show i.val = cc0_transform_2 (grid0.coords t) 1 * 1024 + 1 * (i.val % 1024)
      rw [out_at t]; show _ = i.val / 1024 * 1024 + 1 * (i.val % 1024); omega
  · show i.val = 1024 * (i.val / 1024) + i.val % 1024
    omega

end Kernel

section Reference
open Cert.Reference2Ideal

/-- The reference's result, an entry at a time. -/
theorem reference_entry (x : FVec Ideal SX .bf16) (w : FVec Ideal SW .f32) (hx) (hw) (hs) (ht) (j : Fin 64) (i : Fin 9216) :
    transpose S64x9216 [1, 0] (extractStridedSlice S9216x64 ![0, 16384]
        (Host.dotGeneral (F := Ideal) dot_S9216x4096_S4096x30784_S9216x30784_1_0_0_1_n_n none (extf .f32 x hx) (shapeCast S4096x30784 w hw)) hs) ht (ix2 j i)
      = entry x w i (column j) := by
  refine (transpose_apply _ _ _ _ (ix2 i j) fun b => ?_).trans ?_
  · match b with
    | ⟨0, _⟩ => rfl
    | ⟨1, _⟩ => rfl
  · refine (extractStridedSlice_apply _ _ _ _ (ix2 i (column j)) fun a => ?_).trans (host_entry x w hx hw i (column j))
    match a with
    | ⟨0, _⟩ => exact (Nat.zero_add _).symm
    | ⟨1, _⟩ => rfl

end Reference

/-- `dt_proj` and its reference, run from memories that agree on the arguments, both end with the product's columns. -/
theorem dt_proj_algebraic : Cert.algebraic_Kernel2Ideal_Reference2Ideal := by
  intro m g m' g' _ hag
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun _ h c => ⟨(h c).1.trans ?_, (h c).2.1, (h c).2.2⟩) (Cert.Reference2Ideal.Value.run m' g')
  refine funext fun (y : Cert.Kernel2Ideal.S64x9216.Idx) => ?_
  rw [(hag c).1, (hag c).2, eq_ix2 y]
  exact (reference_entry _ _ _ _ _ _ _ _).trans (result_entry m c _ _).symm

end Cert.Proof.Dt

end
-- ==== Proof.Merge.lean ====
/-
  `merge_branches` merges the three branches' output products by the sigmoids of their gates; and its reference computes the same.
-/
module

public import proofs.«01_k».proof.Defs
public import proofs.«01_k».proof.Proof.Entry
public import proofs.«01_k».proof.Proof.Gen.Kernel3Ideal.Value
public import proofs.«01_k».proof.Proof.Gen.Reference3Ideal.Run
public import Idealize.ShloMosaic.Lib.IdealHost

@[expose] public section

noncomputable section

namespace Cert.Proof.Merge

open Idealize.ShloMosaic Idealize.ShloMosaic.ValueIdx Cert.Proof.Entry
open Idealize.ShloMosaic.TcCoe
open Idealize.SL.Sem

/-- A row of a branch's activations: the prompt's rows come first, then the samples'. -/
def row {K : ℕ} (xp : FVec Ideal ⟨2, ![8192, K]⟩ .bf16) (xs : FVec Ideal ⟨2, ![1024, K]⟩ .bf16) (i : Fin 9216) (k : Fin K) : Ideal .bf16 :=
  if h : i.val < 8192 then xp (ix2 ⟨i.val, h⟩ k) else xs (ix2 ⟨i.val - 8192, by omega⟩ k)

/-- A row of a branch's activations times a column of its output weight. -/
def product {K : ℕ} (xp : FVec Ideal ⟨2, ![8192, K]⟩ .bf16) (xs : FVec Ideal ⟨2, ![1024, K]⟩ .bf16) (w : FVec Ideal ⟨3, ![1, K, 4096]⟩ .f32)
    (i : Fin 9216) (q : Fin 4096) : Ideal .f32 :=
  ∑ k : Fin K, row xp xs i k * w (ix3 0 k q)

/-- The three branches' values merged by the sigmoids of their gates. -/
def mix (ga a gb b gc c : Ideal .f32) : Ideal .f32 :=
  Ideal.logistic ga * a + Ideal.logistic gb * b + Ideal.logistic gc * c

/-- The column of a gate: the gates of the first, second and third branch begin `o` columns in. -/
def column (o : ℕ) (ho : o + 4096 ≤ 30720) (q : Fin 4096) : Fin 30720 := ⟨o + q.val, by omega⟩

/-- The result, an entry at a time. -/
def merged (vap : FVec Ideal ⟨2, ![8192, 2048]⟩ .bf16) (ybp : FVec Ideal ⟨2, ![8192, 4096]⟩ .bf16) (ocp : FVec Ideal ⟨2, ![8192, 2048]⟩ .bf16)
    (vas : FVec Ideal ⟨2, ![1024, 2048]⟩ .bf16) (ybs : FVec Ideal ⟨2, ![1024, 4096]⟩ .bf16) (ocs : FVec Ideal ⟨2, ![1024, 2048]⟩ .bf16)
    (wa : FVec Ideal ⟨3, ![1, 2048, 4096]⟩ .f32) (wb : FVec Ideal ⟨3, ![1, 4096, 4096]⟩ .f32) (wc : FVec Ideal ⟨3, ![1, 2048, 4096]⟩ .f32)
    (proj : FVec Ideal ⟨2, ![9216, 30720]⟩ .f32) (i : Fin 9216) (q : Fin 4096) : Ideal .f32 :=
  mix (proj (ix2 i (column 18432 (by decide) q))) (product vap vas wa i q)
    (proj (ix2 i (column 22528 (by decide) q))) (product ybp ybs wb i q)
    (proj (ix2 i (column 26624 (by decide) q))) (product ocp ocs wc i q)

section Kernel
open Cert.Kernel3Ideal Cert.Kernel3Ideal.Gen

variable (m : (ℓ : Loc nD τ sig) → Buf (Elt Ideal) ℓ) (c : Dev nD)

/-- Where a grid point's blocks begin: the rows move first, then the columns. -/
theorem weight_at : ∀ t : Fin grid0.N, cc0_transform_0 (grid0.coords t) = ![0, t.val / 18] ∧ cc0_transform_1 (grid0.coords t) = ![0, t.val / 18]
    ∧ cc0_transform_2 (grid0.coords t) = ![0, t.val / 18] := by decide +kernel
theorem prompt_at : ∀ t : Fin grid0.N, cc0_transform_3 (grid0.coords t) = ![min (t.val % 18) 15, 0] ∧ cc0_transform_4 (grid0.coords t) = ![min (t.val % 18) 15, 0]
    ∧ cc0_transform_5 (grid0.coords t) = ![min (t.val % 18) 15, 0] := by decide +kernel
theorem sample_at : ∀ t : Fin grid0.N, cc0_transform_6 (grid0.coords t) = ![t.val % 18 - 16, 0] ∧ cc0_transform_7 (grid0.coords t) = ![t.val % 18 - 16, 0]
    ∧ cc0_transform_8 (grid0.coords t) = ![t.val % 18 - 16, 0] := by decide +kernel
theorem gate_at : ∀ t : Fin grid0.N, cc0_transform_9 (grid0.coords t) = ![t.val % 18, 36 + t.val / 18] ∧ cc0_transform_10 (grid0.coords t) = ![t.val % 18, 44 + t.val / 18]
    ∧ cc0_transform_11 (grid0.coords t) = ![t.val % 18, 52 + t.val / 18] := by decide +kernel
theorem out_at : ∀ t : Fin grid0.N, cc0_transform_12 (grid0.coords t) = ![t.val % 18, t.val / 18] := by decide +kernel
theorem flushes : ∀ t : Fin cfg0.N, (cfg0.win 12).flush t = true := (by decide +kernel : ∀ t : Fin grid0.N, win0_12.flush t = true)

/-- The weights as the kernel finds them. -/
theorem weight0 : (V m c main_v1 : S2048x4096.Idx → Ideal .bf16) = (shapeCast S2048x4096 (m ((c : Thread nD τ).loc main_arg6) : S1x2048x4096.Idx → Ideal .f32)
    Gen.shapeCasts_S1x2048x4096_S2048x4096 : S2048x4096.Idx → Ideal .f32) := by
  show StableHlo.after Gen.hostOps0 (fun b => m (c, b)) (main_v1 : Ref sig .tc) = _
  after_results <;> rfl
theorem weight1 : (V m c main_v3 : S4096x4096.Idx → Ideal .bf16) = (shapeCast S4096x4096 (m ((c : Thread nD τ).loc main_arg7) : S1x4096x4096.Idx → Ideal .f32)
    Gen.shapeCasts_S1x4096x4096_S4096x4096 : S4096x4096.Idx → Ideal .f32) := by
  show StableHlo.after Gen.hostOps0 (fun b => m (c, b)) (main_v3 : Ref sig .tc) = _
  after_results <;> rfl
theorem weight2 : (V m c main_v5 : S2048x4096.Idx → Ideal .bf16) = (shapeCast S2048x4096 (m ((c : Thread nD τ).loc main_arg8) : S1x2048x4096.Idx → Ideal .f32)
    Gen.shapeCasts_S1x2048x4096_S2048x4096 : S2048x4096.Idx → Ideal .f32) := by
  show StableHlo.after Gen.hostOps0 (fun b => m (c, b)) (main_v5 : Ref sig .tc) = _
  after_results <;> rfl

/-- A block of a weight, of a prompt's or the samples' activations (the first sixteen rows of points and the last two), and of the gates. -/
theorem weight_block {α : Type} {K : ℕ} {A : (⟨2, ![K, 4096]⟩ : Shape).Idx → α} {w : (⟨3, ![1, K, 4096]⟩ : Shape).Idx → α} {hc} (hA : A = shapeCast ⟨2, ![K, 4096]⟩ w hc)
    {f : Fin 2 → ℕ} {n : ℕ} (hf : f = ![0, n]) (k : Fin K) (j : Fin 512) (q : Fin 4096) (hq : q.val = 512 * n + j.val) (y) (h0 : (y 0).val = f 0 * K + 1 * k.val)
    (h1 : (y 1).val = f 1 * 512 + 1 * j.val) : A y = w (ix3 0 k q) := by
  subst hA
  exact (window f hf k.val j.val _ y k q h0 h1 (by omega) (by omega)).trans (first _ _ k q)
theorem prompt_block {K : ℕ} {A xp : FVec Ideal ⟨2, ![8192, K]⟩ .bf16} (xs : FVec Ideal ⟨2, ![1024, K]⟩ .bf16) (hA : A = xp) {f : Fin 2 → ℕ} {s : ℕ} (hf : f = ![min s 15, 0])
    (hs : s ≤ 15) (p : Fin 512) (k : Fin K) (i : Fin 9216) (hi : i.val = 512 * s + p.val) (y) (h0 : (y 0).val = f 0 * 512 + 1 * p.val) (h1 : (y 1).val = f 1 * K + 1 * k.val) :
    A y = row xp xs i k := by
  have hp := p.isLt
  subst hA
  unfold row
  rw [dif_pos (by omega)]
  exact window f hf p.val k.val A y _ _ h0 h1 (by show i.val = _; omega) (by omega)
theorem sample_block {K : ℕ} (xp : FVec Ideal ⟨2, ![8192, K]⟩ .bf16) {A xs : FVec Ideal ⟨2, ![1024, K]⟩ .bf16} (hA : A = xs) {f : Fin 2 → ℕ} {s : ℕ} (hf : f = ![s - 16, 0])
    (hs : 16 ≤ s) (p : Fin 512) (k : Fin K) (i : Fin 9216) (hi : i.val = 512 * s + p.val) (y) (h0 : (y 0).val = f 0 * 512 + 1 * p.val) (h1 : (y 1).val = f 1 * K + 1 * k.val) :
    A y = row xp xs i k := by
  have hp := p.isLt
  subst hA
  unfold row
  rw [dif_neg (by omega)]
  exact window f hf p.val k.val A y _ _ h0 h1 (by show i.val - 8192 = _; omega) (by omega)
theorem gate_block {A x : FVec Ideal S9216x30720 .f32} (hA : A = x) {f : Fin 2 → ℕ} {s n o : ℕ} (ho) (hf : f = ![s, n]) (p j : Fin 512) (i : Fin 9216) (q : Fin 4096)
    (hi : i.val = 512 * s + p.val) (hq : o + q.val = 512 * n + j.val) (y) (h0 : (y 0).val = f 0 * 512 + 1 * p.val) (h1 : (y 1).val = f 1 * 512 + 1 * j.val) :
    A y = x (ix2 i (column o ho q)) := by
  subst hA
  exact window f hf p.val j.val A y _ _ h0 h1 (by omega) (by show o + q.val = _; omega)

/-- The body's arithmetic, an entry at a time. -/
theorem arithmetic (a : Vec Ideal S512x2048 .bf16) (wa : Vec Ideal S2048x512 .bf16) (b : Vec Ideal S512x4096 .bf16) (wb : Vec Ideal S4096x512 .bf16)
    (o : Vec Ideal S512x2048 .bf16) (wc : Vec Ideal S2048x512 .bf16) (ga gb gc : Vec Ideal S512x512 .f32) (p j : Fin 512) :
    (k0_pay1 a wa b wb o wc ga gb gc : S512x512.Idx → Ideal .bf16) (ix2 p j)
      = mix (ga (ix2 p j)) (∑ k : Fin 2048, a (ix2 p k) * wa (ix2 k j)) (gb (ix2 p j)) (∑ k : Fin 4096, b (ix2 p k) * wb (ix2 k j))
          (gc (ix2 p j)) (∑ k : Fin 2048, o (ix2 p k) * wc (ix2 k j)) := by
  have h₁ (x : Vec Ideal S512x2048 .bf16) (w : Vec Ideal S2048x512 .bf16) :
      matmul (F := Ideal) (φ₁ := .bf16) (φ₂ := .bf16) dot_S512x2048_S2048x512_S512x512_1_0_0_1_n_n none x (shapeCast S2048x512 w shapeCasts_S2048x512_S2048x512) (constant S512x512 .f32 0x00000000#32) (ix2 p j)
        = ∑ k : Fin 2048, x (ix2 p k) * w (ix2 k j) := by
    refine (Ideal.matmul_plain_apply (M := 512) (K := 2048) (N := 512) none _ _ _ p j).trans ?_
    show Ideal.ofBits .f32 0x00000000#32 + _ = _
    rw [Ideal.ofBits_zero_f32, zero_add, shapeCast_self]
  have h₂ : matmul (F := Ideal) (φ₁ := .bf16) (φ₂ := .bf16) dot_S512x4096_S4096x512_S512x512_1_0_0_1_n_n none b (shapeCast S4096x512 wb shapeCasts_S4096x512_S4096x512) (constant S512x512 .f32 0x00000000#32) (ix2 p j)
        = ∑ k : Fin 4096, b (ix2 p k) * wb (ix2 k j) := by
    refine (Ideal.matmul_plain_apply (M := 512) (K := 4096) (N := 512) none _ _ _ p j).trans ?_
    show Ideal.ofBits .f32 0x00000000#32 + _ = _
    rw [Ideal.ofBits_zero_f32, zero_add, shapeCast_self]
  rw [← h₁ a wa, ← h₂, ← h₁ o wc]
  rfl

/-- What the body leaves at a point of the prompt. -/
theorem body_A (i : grid0.Coords) (a0) (h0) (a1) (h1) (a2) (h2) (a3) (h3) (a4) (h4) (a5) (h5) (a6) (h6) (a7) (h7) (a8) (h8) (a9) (h9) (a10) (h10) (a11) (h11) (a12) (h12) (hc0 : cond0_0 i) (hc1 : ¬cond0_1 i)
    (x0) (x1) (x2) (x3) (x4) (x5) (x6) (x7) (x8) (x9 x10 x11 : Vec Ideal S512x512 .f32) :
    out0_A_12 c i a0 h0 a1 h1 a2 h2 a3 h3 a4 h4 a5 h5 a6 h6 a7 h7 a8 h8 a9 h9 a10 h10 a11 h11 a12 h12 hc0 hc1 x0 x1 x2 x3 x4 x5 x6 x7 x8 x9 x10 x11 = k0_pay1 x3 x0 x4 x1 x5 x2 x9 x10 x11 := by
  unfold out0_A_12
  rw [View.read_writes_eq_canon _ _ _ (cover0_A_12 c i a0 h0 a1 h1 a2 h2 a3 h3 a4 h4 a5 h5 a6 h6 a7 h7 a8 h8 a9 h9 a10 h10 a11 h11 a12 h12 hc0 hc1 x0 x1 x2 x3 x4 x5 x6 x7 x8 x9 x10 x11)]
  unfold kernelRun0_A
  dsimp only
  rw [View.canon_unit_zero origin2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S2048x512) origin2, View.ld_unit_zero (S := S4096x512) origin2,
    View.ld_unit_zero (S := S512x2048) origin2, View.ld_unit_zero (S := S512x4096) origin2, View.ld_unit_zero (S := S512x512) origin2]

/-- What the body leaves at a point of the samples. -/
theorem body_B (i : grid0.Coords) (a0) (h0) (a1) (h1) (a2) (h2) (a3) (h3) (a4) (h4) (a5) (h5) (a6) (h6) (a7) (h7) (a8) (h8) (a9) (h9) (a10) (h10) (a11) (h11) (a12) (h12) (hc0 : ¬cond0_0 i) (hc1 : cond0_1 i)
    (x0) (x1) (x2) (x3) (x4) (x5) (x6) (x7) (x8) (x9 x10 x11 : Vec Ideal S512x512 .f32) :
    out0_B_12 c i a0 h0 a1 h1 a2 h2 a3 h3 a4 h4 a5 h5 a6 h6 a7 h7 a8 h8 a9 h9 a10 h10 a11 h11 a12 h12 hc0 hc1 x0 x1 x2 x3 x4 x5 x6 x7 x8 x9 x10 x11 = k0_pay2 x6 x0 x7 x1 x8 x2 x9 x10 x11 := by
  unfold out0_B_12
  rw [View.read_writes_eq_canon _ _ _ (cover0_B_12 c i a0 h0 a1 h1 a2 h2 a3 h3 a4 h4 a5 h5 a6 h6 a7 h7 a8 h8 a9 h9 a10 h10 a11 h11 a12 h12 hc0 hc1 x0 x1 x2 x3 x4 x5 x6 x7 x8 x9 x10 x11)]
  unfold kernelRun0_B
  dsimp only
  rw [View.canon_unit_zero origin2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S2048x512) origin2, View.ld_unit_zero (S := S4096x512) origin2,
    View.ld_unit_zero (S := S512x2048) origin2, View.ld_unit_zero (S := S512x4096) origin2, View.ld_unit_zero (S := S512x512) origin2]

/-- The kernel's result, an entry at a time. -/
theorem result_entry (i : Fin 9216) (q : Fin 4096) :
    ((dats m 0 c).arrAt 12 cfg0.N : S9216x4096.Idx → Ideal .bf16) (ix2 i q)
      = merged (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) i q := by
  have hi := i.isLt
  have hq := q.isLt
  let t : Fin cfg0.N := ⟨q.val / 512 * 18 + i.val / 512, by show _ < 144; omega⟩
  have ht : t.val = q.val / 512 * 18 + i.val / 512 := rfl
  let p : Fin 512 := ⟨i.val % 512, Nat.mod_lt _ (by decide)⟩
  let j : Fin 512 := ⟨q.val % 512, Nat.mod_lt _ (by decide)⟩
  have hpi : i.val = 512 * (t.val % 18) + p.val := by show i.val = 512 * (t.val % 18) + i.val % 512; omega
  have hjq : q.val = 512 * (t.val / 18) + j.val := by show q.val = 512 * (t.val / 18) + q.val % 512; omega
  have hb := congrFun (Value.blocks12 m c t (flushes t)) (ix2 p j)
  refine Eq.trans (congrArg ((dats m 0 c).arrAt 12 cfg0.N) (funext fun a => Fin.ext ?_)) (hb.trans ?_)
  · match a with
    | ⟨0, _⟩ =>
      show i.val = cc0_transform_12 (grid0.coords t) 0 * 512 + 1 * p.val
      rw [out_at t]; show _ = t.val % 18 * 512 + 1 * p.val; omega
    | ⟨1, _⟩ =>
      show q.val = cc0_transform_12 (grid0.coords t) 1 * 512 + 1 * j.val
      rw [out_at t]; show _ = t.val / 18 * 512 + 1 * j.val; omega
  unfold merged product
  have g0 := gate_block (V_main_arg9 m c) (o := 18432) (by decide) (gate_at t).1 p j i q hpi (by omega)
  have g1 := gate_block (V_main_arg9 m c) (o := 22528) (by decide) (gate_at t).2.1 p j i q hpi (by omega)
  have g2 := gate_block (V_main_arg9 m c) (o := 26624) (by decide) (gate_at t).2.2 p j i q hpi (by omega)
  by_cases h0 : t.val % 18 ≤ 15
  · rw [Value.flushed12_A m c t h0 (by omega)]
    refine (congrFun (body_A c (grid0.coords t) ..) (ix2 p j)).trans ?_
    refine (arithmetic _ _ _ _ _ _ _ _ _ p j).trans ?_
    refine congr (congr (congr (congr (congrArg₂ mix (g0 _ rfl rfl) ?_) (g1 _ rfl rfl)) ?_) (g2 _ rfl rfl)) ?_
    · exact Finset.sum_congr rfl fun k _ => times (prompt_block _ (V_main_arg0 m c) (prompt_at t).1 h0 p k i hpi _ rfl rfl) (weight_block (weight0 m c) (weight_at t).1 k j q hjq _ rfl rfl)
    · exact Finset.sum_congr rfl fun k _ => times (prompt_block _ (V_main_arg1 m c) (prompt_at t).2.1 h0 p k i hpi _ rfl rfl) (weight_block (weight1 m c) (weight_at t).2.1 k j q hjq _ rfl rfl)
    · exact Finset.sum_congr rfl fun k _ => times (prompt_block _ (V_main_arg2 m c) (prompt_at t).2.2 h0 p k i hpi _ rfl rfl) (weight_block (weight2 m c) (weight_at t).2.2 k j q hjq _ rfl rfl)
  · rw [Value.flushed12_B m c t h0 (by omega)]
    refine (congrFun (body_B c (grid0.coords t) ..) (ix2 p j)).trans ?_
    refine (arithmetic _ _ _ _ _ _ _ _ _ p j).trans ?_
    refine congr (congr (congr (congr (congrArg₂ mix (g0 _ rfl rfl) ?_) (g1 _ rfl rfl)) ?_) (g2 _ rfl rfl)) ?_
    · exact Finset.sum_congr rfl fun k _ => times (sample_block _ (V_main_arg3 m c) (sample_at t).1 (by omega) p k i hpi _ rfl rfl) (weight_block (weight0 m c) (weight_at t).1 k j q hjq _ rfl rfl)
    · exact Finset.sum_congr rfl fun k _ => times (sample_block _ (V_main_arg4 m c) (sample_at t).2.1 (by omega) p k i hpi _ rfl rfl) (weight_block (weight1 m c) (weight_at t).2.1 k j q hjq _ rfl rfl)
    · exact Finset.sum_congr rfl fun k _ => times (sample_block _ (V_main_arg5 m c) (sample_at t).2.2 (by omega) p k i hpi _ rfl rfl) (weight_block (weight2 m c) (weight_at t).2.2 k j q hjq _ rfl rfl)

end Kernel

section Reference
open Cert.Reference3Ideal

/-- The reference's product of a branch, an entry at a time. -/
theorem host_product {K : ℕ} (xp : FVec Ideal ⟨2, ![8192, K]⟩ .bf16) (xs : FVec Ideal ⟨2, ![1024, K]⟩ .bf16) (w : FVec Ideal ⟨3, ![1, K, 4096]⟩ .f32)
    (hc : Shape.Concatenates [⟨2, ![8192, K]⟩, ⟨2, ![1024, K]⟩] ⟨2, ![9216, K]⟩ 0) (hx) (hw : (⟨3, ![1, K, 4096]⟩ : Shape).ShapeCasts ⟨2, ![K, 4096]⟩)
    (i : Fin 9216) (q : Fin 4096) :
    Host.dotGeneral (F := Ideal) (DotDims.plain 9216 K 4096) none
        (extf .f32 (concatenate ⟨2, ![9216, K]⟩ 0 [⟨⟨2, ![8192, K]⟩, xp⟩, ⟨⟨2, ![1024, K]⟩, xs⟩] hc : FVec Ideal ⟨2, ![9216, K]⟩ .bf16) hx) (shapeCast ⟨2, ![K, 4096]⟩ w hw) (ix2 i q)
      = product xp xs w i q := by
  rw [StackMember.dotGeneral_plain_apply]
  refine Finset.sum_congr rfl fun k _ => ?_
  rw [shapeCast_dropUnit_apply]
  refine congrArg₂ (· * ·) ?_ (congrArg w (funext fun a => ?_))
  · show concatenate ⟨2, ![9216, K]⟩ 0 [⟨⟨2, ![8192, K]⟩, xp⟩, ⟨⟨2, ![1024, K]⟩, xs⟩] hc (ix2 i k) = _
    unfold row
    split
    · refine concatenate_pair_apply_left (t := ⟨2, ![9216, K]⟩) (0 : Fin 2) xp xs hc _ rfl _ fun b => ?_
      match b with
      | ⟨0, _⟩ => rfl
      | ⟨1, _⟩ => rfl
    · refine concatenate_pair_apply_right (t := ⟨2, ![9216, K]⟩) (0 : Fin 2) xp xs hc _ rfl rfl _ (fun b hb => ?_) ?_
      · match b with
        | ⟨0, _⟩ => exact absurd rfl hb
        | ⟨1, _⟩ => rfl
      · show i.val - 8192 + 8192 = i.val
        omega
  · match a with
    | ⟨0, _⟩ => rfl
    | ⟨1, _⟩ => rfl
    | ⟨2, _⟩ => rfl

/-- The reference's sigmoid of a gate, an entry at a time. -/
theorem host_gate (proj : FVec Ideal S9216x30720 .f32) (hb) (hs) (o : ℕ) (ho) (ho' : 18432 + o + 4096 ≤ 30720) (i : Fin 9216) (q : Fin 4096) :
    extractStridedSlice S9216x4096 ![0, o] (Host.divf (broadcastInDim S9216x12288 ![] hb (constant S_ .f32 0x3F800000#32 : FVec Ideal S_ .f32))
        (addf (broadcastInDim S9216x12288 ![] hb (constant S_ .f32 0x3F800000#32)) (Host.exp (Host.negf (extractStridedSlice S9216x12288 ![0, 18432] proj hs))))) ho (ix2 i q)
      = Ideal.logistic (proj (ix2 i (column (18432 + o) ho' q))) := by
  refine (extractStridedSlice_apply _ _ _ _ (ix2 i ⟨o + q.val, by omega⟩) fun a => ?_).trans ?_
  · match a with
    | ⟨0, _⟩ => exact (Nat.zero_add _).symm
    | ⟨1, _⟩ => rfl
  have e : extractStridedSlice S9216x12288 ![0, 18432] proj hs (ix2 i ⟨o + q.val, by omega⟩) = proj (ix2 i (column (18432 + o) ho' q)) := by
    refine extractStridedSlice_apply _ _ _ _ _ fun a => ?_
    match a with
    | ⟨0, _⟩ => exact (Nat.zero_add _).symm
    | ⟨1, _⟩ => exact Nat.add_assoc _ _ _
  rw [← e]
  show Ideal.div (Ideal.ofBits .f32 0x3F800000#32) (Ideal.ofBits .f32 0x3F800000#32 + _) = _
  rw [Ideal.ofBits_one_f32]
  rfl

end Reference

/-- `merge_branches` and its reference, run from memories that agree on the arguments, both end with the merged branches. -/
theorem merge_branches_algebraic : Cert.algebraic_Kernel3Ideal_Reference3Ideal := by
  intro m g m' g' _ hag
  refine ⟨fun c => (Cert.Kernel3Ideal.Gen.dats m 0 c).arrAt 12 Cert.Kernel3Ideal.cfg0.N, Cert.Kernel3Ideal.Value.run_blocks m g, ?_⟩
  refine (θ_run Cert.Reference3Ideal.defs _ _).mono (fun _ h c => ⟨(h c).1.trans ?_, (h c).2⟩) (Cert.Reference3Ideal.Value.run m' g')
  refine funext fun (y : Cert.Kernel3Ideal.S9216x4096.Idx) => ?_
  obtain ⟨e0, e1, e2, e3, e4, e5, e6, e7, e8, e9⟩ := hag c
  rw [e0, e1, e2, e3, e4, e5, e6, e7, e8, e9, eq_ix2 y]
  refine Eq.trans ?_ (result_entry m c _ _).symm
  exact congrArg₂ (· + ·)
    (congrArg₂ (· + ·) (congrArg₂ (· * ·) (host_gate _ _ _ 0 _ (by decide) _ _) (host_product (K := 2048) _ _ _ _ _ _ _ _))
      (congrArg₂ (· * ·) (host_gate _ _ _ 4096 _ (by decide) _ _) (host_product (K := 4096) _ _ _ _ _ _ _ _)))
    (congrArg₂ (· * ·) (host_gate _ _ _ 8192 _ (by decide) _ _) (host_product (K := 2048) _ _ _ _ _ _ _ _))

end Cert.Proof.Merge

end
-- ==== Proof.Memory.lean ====
/-
  `mem_k` computes the product of the normalised memory and the layer's weight; and its reference computes the same.
-/
module

public import proofs.«01_k».proof.Defs
public import proofs.«01_k».proof.Proof.Entry
public import proofs.«01_k».proof.Proof.Gen.Kernel4Ideal.Value
public import proofs.«01_k».proof.Proof.Gen.Reference4Ideal.Run

@[expose] public section

noncomputable section

namespace Cert.Proof.Memory

open Idealize.ShloMosaic Idealize.ShloMosaic.ValueIdx Cert.Proof.Entry
open Idealize.ShloMosaic.TcCoe
open Idealize.SL.Sem

/-- Row `r` of the memory times column `q` of the weight. -/
def product (x : FVec Ideal ⟨2, ![1024, 4096]⟩ .bf16) (w : FVec Ideal ⟨3, ![1, 4096, 2048]⟩ .f32) (r : Fin 1024) (q : Fin 2048) : Ideal .f32 :=
  ∑ k : Fin 4096, x (ix2 r k) * w (ix3 0 k q)

section Kernel
open Cert.Kernel4Ideal Cert.Kernel4Ideal.Gen

variable (m : (ℓ : Loc nD τ sig) → Buf (Elt Ideal) ℓ) (c : Dev nD)

/-- Where a grid point's blocks begin: the rows move first, then the columns. -/
theorem act_at : ∀ t : Fin grid0.N, cc0_transform_0 (grid0.coords t) = ![t.val % 2, 0] := by decide +kernel
theorem wt_at : ∀ t : Fin grid0.N, cc0_transform_1 (grid0.coords t) = ![0, 0, t.val / 2] := by decide +kernel
theorem out_at : ∀ t : Fin grid0.N, cc0_transform_2 (grid0.coords t) = ![t.val % 2, t.val / 2] := by decide +kernel
theorem flushes : ∀ t : Fin cfg0.N, (cfg0.win 2).flush t = true := (by decide +kernel : ∀ t : Fin grid0.N, win0_2.flush t = true)

/-- The memory's block. -/
theorem act_entry (t : Fin cfg0.N) (p : Fin 512) (k : Fin 4096) (i : Fin 1024) (hi : i.val = 512 * (t.val % 2) + p.val) :
    (iblk m c 0 t : S512x4096.Idx → Ideal .bf16) (ix2 p k) = (m ((c : Thread nD τ).loc main_arg0) : S1024x4096.Idx → Ideal .bf16) (ix2 i k) := by
  rw [← V_main_arg0 m c]
  refine congrArg (V m c main_arg0) (funext fun a => Fin.ext ?_)
  match a with
  | ⟨0, _⟩ =>
    show cc0_transform_0 (grid0.coords t) 0 * 512 + 1 * p.val = i.val
    rw [act_at t, hi]; show t.val % 2 * 512 + 1 * p.val = _; omega
  | ⟨1, _⟩ =>
    show cc0_transform_0 (grid0.coords t) 1 * 4096 + 1 * k.val = k.val
    rw [act_at t]; show 0 * 4096 + 1 * k.val = _; omega

/-- The weight's block. -/
theorem wt_entry (t : Fin cfg0.N) (k : Fin 4096) (j : Fin 512) (q : Fin 2048) (hq : q.val = 512 * (t.val / 2) + j.val) :
    (iblk m c 1 t : S1x4096x512.Idx → Ideal .f32) (ix3 0 k j) = (m ((c : Thread nD τ).loc main_arg1) : S1x4096x2048.Idx → Ideal .f32) (ix3 0 k q) := by
  rw [← V_main_arg1 m c]
  refine congrArg (V m c main_arg1) (funext fun a => Fin.ext ?_)
  match a with
  | ⟨0, _⟩ =>
    show cc0_transform_1 (grid0.coords t) 0 * 1 + 1 * 0 = 0
    rw [wt_at t]; rfl
  | ⟨1, _⟩ =>
    show cc0_transform_1 (grid0.coords t) 1 * 4096 + 1 * k.val = k.val
    rw [wt_at t]; show 0 * 4096 + 1 * k.val = _; omega
  | ⟨2, _⟩ =>
    show cc0_transform_1 (grid0.coords t) 2 * 512 + 1 * j.val = q.val
    rw [wt_at t, hq]; show t.val / 2 * 512 + 1 * j.val = _; omega

section Body
variable (i : grid0.Coords) (a0) (h0) (a1) (h1)
  (a2) (h2) (a3) (h3)
  (x : Vec Ideal S512x4096 .bf16) (w : Vec Ideal S1x4096x512 .f32)

/-- At a column block's first point the body keeps the weight's block, cast, and multiplies by it. -/
theorem kept (hc : cond0_0 i) : sout0_A_0 c i a0 h0 a1 h1 a2 h2 a3 h3 hc x w = k0_pay1 w := by
  unfold sout0_A_0
  rw [View.read_writes_eq_canon _ _ _ (scover0_A_0 c i a0 h0 a1 h1 a2 h2 a3 h3 hc x w)]
  unfold kernelRun0_A
  dsimp only
  sl_unfold_words
  rw [View.canon_cons_unit_zero (S := S4096x512) origin2]
  simp only [View.readAt_eq_ld, h1.read_unread, View.ld_unit_zero (S := S1x4096x512) origin3]

theorem first (hc : cond0_0 i) : out0_A_2 c i a0 h0 a1 h1 a2 h2 a3 h3 hc x w = k0_pay2 (k0_pay1 w) x := by
  unfold out0_A_2
  rw [View.read_writes_eq_canon _ _ _ (cover0_A_2 c i a0 h0 a1 h1 a2 h2 a3 h3 hc x w)]
  unfold kernelRun0_A
  dsimp only
  sl_unfold_words
  rw [View.canon_cons_unit_zero (S := S512x512) origin2, View.readCov_unit_zero (S := S4096x512) _ origin2]
  simp only [View.readAt_eq_ld, h0.read_unread, h1.read_unread, View.ld_unit_zero (S := S1x4096x512) origin3, View.ld_unit_zero (S := S512x4096) origin2]

/-- At the next point it multiplies by what was kept. -/
theorem second (hc : ¬cond0_0 i) (s : Vec Ideal S4096x512 .bf16) : out0_B_2 c i a0 h0 a1 h1 a2 h2 a3 h3 hc x w s = k0_pay2 s x := by
  unfold out0_B_2
  rw [View.read_writes_eq_canon _ _ _ (cover0_B_2 c i a0 h0 a1 h1 a2 h2 a3 h3 hc x w s)]
  unfold kernelRun0_B
  dsimp only
  rw [View.canon_unit_zero origin2]
  simp only [View.readAt_eq_ld, h0.read_unread, h3.read_unread, View.ld_unit_zero (S := S4096x512) origin2, View.ld_unit_zero (S := S512x4096) origin2]

end Body

/-- The body's product, an entry at a time. -/
theorem arithmetic (x : Vec Ideal S512x4096 .bf16) (w : Vec Ideal S1x4096x512 .f32) (p j : Fin 512) :
    (k0_pay2 (k0_pay1 w) x : S512x512.Idx → Ideal .f32) (ix2 p j) = ∑ k : Fin 4096, x (ix2 p k) * w (ix3 0 k j) := by
  refine (Ideal.matmul_plain_apply (M := 512) (K := 4096) (N := 512) none _ _ _ p j).trans ?_
  show Ideal.ofBits .f32 0x00000000#32 + _ = _
  rw [Ideal.ofBits_zero_f32, zero_add]
  refine Finset.sum_congr rfl fun k _ => congrArg (fun y : Ideal .bf16 => (x (ix2 p k) : Ideal .bf16) * y) ?_
  unfold k0_pay1
  rw [shapeCast_self]
  show shapeCast S4096x512 w shapeCasts_S1x4096x512_S4096x512 (ix2 k j) = _
  rw [shapeCast_dropUnit_apply]
  refine congrArg w (funext fun a => ?_)
  match a with
  | ⟨0, _⟩ => rfl
  | ⟨1, _⟩ => rfl
  | ⟨2, _⟩ => rfl

/-- What is kept after a column block's first point. -/
theorem kept_at (t : Fin cfg0.N) (h : t.val % 2 = 0) : (outsAt0 m c t.val t.isLt).2 = k0_pay1 (iblk m c 1 t) := by
  simp only [outsAt0_A m c t h]
  exact kept c (grid0.coords t) _ _ _ _ _ _ _ _ _ _ _

/-- A point's result, an entry at a time. -/
theorem point_entry (t : Fin cfg0.N) (p j : Fin 512) (i : Fin 1024) (q : Fin 2048) (hi : i.val = 512 * (t.val % 2) + p.val) (hq : q.val = 512 * (t.val / 2) + j.val) :
    (dats m 0 c).flushed 2 t (ix2 p j) = product (m ((c : Thread nD τ).loc main_arg0)) (m ((c : Thread nD τ).loc main_arg1)) i q := by
  by_cases h : t.val % 2 = 0
  · rw [Value.flushed2_A m c t h]
    refine (congrFun (first c (grid0.coords t) _ _ _ _ _ _ _ _ _ _ _) (ix2 p j)).trans ((arithmetic _ _ p j).trans ?_)
    exact Finset.sum_congr rfl fun k _ => congrArg₂ (fun (x y : Ideal .bf16) => x * y) (act_entry m c t p k i hi) (wt_entry m c t k j q hq)
  · have ht := t.isLt
    let u : Fin cfg0.N := ⟨t.val - 1, by omega⟩
    have hu : u.val = t.val - 1 := rfl
    rw [Value.flushed2_B m c t h, show (outsAt0 m c (t.val - 1) (Nat.lt_of_le_of_lt (Nat.sub_le _ _) t.isLt)).2 = _ from kept_at m c u (by omega)]
    refine (congrFun (second c (grid0.coords t) _ _ _ _ _ _ _ _ _ _ _ _) (ix2 p j)).trans ((arithmetic _ _ p j).trans ?_)
    exact Finset.sum_congr rfl fun k _ => congrArg₂ (fun (x y : Ideal .bf16) => x * y) (act_entry m c t p k i hi) (wt_entry m c u k j q (by omega))

/-- The kernel's result, an entry at a time. -/
theorem result_entry (i : Fin 1024) (q : Fin 2048) :
    ((dats m 0 c).arrAt 2 cfg0.N : S1024x2048.Idx → Ideal .f32) (ix2 i q)
      = product (m ((c : Thread nD τ).loc main_arg0)) (m ((c : Thread nD τ).loc main_arg1)) i q := by
  have hi := i.isLt
  have hq := q.isLt
  let t : Fin cfg0.N := ⟨q.val / 512 * 2 + i.val / 512, by show _ < 8; omega⟩
  have ht : t.val = q.val / 512 * 2 + i.val / 512 := rfl
  let p : Fin 512 := ⟨i.val % 512, Nat.mod_lt _ (by decide)⟩
  let j : Fin 512 := ⟨q.val % 512, Nat.mod_lt _ (by decide)⟩
  have hp : p.val = i.val % 512 := rfl
  have hj : j.val = q.val % 512 := rfl
  refine Eq.trans (congrArg ((dats m 0 c).arrAt 2 cfg0.N) (funext fun a => Fin.ext ?_))
    ((congrFun (Value.blocks2 m c t (flushes t)) (ix2 p j)).trans (point_entry m c t p j i q (by omega) (by omega)))
  match a with
  | ⟨0, _⟩ =>
    show i.val = cc0_transform_2 (grid0.coords t) 0 * 512 + 1 * p.val
    rw [out_at t]; show _ = t.val % 2 * 512 + 1 * p.val; omega
  | ⟨1, _⟩ =>
    show q.val = cc0_transform_2 (grid0.coords t) 1 * 512 + 1 * j.val
    rw [out_at t]; show _ = t.val / 2 * 512 + 1 * j.val; omega

end Kernel

section Reference
open Cert.Reference4Ideal

/-- The reference's result, an entry at a time. -/
theorem reference_entry (x : FVec Ideal S1024x4096 .bf16) (w : FVec Ideal S1x4096x2048 .f32) (hx) (hw) (i : Fin 1024) (q : Fin 2048) :
    Host.dotGeneral (F := Ideal) dot_S1024x4096_S4096x2048_S1024x2048_1_0_0_1_n_n none (extf .f32 x hx) (shapeCast S4096x2048 w hw) (ix2 i q)
      = product x w i q := by
  refine (StackMember.dotGeneral_plain_apply (m := 1024) (n := 2048) (k := 4096) none _ _ i q).trans ?_
  refine Finset.sum_congr rfl fun k _ => ?_
  rw [shapeCast_dropUnit_apply]
  refine congrArg₂ (· * ·) rfl (congrArg w (funext fun a => ?_))
  match a with
  | ⟨0, _⟩ => rfl
  | ⟨1, _⟩ => rfl
  | ⟨2, _⟩ => rfl

end Reference

/-- `mem_k` and its reference, run from memories that agree on the arguments, both end with the product. -/
theorem mem_k_algebraic : Cert.algebraic_Kernel4Ideal_Reference4Ideal := by
  intro m g m' g' _ hag
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun _ h c => ⟨(h c).1.trans ?_, (h c).2.1, (h c).2.2⟩) (Cert.Reference4Ideal.Value.run m' g')
  refine funext fun (y : Cert.Kernel4Ideal.S1024x2048.Idx) => ?_
  rw [(hag c).1, (hag c).2, eq_ix2 y]
  exact (reference_entry _ _ _ _ _ _).trans (result_entry m c _ _).symm

end Cert.Proof.Memory

end
-- ==== Proof.Peer.lean ====
/-
  `peer_query` computes the product of the normalised activations and `peer_wq`; and its reference computes the same.
-/
module

public import proofs.«01_k».proof.Defs
public import proofs.«01_k».proof.Proof.Entry
public import proofs.«01_k».proof.Proof.Gen.Kernel5Ideal.Value
public import proofs.«01_k».proof.Proof.Gen.Reference5Ideal.Run

@[expose] public section

noncomputable section

namespace Cert.Proof.Peer

open Idealize.ShloMosaic Idealize.ShloMosaic.ValueIdx Cert.Proof.Entry
open Idealize.ShloMosaic.TcCoe
open Idealize.SL.Sem
open Product

/-- Row `r` of the activations times column `q` of the weight. -/
def product (x : Vec Ideal ⟨2, ![9216, 4096]⟩ .bf16) (w : Vec Ideal ⟨3, ![1, 4096, 2048]⟩ .f32) (r : Fin 9216) (q : Fin 2048) : Ideal .f32 :=
  ∑ k : Fin 4096, x (ix2 r k) * w (ix3 0 k q)

section Kernel
open Cert.Kernel5Ideal Cert.Kernel5Ideal.Gen

variable (m : (ℓ : Loc nD τ sig) → Buf (Elt Ideal) ℓ) (c : Dev nD)

/-- Where a grid point's blocks begin: the rows move first, then the columns. -/
theorem act_at : ∀ t : Fin grid0.N, cc0_transform_0 (grid0.coords t) = ![t.val % 18, 0] := by decide +kernel
theorem wt_at : ∀ t : Fin grid0.N, cc0_transform_1 (grid0.coords t) = ![0, t.val / 18] := by decide +kernel
theorem out_at : ∀ t : Fin grid0.N, cc0_transform_2 (grid0.coords t) = ![t.val % 18, t.val / 18] := by decide +kernel
theorem flushes : ∀ t : Fin cfg0.N, (cfg0.win 2).flush t = true := (by decide +kernel : ∀ t : Fin grid0.N, win0_2.flush t = true)

/-- The activations' block. -/
theorem act_entry (t : Fin cfg0.N) (p : Fin 512) (k : Fin 4096) (i : Fin 9216) (hi : i.val = 512 * (t.val % 18) + p.val) :
    (iblk m c 0 t : S512x4096.Idx → Ideal .bf16) (ix2 p k) = (m ((c : Thread nD τ).loc main_arg0) : S9216x4096.Idx → Ideal .bf16) (ix2 i k) := by
  rw [← V_main_arg0 m c]
  exact window (a := 512) (b := 4096) _ (act_at t) p.val k.val (V m c main_arg0) _ _ _ rfl rfl (by show i.val = _; omega) (by show k.val = _; omega)

/-- The weight as the kernel finds it. -/
theorem weight_entry (k : Fin 4096) (q : Fin 2048) :
    (V m c main_v1 : S4096x2048.Idx → Ideal .bf16) (ix2 k q) = (m ((c : Thread nD τ).loc main_arg1) : S1x4096x2048.Idx → Ideal .f32) (ix3 0 k q) := by
  have h : (V m c main_v1 : S4096x2048.Idx → Ideal .bf16) = (shapeCast S4096x2048 (m ((c : Thread nD τ).loc main_arg1) : S1x4096x2048.Idx → Ideal .f32)
      Gen.shapeCasts_S1x4096x2048_S4096x2048 : S4096x2048.Idx → Ideal .f32) := by
    show StableHlo.after Gen.hostOps0 (fun b => m (c, b)) (main_v1 : Ref sig .tc) = _
    after_results <;> rfl
  rw [h]
  exact first _ _ k q

/-- The weight's block. -/
theorem wt_entry (t : Fin cfg0.N) (k : Fin 4096) (j : Fin 1024) (q : Fin 2048) (hq : q.val = 1024 * (t.val / 18) + j.val) :
    (iblk m c 1 t : S4096x1024.Idx → Ideal .bf16) (ix2 k j) = (m ((c : Thread nD τ).loc main_arg1) : S1x4096x2048.Idx → Ideal .f32) (ix3 0 k q) := by
  exact Eq.trans (window (a := 4096) (b := 1024) _ (wt_at t) k.val j.val (V m c main_v1) _ k q rfl rfl (by show k.val = _; omega) (by show q.val = _; omega)) (weight_entry m c k q)

/-- The body's result, an entry at a time. -/
theorem body_entry (x : Vec Ideal S512x4096 .bf16) (w : Vec Ideal S4096x1024 .bf16) (p : Fin 512) (j : Fin 1024) :
    out0_2 x w (ix2 p j) = ∑ k : Fin 4096, x (ix2 p k) * w (ix2 k j) := by
  have h : out0_2 x w = k0_pay1 w x := by
    unfold out0_2 r0_0 r0_1 r0_2
    rw [View.canon_cons_unit_zero (S := S512x1024) origin2, View.ld_unit_zero (S := S512x4096) origin2, View.ld_unit_zero (S := S4096x1024) origin2]
  rw [h]
  refine (Ideal.matmul_plain_apply (M := 512) (K := 4096) (N := 1024) none _ _ _ p j).trans ?_
  show Ideal.ofBits .f32 0x00000000#32 + _ = _
  rw [Ideal.ofBits_zero_f32, zero_add, shapeCast_self]

/-- The kernel's result, an entry at a time. -/
theorem result_entry (i : Fin 9216) (q : Fin 2048) :
    ((dats m 0 c).arrAt 2 cfg0.N : S9216x2048.Idx → Ideal .f32) (ix2 i q)
      = product (m ((c : Thread nD τ).loc main_arg0)) (m ((c : Thread nD τ).loc main_arg1)) i q := by
  have hi := i.isLt
  have hq := q.isLt
  let t : Fin cfg0.N := ⟨q.val / 1024 * 18 + i.val / 512, by show _ < 36; omega⟩
  have ht : t.val = q.val / 1024 * 18 + i.val / 512 := rfl
  let p : Fin 512 := ⟨i.val % 512, Nat.mod_lt _ (by decide)⟩
  let j : Fin 1024 := ⟨q.val % 1024, Nat.mod_lt _ (by decide)⟩
  have hb := congrFun (Value.blocks2 m c t (flushes t)) (ix2 p j)
  rw [Value.flushed2] at hb
  refine Eq.trans (congrArg ((dats m 0 c).arrAt 2 cfg0.N) (funext fun a => Fin.ext ?_)) (hb.trans ((body_entry _ _ p j).trans (Finset.sum_congr rfl fun k _ => congrArg₂ (· * ·) (act_entry m c t p k i ?_) (wt_entry m c t k j q ?_))))
  · match a with
    | ⟨0, _⟩ =>
      show i.val = cc0_transform_2 (grid0.coords t) 0 * 512 + 1 * (i.val % 512)
      rw [out_at t]; show _ = t.val % 18 * 512 + 1 * (i.val % 512); omega
    | ⟨1, _⟩ =>
      show q.val = cc0_transform_2 (grid0.coords t) 1 * 1024 + 1 * (q.val % 1024)
      rw [out_at t]; show _ = t.val / 18 * 1024 + 1 * (q.val % 1024); omega
  · show i.val = 512 * (t.val % 18) + i.val % 512
    omega
  · show q.val = 1024 * (t.val / 18) + q.val % 1024
    omega

end Kernel

section Reference
open Cert.Reference5Ideal

/-- The reference's result, an entry at a time. -/
theorem reference_entry (x : FVec Ideal S9216x4096 .bf16) (w : FVec Ideal S1x4096x2048 .f32) (hx) (hw) (i : Fin 9216) (q : Fin 2048) :
    Host.dotGeneral (F := Ideal) dot_S9216x4096_S4096x2048_S9216x2048_1_0_0_1_n_n none (extf .f32 x hx) (shapeCast S4096x2048 w hw) (ix2 i q)
      = product x w i q := by
  refine (StackMember.dotGeneral_plain_apply (m := 9216) (n := 2048) (k := 4096) none _ _ i q).trans ?_
  refine Finset.sum_congr rfl fun k _ => ?_
  rw [shapeCast_dropUnit_apply]
  refine congrArg₂ (· * ·) rfl (congrArg w (funext fun a => ?_))
  match a with
  | ⟨0, _⟩ => rfl
  | ⟨1, _⟩ => rfl
  | ⟨2, _⟩ => rfl

end Reference

/-- `peer_query` and its reference, run from memories that agree on the arguments, both end with the product. -/
theorem peer_query_algebraic : Cert.algebraic_Kernel5Ideal_Reference5Ideal := by
  intro m g m' g' _ hag
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun _ h c => ⟨(h c).1.trans ?_, (h c).2.1, (h c).2.2⟩) (Cert.Reference5Ideal.Value.run m' g')
  refine funext fun (y : Cert.Kernel5Ideal.S9216x2048.Idx) => ?_
  rw [(hag c).1, (hag c).2, eq_ix2 y]
  exact (reference_entry _ _ _ _ _ _).trans (result_entry m c _ _).symm

end Cert.Proof.Peer

end
-- ==== Proof.Conv.lean ====
/-
  What the two gated convolutions have in common: the host's text of the reference, an entry at a time, for any number of sequences and any
  length.
-/
module

public import proofs.«01_k».proof.Proof.Entry

@[expose] public section

noncomputable section

namespace Cert.Proof.Conv

open Idealize.ShloMosaic Idealize.ShloMosaic.ValueIdx Cert.Proof.Entry

section Reference
variable {B L R s : ℕ} (x : FVec Ideal ⟨2, ![9216, 30720]⟩ .f32) (w : FVec Ideal ⟨3, ![1, 3, 2048]⟩ .f32)

/-- The reference's parts of the product. -/
theorem part_entry (o : ℕ) (ho : o ≤ 4096) (h₁) (h₂) (h₃) (b : Fin B) (j : Fin L) (q : Fin 2048) (r : Fin R) (hr : r.val = b.val * L + j.val) (i : Fin 9216) (hi : i.val = s + r.val)
    (n : Fin 30720) (hn : n.val = o + q.val) :
    extractStridedSlice ⟨3, ![B, L, 2048]⟩ ![0, 0, o] (shapeCast ⟨3, ![B, L, 6144]⟩ (extractStridedSlice ⟨2, ![R, 6144]⟩ ![s, 0] x h₁) h₂) h₃ (ix3 b j q) = x (ix2 i n) := by
  refine (extractStridedSlice_apply _ _ _ _ (ix3 b j (⟨o + q.val, by omega⟩ : Fin 6144)) fun a => ?_).trans ?_
  · match a with
    | ⟨0, _⟩ => exact (Nat.zero_add _).symm
    | ⟨1, _⟩ => exact (Nat.zero_add _).symm
    | ⟨2, _⟩ => rfl
  · refine (shapeCast_apply _ _ _ (ix2 r (⟨o + q.val, by omega⟩ : Fin 6144)) ?_).trans ?_
    · rw [Shape.rowMajor_val_two, Shape.rowMajor_val_three]
      exact congrArg (fun z => z * 6144 + (o + q.val)) hr
    · refine extractStridedSlice_apply _ _ _ _ _ fun a => ?_
      match a with
      | ⟨0, _⟩ => exact hi
      | ⟨1, _⟩ => show n.val = 0 + (o + q.val); omega

/-- The reference's signal. -/
theorem signal_part (h₁) (h₂) (h₃) (h₁') (h₂') (h₃') (b : Fin B) (j : Fin L) (q : Fin 2048) (r : Fin R) (hr : r.val = b.val * L + j.val) (i : Fin 9216) (hi : i.val = s + r.val) :
    (mulf (extractStridedSlice ⟨3, ![B, L, 2048]⟩ ![0, 0, 4096] (shapeCast ⟨3, ![B, L, 6144]⟩ (extractStridedSlice ⟨2, ![R, 6144]⟩ ![s, 0] x h₁) h₂) h₃)
      (extractStridedSlice ⟨3, ![B, L, 2048]⟩ ![0, 0, 0] (shapeCast ⟨3, ![B, L, 6144]⟩ (extractStridedSlice ⟨2, ![R, 6144]⟩ ![s, 0] x h₁') h₂') h₃') :
        (⟨3, ![B, L, 2048]⟩ : Shape).Idx → Ideal .f32) (ix3 b j q)
      = x (ix2 i (⟨4096 + q.val, by omega⟩ : Fin 30720)) * x (ix2 i (⟨q.val, by omega⟩ : Fin 30720)) :=
  times (part_entry x 4096 (by decide) h₁ h₂ h₃ b j q r hr i hi _ rfl)
    (part_entry x 0 (by decide) h₁' h₂' h₃' b j q r hr i hi _ (Nat.zero_add _).symm)

/-- The reference's shifted signals, with two entries put in front. -/
theorem shifted {M : ℕ} (e : ℕ) (Z : (⟨3, ![B, 2, 2048]⟩ : Shape).Idx → Ideal .f32) (U : (⟨3, ![B, L, 2048]⟩ : Shape).Idx → Ideal .f32) (h₂) (h₃) (b : Fin B) (j : Fin L) (q : Fin 2048) (hM : j.val + e < M) (v : Ideal .f32)
    (hZ : ∀ h : j.val + e < 2, Z (ix3 b (⟨j.val + e, h⟩ : Fin 2) q) = v) (hU : 2 ≤ j.val + e → ∀ k : Fin L, k.val + 2 = j.val + e → U (ix3 b k q) = v) (he : e ≤ 2) :
    extractStridedSlice ⟨3, ![B, L, 2048]⟩ ![0, e, 0] (concatenate ⟨3, ![B, M, 2048]⟩ 1 [⟨⟨3, ![B, 2, 2048]⟩, Z⟩, ⟨⟨3, ![B, L, 2048]⟩, U⟩] h₂) h₃ (ix3 b j q) = v := by
  refine (extractStridedSlice_apply _ _ _ _ (ix3 b (⟨j.val + e, hM⟩ : Fin M) q) fun a => ?_).trans ?_
  · match a with
    | ⟨0, _⟩ => exact (Nat.zero_add _).symm
    | ⟨1, _⟩ => exact Nat.add_comm _ _
    | ⟨2, _⟩ => exact (Nat.zero_add _).symm
  · by_cases h : j.val + e < 2
    · refine (concatenate_pair_apply_left (t := ⟨3, ![B, M, 2048]⟩) 1 _ _ h₂ _ rfl (ix3 b (⟨j.val + e, h⟩ : Fin 2) q) fun a => ?_).trans (hZ h)
      match a with
      | ⟨0, _⟩ => rfl
      | ⟨1, _⟩ => rfl
      | ⟨2, _⟩ => rfl
    · have hj := j.isLt
      refine (concatenate_pair_apply_right (t := ⟨3, ![B, M, 2048]⟩) 1 _ _ h₂ _ rfl rfl (ix3 b (⟨j.val + e - 2, by omega⟩ : Fin L) q) (fun a ha => ?_) ?_).trans (hU (by omega) _ (by show j.val + e - 2 + 2 = _; omega))
      · match a with
        | ⟨0, _⟩ => rfl
        | ⟨1, _⟩ => exact absurd rfl ha
        | ⟨2, _⟩ => rfl
      · show j.val + e - 2 + 2 = j.val + e; omega

/-- The reference's coefficients. -/
theorem coefficient_entry (k : Fin 3) (h₁) (h₂) (h₃) (h₄) (h₅) (b : Fin B) (j : Fin L) (q : Fin 2048) :
    broadcastInDim ⟨3, ![B, L, 2048]⟩ ![0, 1, 2] h₅ (broadcastInDim ⟨3, ![1, 1, 2048]⟩ ![2] h₄ (shapeCast ⟨1, ![2048]⟩ (extractStridedSlice ⟨2, ![1, 2048]⟩ ![k.val, 0] (shapeCast ⟨2, ![3, 2048]⟩ w h₁) h₂) h₃)) (ix3 b j q)
      = w (ix3 0 k q) := by
  refine (broadcastInDim_apply _ _ _ _ (ix3 (0 : Fin 1) (0 : Fin 1) q) fun a => ?_).trans ?_
  · match a with
    | ⟨0, _⟩ => rfl
    | ⟨1, _⟩ => rfl
    | ⟨2, _⟩ => rfl
  refine (broadcastInDim_apply _ _ _ _ (ix1 q) fun a => ?_).trans ?_
  · match a with
    | ⟨0, _⟩ => rfl
  refine (shapeCast_apply _ _ _ (ix2 (0 : Fin 1) q) ?_).trans ?_
  · rw [Shape.rowMajor_val_two, Shape.rowMajor_val_one]
    show 0 * 2048 + q.val = q.val
    omega
  refine (extractStridedSlice_apply _ _ _ _ (ix2 k q) fun a => ?_).trans (first w h₁ k q)
  match a with
  | ⟨0, _⟩ => show k.val = k.val + 0; omega
  | ⟨1, _⟩ => show q.val = 0 + q.val; omega

/-- The reference's first result, an entry at a time. -/
theorem filtered_sum {S : Shape} (G T₀ T₁ T₂ C₀ C₁ C₂ Z : S.Idx → Ideal .f32) (y : S.Idx) {g t₀ t₁ t₂ c₀ c₁ c₂ : Ideal .f32} (hZ : Z y = (0 : Ideal .f32)) (hG : G y = g)
    (h₀ : T₀ y = t₀) (h₁ : T₁ y = t₁) (h₂ : T₂ y = t₂) (k₀ : C₀ y = c₀) (k₁ : C₁ y = c₁) (k₂ : C₂ y = c₂) :
    (mulf (F := Ideal) (φ := .f32) G (addf (F := Ideal) (φ := .f32) (addf (F := Ideal) (φ := .f32) (addf (F := Ideal) (φ := .f32) Z (mulf (F := Ideal) (φ := .f32) T₀ C₀)) (mulf (F := Ideal) (φ := .f32) T₁ C₁)) (mulf (F := Ideal) (φ := .f32) T₂ C₂))) y
      = g * (c₂ * t₂ + c₀ * t₀ + c₁ * t₁) := by
  show (G y : EReal) * (((Z y : EReal) + (T₀ y : EReal) * (C₀ y : EReal)) + (T₁ y : EReal) * (C₁ y : EReal) + (T₂ y : EReal) * (C₂ y : EReal)) = _
  rw [hZ, hG, h₀, h₁, h₂, k₀, k₁, k₂]
  refine congrArg (fun y : EReal => (g : EReal) * y) ?_
  show (0 : EReal) + (t₀ : EReal) * (c₀ : EReal) + (t₁ : EReal) * (c₁ : EReal) + (t₂ : EReal) * (c₂ : EReal) = _
  rw [zero_add, mul_comm (t₀ : EReal), mul_comm (t₁ : EReal), mul_comm (t₂ : EReal), add_comm, ← add_assoc]

/-- Row `r` is position `j` of sequence `b`. -/
theorem together (r : Fin R) (b : Fin B) (j : Fin L) (q : Fin 2048) (hr : r.val = b.val * L + j.val) :
    ((⟨3, ![B, L, 2048]⟩ : Shape).rowMajor (ix3 b j q)).val = ((⟨2, ![R, 2048]⟩ : Shape).rowMajor (ix2 r q)).val := by
  rw [Shape.rowMajor_val_two, Shape.rowMajor_val_three]
  exact (congrArg (fun z => z * 2048 + q.val) hr).symm

end Reference

end Cert.Proof.Conv

end
-- ==== Proof.Short.lean ====
/-
  `short_seq_conv` over the short sequences filters the product of two columns of a row over its position and the two before it, the earlier positions
  of a sequence coming from the state, and multiplies by a third column; its second result is that product; and the reference computes the same.
-/
module

public import proofs.«01_k».proof.Defs
public import proofs.«01_k».proof.Proof.Conv
public import proofs.«01_k».proof.Proof.Gen.Kernel6.Frame
public import proofs.«01_k».proof.Proof.Gen.Kernel6Ideal.Value
public import proofs.«01_k».proof.Proof.Gen.Reference6Ideal.Run

@[expose] public section

noncomputable section

namespace Cert.Proof.Short

open Idealize.ShloMosaic Idealize.ShloMosaic.ValueIdx Cert.Proof.Entry Cert.Proof.Conv
open Idealize.ShloMosaic.TcCoe
open Idealize.SL.Sem

/-- The signal that is filtered: the product of two columns of a row. -/
def signal (x : FVec Ideal ⟨2, ![9216, 30720]⟩ .f32) (r : Fin 1024) (q : Fin 2048) : Ideal .f32 :=
  x (ix2 (⟨8192 + r.val, by omega⟩ : Fin 9216) (⟨4096 + q.val, by omega⟩ : Fin 30720)) * x (ix2 (⟨8192 + r.val, by omega⟩ : Fin 9216) (⟨q.val, by omega⟩ : Fin 30720))

/-- Entry `k` of a sequence's signal with the two earlier entries, kept in the state, put in front. -/
def tap (x : FVec Ideal ⟨2, ![9216, 30720]⟩ .f32) (s : FVec Ideal ⟨4, ![1, 128, 2, 2048]⟩ .f32) (b : Fin 128) (k : Fin 10) (q : Fin 2048) : Ideal .f32 :=
  if h : k.val < 2 then s (ix4 0 b (⟨k.val, h⟩ : Fin 2) q) else signal x (⟨8 * b.val + (k.val - 2), by omega⟩ : Fin 1024) q

/-- The filtered signal times its gate, at position `j` of sequence `b`. -/
def filtered (x : FVec Ideal ⟨2, ![9216, 30720]⟩ .f32) (s : FVec Ideal ⟨4, ![1, 128, 2, 2048]⟩ .f32) (w : FVec Ideal ⟨3, ![1, 3, 2048]⟩ .f32)
    (b : Fin 128) (j : Fin 8) (q : Fin 2048) : Ideal .f32 :=
  x (ix2 (⟨8192 + (8 * b.val + j.val), by omega⟩ : Fin 9216) (⟨2048 + q.val, by omega⟩ : Fin 30720))
    * (w (ix3 0 2 q) * tap x s b (⟨j.val + 2, by omega⟩ : Fin 10) q + w (ix3 0 0 q) * tap x s b (⟨j.val, by omega⟩ : Fin 10) q + w (ix3 0 1 q) * tap x s b (⟨j.val + 1, by omega⟩ : Fin 10) q)

section Kernel
open Cert.Kernel6Ideal Cert.Kernel6Ideal.Gen

/-- Which rows take their operand from the signal. -/
theorem from_two : ∀ p : Fin 128, (cmpi .sge (select k0_pay9 (addi k0_pay8 k0_pay10) k0_pay8) (broadcast S128x2048 2#32) : IVec S128x2048 1) (ix2 p 0) = if 2 ≤ p.val % 8 then 1#1 else 0#1 := by decide +kernel
theorem from_one : ∀ p : Fin 128, (cmpi .sge (select k0_pay9 (addi k0_pay8 k0_pay10) k0_pay8) (broadcast S128x2048 1#32) : IVec S128x2048 1) (ix2 p 0) = if 1 ≤ p.val % 8 then 1#1 else 0#1 := by decide +kernel

/-- A load from the signal's buffer, at a row that lies in the signal. -/
theorem near (v : View sig .tc .vmem S136x2048 .f32) (A : Vec Ideal S128x2048 .f32) (Z : Vec Ideal S8x2048 .f32) (o : ℕ) (inb) (hA) (hZ) (p k : Fin 128) (q : Fin 2048)
    (hk : 8 + k.val = o + p.val) :
    v.readCov (Val := Elt Ideal) [⟨Rect.unit (s := S136x2048) ![8, 0] S128x2048.size hA, A⟩, ⟨Rect.unit (s := S136x2048) ![0, 0] S8x2048.size hZ, Z⟩]
      (Rect.unit (s := S136x2048) ![o, 0] S128x2048.size inb).toLoadRect (ix2 p q) = A (ix2 k q) := by
  rw [View.readCov_eq_canon']
  refine Eq.trans (congrArg (View.canon _) (funext fun a => Fin.ext ?_)) (View.canon_cons_emb (Rect.unit (s := S136x2048) ![8, 0] S128x2048.size hA) A _ (ix2 k q))
  match a with
  | ⟨0, _⟩ => show o + 1 * p.val = 8 + 1 * k.val; omega
  | ⟨1, _⟩ => rfl

/-- A load from the earlier entries' buffer, at a row that lies in them. -/
theorem earlier (v : View sig .tc .vmem S136x2048 .f32) (A : Vec Ideal S128x2048 .f32) (Z : Vec Ideal S8x2048 .f32) (o : ℕ) (inb) (hA) (hZ) (p k : Fin 128) (q : Fin 2048)
    (hk : k.val = o + p.val) :
    v.readCov (Val := Elt Ideal) [⟨Rect.unit (s := S136x2048) ![128, 0] S8x2048.size hZ, Z⟩, ⟨Rect.unit (s := S136x2048) ![0, 0] S128x2048.size hA, A⟩]
      (Rect.unit (s := S136x2048) ![o, 0] S128x2048.size inb).toLoadRect (ix2 p q) = A (ix2 k q) := by
  have hlt := k.isLt
  rw [View.readCov_eq_canon']
  refine Eq.trans (View.canon_cons_of_not_mem _ _ fun h => ?_) (Eq.trans (congrArg (View.canon _) (funext fun a => Fin.ext ?_))
    (View.canon_cons_emb (Rect.unit (s := S136x2048) ![0, 0] S128x2048.size hA) A _ (ix2 k q)))
  · obtain ⟨y, hy⟩ := LoadRect.exists_idx_of_mem _ h
    have h0 : 128 + 1 * (y 0).val = o + 1 * p.val := congrArg (fun z => (z 0).val) hy
    omega
  · match a with
    | ⟨0, _⟩ => show o + 1 * p.val = 0 + 1 * k.val; omega
    | ⟨1, _⟩ => rfl

section Body
variable (c : Dev nD) (i : grid0.Coords) (a0) (h0) (a1) (h1)
  (a2) (h2) (a3) (h3)
  (a4) (h4) (a5) (h5)
  (a6) (h6) (a7) (h7)
  (a8 : Memref sig .tc .vmem S136x2048 .f32) (h8 : a8.IsWhole)
  (x0 x1 x2 x3 : Vec Ideal S128x2048 .f32) (x4 : Vec Ideal S3x2048 .f32)

/-- The second result's block. -/
theorem body_signal : out0_A_6 c i a0 h0 a1 h1 a2 h2 a3 h3 a4 h4 a5 h5 a6 h6 a7 h7 a8 h8 x0 x1 x2 x3 x4 = k0_pay2 x2 x0 := by
  unfold out0_A_6
  rw [View.read_writes_eq_canon _ _ _ (cover0_A_6 c i a0 h0 a1 h1 a2 h2 a3 h3 a4 h4 a5 h5 a6 h6 a7 h7 a8 h8 x0 x1 x2 x3 x4)]
  unfold kernelRun0_A
  dsimp only
  sl_unfold_words
  rw [View.canon_cons_unit_zero (S := S128x2048) origin2]
  simp only [View.readAt_eq_ld, h0.read_unread, h2.read_unread, View.ld_unit_zero (S := S128x2048) origin2]

/-- An operand of the filter at row `p` of a block, `d` positions back. -/
def back (d : ℕ) (p : Fin 128) (q : Fin 2048) : Ideal .f32 :=
  if d ≤ p.val % 8 then x2 (ix2 (⟨p.val - d, by omega⟩ : Fin 128) q) * x0 (ix2 (⟨p.val - d, by omega⟩ : Fin 128) q)
  else x3 (ix2 (⟨(p.val + 8 - d) % 128, Nat.mod_lt _ (by decide)⟩ : Fin 128) q)

theorem choose (d : ℕ) (M : IVec S128x2048 1) (X Y : S128x2048.Idx → Ideal .f32) (p : Fin 128) (q : Fin 2048) (hM : M (ix2 p q) = if d ≤ p.val % 8 then 1#1 else 0#1)
    (hX : d ≤ p.val % 8 → X (ix2 p q) = x2 (ix2 (⟨p.val - d, by omega⟩ : Fin 128) q) * x0 (ix2 (⟨p.val - d, by omega⟩ : Fin 128) q))
    (hY : ¬ d ≤ p.val % 8 → Y (ix2 p q) = x3 (ix2 (⟨(p.val + 8 - d) % 128, Nat.mod_lt _ (by decide)⟩ : Fin 128) q)) :
    select M X Y (ix2 p q) = back x0 x2 x3 d p q := by
  show Scalar.select (M (ix2 p q)) (X (ix2 p q)) (Y (ix2 p q)) = _
  rw [hM]
  unfold back
  by_cases h : d ≤ p.val % 8
  · rw [if_pos h, if_pos h]; exact hX h
  · rw [if_neg h, if_neg h]; exact hY h

theorem near_signal (d o : ℕ) (ho : o + d = 8) (p : Fin 128) (q : Fin 2048) (v : View sig .tc .vmem S136x2048 .f32) (inb) (hA) (hZ) (h : d ≤ p.val % 8) :
    v.readCov (Val := Elt Ideal) [⟨Rect.unit (s := S136x2048) ![8, 0] S128x2048.size hA, k0_pay5 x2 x0⟩, ⟨Rect.unit (s := S136x2048) ![0, 0] S8x2048.size hZ, k0_pay4 (F := Ideal)⟩]
        (Rect.unit (s := S136x2048) ![o, 0] S128x2048.size inb).toLoadRect (ix2 p q)
      = (x2 (ix2 (⟨p.val - d, by omega⟩ : Fin 128) q) * x0 (ix2 (⟨p.val - d, by omega⟩ : Fin 128) q) : Ideal .f32) := by
  have e := near v (k0_pay5 x2 x0) (k0_pay4 (F := Ideal)) o inb hA hZ p ⟨p.val - d, by omega⟩ q (by show 8 + (p.val - d) = _; omega)
  rw [e]
  unfold k0_pay5
  rw [shapeCast_self]
  rfl

theorem earlier_state (d o : ℕ) (hd : d ≤ 2) (ho : o + d = 8) (p : Fin 128) (q : Fin 2048) (v : View sig .tc .vmem S136x2048 .f32) (inb) (hA) (hZ) (h : ¬ d ≤ p.val % 8) :
    v.readCov (Val := Elt Ideal) [⟨Rect.unit (s := S136x2048) ![128, 0] S8x2048.size hZ, k0_pay7 (F := Ideal)⟩, ⟨Rect.unit (s := S136x2048) ![0, 0] S128x2048.size hA, k0_pay6 x3⟩]
        (Rect.unit (s := S136x2048) ![o, 0] S128x2048.size inb).toLoadRect (ix2 p q)
      = (x3 (ix2 (⟨(p.val + 8 - d) % 128, Nat.mod_lt _ (by decide)⟩ : Fin 128) q) : Ideal .f32) := by
  have hp := p.isLt
  have e := earlier v (k0_pay6 x3) (k0_pay7 (F := Ideal)) o inb hA hZ p ⟨(p.val + 8 - d) % 128, Nat.mod_lt _ (by decide)⟩ q (by show (p.val + 8 - d) % 128 = _; omega)
  rw [e]
  unfold k0_pay6
  rw [shapeCast_self, shapeCast_self]

/-- A row of the filter's coefficients, spread over the block. -/
theorem spread (k : Fin 3) (inb) (p : Fin 128) (q : Fin 2048) :
    (broadcastTo S128x2048 (shapeCast S1x2048 (View.ld x4 (Rect.unit (s := S3x2048) ![k.val, 0] S1x2048.size inb)) shapeCasts_S1x2048_S1x2048) broadcasts_S1x2048_S128x2048 : S128x2048.Idx → Ideal .f32) (ix2 p q)
      = x4 (ix2 k q) := by
  refine (congrArg (fun z : S1x2048.Idx → Ideal .f32 => broadcastTo S128x2048 z broadcasts_S1x2048_S128x2048 (ix2 p q)) (shapeCast_self _ _)).trans ?_
  refine congrArg x4 (funext fun a => Fin.ext ?_)
  match a with
  | ⟨0, _⟩ => show k.val + 1 * 0 = k.val; omega
  | ⟨1, _⟩ => show 0 + 1 * q.val = q.val; omega

/-- The first result's block, an entry at a time. -/
theorem body_filtered (p : Fin 128) (q : Fin 2048) :
    (out0_A_5 c i a0 h0 a1 h1 a2 h2 a3 h3 a4 h4 a5 h5 a6 h6 a7 h7 a8 h8 x0 x1 x2 x3 x4 : S128x2048.Idx → Ideal .bf16) (ix2 p q)
      = x1 (ix2 p q) * (x4 (ix2 2 q) * (x2 (ix2 p q) * x0 (ix2 p q)) + x4 (ix2 0 q) * back x0 x2 x3 2 p q + x4 (ix2 1 q) * back x0 x2 x3 1 p q) := by
  unfold out0_A_5
  rw [View.read_writes_eq_canon _ _ _ (cover0_A_5 c i a0 h0 a1 h1 a2 h2 a3 h3 a4 h4 a5 h5 a6 h6 a7 h7 a8 h8 x0 x1 x2 x3 x4)]
  unfold kernelRun0_A
  dsimp only
  sl_unfold_words
  rw [View.canon_cons_unit_zero (S := S128x2048) origin2]
  simp only [View.readAt_eq_ld, h0.read_unread, h1.read_unread, h2.read_unread, h3.read_unread, h4.read_unread, View.ld_unit_zero (S := S128x2048) origin2]
  unfold k0_pay1
  refine times rfl ?_
  refine plus (plus ?_ ?_) ?_
  · exact times (spread x4 2 _ p q) rfl
  · exact times (spread x4 0 _ p q) (choose x0 x2 x3 2 _ _ _ p q (from_two p) (near_signal x0 x2 2 6 rfl p q _ _ _ _) (earlier_state x3 2 6 (by decide) rfl p q _ _ _ _))
  · exact times (spread x4 1 _ p q) (choose x0 x2 x3 1 _ _ _ p q (from_one p) (near_signal x0 x2 1 7 rfl p q _ _ _ _) (earlier_state x3 1 7 (by decide) rfl p q _ _ _ _))

end Body

variable (m : (ℓ : Loc nD τ sig) → Buf (Elt Ideal) ℓ) (c : Dev nD)

/-- Where a grid point's blocks begin. -/
theorem in_at : ∀ t : Fin grid0.N, cc0_transform_0 (grid0.coords t) = ![64 + t.val, 0] := by decide +kernel
theorem gate_at : ∀ t : Fin grid0.N, cc0_transform_1 (grid0.coords t) = ![64 + t.val, 1] := by decide +kernel
theorem factor_at : ∀ t : Fin grid0.N, cc0_transform_2 (grid0.coords t) = ![64 + t.val, 2] := by decide +kernel
theorem state_at : ∀ t : Fin grid0.N, cc0_transform_3 (grid0.coords t) = ![t.val, 0] := by decide +kernel
theorem filter_at : ∀ t : Fin grid0.N, cc0_transform_4 (grid0.coords t) = ![0, 0] := by decide +kernel
theorem out_at : ∀ t : Fin grid0.N, cc0_transform_5 (grid0.coords t) = ![t.val, 0] := by decide +kernel
theorem out'_at : ∀ t : Fin grid0.N, cc0_transform_6 (grid0.coords t) = ![t.val, 0] := by decide +kernel
theorem flushes : ∀ t : Fin cfg0.N, (cfg0.win 5).flush t = true := (by decide +kernel : ∀ t : Fin grid0.N, win0_5.flush t = true)
theorem flushes' : ∀ t : Fin cfg0.N, (cfg0.win 6).flush t = true := (by decide +kernel : ∀ t : Fin grid0.N, win0_6.flush t = true)

/-- The product's three blocks. -/
theorem in_entry (t : Fin cfg0.N) (p : Fin 128) (q : Fin 2048) (i : Fin 9216) (j : Fin 30720) (hi : i.val = 8192 + (128 * t.val + p.val)) (hj : j.val = q.val) :
    (iblk m c 0 t : S128x2048.Idx → Ideal .f32) (ix2 p q) = (m ((c : Thread nD τ).loc main_arg0) : S9216x30720.Idx → Ideal .f32) (ix2 i j) := by
  rw [← V_main_arg0 m c]
  exact window (a := 128) (b := 2048) _ (in_at t) p.val q.val (V m c main_arg0) _ i j rfl rfl (by omega) (by omega)

theorem gate_entry (t : Fin cfg0.N) (p : Fin 128) (q : Fin 2048) (i : Fin 9216) (j : Fin 30720) (hi : i.val = 8192 + (128 * t.val + p.val)) (hj : j.val = 2048 + q.val) :
    (iblk m c 1 t : S128x2048.Idx → Ideal .f32) (ix2 p q) = (m ((c : Thread nD τ).loc main_arg0) : S9216x30720.Idx → Ideal .f32) (ix2 i j) := by
  rw [← V_main_arg0 m c]
  exact window (a := 128) (b := 2048) _ (gate_at t) p.val q.val (V m c main_arg0) _ i j rfl rfl (by omega) (by omega)

theorem factor_entry (t : Fin cfg0.N) (p : Fin 128) (q : Fin 2048) (i : Fin 9216) (j : Fin 30720) (hi : i.val = 8192 + (128 * t.val + p.val)) (hj : j.val = 4096 + q.val) :
    (iblk m c 2 t : S128x2048.Idx → Ideal .f32) (ix2 p q) = (m ((c : Thread nD τ).loc main_arg0) : S9216x30720.Idx → Ideal .f32) (ix2 i j) := by
  rw [← V_main_arg0 m c]
  exact window (a := 128) (b := 2048) _ (factor_at t) p.val q.val (V m c main_arg0) _ i j rfl rfl (by omega) (by omega)

/-- The filter's coefficients as the body finds them. -/
theorem filter_entry (t : Fin cfg0.N) (k : Fin 3) (q : Fin 2048) :
    (iblk m c 4 t : S3x2048.Idx → Ideal .f32) (ix2 k q) = (m ((c : Thread nD τ).loc main_arg2) : S1x3x2048.Idx → Ideal .f32) (ix3 0 k q) := by
  have h : (V m c main_v3 : S3x2048.Idx → Ideal .f32) = shapeCast S3x2048 (m ((c : Thread nD τ).loc main_arg2) : S1x3x2048.Idx → Ideal .f32) Gen.shapeCasts_S1x3x2048_S3x2048 := by
    show StableHlo.after (List.flatten [Gen.hostOps0, Gen.hostOps0_1, Gen.hostOps0_2]) (fun b => m (c, b)) (main_v3 : Ref sig .tc) = _
    simp only [Gen.hostOps0, Gen.hostOps0_1, Gen.hostOps0_2, List.flatten_cons, List.flatten_nil, List.append_nil, List.cons_append, List.nil_append]
    after_results <;> rfl
  refine (window (a := 3) (b := 2048) _ (filter_at t) k.val q.val (V m c main_v3) _ k q rfl rfl (by omega) (by omega)).trans ?_
  rw [h]
  exact first _ _ k q

/-- The earlier entries as the body finds them: a sequence's last two rows of eight. -/
theorem state_entry (t : Fin cfg0.N) (p : Fin 128) (q : Fin 2048) (b : Fin 128) (k : Fin 2) (hb : 128 * t.val + p.val = 8 * b.val + (6 + k.val)) :
    (iblk m c 3 t : S128x2048.Idx → Ideal .f32) (ix2 p q) = (m ((c : Thread nD τ).loc main_arg1) : S1x128x2x2048.Idx → Ideal .f32) (ix4 0 b k q) := by
  have ht := t.isLt
  have hN : cfg0.N = 8 := rfl
  have h : (V m c main_v2 : S1024x2048.Idx → Ideal .f32) = shapeCast S1024x2048 (pad S128x8x2048 ![0, 6, 0] ![0, 0, 0] ![0, 0, 0]
      (shapeCast S128x2x2048 (m ((c : Thread nD τ).loc main_arg1) : S1x128x2x2048.Idx → Ideal .f32) Gen.shapeCasts_S1x128x2x2048_S128x2x2048)
      (sitofp (F := Ideal) .f32 (constantI S_ 32 0#32) : S_.Idx → Ideal .f32) Gen.pads_S128x2x2048_S128x8x2048_000_600_000 Gen.h_S_ : S128x8x2048.Idx → Ideal .f32) Gen.shapeCasts_S128x8x2048_S1024x2048 := by
    show StableHlo.after (List.flatten [Gen.hostOps0, Gen.hostOps0_1, Gen.hostOps0_2]) (fun b => m (c, b)) (main_v2 : Ref sig .tc) = _
    simp only [Gen.hostOps0, Gen.hostOps0_1, Gen.hostOps0_2, List.flatten_cons, List.flatten_nil, List.append_nil, List.cons_append, List.nil_append]
    after_results <;> rfl
  let r : Fin 1024 := ⟨128 * t.val + p.val, by omega⟩
  refine (window (a := 128) (b := 2048) _ (state_at t) p.val q.val (V m c main_v2) _ r q rfl rfl (by show 128 * t.val + p.val = _; omega) (by omega)).trans ?_
  · rw [h]
    refine (shapeCast_apply _ _ (ix2 r q) (ix3 b (⟨6 + k.val, by omega⟩ : Fin 8) q) ?_).trans ?_
    · rw [Shape.rowMajor_val_two, Shape.rowMajor_val_three]
      show (b.val * 8 + (6 + k.val)) * 2048 + q.val = (128 * t.val + p.val) * 2048 + q.val
      omega
    · refine (pad_apply_of_inside _ _ _ _ _ _ _ _ (ix3 b k q) fun a => ?_).trans ?_
      · match a with
        | ⟨0, _⟩ => show b.val = 0 + b.val * (0 + 1); omega
        | ⟨1, _⟩ => show 6 + k.val = 6 + k.val * (0 + 1); omega
        | ⟨2, _⟩ => show q.val = 0 + q.val * (0 + 1); omega
      · rw [shapeCast_dropUnit_apply]
        refine congrArg _ (funext fun a => ?_)
        match a with
        | ⟨0, _⟩ => rfl
        | ⟨1, _⟩ => rfl
        | ⟨2, _⟩ => rfl
        | ⟨3, _⟩ => rfl

/-- The signal's block. -/
theorem signal_entry (t : Fin cfg0.N) (p : Fin 128) (q : Fin 2048) (r : Fin 1024) (hr : r.val = 128 * t.val + p.val) :
    (fun (x y : Ideal .f32) => x * y) (iblk m c 2 t (ix2 p q)) (iblk m c 0 t (ix2 p q)) = signal (m ((c : Thread nD τ).loc main_arg0)) r q :=
  times (factor_entry m c t p q _ _ (by show 8192 + r.val = _; omega) rfl) (in_entry m c t p q _ _ (by show 8192 + r.val = _; omega) rfl)

/-- An operand of the filter is an entry of the sequence with its state in front. -/
theorem back_entry (t : Fin cfg0.N) (p : Fin 128) (q : Fin 2048) (b : Fin 128) (j : Fin 8) (hb : 128 * t.val + p.val = 8 * b.val + j.val) (d : ℕ) (hd : d ≤ 2) (k : Fin 10) (hk : k.val + d = j.val + 2) :
    back (iblk m c 0 t) (iblk m c 2 t) (iblk m c 3 t) d p q = tap (m ((c : Thread nD τ).loc main_arg0)) (m ((c : Thread nD τ).loc main_arg1)) b k q := by
  have hp := p.isLt
  have hj := j.isLt
  unfold back tap
  by_cases h : d ≤ p.val % 8
  · rw [if_pos h, dif_neg (by omega)]
    exact signal_entry m c t _ q _ (by show 8 * b.val + (k.val - 2) = 128 * t.val + (p.val - d); omega)
  · rw [if_neg h, dif_pos (by omega : k.val < 2)]
    exact state_entry m c t _ q b _ (by show 128 * t.val + (p.val + 8 - d) % 128 = 8 * b.val + (6 + k.val); omega)

/-- The kernel's results, an entry at a time. -/
theorem filtered_result (r : Fin 1024) (q : Fin 2048) (b : Fin 128) (j : Fin 8) (hr : r.val = 8 * b.val + j.val) :
    ((dats m 0 c).arrAt 5 cfg0.N : S1024x2048.Idx → Ideal .bf16) (ix2 r q)
      = filtered (m ((c : Thread nD τ).loc main_arg0)) (m ((c : Thread nD τ).loc main_arg1)) (m ((c : Thread nD τ).loc main_arg2)) b j q := by
  have hlt := r.isLt
  let t : Fin cfg0.N := ⟨r.val / 128, by show _ < 8; omega⟩
  have ht : t.val = r.val / 128 := rfl
  let p : Fin 128 := ⟨r.val % 128, Nat.mod_lt _ (by decide)⟩
  have hp : p.val = r.val % 128 := rfl
  refine Eq.trans (congrArg ((dats m 0 c).arrAt 5 cfg0.N) (funext fun a => Fin.ext ?_))
    ((congrFun (Value.blocks5 m c t (flushes t)) (ix2 p q)).trans ?_)
  · match a with
    | ⟨0, _⟩ =>
      show r.val = cc0_transform_5 (grid0.coords t) 0 * 128 + 1 * p.val
      rw [out_at t]; show _ = t.val * 128 + 1 * p.val; omega
    | ⟨1, _⟩ =>
      show q.val = cc0_transform_5 (grid0.coords t) 1 * 2048 + 1 * q.val
      rw [out_at t]; show _ = 0 * 2048 + 1 * q.val; omega
  · rw [Value.flushed5_A m c t]
    refine (body_filtered c (grid0.coords t) _ _ _ _ _ _ _ _ _ _ _ _ _ _ _ _ _ _ _ _ _ _ _ p q).trans ?_
    unfold filtered
    refine times (gate_entry m c t p q _ _ (by show 8192 + (8 * b.val + j.val) = _; omega) rfl) ?_
    refine plus (plus ?_ ?_) ?_
    · refine times (filter_entry m c t 2 q) ?_
      unfold tap
      rw [dif_neg (by show ¬ j.val + 2 < 2; omega)]
      exact signal_entry m c t p q _ (by show 8 * b.val + (j.val + 2 - 2) = _; omega)
    · exact times (filter_entry m c t 0 q) (back_entry m c t p q b j (by omega) 2 (by decide) _ rfl)
    · exact times (filter_entry m c t 1 q) (back_entry m c t p q b j (by omega) 1 (by decide) _ rfl)

theorem signal_result (r : Fin 1024) (q : Fin 2048) :
    ((dats m 0 c).arrAt 6 cfg0.N : S1024x2048.Idx → Ideal .f32) (ix2 r q) = signal (m ((c : Thread nD τ).loc main_arg0)) r q := by
  have hlt := r.isLt
  let t : Fin cfg0.N := ⟨r.val / 128, by show _ < 8; omega⟩
  have ht : t.val = r.val / 128 := rfl
  let p : Fin 128 := ⟨r.val % 128, Nat.mod_lt _ (by decide)⟩
  have hp : p.val = r.val % 128 := rfl
  refine Eq.trans (congrArg ((dats m 0 c).arrAt 6 cfg0.N) (funext fun a => Fin.ext ?_))
    ((congrFun (Value.blocks6 m c t (flushes' t)) (ix2 p q)).trans ?_)
  · match a with
    | ⟨0, _⟩ =>
      show r.val = cc0_transform_6 (grid0.coords t) 0 * 128 + 1 * p.val
      rw [out'_at t]; show _ = t.val * 128 + 1 * p.val; omega
    | ⟨1, _⟩ =>
      show q.val = cc0_transform_6 (grid0.coords t) 1 * 2048 + 1 * q.val
      rw [out'_at t]; show _ = 0 * 2048 + 1 * q.val; omega
  · rw [Value.flushed6_A m c t]
    refine (congrFun (body_signal c (grid0.coords t) _ _ _ _ _ _ _ _ _ _ _ _ _ _ _ _ _ _ _ _ _ _ _) (ix2 p q)).trans ?_
    exact signal_entry m c t p q r (by omega)

end Kernel

section Reference
open Cert.Reference6Ideal

variable (x : FVec Ideal S9216x30720 .f32) (s : FVec Ideal S1x128x2x2048 .f32)

/-- The reference's signal. -/
theorem signal_part (h₁) (h₂) (h₃) (h₁') (h₂') (h₃') (b : Fin 128) (j : Fin 8) (q : Fin 2048) (r : Fin 1024) (hr : r.val = 8 * b.val + j.val) :
    (mulf (extractStridedSlice S128x8x2048 ![0, 0, 4096] (shapeCast S128x8x6144 (extractStridedSlice S1024x6144 ![8192, 0] x h₁) h₂) h₃)
      (extractStridedSlice S128x8x2048 ![0, 0, 0] (shapeCast S128x8x6144 (extractStridedSlice S1024x6144 ![8192, 0] x h₁') h₂') h₃') : S128x8x2048.Idx → Ideal .f32) (ix3 b j q)
      = signal x r q :=
  Conv.signal_part x h₁ h₂ h₃ h₁' h₂' h₃' b j q r (by omega) (⟨8192 + r.val, by omega⟩ : Fin 9216) rfl

/-- The reference's shifted signals. -/
theorem tap_entry (e : ℕ) (he : e ≤ 2) (U : S128x8x2048.Idx → Ideal .f32) (hU : ∀ (b : Fin 128) (j : Fin 8) (q : Fin 2048) (r : Fin 1024), r.val = 8 * b.val + j.val → U (ix3 b j q) = signal x r q)
    (h₁) (h₂) (h₃) (b : Fin 128) (j : Fin 8) (q : Fin 2048) :
    extractStridedSlice S128x8x2048 ![0, e, 0] (concatenate S128x10x2048 1 [⟨S128x2x2048, (shapeCast S128x2x2048 s h₁)⟩, ⟨S128x8x2048, U⟩] h₂) h₃ (ix3 b j q)
      = tap x s b (⟨j.val + e, by omega⟩ : Fin 10) q := by
  refine shifted e _ U h₂ h₃ b j q (by omega) _ (fun h => ?_) (fun h k hk => ?_) he
  · unfold tap
    rw [dif_pos h, shapeCast_dropUnit_apply]
    refine congrArg s (funext fun a => ?_)
    match a with
    | ⟨0, _⟩ => rfl
    | ⟨1, _⟩ => rfl
    | ⟨2, _⟩ => rfl
    | ⟨3, _⟩ => rfl
  · unfold tap
    rw [dif_neg (by show ¬ j.val + e < 2; omega)]
    exact hU b k q _ (by show 8 * b.val + (j.val + e - 2) = _; omega)

end Reference

/-- A row is a position in a sequence. -/
theorem split (r : Fin 1024) : ∃ (b : Fin 128) (j : Fin 8), r.val = 8 * b.val + j.val :=
  ⟨⟨r.val / 8, by omega⟩, ⟨r.val % 8, by omega⟩, by show r.val = 8 * (r.val / 8) + r.val % 8; omega⟩

/-- `short_seq_conv` and its reference, run from memories that agree on the arguments, both end with the filtered signal and the signal. -/
theorem short_seq_conv_algebraic : Cert.algebraic_Kernel6Ideal_Reference6Ideal := by
  intro m g m' g' _ hag
  refine ⟨fun c => (Cert.Kernel6Ideal.Gen.dats m 0 c).arrAt 5 Cert.Kernel6Ideal.cfg0.N, fun c => (Cert.Kernel6Ideal.Gen.dats m 0 c).arrAt 6 Cert.Kernel6Ideal.cfg0.N, Cert.Kernel6Ideal.Value.run_blocks m g, ?_⟩
  refine (θ_run Cert.Reference6Ideal.defs _ _).mono (fun _ h c => ⟨(h c).1.trans ?_, (h c).2.1.trans ?_, (h c).2.2⟩) (Cert.Reference6Ideal.Value.run m' g')
  · refine funext fun (y : Cert.Kernel6Ideal.S1024x2048.Idx) => ?_
    rw [(hag c).1, (hag c).2.1, (hag c).2.2, eq_ix2 y]
    obtain ⟨b, j, hr⟩ := split (y 0)
    refine Eq.trans ?_ (filtered_result m c (y 0) (y 1) b j hr).symm
    refine (rounded _ _ _).trans ?_
    refine (shapeCast_apply _ _ (ix2 (y 0) (y 1)) (ix3 b j (y 1)) (together _ b j _ (by omega))).trans ?_
    exact filtered_sum _ _ _ _ _ _ _ _ (ix3 b j (y 1)) Ideal.ofBits_zero_f32 (part_entry _ 2048 (by decide) _ _ _ b j (y 1) (y 0) (hr.trans (by omega)) _ (congrArg (8192 + ·) hr.symm) _ rfl)
      (tap_entry _ _ 0 (by decide) _ (fun b j q r hr => signal_part _ _ _ _ _ _ _ b j q r hr) _ _ _ b j (y 1))
      (tap_entry _ _ 1 (by decide) _ (fun b j q r hr => signal_part _ _ _ _ _ _ _ b j q r hr) _ _ _ b j (y 1))
      (tap_entry _ _ 2 (by decide) _ (fun b j q r hr => signal_part _ _ _ _ _ _ _ b j q r hr) _ _ _ b j (y 1))
      (coefficient_entry _ 0 _ _ _ _ _ b j (y 1)) (coefficient_entry _ 1 _ _ _ _ _ b j (y 1)) (coefficient_entry _ 2 _ _ _ _ _ b j (y 1))
  · refine funext fun (y : Cert.Kernel6Ideal.S1024x2048.Idx) => ?_
    rw [(hag c).1, eq_ix2 y]
    obtain ⟨b, j, hr⟩ := split (y 0)
    refine Eq.trans ?_ (signal_result m c (y 0) (y 1)).symm
    refine (shapeCast_apply _ _ (ix2 (y 0) (y 1)) (ix3 b j (y 1)) (together _ b j _ (by omega))).trans ?_
    exact signal_part _ _ _ _ _ _ _ b j (y 1) (y 0) hr

end Cert.Proof.Short

end
-- ==== Proof.Gated.lean ====
/-
  `gated_conv` over the four long sequences filters the product of two columns of a row over its position and the two before it, and multiplies by a third column; its second result is that product at each sequence's last rows; and the reference computes the same.
-/
module

public import proofs.«01_k».proof.Defs
public import proofs.«01_k».proof.Proof.Conv
public import proofs.«01_k».proof.Proof.Gen.Kernel7.Frame
public import proofs.«01_k».proof.Proof.Gen.Kernel7Ideal.Value
public import proofs.«01_k».proof.Proof.Gen.Reference7Ideal.Run

@[expose] public section

noncomputable section

namespace Cert.Proof.Gated

open Idealize.ShloMosaic Idealize.ShloMosaic.ValueIdx Cert.Proof.Entry Cert.Proof.Conv
open Idealize.ShloMosaic.TcCoe
open Idealize.SL.Sem

/-- The signal that is filtered: the product of two columns of a row. -/
def signal (x : FVec Ideal ⟨2, ![9216, 30720]⟩ .f32) (r : Fin 8192) (q : Fin 2048) : Ideal .f32 :=
  x (ix2 (⟨r.val, by omega⟩ : Fin 9216) (⟨4096 + q.val, by omega⟩ : Fin 30720)) * x (ix2 (⟨r.val, by omega⟩ : Fin 9216) (⟨q.val, by omega⟩ : Fin 30720))

/-- The signal `d` positions before position `j` of sequence `b`; zero before the sequence begins. -/
def prior (x : FVec Ideal ⟨2, ![9216, 30720]⟩ .f32) (b : Fin 4) (j : Fin 2048) (d : ℕ) (q : Fin 2048) : Ideal .f32 :=
  if d ≤ j.val then signal x (⟨2048 * b.val + (j.val - d), by omega⟩ : Fin 8192) q else 0

/-- The filtered signal times its gate, at position `j` of sequence `b`. -/
def filtered (x : FVec Ideal ⟨2, ![9216, 30720]⟩ .f32) (w : FVec Ideal ⟨3, ![1, 3, 2048]⟩ .f32) (b : Fin 4) (j : Fin 2048) (q : Fin 2048) : Ideal .f32 :=
  x (ix2 (⟨2048 * b.val + j.val, by omega⟩ : Fin 9216) (⟨2048 + q.val, by omega⟩ : Fin 30720))
    * (w (ix3 0 2 q) * prior x b j 0 q + w (ix3 0 0 q) * prior x b j 2 q + w (ix3 0 1 q) * prior x b j 1 q)

section Kernel
open Cert.Kernel7Ideal Cert.Kernel7Ideal.Gen

section Body
variable (c : Dev nD) (i : grid0.Coords) (a0) (h0) (a1) (h1)
  (a2) (h2) (a3) (h3)
  (a4) (h4) (a5) (h5)
  (a6) (h6) (a7 : Memref sig .tc .vmem S1032x512 .f32) (h7 : a7.IsWhole)
  (x0 x1 x2 : Vec Ideal S1024x512 .f32) (x3 : Vec Ideal S1x8x512 .f32) (x4 : Vec Ideal S3x512 .f32) (xs : Vec Ideal S1032x512 .f32)

/-- The signal's block, as it is stored. -/
theorem stored (p : Fin 1024) (q : Fin 512) : (k0_pay5 x2 x0 : S1024x512.Idx → Ideal .f32) (ix2 p q) = x2 (ix2 p q) * x0 (ix2 p q) := by
  unfold k0_pay5
  rw [shapeCast_self]
  rfl

/-- The earlier rows, as they are stored. -/
theorem stored_earlier (k : Fin 8) (q : Fin 512) : (k0_pay3 x3 : S8x512.Idx → Ideal .f32) (ix2 k q) = x3 (ix3 0 k q) := by
  unfold k0_pay3
  rw [shapeCast_self, shapeCast_dropUnit_apply]
  refine congrArg x3 (funext fun a => ?_)
  match a with
  | ⟨0, _⟩ => rfl
  | ⟨1, _⟩ => rfl
  | ⟨2, _⟩ => rfl

/-- A row of a block under a rectangle that begins at row `o`. -/
theorem place (o n : ℕ) (inb : ∀ a, (![o, 0] : Fin 2 → ℕ) a + (![n, 512] : Fin 2 → ℕ) a ≤ S1032x512.size a) (k : Fin n) (q : Fin 512) (y : S1032x512.Idx)
    (h0 : (y 0).val = o + k.val) (h1 : (y 1).val = q.val) : y = (Rect.unit (s := S1032x512) ![o, 0] ![n, 512] inb).emb (ix2 k q) := funext fun a => Fin.ext (by
  match a with
  | ⟨0, _⟩ => show (y 0).val = o + 1 * k.val; omega
  | ⟨1, _⟩ => show (y 1).val = 0 + 1 * q.val; omega)

/-- A row above a rectangle is outside it. -/
theorem outside (o n : ℕ) (inb : ∀ a, (![o, 0] : Fin 2 → ℕ) a + (![n, 512] : Fin 2 → ℕ) a ≤ S1032x512.size a) (y : S1032x512.Idx)
    (h0 : (y 0).val < o) : y ∉ (Rect.unit (s := S1032x512) ![o, 0] ![n, 512] inb).set := fun h => by
  obtain ⟨z, hz⟩ := LoadRect.exists_idx_of_mem _ h
  have e : o + 1 * (z 0).val = (y 0).val := congrArg (fun z => (z 0).val) hz
  omega

/-- A load of the last rows. -/
theorem last_rows (v : View sig .tc .vmem S1032x512 .f32) (A : Vec Ideal S1024x512 .f32) (L : List (View.Piece (Elt Ideal) S1032x512 .f32)) (inb) (hA) (k : Fin 8) (q : Fin 512) :
    v.readCov (Val := Elt Ideal) (⟨Rect.unit (s := S1032x512) ![8, 0] ![1024, 512] hA, A⟩ :: L) (Rect.unit (s := S1032x512) ![1024, 0] ![8, 512] inb).toLoadRect (ix2 k q)
      = A (ix2 (⟨1016 + k.val, by omega⟩ : Fin 1024) q) := by
  rw [View.readCov_eq_canon']
  refine Eq.trans (congrArg (View.canon _) (place 8 1024 hA (⟨1016 + k.val, by omega⟩ : Fin 1024) q _ ?_ ?_)) (View.canon_cons_emb (Rect.unit (s := S1032x512) ![8, 0] ![1024, 512] hA) A _ _)
  · show 1024 + 1 * k.val = 8 + (1016 + k.val); omega
  · show 0 + 1 * q.val = q.val; omega

/-- An operand of the filter at row `p` of a block, `d` positions back: from the block, or from the eight rows before it. -/
def back (Z : Fin 8 → Fin 512 → Ideal .f32) (d : ℕ) (p : Fin 1024) (q : Fin 512) : Ideal .f32 :=
  if d ≤ p.val then x2 (ix2 (⟨p.val - d, by omega⟩ : Fin 1024) q) * x0 (ix2 (⟨p.val - d, by omega⟩ : Fin 1024) q)
  else Z (⟨(p.val + 8 - d) % 8, Nat.mod_lt _ (by decide)⟩ : Fin 8) q

theorem load_block (v : View sig .tc .vmem S1032x512 .f32) (A : Vec Ideal S1024x512 .f32) (L : List (View.Piece (Elt Ideal) S1032x512 .f32)) (o : ℕ) (inb) (hA) (p k : Fin 1024) (q : Fin 512)
    (hk : o + p.val = 8 + k.val) :
    v.readCov (Val := Elt Ideal) (⟨Rect.unit (s := S1032x512) ![8, 0] ![1024, 512] hA, A⟩ :: L) (Rect.unit (s := S1032x512) ![o, 0] ![1024, 512] inb).toLoadRect (ix2 p q) = A (ix2 k q) := by
  rw [View.readCov_eq_canon']
  refine Eq.trans (congrArg (View.canon _) (place 8 1024 hA k q _ ?_ ?_)) (View.canon_cons_emb (Rect.unit (s := S1032x512) ![8, 0] ![1024, 512] hA) A _ _)
  · show o + 1 * p.val = 8 + k.val; omega
  · show 0 + 1 * q.val = q.val; omega

theorem load_earlier (v : View sig .tc .vmem S1032x512 .f32) (A : Vec Ideal S1024x512 .f32) (Z : Vec Ideal S8x512 .f32) (o : ℕ) (inb) (hA) (hZ) (p : Fin 1024) (k : Fin 8) (q : Fin 512)
    (hk : o + p.val = k.val) :
    v.readCov (Val := Elt Ideal) [⟨Rect.unit (s := S1032x512) ![8, 0] ![1024, 512] hA, A⟩, ⟨Rect.unit (s := S1032x512) ![0, 0] ![8, 512] hZ, Z⟩]
      (Rect.unit (s := S1032x512) ![o, 0] ![1024, 512] inb).toLoadRect (ix2 p q) = Z (ix2 k q) := by
  have hlt := k.isLt
  rw [View.readCov_eq_canon']
  refine Eq.trans (View.canon_cons_of_not_mem _ _ (outside 8 1024 hA _ ?_)) (Eq.trans (congrArg (View.canon _) (place 0 8 hZ k q _ ?_ ?_)) (View.canon_cons_emb (Rect.unit (s := S1032x512) ![0, 0] ![8, 512] hZ) Z _ _))
  · show o + 1 * p.val < 8; omega
  · show o + 1 * p.val = 0 + k.val; omega
  · show 0 + 1 * q.val = q.val; omega

theorem a_back (d o : ℕ) (hd : d ≤ 2) (ho : o + d = 8) (p : Fin 1024) (q : Fin 512) (v : View sig .tc .vmem S1032x512 .f32) (inb) (hA) (hZ) :
    v.readCov (Val := Elt Ideal) [⟨Rect.unit (s := S1032x512) ![8, 0] ![1024, 512] hA, k0_pay5 x2 x0⟩, ⟨Rect.unit (s := S1032x512) ![0, 0] ![8, 512] hZ, k0_pay3 x3⟩]
        (Rect.unit (s := S1032x512) ![o, 0] ![1024, 512] inb).toLoadRect (ix2 p q) = back x0 x2 (fun k q => x3 (ix3 0 k q)) d p q := by
  by_cases h : d ≤ p.val
  · have e := load_block v (k0_pay5 x2 x0) [⟨Rect.unit (s := S1032x512) ![0, 0] ![8, 512] hZ, k0_pay3 x3⟩] o inb hA p (⟨p.val - d, by omega⟩ : Fin 1024) q (by show o + p.val = 8 + (p.val - d); omega)
    rw [e, stored]
    unfold back
    rw [if_pos h]
  · have e := load_earlier v (k0_pay5 x2 x0) (k0_pay3 x3) o inb hA hZ p (⟨(p.val + 8 - d) % 8, Nat.mod_lt _ (by decide)⟩ : Fin 8) q (by show o + p.val = (p.val + 8 - d) % 8; omega)
    rw [e, stored_earlier]
    unfold back
    rw [if_neg h]

theorem keep_block (f : a7.view.ty.Contents (Elt Ideal)) (A : Vec Ideal S1024x512 .f32) (o : ℕ) (inb) (hA) (p k : Fin 1024) (q : Fin 512) (hk : o + p.val = 8 + k.val) :
    View.ld (View.read (Elt Ideal) a7.view (a7.view.writes (Elt Ideal) f [⟨Rect.unit (s := S1032x512) ![8, 0] ![1024, 512] hA, A⟩]))
        (Rect.unit (s := S1032x512) ![o, 0] ![1024, 512] inb) (ix2 p q) = A (ix2 k q) := by
  refine Eq.trans (congrArg (View.read (Elt Ideal) a7.view _) (place 8 1024 hA k q _ ?_ ?_)) (View.read_writes_cons_emb a7.view _ (Rect.unit (s := S1032x512) ![8, 0] ![1024, 512] hA) A [] _)
  · show o + 1 * p.val = 8 + k.val; omega
  · show 0 + 1 * q.val = q.val; omega

theorem keep_earlier (A : Vec Ideal S1024x512 .f32) (o : ℕ) (inb) (hA) (p : Fin 1024) (k : Fin 8) (q : Fin 512) (hk : o + p.val = k.val) :
    View.ld (View.read (Elt Ideal) a7.view (a7.view.writes (Elt Ideal) (h7.unread xs) [⟨Rect.unit (s := S1032x512) ![8, 0] ![1024, 512] hA, A⟩]))
        (Rect.unit (s := S1032x512) ![o, 0] ![1024, 512] inb) (ix2 p q) = xs (ix2 (⟨k.val, by omega⟩ : Fin 1032) q) := by
  have hlt := k.isLt
  refine Eq.trans (View.read_writes_apply_of_forall_not_mem a7.view _ _ _ fun pc hpc => ?_) (Eq.trans (congrFun (h7.read_unread xs) _) (congrArg xs (funext fun a => Fin.ext ?_)))
  · rw [List.mem_singleton.mp hpc]
    exact outside 8 1024 hA _ (by show o + 1 * p.val < 8; omega)
  · match a with
    | ⟨0, _⟩ => show o + 1 * p.val = k.val; omega
    | ⟨1, _⟩ => show 0 + 1 * q.val = q.val; omega

theorem b_back (d o : ℕ) (hd : d ≤ 2) (ho : o + d = 8) (p : Fin 1024) (q : Fin 512) (inb) (hA) :
    View.ld (View.read (Elt Ideal) a7.view (a7.view.writes (Elt Ideal) (h7.unread xs) [⟨Rect.unit (s := S1032x512) ![8, 0] ![1024, 512] hA, k0_pay5 x2 x0⟩]))
        (Rect.unit (s := S1032x512) ![o, 0] ![1024, 512] inb) (ix2 p q) = back x0 x2 (fun k q => xs (ix2 (⟨k.val, by omega⟩ : Fin 1032) q)) d p q := by
  by_cases h : d ≤ p.val
  · have e := keep_block a7 (h7.unread xs) (k0_pay5 x2 x0) o inb hA p (⟨p.val - d, by omega⟩ : Fin 1024) q (by show o + p.val = 8 + (p.val - d); omega)
    refine e.trans ?_
    rw [stored]
    unfold back
    rw [if_pos h]
  · have e := keep_earlier a7 h7 xs (k0_pay5 x2 x0) o inb hA p (⟨(p.val + 8 - d) % 8, Nat.mod_lt _ (by decide)⟩ : Fin 8) q (by show o + p.val = (p.val + 8 - d) % 8; omega)
    refine e.trans ?_
    unfold back
    rw [if_neg h]

/-- A row of the filter's coefficients, spread over the block. -/
theorem spread (k : Fin 3) (inb) (p : Fin 1024) (q : Fin 512) :
    (broadcastTo S1024x512 (shapeCast S1x512 (View.ld x4 (Rect.unit (s := S3x512) ![k.val, 0] ![1, 512] inb)) shapeCasts_S1x512_S1x512) broadcasts_S1x512_S1024x512 : S1024x512.Idx → Ideal .f32) (ix2 p q)
      = x4 (ix2 k q) := by
  refine (congrArg (fun z : S1x512.Idx → Ideal .f32 => broadcastTo S1024x512 z broadcasts_S1x512_S1024x512 (ix2 p q)) (shapeCast_self _ _)).trans ?_
  refine congrArg x4 (funext fun a => Fin.ext ?_)
  match a with
  | ⟨0, _⟩ => show k.val + 1 * 0 = k.val; omega
  | ⟨1, _⟩ => show 0 + 1 * q.val = q.val; omega

/-- The body's arithmetic, an entry at a time. -/
theorem arithmetic (Z : Fin 8 → Fin 512 → Ideal .f32) (T₂ T₁ : Vec Ideal S1024x512 .f32) (i₀) (i₁) (i₂) (p : Fin 1024) (q : Fin 512)
    (h₂ : T₂ (ix2 p q) = back x0 x2 Z 2 p q) (h₁ : T₁ (ix2 p q) = back x0 x2 Z 1 p q) :
    (k0_pay1 (k0_pay6 x2 x0 (View.ld x4 (Rect.unit (s := S3x512) ![2, 0] ![1, 512] i₂)) (View.ld x4 (Rect.unit (s := S3x512) ![0, 0] ![1, 512] i₀)) T₂
        (View.ld x4 (Rect.unit (s := S3x512) ![1, 0] ![1, 512] i₁)) T₁) x1 : S1024x512.Idx → Ideal .bf16) (ix2 p q)
      = x1 (ix2 p q) * (x4 (ix2 2 q) * (x2 (ix2 p q) * x0 (ix2 p q)) + x4 (ix2 0 q) * back x0 x2 Z 2 p q + x4 (ix2 1 q) * back x0 x2 Z 1 p q) := by
  unfold k0_pay1
  refine times rfl ?_
  refine plus (plus ?_ ?_) ?_
  · exact times (spread x4 2 _ p q) rfl
  · exact times (spread x4 0 _ p q) h₂
  · exact times (spread x4 1 _ p q) h₁

/-- The first result's block at a sequence's first point, -/
theorem a_out (hc : cond0_0 i) (p : Fin 1024) (q : Fin 512) :
    (out0_A_5 c i a0 h0 a1 h1 a2 h2 a3 h3 a4 h4 a5 h5 a6 h6 a7 h7 hc x0 x1 x2 x3 x4 : S1024x512.Idx → Ideal .bf16) (ix2 p q)
      = x1 (ix2 p q) * (x4 (ix2 2 q) * (x2 (ix2 p q) * x0 (ix2 p q)) + x4 (ix2 0 q) * back x0 x2 (fun k q => x3 (ix3 0 k q)) 2 p q + x4 (ix2 1 q) * back x0 x2 (fun k q => x3 (ix3 0 k q)) 1 p q) := by
  unfold out0_A_5
  rw [View.read_writes_eq_canon _ _ _ (cover0_A_5 c i a0 h0 a1 h1 a2 h2 a3 h3 a4 h4 a5 h5 a6 h6 a7 h7 hc x0 x1 x2 x3 x4)]
  unfold kernelRun0_A
  dsimp only
  sl_unfold_words
  rw [View.canon_cons_unit_zero (S := S1024x512) origin2]
  simp only [View.readAt_eq_ld, h0.read_unread, h1.read_unread, h2.read_unread, h3.read_unread, h4.read_unread, View.ld_unit_zero (S := S1024x512) origin2, View.ld_unit_zero (S := S1x8x512) origin3]
  exact arithmetic x0 x1 x2 x4 _ _ _ _ _ _ p q (a_back x0 x2 x3 2 6 (by decide) rfl p q _ _ _ _) (a_back x0 x2 x3 1 7 (by decide) rfl p q _ _ _ _)

/-- and at its second. -/
theorem b_out (hc : ¬cond0_0 i) (p : Fin 1024) (q : Fin 512) :
    (out0_B_5 c i a0 h0 a1 h1 a2 h2 a3 h3 a4 h4 a5 h5 a6 h6 a7 h7 hc x0 x1 x2 x3 x4 xs : S1024x512.Idx → Ideal .bf16) (ix2 p q)
      = x1 (ix2 p q) * (x4 (ix2 2 q) * (x2 (ix2 p q) * x0 (ix2 p q)) + x4 (ix2 0 q) * back x0 x2 (fun k q => xs (ix2 (⟨k.val, by omega⟩ : Fin 1032) q)) 2 p q
          + x4 (ix2 1 q) * back x0 x2 (fun k q => xs (ix2 (⟨k.val, by omega⟩ : Fin 1032) q)) 1 p q) := by
  unfold out0_B_5
  rw [View.read_writes_eq_canon _ _ _ (cover0_B_5 c i a0 h0 a1 h1 a2 h2 a3 h3 a4 h4 a5 h5 a6 h6 a7 h7 hc x0 x1 x2 x3 x4 xs)]
  unfold kernelRun0_B
  dsimp only
  sl_unfold_words
  rw [View.canon_cons_unit_zero (S := S1024x512) origin2]
  simp only [View.readAt_eq_ld, h0.read_unread, h1.read_unread, h2.read_unread, h4.read_unread, View.ld_unit_zero (S := S1024x512) origin2]
  exact arithmetic x0 x1 x2 x4 _ _ _ _ _ _ p q (b_back a7 h7 x0 x2 xs 2 6 (by decide) rfl p q _ _) (b_back a7 h7 x0 x2 xs 1 7 (by decide) rfl p q _ _)

/-- What a sequence's first point leaves for the second: its signal's last eight rows. -/
theorem a_state (hc : cond0_0 i) (k : Fin 8) (q : Fin 512) :
    (sout0_A_0 c i a0 h0 a1 h1 a2 h2 a3 h3 a4 h4 a5 h5 a6 h6 a7 h7 hc x0 x1 x2 x3 x4 : S1032x512.Idx → Ideal .f32) (ix2 (⟨k.val, by omega⟩ : Fin 1032) q)
      = x2 (ix2 (⟨1016 + k.val, by omega⟩ : Fin 1024) q) * x0 (ix2 (⟨1016 + k.val, by omega⟩ : Fin 1024) q) := by
  unfold sout0_A_0
  rw [View.read_writes_eq_canon _ _ _ (scover0_A_0 c i a0 h0 a1 h1 a2 h2 a3 h3 a4 h4 a5 h5 a6 h6 a7 h7 hc x0 x1 x2 x3 x4)]
  unfold kernelRun0_A
  dsimp only
  sl_unfold_words
  simp only [View.readAt_eq_ld, h0.read_unread, h2.read_unread, h3.read_unread, View.ld_unit_zero (S := S1024x512) origin2, View.ld_unit_zero (S := S1x8x512) origin3]
  refine Eq.trans (congrArg (View.canon _) (place 0 8 inb_S1032x512_S8x512_0_0 k q _ ?_ rfl)) (Eq.trans (View.canon_cons_emb (Rect.unit (s := S1032x512) ![0, 0] ![8, 512] inb_S1032x512_S8x512_0_0) _ _ _) ?_)
  · show k.val = 0 + k.val; omega
  · unfold k0_pay7
    rw [shapeCast_self, ← stored x0 x2]
    exact last_rows _ _ _ _ _ k q

/-- The second result's block, at a sequence's second point. -/
theorem b_tail (hc : ¬cond0_0 i) (k : Fin 8) (q : Fin 512) :
    (out0_B_6 c i a0 h0 a1 h1 a2 h2 a3 h3 a4 h4 a5 h5 a6 h6 a7 h7 hc x0 x1 x2 x3 x4 xs : S1x8x512.Idx → Ideal .f32) (ix3 0 k q)
      = x2 (ix2 (⟨1016 + k.val, by omega⟩ : Fin 1024) q) * x0 (ix2 (⟨1016 + k.val, by omega⟩ : Fin 1024) q) := by
  unfold out0_B_6
  rw [View.read_writes_eq_canon _ _ _ (cover0_B_6 c i a0 h0 a1 h1 a2 h2 a3 h3 a4 h4 a5 h5 a6 h6 a7 h7 hc x0 x1 x2 x3 x4 xs)]
  unfold kernelRun0_B
  dsimp only
  sl_unfold_words
  rw [View.canon_cons_unit_zero (S := S1x8x512) origin3]
  simp only [View.readAt_eq_ld, h0.read_unread, h2.read_unread, View.ld_unit_zero (S := S1024x512) origin2]
  unfold k0_pay2
  refine (shapeCast_apply _ _ (ix3 0 k q) (ix2 k q) ?_).trans ?_
  · rw [Shape.rowMajor_val_two, Shape.rowMajor_val_three]
    show k.val * 512 + q.val = (0 * 8 + k.val) * 512 + q.val
    omega
  · rw [← stored x0 x2]
    exact last_rows _ _ _ _ _ k q

end Body

variable (m : (ℓ : Loc nD τ sig) → Buf (Elt Ideal) ℓ) (c : Dev nD)

/-- Where a grid point's blocks begin: the halves of a sequence move first, then the columns, then the sequences. -/
theorem in_at : ∀ t : Fin grid0.N, cc0_transform_0 (grid0.coords t) = ![2 * (t.val / 8) + t.val % 2, t.val / 2 % 4] := by decide +kernel
theorem gate_at : ∀ t : Fin grid0.N, cc0_transform_1 (grid0.coords t) = ![2 * (t.val / 8) + t.val % 2, 4 + t.val / 2 % 4] := by decide +kernel
theorem factor_at : ∀ t : Fin grid0.N, cc0_transform_2 (grid0.coords t) = ![2 * (t.val / 8) + t.val % 2, 8 + t.val / 2 % 4] := by decide +kernel
theorem state_at : ∀ t : Fin grid0.N, cc0_transform_3 (grid0.coords t) = ![t.val / 8, 0, t.val / 2 % 4] := by decide +kernel
theorem filter_at : ∀ t : Fin grid0.N, cc0_transform_4 (grid0.coords t) = ![0, t.val / 2 % 4] := by decide +kernel
theorem out_at : ∀ t : Fin grid0.N, cc0_transform_5 (grid0.coords t) = ![2 * (t.val / 8) + t.val % 2, t.val / 2 % 4] := by decide +kernel
theorem tail_at : ∀ t : Fin grid0.N, cc0_transform_6 (grid0.coords t) = ![t.val / 8, 0, t.val / 2 % 4] := by decide +kernel
theorem flushes : ∀ t : Fin cfg0.N, (cfg0.win 5).flush t = true := (by decide +kernel : ∀ t : Fin grid0.N, win0_5.flush t = true)
theorem flushes' : ∀ t : Fin cfg0.N, (cfg0.win 6).flush t = true ↔ t.val % 2 = 1 := (by decide +kernel : ∀ t : Fin grid0.N, win0_6.flush t = true ↔ t.val % 2 = 1)
theorem apart : ∀ t t' : Fin cfg0.N, t.val % 2 = 1 → t'.val % 2 = 1 → win0_6.index t = win0_6.index t' → t = t' :=
  (by decide +kernel : ∀ t t' : Fin grid0.N, t.val % 2 = 1 → t'.val % 2 = 1 → win0_6.index t = win0_6.index t' → t = t')
theorem disjoint6 : ∀ t t' : Fin cfg0.N, (cfg0.win 6).flush t = true → (cfg0.win 6).flush t' = true → t ≠ t' →
    Disjoint ((cfg0.win 6).blk t).view.set ((cfg0.win 6).blk t').view.set :=
  fun t t' h h' hne => (cfg0.win 6).disjoint_blk fun e => hne (apart t t' ((flushes' t).mp h) ((flushes' t').mp h') e)

/-- The product's three blocks. -/
theorem in_entry (t : Fin cfg0.N) (p : Fin 1024) (q : Fin 512) (i : Fin 9216) (j : Fin 30720) (hi : i.val = 1024 * (2 * (t.val / 8) + t.val % 2) + p.val) (hj : j.val = 512 * (t.val / 2 % 4) + q.val) :
    (iblk m c 0 t : S1024x512.Idx → Ideal .f32) (ix2 p q) = (m ((c : Thread nD τ).loc main_arg0) : S9216x30720.Idx → Ideal .f32) (ix2 i j) := by
  rw [← V_main_arg0 m c]
  exact window (a := 1024) (b := 512) _ (in_at t) p.val q.val (V m c main_arg0) _ i j rfl rfl (by omega) (by omega)

theorem gate_entry (t : Fin cfg0.N) (p : Fin 1024) (q : Fin 512) (i : Fin 9216) (j : Fin 30720) (hi : i.val = 1024 * (2 * (t.val / 8) + t.val % 2) + p.val) (hj : j.val = 2048 + (512 * (t.val / 2 % 4) + q.val)) :
    (iblk m c 1 t : S1024x512.Idx → Ideal .f32) (ix2 p q) = (m ((c : Thread nD τ).loc main_arg0) : S9216x30720.Idx → Ideal .f32) (ix2 i j) := by
  rw [← V_main_arg0 m c]
  exact window (a := 1024) (b := 512) _ (gate_at t) p.val q.val (V m c main_arg0) _ i j rfl rfl (by omega) (by omega)

theorem factor_entry (t : Fin cfg0.N) (p : Fin 1024) (q : Fin 512) (i : Fin 9216) (j : Fin 30720) (hi : i.val = 1024 * (2 * (t.val / 8) + t.val % 2) + p.val) (hj : j.val = 4096 + (512 * (t.val / 2 % 4) + q.val)) :
    (iblk m c 2 t : S1024x512.Idx → Ideal .f32) (ix2 p q) = (m ((c : Thread nD τ).loc main_arg0) : S9216x30720.Idx → Ideal .f32) (ix2 i j) := by
  rw [← V_main_arg0 m c]
  exact window (a := 1024) (b := 512) _ (factor_at t) p.val q.val (V m c main_arg0) _ i j rfl rfl (by omega) (by omega)

/-- The rows before a sequence are zero. -/
theorem state_entry (t : Fin cfg0.N) (k : Fin 8) (q : Fin 512) : (iblk m c 3 t : S1x8x512.Idx → Ideal .f32) (ix3 0 k q) = (0 : Ideal .f32) := by
  have h : (V m c main_v0 : S4x8x2048.Idx → Ideal .f32) = broadcastInDim S4x8x2048 ![] Gen.bcast_S_S4x8x2048 (constant (F := Ideal) S_ .f32 0x00000000#32) := by
    show StableHlo.after Gen.hostOps0 (fun b => m (c, b)) (main_v0 : Ref sig .tc) = _
    after_results <;> rfl
  exact (congrFun h _).trans Ideal.ofBits_zero_f32

/-- The filter's coefficients as the body finds them. -/
theorem filter_entry (t : Fin cfg0.N) (k : Fin 3) (q : Fin 512) (j : Fin 2048) (hj : j.val = 512 * (t.val / 2 % 4) + q.val) :
    (iblk m c 4 t : S3x512.Idx → Ideal .f32) (ix2 k q) = (m ((c : Thread nD τ).loc main_arg1) : S1x3x2048.Idx → Ideal .f32) (ix3 0 k j) := by
  have h : (V m c main_v1 : S3x2048.Idx → Ideal .f32) = shapeCast S3x2048 (m ((c : Thread nD τ).loc main_arg1) : S1x3x2048.Idx → Ideal .f32) Gen.shapeCasts_S1x3x2048_S3x2048 := by
    show StableHlo.after Gen.hostOps0 (fun b => m (c, b)) (main_v1 : Ref sig .tc) = _
    after_results <;> rfl
  refine (window (a := 3) (b := 512) _ (filter_at t) k.val q.val (V m c main_v1) _ k j rfl rfl (by omega) (by omega)).trans ?_
  rw [h]
  exact first _ _ k j

/-- The signal's block. -/
theorem signal_entry (t : Fin cfg0.N) (p : Fin 1024) (q : Fin 512) (r : Fin 8192) (j : Fin 2048) (hr : r.val = 1024 * (2 * (t.val / 8) + t.val % 2) + p.val) (hj : j.val = 512 * (t.val / 2 % 4) + q.val) :
    (fun (x y : Ideal .f32) => x * y) (iblk m c 2 t (ix2 p q)) (iblk m c 0 t (ix2 p q)) = signal (m ((c : Thread nD τ).loc main_arg0)) r j :=
  times (factor_entry m c t p q _ _ hr (by show 4096 + j.val = _; omega)) (in_entry m c t p q _ _ hr hj)

/-- An operand of the filter is the signal some positions back. -/
theorem back_entry (t : Fin cfg0.N) (p : Fin 1024) (q : Fin 512) (b : Fin 4) (j : Fin 2048) (n : Fin 2048) (hb : b.val = t.val / 8) (hj : j.val = 1024 * (t.val % 2) + p.val)
    (hn : n.val = 512 * (t.val / 2 % 4) + q.val) (Z : Fin 8 → Fin 512 → Ideal .f32)
    (h₀ : t.val % 2 = 0 → ∀ k, Z k q = 0)
    (h₁ : t.val % 2 = 1 → ∀ k : Fin 8, Z k q = signal (m ((c : Thread nD τ).loc main_arg0)) (⟨2048 * b.val + (1016 + k.val), by omega⟩ : Fin 8192) n)
    (d : ℕ) (hd : d ≤ 2) :
    back (iblk m c 0 t) (iblk m c 2 t) Z d p q = prior (m ((c : Thread nD τ).loc main_arg0)) b j d n := by
  have hp := p.isLt
  have hjl := j.isLt
  unfold back prior
  by_cases h : d ≤ p.val
  · rw [if_pos h, if_pos (by omega)]
    exact signal_entry m c t _ q _ n (by show 2048 * b.val + (j.val - d) = _ + (p.val - d); omega) hn
  · rw [if_neg h]
    by_cases ht : t.val % 2 = 0
    · rw [if_neg (by omega)]
      exact h₀ ht _
    · rw [if_pos (by omega)]
      refine (h₁ (by omega) _).trans (congrArg (fun r => signal _ r n) (Fin.ext ?_))
      show 2048 * b.val + (1016 + (p.val + 8 - d) % 8) = 2048 * b.val + (j.val - d)
      omega

/-- What the second point of a sequence finds. -/
theorem kept_at (u : Fin cfg0.N) (h : u.val % 2 = 0) (k : Fin 8) (q : Fin 512) (r : Fin 8192) (n : Fin 2048) (hr : r.val = 1024 * (2 * (u.val / 8)) + (1016 + k.val)) (hn : n.val = 512 * (u.val / 2 % 4) + q.val) :
    ((outsAt0 m c u.val u.isLt).2.2 : S1032x512.Idx → Ideal .f32) (ix2 (⟨k.val, by omega⟩ : Fin 1032) q) = signal (m ((c : Thread nD τ).loc main_arg0)) r n := by
  simp only [outsAt0_A m c u h]
  refine (a_state c (grid0.coords u) _ _ _ _ _ _ _ _ _ _ _ _ _ _ _ _ _ _ _ _ _ _ k q).trans ?_
  exact signal_entry m c u _ q r n (by show r.val = _ + (1016 + k.val); omega) hn

/-- A point's first result, an entry at a time. -/
theorem point_entry (t : Fin cfg0.N) (p : Fin 1024) (q : Fin 512) (b : Fin 4) (j : Fin 2048) (n : Fin 2048) (hb : b.val = t.val / 8) (hj : j.val = 1024 * (t.val % 2) + p.val)
    (hn : n.val = 512 * (t.val / 2 % 4) + q.val) :
    (dats m 0 c).flushed 5 t (ix2 p q) = filtered (m ((c : Thread nD τ).loc main_arg0)) (m ((c : Thread nD τ).loc main_arg1)) b j n := by
  have hg := gate_entry m c t p q (⟨2048 * b.val + j.val, by omega⟩ : Fin 9216) (⟨2048 + n.val, by omega⟩ : Fin 30720) (by show 2048 * b.val + j.val = _; omega) (by show 2048 + n.val = _; omega)
  have hs : (fun (x y : Ideal .f32) => x * y) (iblk m c 2 t (ix2 p q)) (iblk m c 0 t (ix2 p q)) = prior (m ((c : Thread nD τ).loc main_arg0)) b j 0 n := by
    unfold prior
    rw [if_pos (Nat.zero_le _)]
    exact signal_entry m c t p q _ n (by show 2048 * b.val + (j.val - 0) = _; omega) hn
  have close : ∀ Z : Fin 8 → Fin 512 → Ideal .f32, (t.val % 2 = 0 → ∀ k, Z k q = 0) →
      (t.val % 2 = 1 → ∀ k : Fin 8, Z k q = signal (m ((c : Thread nD τ).loc main_arg0)) (⟨2048 * b.val + (1016 + k.val), by omega⟩ : Fin 8192) n) →
      (fun (g w₂ s w₀ t₂ w₁ t₁ : Ideal .f32) => g * (w₂ * s + w₀ * t₂ + w₁ * t₁)) (iblk m c 1 t (ix2 p q)) (iblk m c 4 t (ix2 2 q)) ((fun (x y : Ideal .f32) => x * y) (iblk m c 2 t (ix2 p q)) (iblk m c 0 t (ix2 p q)))
        (iblk m c 4 t (ix2 0 q)) (back (iblk m c 0 t) (iblk m c 2 t) Z 2 p q) (iblk m c 4 t (ix2 1 q)) (back (iblk m c 0 t) (iblk m c 2 t) Z 1 p q)
      = filtered (m ((c : Thread nD τ).loc main_arg0)) (m ((c : Thread nD τ).loc main_arg1)) b j n := by
    intro Z h₀ h₁
    unfold filtered
    refine times hg ?_
    refine plus (plus ?_ ?_) ?_
    · exact times (filter_entry m c t 2 q n hn) hs
    · exact times (filter_entry m c t 0 q n hn) (back_entry m c t p q b j n hb hj hn Z h₀ h₁ 2 (by decide))
    · exact times (filter_entry m c t 1 q n hn) (back_entry m c t p q b j n hb hj hn Z h₀ h₁ 1 (by decide))
  by_cases h : t.val % 2 = 0
  · rw [Value.flushed5_A m c t h]
    exact (a_out c (grid0.coords t) _ _ _ _ _ _ _ _ _ _ _ _ _ _ _ _ _ _ _ _ _ _ p q).trans (close _ (fun _ k => state_entry m c t k q) (fun h' => absurd h (by omega)))
  · have ht := t.isLt
    let u : Fin cfg0.N := ⟨t.val - 1, by omega⟩
    have hu : u.val = t.val - 1 := rfl
    rw [Value.flushed5_B m c t h]
    exact (b_out c (grid0.coords t) _ _ _ _ _ _ _ _ _ _ _ _ _ _ _ _ _ _ _ _ _ _ _ p q).trans (close _ (fun h' => absurd h' h)
      (fun _ k => kept_at m c u (by omega) k q _ n (by show 2048 * b.val + (1016 + k.val) = _; omega) (by omega)))

/-- The kernel's results, an entry at a time. -/
theorem filtered_result (r : Fin 8192) (n : Fin 2048) (b : Fin 4) (j : Fin 2048) (hr : r.val = 2048 * b.val + j.val) :
    ((dats m 0 c).arrAt 5 cfg0.N : S8192x2048.Idx → Ideal .bf16) (ix2 r n)
      = filtered (m ((c : Thread nD τ).loc main_arg0)) (m ((c : Thread nD τ).loc main_arg1)) b j n := by
  have hb := b.isLt
  have hj := j.isLt
  have hn := n.isLt
  let t : Fin cfg0.N := ⟨8 * b.val + 2 * (n.val / 512) + j.val / 1024, by show _ < 32; omega⟩
  have ht : t.val = 8 * b.val + 2 * (n.val / 512) + j.val / 1024 := rfl
  let p : Fin 1024 := ⟨j.val % 1024, Nat.mod_lt _ (by decide)⟩
  let q : Fin 512 := ⟨n.val % 512, Nat.mod_lt _ (by decide)⟩
  have hp : p.val = j.val % 1024 := rfl
  have hq : q.val = n.val % 512 := rfl
  refine Eq.trans (congrArg ((dats m 0 c).arrAt 5 cfg0.N) (funext fun a => Fin.ext ?_))
    ((congrFun (Value.blocks5 m c t (flushes t)) (ix2 p q)).trans (point_entry m c t p q b j n (by omega) (by omega) (by omega)))
  match a with
  | ⟨0, _⟩ =>
    show r.val = cc0_transform_5 (grid0.coords t) 0 * 1024 + 1 * p.val
    rw [out_at t]; show _ = (2 * (t.val / 8) + t.val % 2) * 1024 + 1 * p.val; omega
  | ⟨1, _⟩ =>
    show n.val = cc0_transform_5 (grid0.coords t) 1 * 512 + 1 * q.val
    rw [out_at t]; show _ = t.val / 2 % 4 * 512 + 1 * q.val; omega

theorem tail_result (b : Fin 4) (k : Fin 8) (n : Fin 2048) (r : Fin 8192) (hr : r.val = 2048 * b.val + (2040 + k.val)) :
    ((dats m 0 c).arrAt 6 cfg0.N : S4x8x2048.Idx → Ideal .f32) (ix3 b k n) = signal (m ((c : Thread nD τ).loc main_arg0)) r n := by
  have hb := b.isLt
  have hn := n.isLt
  let t : Fin cfg0.N := ⟨8 * b.val + 2 * (n.val / 512) + 1, by show _ < 32; omega⟩
  have ht : t.val = 8 * b.val + 2 * (n.val / 512) + 1 := rfl
  let q : Fin 512 := ⟨n.val % 512, Nat.mod_lt _ (by decide)⟩
  have hq : q.val = n.val % 512 := rfl
  refine Eq.trans (congrArg ((dats m 0 c).arrAt 6 cfg0.N) (funext fun a => Fin.ext ?_))
    ((congrFun ((dats m 0 c).read_blk_arrAt_eq_flushed 6 disjoint6 cfg0.N t t.isLt ((flushes' t).mpr (by omega))) (ix3 0 k q)).trans ?_)
  · match a with
    | ⟨0, _⟩ =>
      show b.val = cc0_transform_6 (grid0.coords t) 0 * 1 + 1 * 0
      rw [tail_at t]; show _ = t.val / 8 * 1 + 1 * 0; omega
    | ⟨1, _⟩ =>
      show k.val = cc0_transform_6 (grid0.coords t) 1 * 8 + 1 * k.val
      rw [tail_at t]; show _ = 0 * 8 + 1 * k.val; omega
    | ⟨2, _⟩ =>
      show n.val = cc0_transform_6 (grid0.coords t) 2 * 512 + 1 * q.val
      rw [tail_at t]; show _ = t.val / 2 % 4 * 512 + 1 * q.val; omega
  · rw [Value.flushed6_B m c t (by omega)]
    refine (b_tail c (grid0.coords t) _ _ _ _ _ _ _ _ _ _ _ _ _ _ _ _ _ _ _ _ _ _ _ k q).trans ?_
    exact signal_entry m c t _ q r n (by show r.val = _ + (1016 + k.val); omega) (by omega)

end Kernel

section Reference
open Cert.Reference7Ideal

variable (x : FVec Ideal S9216x30720 .f32)

/-- The reference's signal. -/
theorem signal_part (h₁) (h₂) (h₃) (h₁') (h₂') (h₃') (b : Fin 4) (j : Fin 2048) (q : Fin 2048) (r : Fin 8192) (hr : r.val = 2048 * b.val + j.val) :
    (mulf (extractStridedSlice S4x2048x2048 ![0, 0, 4096] (shapeCast S4x2048x6144 (extractStridedSlice S8192x6144 ![0, 0] x h₁) h₂) h₃)
      (extractStridedSlice S4x2048x2048 ![0, 0, 0] (shapeCast S4x2048x6144 (extractStridedSlice S8192x6144 ![0, 0] x h₁') h₂') h₃') : S4x2048x2048.Idx → Ideal .f32) (ix3 b j q)
      = signal x r q :=
  Conv.signal_part x h₁ h₂ h₃ h₁' h₂' h₃' b j q r (by omega) (⟨r.val, by omega⟩ : Fin 9216) (Nat.zero_add _).symm

/-- The reference's shifted signals. -/
theorem prior_entry (e d : ℕ) (he : e + d = 2) (Z : S4x2x2048.Idx → Ideal .f32) (hZ : ∀ i, Z i = 0)
    (U : S4x2048x2048.Idx → Ideal .f32) (hU : ∀ (b : Fin 4) (j : Fin 2048) (q : Fin 2048) (r : Fin 8192), r.val = 2048 * b.val + j.val → U (ix3 b j q) = signal x r q)
    (h₂) (h₃) (b : Fin 4) (j : Fin 2048) (q : Fin 2048) :
    extractStridedSlice S4x2048x2048 ![0, e, 0] (concatenate S4x2050x2048 1 [⟨S4x2x2048, Z⟩, ⟨S4x2048x2048, U⟩] h₂) h₃ (ix3 b j q) = prior x b j d q := by
  refine shifted e Z U h₂ h₃ b j q (by omega) _ (fun h => ?_) (fun h k hk => ?_) (by omega)
  · unfold prior
    rw [if_neg (by omega)]
    exact hZ _
  · unfold prior
    rw [if_pos (by omega)]
    exact hU b k q _ (by show 2048 * b.val + (j.val - d) = _; omega)

end Reference

/-- A row is a position in a sequence. -/
theorem split (r : Fin 8192) : ∃ (b : Fin 4) (j : Fin 2048), r.val = 2048 * b.val + j.val :=
  ⟨⟨r.val / 2048, by omega⟩, ⟨r.val % 2048, by omega⟩, by show r.val = 2048 * (r.val / 2048) + r.val % 2048; omega⟩

/-- `gated_conv` over the long sequences and its reference, run from memories that agree on the arguments, both end with the filtered signal and the signal's last rows. -/
theorem gated_conv_algebraic : Cert.algebraic_Kernel7Ideal_Reference7Ideal := by
  intro m g m' g' _ hag
  refine ⟨fun c => (Cert.Kernel7Ideal.Gen.dats m 0 c).arrAt 5 Cert.Kernel7Ideal.cfg0.N, fun c => (Cert.Kernel7Ideal.Gen.dats m 0 c).arrAt 6 Cert.Kernel7Ideal.cfg0.N, Cert.Kernel7Ideal.Value.run_blocks m g, ?_⟩
  refine (θ_run Cert.Reference7Ideal.defs _ _).mono (fun _ h c => ⟨(h c).1.trans ?_, (h c).2.1.trans ?_, (h c).2.2⟩) (Cert.Reference7Ideal.Value.run m' g')
  · refine funext fun (y : Cert.Kernel7Ideal.S8192x2048.Idx) => ?_
    rw [(hag c).1, (hag c).2, eq_ix2 y]
    obtain ⟨b, j, hr⟩ := split (y 0)
    refine Eq.trans ?_ (filtered_result m c (y 0) (y 1) b j hr).symm
    refine (rounded _ _ _).trans ?_
    refine (shapeCast_apply _ _ (ix2 (y 0) (y 1)) (ix3 b j (y 1)) (together _ b j _ (by omega))).trans ?_
    exact filtered_sum _ _ _ _ _ _ _ _ (ix3 b j (y 1)) Ideal.ofBits_zero_f32 (part_entry _ 2048 (by decide) _ _ _ b j (y 1) (y 0) (hr.trans (by omega)) _ (hr.symm.trans (Nat.zero_add _).symm) _ rfl)
      (prior_entry _ 0 2 rfl _ (fun _ => Ideal.ofBits_zero_f32) _ (fun b j q r hr => signal_part _ _ _ _ _ _ _ b j q r hr) _ _ b j (y 1))
      (prior_entry _ 1 1 rfl _ (fun _ => Ideal.ofBits_zero_f32) _ (fun b j q r hr => signal_part _ _ _ _ _ _ _ b j q r hr) _ _ b j (y 1))
      (prior_entry _ 2 0 rfl _ (fun _ => Ideal.ofBits_zero_f32) _ (fun b j q r hr => signal_part _ _ _ _ _ _ _ b j q r hr) _ _ b j (y 1))
      (coefficient_entry _ 0 _ _ _ _ _ b j (y 1)) (coefficient_entry _ 1 _ _ _ _ _ b j (y 1)) (coefficient_entry _ 2 _ _ _ _ _ b j (y 1))
  · refine funext fun (y : Cert.Kernel7Ideal.S4x8x2048.Idx) => ?_
    rw [(hag c).1, eq_ix3 y]
    have hb : (y 0).val < 4 := (y 0).isLt
    have hk : (y 1).val < 8 := (y 1).isLt
    refine Eq.trans ?_ (tail_result m c (y 0) (y 1) (y 2) (⟨2048 * (y 0).val + (2040 + (y 1).val), by omega⟩ : Fin 8192) rfl).symm
    refine (extractStridedSlice_apply _ _ _ _ (ix3 (y 0) (⟨2040 + (y 1).val, by omega⟩ : Fin 2048) (y 2)) fun a => ?_).trans ?_
    · match a with
      | ⟨0, _⟩ => show (y 0).val = 0 + (y 0).val; omega
      | ⟨1, _⟩ => rfl
      | ⟨2, _⟩ => show (y 2).val = 0 + (y 2).val; omega
    · exact signal_part _ _ _ _ _ _ _ (y 0) _ (y 2) _ rfl

end Cert.Proof.Gated

end
-- ==== Proof.Attention.lean ====
/-
  `cross_attention` computes, for each of the prompt's positions and each head, the softmax of the scaled scores of the memory's keys, times the
  memory's values; and its reference computes the same.
-/
module

public import proofs.«01_k».proof.Defs
public import proofs.«01_k».proof.Proof.Entry
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit.Tiles

@[expose] public section

noncomputable section

namespace Cert.Proof.Attention

open Idealize.ShloMosaic hiding ix1 ix2 ix3 ix4
open Idealize.ShloMosaic.ValueIdx Cert.Proof.Entry
open Idealize.ShloMosaic.TcCoe
open Idealize.SL.Sem

/-- The least word of the format, from which both maxima start. -/
def least : Ideal .f32 := FloatOps.ofBits .f32 0xFF800000#32
/-- The largest of a row's scores, and the softmax of a row. -/
def top (s : Fin 256 → Ideal .f32) : Ideal .f32 := (Finset.univ : Finset (Fin 256)).fold max least s
def soft (s : Fin 256 → Ideal .f32) (j : Fin 256) : Ideal .f32 :=
  Ideal.div (Ideal.exp (s j - top s)) (∑ k, Ideal.exp (s k - top s))

/-- The factor of the scores. -/
def factor : Ideal .f32 := (((Real.sqrt 512)⁻¹ : ℝ) : EReal)

/-- Column `e` of head `h`, among the heads' columns and in the projections. -/
abbrev col (h : Fin 4) (e : Fin 512) : Fin 2048 := ⟨512 * h.val + e.val, by omega⟩
abbrev wide (h : Fin 4) (e : Fin 512) : Fin 30720 := ⟨16384 + (512 * h.val + e.val), by omega⟩

/-- A query's head against the keys' heads, then times the values' heads. -/
def attend (q : Fin 512 → Ideal .f32) (k v : Fin 256 → Fin 512 → Ideal .f32) (d : Fin 512) : Ideal .f32 :=
  ∑ j, soft (fun j => (∑ e, q e * k j e) * factor) j * v j d

section Kernel
open Cert.Kernel8Ideal Cert.Kernel8Ideal.Gen

theorem scale : Named.named (F := Ideal) κ "head_scale" (φ := .f32) 0x3D3504F3#32 = factor :=
  IdealRules.named_const.ideal_named_scalar _ _ _ _ rfl

/-- A number for each row, spread over the row. -/
theorem spread (u : FVec Ideal S512 .f32) (p : Fin 512) (j : Fin 256) :
    (broadcastTo S512x256 (shapeCast S512x1 u shapeCasts_S512_S512x1) broadcasts_S512x1_S512x256 : S512x256.Idx → Ideal .f32) (ix2 p j) = u (ix1 p) := by
  refine (broadcastTo_apply _ _ _ (ix2 p (0 : Fin 1)) fun a => ?_).trans (shapeCast_apply _ _ _ (ix1 p) ?_)
  · match a with
    | ⟨0, _⟩ | ⟨1, _⟩ => rfl
  · rw [Shape.rowMajor_val_one, Shape.rowMajor_val_two]
    show p.val = p.val * 1 + 0
    omega

/-- A block's exponentials, less its rows' largest scores. -/
abbrev exps (S : FVec Ideal S512x256 .f32) : FVec Ideal S512x256 .f32 :=
  exp (subf S (broadcastTo S512x256 (shapeCast S512x1 (multiReduction .maximumf [1] S512 S 0xFF800000#32 reduces_S512x256_S512 (.inl rfl) rfl) shapeCasts_S512_S512x1) broadcasts_S512x1_S512x256))
/-- The softmax of a block of scores, an entry at a time. -/
theorem soft_entry (S : FVec Ideal S512x256 .f32) (p : Fin 512) (j : Fin 256) :
    divf (exps S) (broadcastTo S512x256 (shapeCast S512x1 (multiReduction .add [1] S512 (exps S) 0x00000000#32 reduces_S512x256_S512 (.inl rfl) rfl) shapeCasts_S512_S512x1) broadcasts_S512x1_S512x256)
      (ix2 p j) = soft (fun k => S (ix2 p k)) j := by
  have ht : (multiReduction .maximumf [1] S512 S 0xFF800000#32 reduces_S512x256_S512 (.inl rfl) rfl : S512.Idx → Ideal .f32) (ix1 p) = top (fun k => S (ix2 p k)) := by
    simp only [pointwise]; rfl
  have he : ∀ k : Fin 256, exps S (ix2 p k) = Ideal.exp (S (ix2 p k) - top (fun k => S (ix2 p k))) := fun k =>
    congrArg (fun z : Ideal .f32 => Ideal.exp (S (ix2 p k) - z)) ((spread _ p k).trans ht)
  refine congrArg₂ Ideal.div (he j) ((spread _ p j).trans ?_)
  refine Eq.trans ?_ (Finset.sum_congr rfl fun k _ => he k)
  simp only [multiReduction_add_apply, Ideal.reduceAdd_def]
  exact Ideal.reduceAdd_r2_a1 _ _ _

/-- A head's payload, an entry at a time. -/
theorem head_entry (x : Vec Ideal S512x512 .f32) (y w : Vec Ideal S1x256x512 .f32) (p d : Fin 512) :
    (k0_pay1 x y w : S512x512.Idx → Ideal .bf16) (ix2 p d)
      = attend (fun e => x (ix2 p e)) (fun j e => y (ix3 0 j e)) (fun j e => w (ix3 0 j e)) d := by
  unfold k0_pay1
  refine (rounded _ _ _).trans ?_
  refine (Ideal.matmul_plain_apply (M := 512) (K := 256) (N := 512) none _ _ _ p d).trans ?_
  show Ideal.ofBits .f32 0x00000000#32 + _ = _
  rw [Ideal.ofBits_zero_f32, zero_add]
  refine Finset.sum_congr rfl fun j _ => times ((rounded _ _ _).trans ((soft_entry _ p j).trans ?_)) ((rounded _ _ _).trans (first _ _ j d))
  refine congrFun (congrArg soft (funext fun k => times ?_ scale)) j
  refine (Ideal.matmul_transposedRhs_apply (M := 512) (K := 512) (N := 256) none _ _ _ p k).trans ?_
  show Ideal.ofBits .f32 0x00000000#32 + _ = _
  rw [Ideal.ofBits_zero_f32, zero_add]
  exact Finset.sum_congr rfl fun e _ => times rfl ((rounded _ _ _).trans (first _ _ k e))

end Kernel

/-- The heads' queries, keys and values in the three arguments. -/
def attended (Q : Vec Ideal ⟨2, ![9216, 30720]⟩ .f32) (K V : Vec Ideal ⟨3, ![4, 256, 2048]⟩ .f32) (b : Fin 4) (r : Fin 9216) (h : Fin 4) (d : Fin 512) : Ideal .f32 :=
  attend (fun e => Q (ix2 r (wide h e))) (fun j e => K (ix3 b j (col h e))) (fun j e => V (ix3 b j (col h e))) d

section Kernel
open Cert.Kernel8Ideal Cert.Kernel8Ideal.Gen

/-- A head's columns of the body's result, of the queries, and of the keys or values. -/
theorem skip (o : ℕ) (inb) (w : Vec Ideal S512x512 .bf16) (L : List (View.Piece (Elt Ideal) S512x2048 .bf16)) (p : Fin 512) (n : Fin 2048) (h : n.val < o) :
    View.canon (⟨Rect.unit (s := S512x2048) ![0, o] S512x512.size inb, w⟩ :: L) (ix2 p n) = View.canon L (ix2 p n) :=
  View.canon_cons_of_not_mem _ _ fun hm => by
    obtain ⟨z, hz⟩ := LoadRect.exists_idx_of_mem _ hm
    have hv : o + 1 * (z 1).val = n.val := congrArg Fin.val (congrFun hz 1)
    omega

theorem inside (o : ℕ) (inb) (w : Vec Ideal S512x512 .bf16) (L : List (View.Piece (Elt Ideal) S512x2048 .bf16)) (p d : Fin 512) (n : Fin 2048) (h : n.val = o + d.val) :
    View.canon (⟨Rect.unit (s := S512x2048) ![0, o] S512x512.size inb, w⟩ :: L) (ix2 p n) = w (ix2 p d) := by
  refine Eq.trans (congrArg (View.canon _) (funext fun a => Fin.ext ?_)) (View.canon_cons_emb (Rect.unit (s := S512x2048) ![0, o] S512x512.size inb) w _ (ix2 p d))
  match a with
  | ⟨0, _⟩ => show p.val = 0 + 1 * p.val; omega
  | ⟨1, _⟩ => show n.val = o + 1 * d.val; omega

theorem queries (o : ℕ) (inb) (x : Vec Ideal S512x2048 .f32) (p e : Fin 512) (n : Fin 2048) (h : n.val = o + e.val) :
    View.ld x (Rect.unit (s := S512x2048) ![0, o] S512x512.size inb) (ix2 p e) = x (ix2 p n) :=
  View.ld_unit_apply_of _ _ _ _ _ _ fun a => by
    match a with
    | ⟨0, _⟩ => exact (Nat.zero_add _).symm
    | ⟨1, _⟩ => exact h

theorem keys (o : ℕ) (inb) (x : Vec Ideal S1x256x2048 .f32) (j : Fin 256) (e : Fin 512) (n : Fin 2048) (h : n.val = o + e.val) :
    View.ld x (Rect.unit (s := S1x256x2048) ![0, 0, o] S1x256x512.size inb) (ix3 0 j e) = x (ix3 0 j n) :=
  View.ld_unit_apply_of _ _ _ _ _ _ fun a => by
    match a with
    | ⟨0, _⟩ => rfl
    | ⟨1, _⟩ => exact (Nat.zero_add _).symm
    | ⟨2, _⟩ => exact h

theorem head_at (h : Fin 4) (o : ℕ) (ho : o = 512 * h.val) (i₀) (i₁) (x : Vec Ideal S512x2048 .f32) (y w : Vec Ideal S1x256x2048 .f32) (p d : Fin 512) :
    (k0_pay1 (View.ld x (Rect.unit (s := S512x2048) ![0, o] S512x512.size i₀)) (View.ld y (Rect.unit (s := S1x256x2048) ![0, 0, o] S1x256x512.size i₁))
        (View.ld w (Rect.unit (s := S1x256x2048) ![0, 0, o] S1x256x512.size i₁)) : S512x512.Idx → Ideal .bf16) (ix2 p d)
      = attend (fun e => x (ix2 p (col h e))) (fun j e => y (ix3 0 j (col h e))) (fun j e => w (ix3 0 j (col h e))) d := by
  subst ho
  refine (head_entry _ _ _ p d).trans ?_
  rw [funext fun e => queries _ i₀ x p e (col h e) rfl, funext fun j => funext fun e => keys _ i₁ y j e (col h e) rfl,
    funext fun j => funext fun e => keys _ i₁ w j e (col h e) rfl]

/-- Four pieces side by side. -/
theorem beside (i₃) (i₂) (i₁) (i₀) (u : Fin 4 → Vec Ideal S512x512 .bf16) (p d : Fin 512) (h : Fin 4) (n : Fin 2048) (hn : n.val = 512 * h.val + d.val) :
    View.canon ([⟨Rect.unit (s := S512x2048) ![0, 1536] S512x512.size i₃, u 3⟩, ⟨Rect.unit (s := S512x2048) ![0, 1024] S512x512.size i₂, u 2⟩,
      ⟨Rect.unit (s := S512x2048) ![0, 512] S512x512.size i₁, u 1⟩, ⟨Rect.unit (s := S512x2048) ![0, 0] S512x512.size i₀, u 0⟩] : List (View.Piece (Elt Ideal) S512x2048 .bf16)) (ix2 p n)
      = u h (ix2 p d) := by
  have hd := d.isLt
  match h with
  | ⟨3, _⟩ =>
    have hm : n.val = 1536 + d.val := hn
    exact inside 1536 _ _ _ p d n hm
  | ⟨2, _⟩ =>
    have hm : n.val = 1024 + d.val := hn
    rw [skip 1536 _ _ _ p n (by omega)]
    exact inside 1024 _ _ _ p d n hm
  | ⟨1, _⟩ =>
    have hm : n.val = 512 + d.val := hn
    rw [skip 1536 _ _ _ p n (by omega), skip 1024 _ _ _ p n (by omega)]
    exact inside 512 _ _ _ p d n hm
  | ⟨0, _⟩ =>
    have hm : n.val = 0 + d.val := hn
    rw [skip 1536 _ _ _ p n (by omega), skip 1024 _ _ _ p n (by omega), skip 512 _ _ _ p n (by omega)]
    exact inside 0 _ _ _ p d n hm

/-- The four heads' payloads are one function. -/
theorem pay6 : (k0_pay6 : Vec Ideal S512x512 .f32 → _) = k0_pay1 := rfl
theorem pay2 : (k0_pay2 : Vec Ideal S512x512 .f32 → _) = k0_pay1 := rfl
theorem pay5 (x : Vec Ideal S512x512 .f32) (y w : Vec Ideal S1x256x512 .f32) :
    k0_pay5 (k0_pay3 w) (k0_pay4 x y) (Named.named κ "head_scale" 0x3D3504F3#32) = k0_pay1 x y w := rfl

/-- The body's result, an entry at a time. -/
theorem body_entry (x : Vec Ideal S512x2048 .f32) (y w : Vec Ideal S1x256x2048 .f32) (p d : Fin 512) (h : Fin 4) (n : Fin 2048) (hn : n.val = 512 * h.val + d.val) :
    out0_3 x y w (ix2 p n)
      = attend (fun e => x (ix2 p (col h e))) (fun j e => y (ix3 0 j (col h e))) (fun j e => w (ix3 0 j (col h e))) d := by
  have i₀ : ∀ h : Fin 4, ∀ a, (![0, 512 * h.val] : Fin 2 → ℕ) a + S512x512.size a ≤ S512x2048.size a := by decide
  have i₁ : ∀ h : Fin 4, ∀ a, (![0, 0, 512 * h.val] : Fin 3 → ℕ) a + S1x256x512.size a ≤ S1x256x2048.size a := by decide
  unfold out0_3
  rw [pay6, pay2, pay5]
  exact (beside _ _ _ _ (fun h => k0_pay1 (View.ld x (Rect.unit (s := S512x2048) ![0, 512 * h.val] S512x512.size (i₀ h))) (View.ld y (Rect.unit (s := S1x256x2048) ![0, 0, 512 * h.val] S1x256x512.size (i₁ h)))
    (View.ld w (Rect.unit (s := S1x256x2048) ![0, 0, 512 * h.val] S1x256x512.size (i₁ h)))) p d h n hn).trans (head_at h _ rfl _ _ x y w p d)

variable (m : (ℓ : Loc nD τ sig) → Buf (Elt Ideal) ℓ) (c : Dev nD)

/-- Where a grid point's blocks begin. -/
theorem query_at : ∀ t : Fin grid0.N, cc0_transform_0 (grid0.coords t) = ![t.val, 8] := by decide +kernel
theorem key_at : ∀ t : Fin grid0.N, cc0_transform_1 (grid0.coords t) = ![t.val / 4, 0, 0] := by decide +kernel
theorem val_at : ∀ t : Fin grid0.N, cc0_transform_2 (grid0.coords t) = ![t.val / 4, 0, 0] := by decide +kernel
theorem out_at : ∀ t : Fin grid0.N, cc0_transform_3 (grid0.coords t) = ![t.val, 0] := by decide +kernel
theorem flushes : ∀ t : Fin cfg0.N, (cfg0.win 3).flush t = true := (by decide +kernel : ∀ t : Fin grid0.N, win0_3.flush t = true)

/-- The blocks, an entry at a time. -/
theorem query_entry (t : Fin cfg0.N) (p : Fin 512) (n : Fin 2048) (i : Fin 9216) (k : Fin 30720) (hi : i.val = 512 * t.val + p.val) (hk : k.val = 16384 + n.val) :
    (iblk m c 0 t : S512x2048.Idx → Ideal .f32) (ix2 p n) = (m ((c : Thread nD τ).loc main_arg0) : S9216x30720.Idx → Ideal .f32) (ix2 i k) := by
  rw [← V_main_arg0 m c]
  exact window (a := 512) (b := 2048) _ (query_at t) p.val n.val (V m c main_arg0) _ _ _ rfl rfl (by omega) (by omega)

theorem memory_block (x y : Vec Ideal S4x256x2048 .f32) (t : ℕ) (f : Fin 3 → ℕ) (hf : f = ![t / 4, 0, 0]) (j : Fin 256) (n : Fin 2048) (z : S4x256x2048.Idx)
    (h0 : (z 0).val = f 0 * 1 + 1 * 0) (h1 : (z 1).val = f 1 * 256 + 1 * j.val) (h2 : (z 2).val = f 2 * 2048 + 1 * n.val) (b : Fin 4) (hb : b.val = t / 4) (hx : x = y) :
    x z = y (ix3 b j n) := by
  subst hf hx
  refine congrArg x (funext fun d => Fin.ext ?_)
  match d with
  | ⟨0, _⟩ => show (z 0).val = b.val; rw [h0, hb]; show t / 4 * 1 + 1 * 0 = _; omega
  | ⟨1, _⟩ => show (z 1).val = j.val; rw [h1]; show 0 * 256 + 1 * j.val = _; omega
  | ⟨2, _⟩ => show (z 2).val = n.val; rw [h2]; show 0 * 2048 + 1 * n.val = _; omega

theorem key_entry (t : Fin cfg0.N) (j : Fin 256) (n : Fin 2048) (b : Fin 4) (hb : b.val = t.val / 4) :
    (iblk m c 1 t : S1x256x2048.Idx → Ideal .f32) (ix3 0 j n) = (m ((c : Thread nD τ).loc main_arg1) : S4x256x2048.Idx → Ideal .f32) (ix3 b j n) :=
  memory_block (V m c main_arg1) _ t.val _ (key_at t) j n _ rfl rfl rfl b hb (V_main_arg1 m c)
theorem val_entry (t : Fin cfg0.N) (j : Fin 256) (n : Fin 2048) (b : Fin 4) (hb : b.val = t.val / 4) :
    (iblk m c 2 t : S1x256x2048.Idx → Ideal .f32) (ix3 0 j n) = (m ((c : Thread nD τ).loc main_arg2) : S4x256x2048.Idx → Ideal .f32) (ix3 b j n) :=
  memory_block (V m c main_arg2) _ t.val _ (val_at t) j n _ rfl rfl rfl b hb (V_main_arg2 m c)

/-- The kernel's result, an entry at a time. -/
theorem result_entry (r : Fin 8192) (n : Fin 2048) (b h : Fin 4) (d : Fin 512) (i : Fin 9216) (hi : i.val = r.val) (hb : b.val = r.val / 2048) (hn : n.val = 512 * h.val + d.val) :
    ((dats m 0 c).arrAt 3 cfg0.N : S8192x2048.Idx → Ideal .bf16) (ix2 r n)
      = attended (m ((c : Thread nD τ).loc main_arg0)) (m ((c : Thread nD τ).loc main_arg1)) (m ((c : Thread nD τ).loc main_arg2)) b i h d := by
  have hr := r.isLt
  let t : Fin cfg0.N := ⟨r.val / 512, by show _ < 16; omega⟩
  have ht : t.val = r.val / 512 := rfl
  let p : Fin 512 := ⟨r.val % 512, Nat.mod_lt _ (by decide)⟩
  have hp : p.val = r.val % 512 := rfl
  have hf := congrFun (Value.blocks3 m c t (flushes t)) (ix2 p n)
  rw [Value.flushed3] at hf
  refine Eq.trans (congrArg ((dats m 0 c).arrAt 3 cfg0.N) (funext fun a => Fin.ext ?_)) (hf.trans ((body_entry _ _ _ p d h n hn).trans ?_))
  · match a with
    | ⟨0, _⟩ =>
      show r.val = cc0_transform_3 (grid0.coords t) 0 * 512 + 1 * p.val
      rw [out_at t]; show _ = t.val * 512 + 1 * p.val; omega
    | ⟨1, _⟩ =>
      show n.val = cc0_transform_3 (grid0.coords t) 1 * 2048 + 1 * n.val
      rw [out_at t]; show _ = 0 * 2048 + 1 * n.val; omega
  · unfold attended
    rw [funext fun e : Fin 512 => query_entry m c t p (col h e) i (wide h e) (by omega) rfl,
      funext fun j => funext fun e : Fin 512 => key_entry m c t j (col h e) b (by omega),
      funext fun j => funext fun e : Fin 512 => val_entry m c t j (col h e) b (by omega)]

end Kernel

section Reference
open Cert.Reference8Ideal

theorem root : Ideal.ofBits .f32 0x44000000#32 = ((512 : ℝ) : EReal) := by
  simp [Ideal.ofBits, Ideal.ieee, -EReal.coe_mul]; norm_num

/-- Dividing by the root of 512 is multiplying by the factor. -/
theorem scaled (X : FVec Ideal S4x4x2048x256 .f32) (hb) (y : S4x4x2048x256.Idx) :
    Host.divf X (broadcastInDim S4x4x2048x256 ![] hb (Host.sqrt (constant S_ .f32 0x44000000#32))) y = X y * factor := by
  simp only [factor, Host.divf, Host.sqrt, broadcastInDim, constant, Ideal.hostDivf_def, Ideal.hostUnary_sqrt_def, Ideal.ofBits_def, root, Ideal.sqrt_coe,
    show ¬(512 : ℝ) < 0 from by norm_num, ↓reduceIte, Ideal.div_coe (show Real.sqrt 512 ≠ 0 from (Real.sqrt_pos.mpr (by norm_num)).ne'), one_div]

/-- A number for each row, spread over the row. -/
theorem spread_host (u : FVec Ideal S4x4x2048 .f32) (h₁) (h₂) (b h : Fin 4) (l : Fin 2048) (j : Fin 256) :
    (broadcastInDim S4x4x2048x256 ![0, 1, 2, 3] h₂ (broadcastInDim S4x4x2048x1 ![0, 1, 2] h₁ u) : S4x4x2048x256.Idx → Ideal .f32) (ix4 b h l j) = u (ix3 b h l) := by
  refine (broadcastInDim_apply _ _ _ _ (ix4 b h l (0 : Fin 1)) fun a => ?_).trans (broadcastInDim_apply _ _ _ _ (ix3 b h l) fun a => ?_)
  · match a with
    | ⟨0, _⟩ | ⟨1, _⟩ | ⟨2, _⟩ | ⟨3, _⟩ => rfl
  · match a with
    | ⟨0, _⟩ | ⟨1, _⟩ | ⟨2, _⟩ => rfl

/-- The reference's softmax, an entry at a time: its largest score, its exponentials, their sum and the quotients. -/
theorem fold_host (S : FVec Ideal S4x4x2048x256 .f32) (z : S_.Idx → Ideal .f32) (hr : S4x4x2048x256.ReducesTo [3] S4x4x2048) (hu) (b h : Fin 4) (l : Fin 2048) :
    (Host.reduce FloatOps.maximumf S z hr hu : S4x4x2048.Idx → Ideal .f32) (ix3 b h l) = (Finset.univ : Finset (Fin 256)).fold max (z (Shape.Idx.first hu)) (fun k => S (ix4 b h l k)) := by
  rw [Host.reduce_eq_fold, Shape.ReducesTo.fold_fiber_r4_a3 hr]
  rfl

theorem top_least (s : Fin 256 → Ideal .f32) : max least (top s) = top s := max_eq_right ((Finset.le_fold_max least).2 (.inl le_rfl))

theorem start (h₀) (R : FVec Ideal S4x4x2048 .f32) (y : S4x4x2048.Idx) :
    (maximumf (broadcastInDim S4x4x2048 ![] h₀ (constant S_ .f32 0xFF800000#32)) R : S4x4x2048.Idx → Ideal .f32) y = max least (R y) := rfl

theorem top_host (S : FVec Ideal S4x4x2048x256 .f32) (h₀) (hr : S4x4x2048x256.ReducesTo [3] S4x4x2048) (hu) (b h : Fin 4) (l : Fin 2048) :
    (maximumf (broadcastInDim S4x4x2048 ![] h₀ (constant S_ .f32 0xFF800000#32)) (Host.reduce FloatOps.maximumf S (constant S_ .f32 0xFF800000#32) hr hu) : S4x4x2048.Idx → Ideal .f32) (ix3 b h l) = top (fun k => S (ix4 b h l k)) := by
  rw [start, fold_host, show (constant S_ .f32 0xFF800000#32 : FVec Ideal S_ .f32) (Shape.Idx.first hu) = least from rfl]
  exact top_least _

theorem sum_host (E : FVec Ideal S4x4x2048x256 .f32) (hr : S4x4x2048x256.ReducesTo [3] S4x4x2048) (hu : 0 < S_.numel) (b h : Fin 4) (l : Fin 2048) :
    (Host.reduceAdd E (constant S_ .f32 0x00000000#32) hr hu : S4x4x2048.Idx → Ideal .f32) (ix3 b h l) = ∑ k : Fin 256, E (ix4 b h l k) := by
  rw [Host.reduceAdd_apply, Ideal.hostReduceAdd_def]
  refine (Ideal.hostReduceAdd_r4_a3 _ _ _ _).trans ?_
  rw [show (constant S_ .f32 0x00000000#32 : FVec Ideal S_ .f32) (Shape.Idx.first hu) = (0 : EReal) from Ideal.ofBits_zero_f32, zero_add]
  exact Finset.sum_congr rfl fun k _ => rfl

theorem exp_host (S : FVec Ideal S4x4x2048x256 .f32) (M : FVec Ideal S4x4x2048 .f32) (h₁) (h₂) (b h : Fin 4) (l : Fin 2048) (j : Fin 256) :
    (Host.exp (subf S (broadcastInDim S4x4x2048x256 ![0, 1, 2, 3] h₂ (broadcastInDim S4x4x2048x1 ![0, 1, 2] h₁ M))) : S4x4x2048x256.Idx → Ideal .f32) (ix4 b h l j)
      = Ideal.exp (S (ix4 b h l j) - M (ix3 b h l)) :=
  congrArg (fun z : Ideal .f32 => Ideal.exp (S (ix4 b h l j) - z)) (spread_host M h₁ h₂ b h l j)

theorem quotient_host (E : FVec Ideal S4x4x2048x256 .f32) (D : FVec Ideal S4x4x2048 .f32) (h₁) (h₂) (b h : Fin 4) (l : Fin 2048) (j : Fin 256) :
    (Host.divf E (broadcastInDim S4x4x2048x256 ![0, 1, 2, 3] h₂ (broadcastInDim S4x4x2048x1 ![0, 1, 2] h₁ D)) : S4x4x2048x256.Idx → Ideal .f32) (ix4 b h l j)
      = Ideal.div (E (ix4 b h l j)) (D (ix3 b h l)) :=
  congrArg (fun z : Ideal .f32 => Ideal.div (E (ix4 b h l j)) z) (spread_host D h₁ h₂ b h l j)

theorem soft_host (S : FVec Ideal S4x4x2048x256 .f32) (M D : FVec Ideal S4x4x2048 .f32) (E : FVec Ideal S4x4x2048x256 .f32) (h₁) (h₂) (b h : Fin 4) (l : Fin 2048) (j : Fin 256)
    (hM : M (ix3 b h l) = top (fun k => S (ix4 b h l k))) (hE : E = Host.exp (subf S (broadcastInDim S4x4x2048x256 ![0, 1, 2, 3] h₂ (broadcastInDim S4x4x2048x1 ![0, 1, 2] h₁ M))))
    (hD : D (ix3 b h l) = ∑ k : Fin 256, E (ix4 b h l k)) :
    (Host.divf E (broadcastInDim S4x4x2048x256 ![0, 1, 2, 3] h₂ (broadcastInDim S4x4x2048x1 ![0, 1, 2] h₁ D)) : S4x4x2048x256.Idx → Ideal .f32) (ix4 b h l j)
      = soft (fun k => S (ix4 b h l k)) j := by
  have he : ∀ k, E (ix4 b h l k) = Ideal.exp (S (ix4 b h l k) - top (fun k => S (ix4 b h l k))) := fun k => by rw [hE, exp_host, hM]
  rw [quotient_host, hD, he j, Finset.sum_congr rfl fun k _ => he k]
  rfl

/-- The reference's products, an entry at a time. -/
theorem scores_entry (A : FVec Ideal S4x2048x4x512 .f32) (B : FVec Ideal S4x256x4x512 .f32) (b h : Fin 4) (l : Fin 2048) (j : Fin 256) :
    Host.dotGeneral (F := Ideal) dot_S4x2048x4x512_S4x256x4x512_S4x4x2048x256_3_3_1_1_02_02 none A B (ix4 b h l j) = ∑ e : Fin 512, A (ix4 b l h e) * B (ix4 b j h e) := by
  show FloatOps.dotGeneral dot_S4x2048x4x512_S4x256x4x512_S4x4x2048x256_3_3_1_1_02_02 none _ A B (ix4 b h l j) = _
  rw [Ideal.dotGeneral_apply, ← Equiv.sum_comp (contrEquiv1 dot_S4x2048x4x512_S4x256x4x512_S4x4x2048x256_3_3_1_1_02_02 512 rfl rfl).symm]
  refine Finset.sum_congr rfl fun e _ => ?_
  have c := contrEquiv1_symm_val dot_S4x2048x4x512_S4x256x4x512_S4x4x2048x256_3_3_1_1_02_02 512 rfl rfl e
  refine congrArg₂ (fun x y => A x * B y) (funext fun a => Fin.ext ?_) (funext fun a => Fin.ext ?_)
  · match a with
    | ⟨0, _⟩ | ⟨1, _⟩ | ⟨2, _⟩ => simp [DotDims.lhsIdx, dot_S4x2048x4x512_S4x256x4x512_S4x4x2048x256_3_3_1_1_02_02]; rfl
    | ⟨3, _⟩ => simp [DotDims.lhsIdx, dot_S4x2048x4x512_S4x256x4x512_S4x4x2048x256_3_3_1_1_02_02]; exact c
  · match a with
    | ⟨0, _⟩ | ⟨1, _⟩ | ⟨2, _⟩ => simp [DotDims.rhsIdx, dot_S4x2048x4x512_S4x256x4x512_S4x4x2048x256_3_3_1_1_02_02]; rfl
    | ⟨3, _⟩ => simp [DotDims.rhsIdx, dot_S4x2048x4x512_S4x256x4x512_S4x4x2048x256_3_3_1_1_02_02]; exact c

theorem weighted_entry (A : FVec Ideal S4x256x4x512 .f32) (B : FVec Ideal S4x4x2048x256 .f32) (b h : Fin 4) (l : Fin 2048) (d : Fin 512) :
    Host.dotGeneral (F := Ideal) dot_S4x256x4x512_S4x4x2048x256_S4x4x512x2048_1_3_3_2_02_01 none A B (ix4 b h d l) = ∑ j : Fin 256, A (ix4 b j h d) * B (ix4 b h l j) := by
  show FloatOps.dotGeneral dot_S4x256x4x512_S4x4x2048x256_S4x4x512x2048_1_3_3_2_02_01 none _ A B (ix4 b h d l) = _
  rw [Ideal.dotGeneral_apply, ← Equiv.sum_comp (contrEquiv1 dot_S4x256x4x512_S4x4x2048x256_S4x4x512x2048_1_3_3_2_02_01 256 rfl rfl).symm]
  refine Finset.sum_congr rfl fun e _ => ?_
  have c := contrEquiv1_symm_val dot_S4x256x4x512_S4x4x2048x256_S4x4x512x2048_1_3_3_2_02_01 256 rfl rfl e
  refine congrArg₂ (fun x y => A x * B y) (funext fun a => Fin.ext ?_) (funext fun a => Fin.ext ?_)
  · match a with
    | ⟨0, _⟩ | ⟨2, _⟩ | ⟨3, _⟩ => simp [DotDims.lhsIdx, dot_S4x256x4x512_S4x4x2048x256_S4x4x512x2048_1_3_3_2_02_01]; rfl
    | ⟨1, _⟩ => simp [DotDims.lhsIdx, dot_S4x256x4x512_S4x4x2048x256_S4x4x512x2048_1_3_3_2_02_01]; exact c
  · match a with
    | ⟨0, _⟩ | ⟨1, _⟩ | ⟨2, _⟩ => simp [DotDims.rhsIdx, dot_S4x256x4x512_S4x4x2048x256_S4x4x512x2048_1_3_3_2_02_01]; rfl
    | ⟨3, _⟩ => simp [DotDims.rhsIdx, dot_S4x256x4x512_S4x4x2048x256_S4x4x512x2048_1_3_3_2_02_01]; exact c

/-- The reference's heads of the queries, and of the keys or values. -/
theorem query_part (Q : FVec Ideal S9216x30720 .f32) (h₁) (h₂) (b h : Fin 4) (l : Fin 2048) (e : Fin 512) (i : Fin 9216) (hi : i.val = 2048 * b.val + l.val) :
    shapeCast S4x2048x4x512 (extractStridedSlice S8192x2048 ![0, 16384] Q h₁) h₂ (ix4 b l h e) = Q (ix2 i (wide h e)) := by
  refine (shapeCast_apply _ _ _ (ix2 (⟨i.val, by omega⟩ : Fin 8192) (col h e)) ?_).trans (extractStridedSlice_apply _ _ _ _ _ fun a => ?_)
  · rw [Shape.rowMajor_val_two, Shape.rowMajor_val_four]
    show i.val * 2048 + (512 * h.val + e.val) = ((b.val * 2048 + l.val) * 4 + h.val) * 512 + e.val
    omega
  · match a with
    | ⟨0, _⟩ => exact (Nat.zero_add _).symm
    | ⟨1, _⟩ => rfl

theorem memory_part (K : FVec Ideal S4x256x2048 .f32) (h₁) (b h : Fin 4) (j : Fin 256) (e : Fin 512) :
    shapeCast S4x256x4x512 K h₁ (ix4 b j h e) = K (ix3 b j (col h e)) := by
  refine shapeCast_apply _ _ _ _ ?_
  rw [Shape.rowMajor_val_three, Shape.rowMajor_val_four]
  show (b.val * 256 + j.val) * 2048 + (512 * h.val + e.val) = ((b.val * 256 + j.val) * 4 + h.val) * 512 + e.val
  omega

/-- The reference's result, an entry at a time. -/
theorem reference_entry (Q : FVec Ideal S9216x30720 .f32) (K V : FVec Ideal S4x256x2048 .f32) (S E : FVec Ideal S4x4x2048x256 .f32) (M D : FVec Ideal S4x4x2048 .f32)
    (h₁) (h₂) (hv) (ht) (hc) (hx) (b h : Fin 4) (l : Fin 2048) (d : Fin 512) (r : Fin 8192) (n : Fin 2048) (i : Fin 9216)
    (hr : r.val = 2048 * b.val + l.val) (hn : n.val = 512 * h.val + d.val)
    (hE : E = Host.exp (subf S (broadcastInDim S4x4x2048x256 ![0, 1, 2, 3] h₂ (broadcastInDim S4x4x2048x1 ![0, 1, 2] h₁ M))))
    (hM : M (ix3 b h l) = top (fun k => S (ix4 b h l k))) (hD : D (ix3 b h l) = ∑ k : Fin 256, E (ix4 b h l k))
    (hS : ∀ k, S (ix4 b h l k) = (∑ e : Fin 512, Q (ix2 i (wide h e)) * K (ix3 b k (col h e))) * factor) :
    (truncf .bf16 (shapeCast S8192x2048 (transpose S4x2048x4x512 [0, 3, 1, 2] (Host.dotGeneral dot_S4x256x4x512_S4x4x2048x256_S4x4x512x2048_1_3_3_2_02_01 none (shapeCast S4x256x4x512 V hv)
      (Host.divf E (broadcastInDim S4x4x2048x256 ![0, 1, 2, 3] h₂ (broadcastInDim S4x4x2048x1 ![0, 1, 2] h₁ D)))) ht) hc) hx : S8192x2048.Idx → Ideal .bf16) (ix2 r n)
      = attended Q K V b i h d := by
  refine (rounded _ _ _).trans ((shapeCast_apply _ _ _ (ix4 b l h d) ?_).trans ((transpose_apply _ _ _ _ (ix4 b h d l) fun a => ?_).trans ((weighted_entry _ _ b h l d).trans ?_)))
  · rw [Shape.rowMajor_val_two, Shape.rowMajor_val_four]
    show ((b.val * 2048 + l.val) * 4 + h.val) * 512 + d.val = r.val * 2048 + n.val
    omega
  · match a with
    | ⟨0, _⟩ | ⟨1, _⟩ | ⟨2, _⟩ | ⟨3, _⟩ => rfl
  · unfold attended attend
    refine Finset.sum_congr rfl fun j _ => (mul_comm _ _).trans (times ((soft_host S M D E h₁ h₂ b h l j hM hE hD).trans ?_) (memory_part _ _ b h j d))
    rw [funext hS]

end Reference

/-- A row is a position in a sequence, and a column one of a head's. -/
theorem split (r : Fin 8192) (n : Fin 2048) : ∃ (b h : Fin 4) (l : Fin 2048) (d : Fin 512), r.val = 2048 * b.val + l.val ∧ n.val = 512 * h.val + d.val :=
  ⟨⟨r.val / 2048, by omega⟩, ⟨n.val / 512, by omega⟩, ⟨r.val % 2048, by omega⟩, ⟨n.val % 512, by omega⟩, by show r.val = 2048 * (r.val / 2048) + r.val % 2048; omega,
    by show n.val = 512 * (n.val / 512) + n.val % 512; omega⟩

/-- `cross_attention` over the prompt and its reference, run from memories that agree on the arguments, both end with the heads' outputs. -/
theorem cross_attention_algebraic : Cert.algebraic_Kernel8Ideal_Reference8Ideal := by
  intro m g m' g' _ hag
  refine ⟨fun c => (Cert.Kernel8Ideal.Gen.dats m 0 c).arrAt 3 Cert.Kernel8Ideal.cfg0.N, Cert.Kernel8Ideal.Value.run_blocks m g, ?_⟩
  refine (θ_run Cert.Reference8Ideal.defs _ _).mono (fun _ h c => ⟨(h c).1.trans ?_, (h c).2⟩) (Cert.Reference8Ideal.Value.run m' g')
  rw [(hag c).1, (hag c).2.1, (hag c).2.2]
  refine funext fun (y : Cert.Kernel8Ideal.S8192x2048.Idx) => ?_
  obtain ⟨r, n, rfl⟩ : ∃ (r : Fin 8192) (n : Fin 2048), y = ix2 r n := ⟨y 0, y 1, ValueIdx.eq_ix2 y⟩
  obtain ⟨b, h, l, d, hr, hn⟩ := split r n
  refine Eq.trans ?_ (result_entry m c r n b h d (⟨r.val, by omega⟩ : Fin 9216) rfl (by omega) hn).symm
  refine reference_entry _ _ _ _ _ _ _ _ _ _ _ _ _ b h l d r n _ hr hn rfl (top_host _ _ _ _ b h l) (sum_host _ _ _ b h l) fun k => ?_
  refine (scaled _ _ _).trans (times ((scores_entry _ _ b h l k).trans ?_) rfl)
  exact Finset.sum_congr rfl fun e _ => times (query_part _ _ _ b h l e _ hr) (memory_part _ _ b h k e)

end Cert.Proof.Attention

end
-- ==== Proof.lean ====
/-
  The claims, from the modules that prove them: Proof/Run.lean is the run of `in_proj` (Proof/Printed/ holds the same for the program as
  printed, whose loops' states are types of their own), Proof/Value.lean what it computes; Proof/Dt.lean is `dt_proj`, Proof/Merge.lean
  `merge_branches`, Proof/Memory.lean `mem_k`, Proof/Peer.lean `peer_query`, Proof/Short.lean `short_seq_conv`, Proof/Gated.lean `gated_conv` and
  Proof/Attention.lean `cross_attention`.
-/
module

public import proofs.«01_k».proof.Defs
public import proofs.«01_k».proof.Proof.Frames
public import proofs.«01_k».proof.Proof.Value
public import proofs.«01_k».proof.Proof.Dt
public import proofs.«01_k».proof.Proof.Merge
public import proofs.«01_k».proof.Proof.Memory
public import proofs.«01_k».proof.Proof.Peer
public import proofs.«01_k».proof.Proof.Short
public import proofs.«01_k».proof.Proof.Gated
public import proofs.«01_k».proof.Proof.Attention
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel8.Frame
public import Idealize.ShloMosaic.Lib.Quiescent

@[expose] public section

noncomputable section

namespace Cert.Proof

open Idealize.ShloMosaic Idealize.SL.Sem

/-- The references' frames: they have no counters. -/
theorem frame_ReferenceIdeal : Cert.quiescent_ReferenceIdeal := fun m ρ _ =>
  (θ_run Cert.ReferenceIdeal.defs _ _).mono (fun r h => ⟨fun c => ⟨(h c).2.1, (h c).2.2⟩, sem_eq_zero_of_no_sems rfl r.2⟩)
    (Cert.ReferenceIdeal.Value.run m ρ)
theorem frame_Reference2Ideal : Cert.quiescent_Reference2Ideal := fun m ρ _ =>
  (θ_run Cert.Reference2Ideal.defs _ _).mono (fun r h => ⟨fun c => ⟨(h c).2.1, (h c).2.2⟩, sem_eq_zero_of_no_sems rfl r.2⟩)
    (Cert.Reference2Ideal.Value.run m ρ)
theorem frame_Reference3Ideal : Cert.quiescent_Reference3Ideal := fun m ρ _ =>
  (θ_run Cert.Reference3Ideal.defs _ _).mono (fun r h => ⟨fun c => (h c).2, sem_eq_zero_of_no_sems rfl r.2⟩)
    (Cert.Reference3Ideal.Value.run m ρ)
theorem frame_Reference4Ideal : Cert.quiescent_Reference4Ideal := fun m ρ _ =>
  (θ_run Cert.Reference4Ideal.defs _ _).mono (fun r h => ⟨fun c => (h c).2, sem_eq_zero_of_no_sems rfl r.2⟩)
    (Cert.Reference4Ideal.Value.run m ρ)
theorem frame_Reference5Ideal : Cert.quiescent_Reference5Ideal := fun m ρ _ =>
  (θ_run Cert.Reference5Ideal.defs _ _).mono (fun r h => ⟨fun c => (h c).2, sem_eq_zero_of_no_sems rfl r.2⟩)
    (Cert.Reference5Ideal.Value.run m ρ)

theorem frame_Reference6Ideal : Cert.quiescent_Reference6Ideal := fun m ρ _ =>
  (θ_run Cert.Reference6Ideal.defs _ _).mono (fun r h => ⟨fun c => (h c).2.2, sem_eq_zero_of_no_sems rfl r.2⟩)
    (Cert.Reference6Ideal.Value.run m ρ)
theorem frame_Reference7Ideal : Cert.quiescent_Reference7Ideal := fun m ρ _ =>
  (θ_run Cert.Reference7Ideal.defs _ _).mono (fun r h => ⟨fun c => (h c).2.2, sem_eq_zero_of_no_sems rfl r.2⟩)
    (Cert.Reference7Ideal.Value.run m ρ)
theorem frame_Reference8Ideal : Cert.quiescent_Reference8Ideal := fun m ρ _ =>
  (θ_run Cert.Reference8Ideal.defs _ _).mono (fun r h => ⟨fun c => (h c).2, sem_eq_zero_of_no_sems rfl r.2⟩)
    (Cert.Reference8Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts,
    frame_Kernel, frame_KernelIdeal, frame_ReferenceIdeal,
    fun m ρ _ => Cert.Kernel2.Gen.frame m ρ, fun m ρ _ => Cert.Kernel2Ideal.Gen.frame m ρ, frame_Reference2Ideal,
    fun m ρ _ => Cert.Kernel3.Gen.frame m ρ, fun m ρ _ => Cert.Kernel3Ideal.Gen.frame m ρ, frame_Reference3Ideal,
    fun m ρ _ => Cert.Kernel4.Gen.frame m ρ, fun m ρ _ => Cert.Kernel4Ideal.Gen.frame m ρ, frame_Reference4Ideal,
    fun m ρ _ => Cert.Kernel5.Gen.frame m ρ, fun m ρ _ => Cert.Kernel5Ideal.Gen.frame m ρ, frame_Reference5Ideal,
    fun m ρ _ => Cert.Kernel6.Gen.frame m ρ, fun m ρ _ => Cert.Kernel6Ideal.Gen.frame m ρ, frame_Reference6Ideal,
    fun m ρ _ => Cert.Kernel7.Gen.frame m ρ, fun m ρ _ => Cert.Kernel7Ideal.Gen.frame m ρ, frame_Reference7Ideal,
    fun m ρ _ => Cert.Kernel8.Gen.frame m ρ, fun m ρ _ => Cert.Kernel8Ideal.Gen.frame m ρ, frame_Reference8Ideal,
    trivial, in_proj_algebraic, trivial, Dt.dt_proj_algebraic, trivial, Merge.merge_branches_algebraic, trivial, Memory.mem_k_algebraic,
    trivial, Peer.peer_query_algebraic, trivial, Short.short_seq_conv_algebraic,
    trivial, Gated.gated_conv_algebraic,
    IdealRules.named_const.statement Cert.Kernel8Ideal.κ "head_scale" .f32 0x3D3504F3#32 (((Real.sqrt 512)⁻¹ : ℝ) : EReal) rfl, Attention.cross_attention_algebraic⟩

end Cert.Proof
